-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v48_0)) (v1 : (c : Dev Cert.KernelIdeal.nD) → Buf (Elt Ideal) ((c.tc : Thread Cert.KernelIdeal.nD Cert.KernelIdeal.τ).loc Cert.KernelIdeal.main_v48_1)) (v2 : (c : Dev Cert.KernelIdeal.nD) → Buf (Elt Ideal) ((c.tc : Thread Cert.KernelIdeal.nD Cert.KernelIdeal.τ).loc Cert.KernelIdeal.main_v48_2)) (v3 : (c : Dev Cert.KernelIdeal.nD) → Buf (Elt Ideal) ((c.tc : Thread Cert.KernelIdeal.nD Cert.KernelIdeal.τ).loc Cert.KernelIdeal.main_v48_3)) (v4 : (c : Dev Cert.KernelIdeal.nD) → Buf (Elt Ideal) ((c.tc : Thread Cert.KernelIdeal.nD Cert.KernelIdeal.τ).loc Cert.KernelIdeal.main_v48_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48_0) = v0 c
          ∧ r.2.mem ((c.tc : Thread Cert.KernelIdeal.nD Cert.KernelIdeal.τ).loc Cert.KernelIdeal.main_v48_1) = v1 c
          ∧ r.2.mem ((c.tc : Thread Cert.KernelIdeal.nD Cert.KernelIdeal.τ).loc Cert.KernelIdeal.main_v48_2) = v2 c
          ∧ r.2.mem ((c.tc : Thread Cert.KernelIdeal.nD Cert.KernelIdeal.τ).loc Cert.KernelIdeal.main_v48_3) = v3 c
          ∧ r.2.mem ((c.tc : Thread Cert.KernelIdeal.nD Cert.KernelIdeal.τ).loc Cert.KernelIdeal.main_v48_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_v94) = v3 c
          ∧ r.2.mem ((c.tc : Thread Cert.ReferenceIdeal.nD Cert.ReferenceIdeal.τ).loc Cert.ReferenceIdeal.main_v95) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_v7) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_v25) = v1 c
          ∧ r.2.mem ((c.tc : Thread Cert.Reference11Ideal.nD Cert.Reference11Ideal.τ).loc Cert.Reference11Ideal.main_v6) = v2 c
          ∧ r.2.mem ((c.tc : Thread Cert.Reference11Ideal.nD Cert.Reference11Ideal.τ).loc Cert.Reference11Ideal.main_v12) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_v26) = v1 c
          ∧ r.2.mem ((c.tc : Thread Cert.Reference12Ideal.nD Cert.Reference12Ideal.τ).loc Cert.Reference12Ideal.main_v7) = v2 c
          ∧ r.2.mem ((c.tc : Thread Cert.Reference12Ideal.nD Cert.Reference12Ideal.τ).loc Cert.Reference12Ideal.main_v13) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_arg0) = v0 c
          ∧ r.2.mem ((c.tc : Thread Cert.Reference13Ideal.nD Cert.Reference13Ideal.τ).loc Cert.Reference13Ideal.main_v23) = v1 c
          ∧ r.2.mem ((c.tc : Thread Cert.Reference13Ideal.nD Cert.Reference13Ideal.τ).loc Cert.Reference13Ideal.main_v4) = v2 c
          ∧ r.2.mem ((c.tc : Thread Cert.Reference13Ideal.nD Cert.Reference13Ideal.τ).loc Cert.Reference13Ideal.main_v10) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_v24) = v1 c
          ∧ r.2.mem ((c.tc : Thread Cert.Reference14Ideal.nD Cert.Reference14Ideal.τ).loc Cert.Reference14Ideal.main_v5) = v2 c
          ∧ r.2.mem ((c.tc : Thread Cert.Reference14Ideal.nD Cert.Reference14Ideal.τ).loc Cert.Reference14Ideal.main_v11) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)) (v2 : (c : Dev Cert.Kernel16Ideal.nD) → Buf (Elt Ideal) ((c.tc : Thread Cert.Kernel16Ideal.nD Cert.Kernel16Ideal.τ).loc Cert.Kernel16Ideal.main_v1_2)) (v3 : (c : Dev Cert.Kernel16Ideal.nD) → Buf (Elt Ideal) ((c.tc : Thread Cert.Kernel16Ideal.nD Cert.Kernel16Ideal.τ).loc Cert.Kernel16Ideal.main_v1_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_v1_2) = v2 c
          ∧ r.2.mem ((c.tc : Thread Cert.Kernel16Ideal.nD Cert.Kernel16Ideal.τ).loc Cert.Kernel16Ideal.main_v1_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_v30) = v1 c
          ∧ r.2.mem ((c.tc : Thread Cert.Reference16Ideal.nD Cert.Reference16Ideal.τ).loc Cert.Reference16Ideal.main_v11) = v2 c
          ∧ r.2.mem ((c.tc : Thread Cert.Reference16Ideal.nD Cert.Reference16Ideal.τ).loc Cert.Reference16Ideal.main_v17) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v1_0)) (v1 : (c : Dev Cert.Kernel17Ideal.nD) → Buf (Elt Ideal) ((c.tc : Thread Cert.Kernel17Ideal.nD Cert.Kernel17Ideal.τ).loc Cert.Kernel17Ideal.main_v1_1)) (v2 : (c : Dev Cert.Kernel17Ideal.nD) → Buf (Elt Ideal) ((c.tc : Thread Cert.Kernel17Ideal.nD Cert.Kernel17Ideal.τ).loc Cert.Kernel17Ideal.main_v1_2)) (v3 : (c : Dev Cert.Kernel17Ideal.nD) → Buf (Elt Ideal) ((c.tc : Thread Cert.Kernel17Ideal.nD Cert.Kernel17Ideal.τ).loc Cert.Kernel17Ideal.main_v1_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_0) = v0 c
          ∧ r.2.mem ((c.tc : Thread Cert.Kernel17Ideal.nD Cert.Kernel17Ideal.τ).loc Cert.Kernel17Ideal.main_v1_1) = v1 c
          ∧ r.2.mem ((c.tc : Thread Cert.Kernel17Ideal.nD Cert.Kernel17Ideal.τ).loc Cert.Kernel17Ideal.main_v1_2) = v2 c
          ∧ r.2.mem ((c.tc : Thread Cert.Kernel17Ideal.nD Cert.Kernel17Ideal.τ).loc Cert.Kernel17Ideal.main_v1_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_v30) = v1 c
          ∧ r.2.mem ((c.tc : Thread Cert.Reference17Ideal.nD Cert.Reference17Ideal.τ).loc Cert.Reference17Ideal.main_v11) = v2 c
          ∧ r.2.mem ((c.tc : Thread Cert.Reference17Ideal.nD Cert.Reference17Ideal.τ).loc Cert.Reference17Ideal.main_v17) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)) →
    ∃ (v0 : (c : Dev Cert.Kernel18Ideal.nD) → Buf (Elt Ideal) ((c.tc : Thread Cert.Kernel18Ideal.nD Cert.Kernel18Ideal.τ).loc Cert.Kernel18Ideal.main_v3_0)) (v1 : (c : Dev Cert.Kernel18Ideal.nD) → Buf (Elt Ideal) ((c.tc : Thread Cert.Kernel18Ideal.nD Cert.Kernel18Ideal.τ).loc Cert.Kernel18Ideal.main_v3_1)) (v2 : (c : Dev Cert.Kernel18Ideal.nD) → Buf (Elt Ideal) ((c.tc : Thread Cert.Kernel18Ideal.nD Cert.Kernel18Ideal.τ).loc Cert.Kernel18Ideal.main_v3_2)) (v3 : (c : Dev Cert.Kernel18Ideal.nD) → Buf (Elt Ideal) ((c.tc : Thread Cert.Kernel18Ideal.nD Cert.Kernel18Ideal.τ).loc Cert.Kernel18Ideal.main_v3_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v3_0) = v0 c
          ∧ r.2.mem ((c.tc : Thread Cert.Kernel18Ideal.nD Cert.Kernel18Ideal.τ).loc Cert.Kernel18Ideal.main_v3_1) = v1 c
          ∧ r.2.mem ((c.tc : Thread Cert.Kernel18Ideal.nD Cert.Kernel18Ideal.τ).loc Cert.Kernel18Ideal.main_v3_2) = v2 c
          ∧ r.2.mem ((c.tc : Thread Cert.Kernel18Ideal.nD Cert.Kernel18Ideal.τ).loc Cert.Kernel18Ideal.main_v3_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v12) = v0 c
          ∧ r.2.mem ((c.tc : Thread Cert.Reference18Ideal.nD Cert.Reference18Ideal.τ).loc Cert.Reference18Ideal.main_v36) = v1 c
          ∧ r.2.mem ((c.tc : Thread Cert.Reference18Ideal.nD Cert.Reference18Ideal.τ).loc Cert.Reference18Ideal.main_v17) = v2 c
          ∧ r.2.mem ((c.tc : Thread Cert.Reference18Ideal.nD Cert.Reference18Ideal.τ).loc Cert.Reference18Ideal.main_v23) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)) →
    ∃ (v0 : (c : Dev Cert.Kernel19Ideal.nD) → Buf (Elt Ideal) ((c.tc : Thread Cert.Kernel19Ideal.nD Cert.Kernel19Ideal.τ).loc Cert.Kernel19Ideal.main_v3_0)) (v1 : (c : Dev Cert.Kernel19Ideal.nD) → Buf (Elt Ideal) ((c.tc : Thread Cert.Kernel19Ideal.nD Cert.Kernel19Ideal.τ).loc Cert.Kernel19Ideal.main_v3_1)) (v2 : (c : Dev Cert.Kernel19Ideal.nD) → Buf (Elt Ideal) ((c.tc : Thread Cert.Kernel19Ideal.nD Cert.Kernel19Ideal.τ).loc Cert.Kernel19Ideal.main_v3_2)) (v3 : (c : Dev Cert.Kernel19Ideal.nD) → Buf (Elt Ideal) ((c.tc : Thread Cert.Kernel19Ideal.nD Cert.Kernel19Ideal.τ).loc Cert.Kernel19Ideal.main_v3_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v3_0) = v0 c
          ∧ r.2.mem ((c.tc : Thread Cert.Kernel19Ideal.nD Cert.Kernel19Ideal.τ).loc Cert.Kernel19Ideal.main_v3_1) = v1 c
          ∧ r.2.mem ((c.tc : Thread Cert.Kernel19Ideal.nD Cert.Kernel19Ideal.τ).loc Cert.Kernel19Ideal.main_v3_2) = v2 c
          ∧ r.2.mem ((c.tc : Thread Cert.Kernel19Ideal.nD Cert.Kernel19Ideal.τ).loc Cert.Kernel19Ideal.main_v3_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v12) = v0 c
          ∧ r.2.mem ((c.tc : Thread Cert.Reference19Ideal.nD Cert.Reference19Ideal.τ).loc Cert.Reference19Ideal.main_v36) = v1 c
          ∧ r.2.mem ((c.tc : Thread Cert.Reference19Ideal.nD Cert.Reference19Ideal.τ).loc Cert.Reference19Ideal.main_v17) = v2 c
          ∧ r.2.mem ((c.tc : Thread Cert.Reference19Ideal.nD Cert.Reference19Ideal.τ).loc Cert.Reference19Ideal.main_v23) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)) →
    ∃ (v0 : (c : Dev Cert.Kernel20Ideal.nD) → Buf (Elt Ideal) ((c.tc : Thread Cert.Kernel20Ideal.nD Cert.Kernel20Ideal.τ).loc Cert.Kernel20Ideal.main_v3_0)) (v1 : (c : Dev Cert.Kernel20Ideal.nD) → Buf (Elt Ideal) ((c.tc : Thread Cert.Kernel20Ideal.nD Cert.Kernel20Ideal.τ).loc Cert.Kernel20Ideal.main_v3_1)) (v2 : (c : Dev Cert.Kernel20Ideal.nD) → Buf (Elt Ideal) ((c.tc : Thread Cert.Kernel20Ideal.nD Cert.Kernel20Ideal.τ).loc Cert.Kernel20Ideal.main_v3_2)) (v3 : (c : Dev Cert.Kernel20Ideal.nD) → Buf (Elt Ideal) ((c.tc : Thread Cert.Kernel20Ideal.nD Cert.Kernel20Ideal.τ).loc Cert.Kernel20Ideal.main_v3_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v3_0) = v0 c
          ∧ r.2.mem ((c.tc : Thread Cert.Kernel20Ideal.nD Cert.Kernel20Ideal.τ).loc Cert.Kernel20Ideal.main_v3_1) = v1 c
          ∧ r.2.mem ((c.tc : Thread Cert.Kernel20Ideal.nD Cert.Kernel20Ideal.τ).loc Cert.Kernel20Ideal.main_v3_2) = v2 c
          ∧ r.2.mem ((c.tc : Thread Cert.Kernel20Ideal.nD Cert.Kernel20Ideal.τ).loc Cert.Kernel20Ideal.main_v3_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v12) = v0 c
          ∧ r.2.mem ((c.tc : Thread Cert.Reference20Ideal.nD Cert.Reference20Ideal.τ).loc Cert.Reference20Ideal.main_v36) = v1 c
          ∧ r.2.mem ((c.tc : Thread Cert.Reference20Ideal.nD Cert.Reference20Ideal.τ).loc Cert.Reference20Ideal.main_v17) = v2 c
          ∧ r.2.mem ((c.tc : Thread Cert.Reference20Ideal.nD Cert.Reference20Ideal.τ).loc Cert.Reference20Ideal.main_v23) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel15 : Cert.Kernel15.Facts) (hKernel15Ideal : Cert.Kernel15Ideal.Facts) (hReference15Ideal : Cert.Reference15Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel15_Kernel15Ideal
    ∧ algebraic_Kernel15Ideal_Reference15Ideal (hKernel15Ideal := hKernel15Ideal) (hReference15Ideal := hReference15Ideal)
-- ==== Pre_finite_inputs.lean ====
abbrev S8192x5632 : Shape := ⟨2, ![8192, 5632]⟩
abbrev S12x8192 : Shape := ⟨2, ![12, 8192]⟩
abbrev S8192x2048 : Shape := ⟨2, ![8192, 2048]⟩
abbrev S_ : Shape := ⟨0, ![]⟩

class Facts : Prop where
  bcast_S_S8192x5632 : S_.BroadcastsInDim S8192x5632 (![] : Fin 0 → Fin S8192x5632.rank)
  bcast_S_S12x8192 : S_.BroadcastsInDim S12x8192 (![] : Fin 0 → Fin S12x8192.rank)
  bcast_S_S8192x2048 : S_.BroadcastsInDim S8192x2048 (![] : Fin 0 → Fin S8192x2048.rank)

variable [Facts]

def fn {F : FTy → Type} [FloatOps F] (main_arg0 : FVec F S8192x5632 .f32) (main_arg1 : FVec F S12x8192 .f32) (main_arg2 : FVec F S8192x2048 .f32) : IVec S8192x5632 1 × IVec S12x8192 1 × IVec S8192x2048 1 :=
  let main_v0 : FVec F S8192x5632 .f32 := Host.absf main_arg0
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_v3 : FVec F S12x8192 .f32 := Host.absf main_arg1
  let main_cst_0 : FVec F S_ .f32 := constant S_ .f32 0x7F800000#32
  let main_v4 : FVec F S12x8192 .f32 := broadcastInDim S12x8192 ![] bcast_S_S12x8192 main_cst_0
  let main_v5 : IVec S12x8192 1 := cmpf .olt main_v3 main_v4
  let main_v6 : FVec F S8192x2048 .f32 := Host.absf main_arg2
  let main_cst_1 : FVec F S_ .f32 := constant S_ .f32 0x7F800000#32
  let main_v7 : FVec F S8192x2048 .f32 := broadcastInDim S8192x2048 ![] bcast_S_S8192x2048 main_cst_1
  let main_v8 : IVec S8192x2048 1 := cmpf .olt main_v6 main_v7
  (main_v2, main_v5, main_v8)
-- ==== Kernel.lean ====
abbrev S8192x5632 : Shape := ⟨2, ![8192, 5632]⟩
abbrev S12x8192 : Shape := ⟨2, ![12, 8192]⟩
abbrev S8192x2048 : Shape := ⟨2, ![8192, 2048]⟩
abbrev S8192x1536 : Shape := ⟨2, ![8192, 1536]⟩
abbrev S8192x12x128 : Shape := ⟨3, ![8192, 12, 128]⟩
abbrev S12x8192x128 : Shape := ⟨3, ![12, 8192, 128]⟩
abbrev S12x8192x8192 : Shape := ⟨3, ![12, 8192, 8192]⟩
abbrev S_ : Shape := ⟨0, ![]⟩
abbrev S12x8192x1 : Shape := ⟨3, ![12, 8192, 1]⟩
abbrev S12x1x8192 : Shape := ⟨3, ![12, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S12x8192x125 : Shape := ⟨3, ![12, 8192, 125]⟩
abbrev S12x16x1x512 : Shape := ⟨4, ![12, 16, 1, 512]⟩
abbrev S8192x128 : Shape := ⟨2, ![8192, 128]⟩
abbrev S512x128 : Shape := ⟨2, ![512, 128]⟩
abbrev S1x8192x128 : Shape := ⟨3, ![1, 8192, 128]⟩
abbrev S1x1x1x512 : Shape := ⟨4, ![1, 1, 1, 512]⟩
abbrev S1x512 : Shape := ⟨2, ![1, 512]⟩
abbrev S1024x128 : Shape := ⟨2, ![1024, 128]⟩
abbrev S1x1024x128 : Shape := ⟨3, ![1, 1024, 128]⟩
abbrev S1024x1 : Shape := ⟨2, ![1024, 1]⟩
abbrev S1024x512 : Shape := ⟨2, ![1024, 512]⟩
abbrev S1024 : Shape := ⟨1, ![1024]⟩
abbrev S512 : Shape := ⟨1, ![512]⟩

abbrev nBuf : Space → Nat
  | .hbm => 65
  | .vmem => 22
  | .smem => 0
  | _ => 0

abbrev bufTy : (tb : Table) → Fin (tcTables nBuf tb) → BufTy
  | .hbm, ⟨0, _⟩ => ⟨S8192x5632, .f32⟩
  | .hbm, ⟨1, _⟩ => ⟨S12x8192, .f32⟩
  | .hbm, ⟨2, _⟩ => ⟨S8192x2048, .f32⟩
  | .hbm, ⟨3, _⟩ => ⟨S8192x1536, .f32⟩
  | .hbm, ⟨4, _⟩ => ⟨S8192x12x128, .f32⟩
  | .hbm, ⟨5, _⟩ => ⟨S12x8192x128, .f32⟩
  | .hbm, ⟨6, _⟩ => ⟨S8192x1536, .f32⟩
  | .hbm, ⟨7, _⟩ => ⟨S8192x12x128, .f32⟩
  | .hbm, ⟨8, _⟩ => ⟨S12x8192x128, .f32⟩
  | .hbm, ⟨9, _⟩ => ⟨S8192x1536, .f32⟩
  | .hbm, ⟨10, _⟩ => ⟨S8192x12x128, .f32⟩
  | .hbm, ⟨11, _⟩ => ⟨S12x8192x128, .f32⟩
  | .hbm, ⟨12, _⟩ => ⟨S12x8192x8192, .f32⟩
  | .hbm, ⟨13, _⟩ => ⟨S_, .f32⟩
  | .hbm, ⟨14, _⟩ => ⟨S12x8192x8192, .f32⟩
  | .hbm, ⟨15, _⟩ => ⟨S12x8192x8192, .f32⟩
  | .hbm, ⟨16, _⟩ => ⟨S12x8192x1, .f32⟩
  | .hbm, ⟨17, _⟩ => ⟨S12x8192x8192, .f32⟩
  | .hbm, ⟨18, _⟩ => ⟨S12x8192x8192, .f32⟩
  | .hbm, ⟨19, _⟩ => ⟨S12x1x8192, .f32⟩
  | .hbm, ⟨20, _⟩ => ⟨S12x8192x8192, .f32⟩
  | .hbm, ⟨21, _⟩ => ⟨S12x8192x8192, .f32⟩
  | .hbm, ⟨22, _⟩ => ⟨S8192, .i32⟩
  | .hbm, ⟨23, _⟩ => ⟨S8192x1, .i32⟩
  | .hbm, ⟨24, _⟩ => ⟨S8192, .i32⟩
  | .hbm, ⟨25, _⟩ => ⟨S1x8192, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S_, .f32⟩
  | .hbm, ⟨30, _⟩ => ⟨S_, .f32⟩
  | .hbm, ⟨31, _⟩ => ⟨S12x8192x8192, .i1⟩
  | .hbm, ⟨32, _⟩ => ⟨S12x8192x8192, .f32⟩
  | .hbm, ⟨33, _⟩ => ⟨S12x8192x8192, .f32⟩
  | .hbm, ⟨34, _⟩ => ⟨S_, .f32⟩
  | .hbm, ⟨35, _⟩ => ⟨S12x8192, .f32⟩
  | .hbm, ⟨36, _⟩ => ⟨S12x8192x1, .f32⟩
  | .hbm, ⟨37, _⟩ => ⟨S12x8192x8192, .f32⟩
  | .hbm, ⟨38, _⟩ => ⟨S12x8192x8192, .f32⟩
  | .hbm, ⟨39, _⟩ => ⟨S12x8192x8192, .f32⟩
  | .hbm, ⟨40, _⟩ => ⟨S_, .f32⟩
  | .hbm, ⟨41, _⟩ => ⟨S12x8192, .f32⟩
  | .hbm, ⟨42, _⟩ => ⟨S12x8192x1, .f32⟩
  | .hbm, ⟨43, _⟩ => ⟨S12x8192x8192, .f32⟩
  | .hbm, ⟨44, _⟩ => ⟨S12x8192x8192, .f32⟩
  | .hbm, ⟨45, _⟩ => ⟨S12x8192x128, .f32⟩
  | .hbm, ⟨46, _⟩ => ⟨S8192x1536, .f32⟩
  | .hbm, ⟨47, _⟩ => ⟨S8192x12x128, .f32⟩
  | .hbm, ⟨48, _⟩ => ⟨S12x8192x128, .f32⟩
  | .hbm, ⟨49, _⟩ => ⟨S12x8192x128, .f32⟩
  | .hbm, ⟨50, _⟩ => ⟨S_, .f32⟩
  | .hbm, ⟨51, _⟩ => ⟨S12x8192, .f32⟩
  | .hbm, ⟨52, _⟩ => ⟨S12x8192x1, .f32⟩
  | .hbm, ⟨53, _⟩ => ⟨S12x8192x1, .f32⟩
  | .hbm, ⟨54, _⟩ => ⟨S12x8192x1, .f32⟩
  | .hbm, ⟨55, _⟩ => ⟨S12x8192x1, .f32⟩
  | .hbm, ⟨56, _⟩ => ⟨S_, .f32⟩
  | .hbm, ⟨57, _⟩ => ⟨S12x8192x125, .f32⟩
  | .hbm, ⟨58, _⟩ => ⟨S12x8192x128, .f32⟩
  | .hbm, ⟨59, _⟩ => ⟨S12x16x1x512, .f32⟩
  | .hbm, ⟨60, _⟩ => ⟨S8192x1536, .f32⟩
  | .hbm, ⟨61, _⟩ => ⟨S8192x1536, .f32⟩
  | .hbm, ⟨62, _⟩ => ⟨S8192x1536, .f32⟩
  | .hbm, ⟨63, _⟩ => ⟨S12x8192x128, .f32⟩
  | .hbm, ⟨64, _⟩ => ⟨S12x16x1x512, .f32⟩
  | .local _ .vmem, ⟨0, _⟩ => ⟨S8192x128, .f32⟩
  | .local _ .vmem, ⟨1, _⟩ => ⟨S8192x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S8192x128, .f32⟩
  | .local _ .vmem, ⟨7, _⟩ => ⟨S8192x128, .f32⟩
  | .local _ .vmem, ⟨8, _⟩ => ⟨S1x8192x128, .f32⟩
  | .local _ .vmem, ⟨9, _⟩ => ⟨S1x8192x128, .f32⟩
  | .local _ .vmem, ⟨10, _⟩ => ⟨S1x1x1x512, .f32⟩
  | .local _ .vmem, ⟨11, _⟩ => ⟨S1x1x1x512, .f32⟩
  | .local _ .vmem, ⟨12, _⟩ => ⟨S8192x128, .f32⟩
  | .local _ .vmem, ⟨13, _⟩ => ⟨S8192x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S1x8192x128, .f32⟩
  | .local _ .vmem, ⟨19, _⟩ => ⟨S1x8192x128, .f32⟩
  | .local _ .vmem, ⟨20, _⟩ => ⟨S1x1x1x512, .f32⟩
  | .local _ .vmem, ⟨21, _⟩ => ⟨S1x1x1x512, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_4 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48_0 : Ref sig .tc := ⟨.hbm, 60, rfl⟩
abbrev main_v48_1 : Ref sig .tc := ⟨.hbm, 61, rfl⟩
abbrev main_v48_2 : Ref sig .tc := ⟨.hbm, 62, rfl⟩
abbrev main_v48_3 : Ref sig .tc := ⟨.hbm, 63, rfl⟩
abbrev main_v48_4 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![12, 16], ![false, false]⟩

def k0_mult1 (i : grid0.Coords) : BitVec 32 :=
  let arg1 : BitVec 32 := BitVec.ofNat 32 (i 1).val
  let c2_i32 : BitVec 32 := 2#32
  let v13 : BitVec 32 := Scalar.divsi arg1 c2_i32
  let c1024_i32 : BitVec 32 := 1024#32
  let v15 : BitVec 32 := Scalar.muli v13 c1024_i32
  v15
def k0_off1 (i : grid0.Coords) : Fin 2 → Nat :=
  let arg1 : BitVec 32 := BitVec.ofNat 32 (i 1).val
  let c2_i32 : BitVec 32 := 2#32
  let v13 : BitVec 32 := Scalar.divsi arg1 c2_i32
  let c1024_i32 : BitVec 32 := 1024#32
  let v15 : BitVec 32 := Scalar.muli v13 c1024_i32
  let v16 : BitVec 32 := v15
  let v17 : Index := Scalar.indexCast v16
  let c0_10 : Index := 0#32
  ![v17.toNat, 0]
def k0_off2 (i : grid0.Coords) : Fin 3 → Nat :=
  let c0_12 : Index := 0#32
  let arg1 : BitVec 32 := BitVec.ofNat 32 (i 1).val
  let c2_i32 : BitVec 32 := 2#32
  let v13 : BitVec 32 := Scalar.divsi arg1 c2_i32
  let c1024_i32 : BitVec 32 := 1024#32
  let v15 : BitVec 32 := Scalar.muli v13 c1024_i32
  let v16 : BitVec 32 := v15
  let v23 : Index := Scalar.indexCast v16
  let c0_13 : Index := 0#32
  ![0, v23.toNat, 0]
@[reducible] def k0_t1_loop (i : grid0.Coords) : Scf.Loop 32 :=
  let arg1 : BitVec 32 := BitVec.ofNat 32 (i 1).val
  let c2_i32 : BitVec 32 := 2#32
  let v13 : BitVec 32 := Scalar.divsi arg1 c2_i32
  let c1_i32 : BitVec 32 := 1#32
  let v14 : BitVec 32 := Scalar.addi v13 c1_i32
  let c8_i32 : BitVec 32 := 8#32
  let v87 : BitVec 32 := Scalar.subi c8_i32 v14
  let c1_i32_34 : BitVec 32 := 1#32
  let v89 : BitVec 32 := Scalar.divsi v87 c1_i32_34
  let v90 : BitVec 32 := Scalar.muli v89 c1_i32_34
  let v91 : BitVec 32 := Scalar.addi v14 v90
  let c1_i32_35 : BitVec 32 := 1#32
  ⟨v14, v91, c1_i32_35⟩
def k0_mult2 (i : grid0.Coords) (k0_t1 : Fin (k0_t1_loop i).trips) : BitVec 32 :=
  let arg1 : BitVec 32 := BitVec.ofNat 32 (i 1).val
  let c2_i32 : BitVec 32 := 2#32
  let v13 : BitVec 32 := Scalar.divsi arg1 c2_i32
  let c1_i32 : BitVec 32 := 1#32
  let v14 : BitVec 32 := Scalar.addi v13 c1_i32
  let c1_i32_35 : BitVec 32 := 1#32
  let arg13 : BitVec 32 := Scf.iv v14 c1_i32_35 k0_t1
  let c1024_i32_45 : BitVec 32 := 1024#32
  let v99 : BitVec 32 := Scalar.muli arg13 c1024_i32_45
  v99
def k0_off3 (i : grid0.Coords) (k0_t1 : Fin (k0_t1_loop i).trips) : Fin 2 → Nat :=
  let arg1 : BitVec 32 := BitVec.ofNat 32 (i 1).val
  let c2_i32 : BitVec 32 := 2#32
  let v13 : BitVec 32 := Scalar.divsi arg1 c2_i32
  let c1_i32 : BitVec 32 := 1#32
  let v14 : BitVec 32 := Scalar.addi v13 c1_i32
  let c1_i32_35 : BitVec 32 := 1#32
  let arg13 : BitVec 32 := Scf.iv v14 c1_i32_35 k0_t1
  let c1024_i32_45 : BitVec 32 := 1024#32
  let v99 : BitVec 32 := Scalar.muli arg13 c1024_i32_45
  let v100 : BitVec 32 := v99
  let v101 : Index := Scalar.indexCast v100
  let c0_46 : Index := 0#32
  ![v101.toNat, 0]
def k0_off4 (i : grid0.Coords) (k0_t1 : Fin (k0_t1_loop i).trips) : Fin 3 → Nat :=
  let c0_48 : Index := 0#32
  let arg1 : BitVec 32 := BitVec.ofNat 32 (i 1).val
  let c2_i32 : BitVec 32 := 2#32
  let v13 : BitVec 32 := Scalar.divsi arg1 c2_i32
  let c1_i32 : BitVec 32 := 1#32
  let v14 : BitVec 32 := Scalar.addi v13 c1_i32
  let c1_i32_35 : BitVec 32 := 1#32
  let arg13 : BitVec 32 := Scf.iv v14 c1_i32_35 k0_t1
  let c1024_i32_45 : BitVec 32 := 1024#32
  let v99 : BitVec 32 := Scalar.muli arg13 c1024_i32_45
  let v100 : BitVec 32 := v99
  let v107 : Index := Scalar.indexCast v100
  let c0_49 : Index := 0#32
  ![0, v107.toNat, 0]
@[reducible] def k0_t2_loop (i : grid0.Coords) : Scf.Loop 32 :=
  let arg1 : BitVec 32 := BitVec.ofNat 32 (i 1).val
  let c2_i32 : BitVec 32 := 2#32
  let v13 : BitVec 32 := Scalar.divsi arg1 c2_i32
  let c1_i32 : BitVec 32 := 1#32
  let v14 : BitVec 32 := Scalar.addi v13 c1_i32
  let c8_i32 : BitVec 32 := 8#32
  let v87 : BitVec 32 := Scalar.subi c8_i32 v14
  let c1_i32_34 : BitVec 32 := 1#32
  let v89 : BitVec 32 := Scalar.divsi v87 c1_i32_34
  let v90 : BitVec 32 := Scalar.muli v89 c1_i32_34
  let v91 : BitVec 32 := Scalar.addi v14 v90
  let v88 : BitVec 32 := Scalar.addi v14 v87
  let c1_i32_36 : BitVec 32 := 1#32
  ⟨v91, v88, c1_i32_36⟩
def k0_mult3 (i : grid0.Coords) (k0_t2 : Fin (k0_t2_loop i).trips) : BitVec 32 :=
  let arg1 : BitVec 32 := BitVec.ofNat 32 (i 1).val
  let c2_i32 : BitVec 32 := 2#32
  let v13 : BitVec 32 := Scalar.divsi arg1 c2_i32
  let c1_i32 : BitVec 32 := 1#32
  let v14 : BitVec 32 := Scalar.addi v13 c1_i32
  let c8_i32 : BitVec 32 := 8#32
  let v87 : BitVec 32 := Scalar.subi c8_i32 v14
  let c1_i32_34 : BitVec 32 := 1#32
  let v89 : BitVec 32 := Scalar.divsi v87 c1_i32_34
  let v90 : BitVec 32 := Scalar.muli v89 c1_i32_34
  let v91 : BitVec 32 := Scalar.addi v14 v90
  let c1_i32_36 : BitVec 32 := 1#32
  let arg13 : BitVec 32 := Scf.iv v91 c1_i32_36 k0_t2
  let c1024_i32_45 : BitVec 32 := 1024#32
  let v99 : BitVec 32 := Scalar.muli arg13 c1024_i32_45
  v99
def k0_off5 (i : grid0.Coords) (k0_t2 : Fin (k0_t2_loop i).trips) : Fin 2 → Nat :=
  let arg1 : BitVec 32 := BitVec.ofNat 32 (i 1).val
  let c2_i32 : BitVec 32 := 2#32
  let v13 : BitVec 32 := Scalar.divsi arg1 c2_i32
  let c1_i32 : BitVec 32 := 1#32
  let v14 : BitVec 32 := Scalar.addi v13 c1_i32
  let c8_i32 : BitVec 32 := 8#32
  let v87 : BitVec 32 := Scalar.subi c8_i32 v14
  let c1_i32_34 : BitVec 32 := 1#32
  let v89 : BitVec 32 := Scalar.divsi v87 c1_i32_34
  let v90 : BitVec 32 := Scalar.muli v89 c1_i32_34
  let v91 : BitVec 32 := Scalar.addi v14 v90
  let c1_i32_36 : BitVec 32 := 1#32
  let arg13 : BitVec 32 := Scf.iv v91 c1_i32_36 k0_t2
  let c1024_i32_45 : BitVec 32 := 1024#32
  let v99 : BitVec 32 := Scalar.muli arg13 c1024_i32_45
  let v100 : BitVec 32 := v99
  let v101 : Index := Scalar.indexCast v100
  let c0_46 : Index := 0#32
  ![v101.toNat, 0]
def k0_off6 (i : grid0.Coords) (k0_t2 : Fin (k0_t2_loop i).trips) : Fin 3 → Nat :=
  let c0_48 : Index := 0#32
  let arg1 : BitVec 32 := BitVec.ofNat 32 (i 1).val
  let c2_i32 : BitVec 32 := 2#32
  let v13 : BitVec 32 := Scalar.divsi arg1 c2_i32
  let c1_i32 : BitVec 32 := 1#32
  let v14 : BitVec 32 := Scalar.addi v13 c1_i32
  let c8_i32 : BitVec 32 := 8#32
  let v87 : BitVec 32 := Scalar.subi c8_i32 v14
  let c1_i32_34 : BitVec 32 := 1#32
  let v89 : BitVec 32 := Scalar.divsi v87 c1_i32_34
  let v90 : BitVec 32 := Scalar.muli v89 c1_i32_34
  let v91 : BitVec 32 := Scalar.addi v14 v90
  let c1_i32_36 : BitVec 32 := 1#32
  let arg13 : BitVec 32 := Scf.iv v91 c1_i32_36 k0_t2
  let c1024_i32_45 : BitVec 32 := 1024#32
  let v99 : BitVec 32 := Scalar.muli arg13 c1024_i32_45
  let v100 : BitVec 32 := v99
  let v107 : Index := Scalar.indexCast v100
  let c0_49 : Index := 0#32
  ![0, v107.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8192x5632 : Shape := ⟨2, ![8192, 5632]⟩
abbrev S12x8192 : Shape := ⟨2, ![12, 8192]⟩
abbrev S8192x2048 : Shape := ⟨2, ![8192, 2048]⟩
abbrev S8192x1536 : Shape := ⟨2, ![8192, 1536]⟩
abbrev S8192x12x128 : Shape := ⟨3, ![8192, 12, 128]⟩
abbrev S12x8192x128 : Shape := ⟨3, ![12, 8192, 128]⟩
abbrev S12x8192x8192 : Shape := ⟨3, ![12, 8192, 8192]⟩
abbrev S_ : Shape := ⟨0, ![]⟩
abbrev S12x8192x1 : Shape := ⟨3, ![12, 8192, 1]⟩
abbrev S12x1x8192 : Shape := ⟨3, ![12, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S12x128x8192 : Shape := ⟨3, ![12, 128, 8192]⟩
abbrev S12x16x1x512 : Shape := ⟨4, ![12, 16, 1, 512]⟩

abbrev nBuf : Space → Nat
  | .hbm => 127
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S12x8192, .f32⟩
  | .hbm, ⟨2, _⟩ => ⟨S8192x2048, .f32⟩
  | .hbm, ⟨3, _⟩ => ⟨S8192x1536, .f32⟩
  | .hbm, ⟨4, _⟩ => ⟨S8192x1536, .f32⟩
  | .hbm, ⟨5, _⟩ => ⟨S8192x1536, .f32⟩
  | .hbm, ⟨6, _⟩ => ⟨S8192x12x128, .f32⟩
  | .hbm, ⟨7, _⟩ => ⟨S12x8192x128, .f32⟩
  | .hbm, ⟨8, _⟩ => ⟨S8192x12x128, .f32⟩
  | .hbm, ⟨9, _⟩ => ⟨S12x8192x128, .f32⟩
  | .hbm, ⟨10, _⟩ => ⟨S8192x12x128, .f32⟩
  | .hbm, ⟨11, _⟩ => ⟨S12x8192x128, .f32⟩
  | .hbm, ⟨12, _⟩ => ⟨S12x8192x8192, .f32⟩
  | .hbm, ⟨13, _⟩ => ⟨S_, .f32⟩
  | .hbm, ⟨14, _⟩ => ⟨S12x8192x8192, .f32⟩
  | .hbm, ⟨15, _⟩ => ⟨S12x8192x8192, .f32⟩
  | .hbm, ⟨16, _⟩ => ⟨S12x8192x1, .f32⟩
  | .hbm, ⟨17, _⟩ => ⟨S12x8192x8192, .f32⟩
  | .hbm, ⟨18, _⟩ => ⟨S12x8192x8192, .f32⟩
  | .hbm, ⟨19, _⟩ => ⟨S12x1x8192, .f32⟩
  | .hbm, ⟨20, _⟩ => ⟨S12x8192x8192, .f32⟩
  | .hbm, ⟨21, _⟩ => ⟨S12x8192x8192, .f32⟩
  | .hbm, ⟨22, _⟩ => ⟨S8192, .i32⟩
  | .hbm, ⟨23, _⟩ => ⟨S8192x1, .i32⟩
  | .hbm, ⟨24, _⟩ => ⟨S8192, .i32⟩
  | .hbm, ⟨25, _⟩ => ⟨S1x8192, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S_, .f32⟩
  | .hbm, ⟨30, _⟩ => ⟨S_, .f32⟩
  | .hbm, ⟨31, _⟩ => ⟨S12x8192x8192, .i1⟩
  | .hbm, ⟨32, _⟩ => ⟨S12x8192x8192, .f32⟩
  | .hbm, ⟨33, _⟩ => ⟨S12x8192x8192, .f32⟩
  | .hbm, ⟨34, _⟩ => ⟨S_, .f32⟩
  | .hbm, ⟨35, _⟩ => ⟨S12x8192x8192, .f32⟩
  | .hbm, ⟨36, _⟩ => ⟨S_, .f32⟩
  | .hbm, ⟨37, _⟩ => ⟨S12x8192, .f32⟩
  | .hbm, ⟨38, _⟩ => ⟨S12x8192x1, .f32⟩
  | .hbm, ⟨39, _⟩ => ⟨S12x8192x8192, .f32⟩
  | .hbm, ⟨40, _⟩ => ⟨S12x8192x8192, .i1⟩
  | .hbm, ⟨41, _⟩ => ⟨S12x8192x8192, .f32⟩
  | .hbm, ⟨42, _⟩ => ⟨S_, .f32⟩
  | .hbm, ⟨43, _⟩ => ⟨S12x8192, .f32⟩
  | .hbm, ⟨44, _⟩ => ⟨S_, .f32⟩
  | .hbm, ⟨45, _⟩ => ⟨S12x8192, .f32⟩
  | .hbm, ⟨46, _⟩ => ⟨S12x8192, .f32⟩
  | .hbm, ⟨47, _⟩ => ⟨S_, .f32⟩
  | .hbm, ⟨48, _⟩ => ⟨S12x8192, .f32⟩
  | .hbm, ⟨49, _⟩ => ⟨S12x8192, .i1⟩
  | .hbm, ⟨50, _⟩ => ⟨S_, .f32⟩
  | .hbm, ⟨51, _⟩ => ⟨S12x8192, .f32⟩
  | .hbm, ⟨52, _⟩ => ⟨S12x8192, .i1⟩
  | .hbm, ⟨53, _⟩ => ⟨S_, .f32⟩
  | .hbm, ⟨54, _⟩ => ⟨S12x8192, .f32⟩
  | .hbm, ⟨55, _⟩ => ⟨S_, .f32⟩
  | .hbm, ⟨56, _⟩ => ⟨S12x8192, .f32⟩
  | .hbm, ⟨57, _⟩ => ⟨S_, .f32⟩
  | .hbm, ⟨58, _⟩ => ⟨S12x8192, .f32⟩
  | .hbm, ⟨59, _⟩ => ⟨S12x8192, .f32⟩
  | .hbm, ⟨60, _⟩ => ⟨S12x8192, .f32⟩
  | .hbm, ⟨61, _⟩ => ⟨S12x8192x1, .f32⟩
  | .hbm, ⟨62, _⟩ => ⟨S12x8192x8192, .f32⟩
  | .hbm, ⟨63, _⟩ => ⟨S12x8192x8192, .f32⟩
  | .hbm, ⟨64, _⟩ => ⟨S12x8192x8192, .f32⟩
  | .hbm, ⟨65, _⟩ => ⟨S_, .f32⟩
  | .hbm, ⟨66, _⟩ => ⟨S12x8192, .f32⟩
  | .hbm, ⟨67, _⟩ => ⟨S12x8192x1, .f32⟩
  | .hbm, ⟨68, _⟩ => ⟨S12x8192x8192, .f32⟩
  | .hbm, ⟨69, _⟩ => ⟨S12x8192x8192, .f32⟩
  | .hbm, ⟨70, _⟩ => ⟨S12x8192x1, .f32⟩
  | .hbm, ⟨71, _⟩ => ⟨S_, .f32⟩
  | .hbm, ⟨72, _⟩ => ⟨S12x8192x1, .f32⟩
  | .hbm, ⟨73, _⟩ => ⟨S12x8192x1, .f32⟩
  | .hbm, ⟨74, _⟩ => ⟨S12x8192x128, .f32⟩
  | .hbm, ⟨75, _⟩ => ⟨S8192x12x128, .f32⟩
  | .hbm, ⟨76, _⟩ => ⟨S8192x1536, .f32⟩
  | .hbm, ⟨77, _⟩ => ⟨S8192x1536, .f32⟩
  | .hbm, ⟨78, _⟩ => ⟨S8192x12x128, .f32⟩
  | .hbm, ⟨79, _⟩ => ⟨S12x8192x128, .f32⟩
  | .hbm, ⟨80, _⟩ => ⟨S12x128x8192, .f32⟩
  | .hbm, ⟨81, _⟩ => ⟨S12x8192x128, .f32⟩
  | .hbm, ⟨82, _⟩ => ⟨S12x8192x8192, .f32⟩
  | .hbm, ⟨83, _⟩ => ⟨S12x8192x8192, .f32⟩
  | .hbm, ⟨84, _⟩ => ⟨S12x8192x8192, .f32⟩
  | .hbm, ⟨85, _⟩ => ⟨S12x8192x8192, .f32⟩
  | .hbm, ⟨86, _⟩ => ⟨S_, .f32⟩
  | .hbm, ⟨87, _⟩ => ⟨S12x8192, .f32⟩
  | .hbm, ⟨88, _⟩ => ⟨S12x8192x1, .f32⟩
  | .hbm, ⟨89, _⟩ => ⟨S12x8192x1, .f32⟩
  | .hbm, ⟨90, _⟩ => ⟨S12x8192x8192, .f32⟩
  | .hbm, ⟨91, _⟩ => ⟨S12x8192x8192, .f32⟩
  | .hbm, ⟨92, _⟩ => ⟨S_, .f32⟩
  | .hbm, ⟨93, _⟩ => ⟨S12x8192, .f32⟩
  | .hbm, ⟨94, _⟩ => ⟨S12x8192x8192, .f32⟩
  | .hbm, ⟨95, _⟩ => ⟨S12x8192x8192, .f32⟩
  | .hbm, ⟨96, _⟩ => ⟨S12x8192x8192, .f32⟩
  | .hbm, ⟨97, _⟩ => ⟨S_, .f32⟩
  | .hbm, ⟨98, _⟩ => ⟨S12x8192x8192, .f32⟩
  | .hbm, ⟨99, _⟩ => ⟨S12x8192x8192, .f32⟩
  | .hbm, ⟨100, _⟩ => ⟨S12x8192x8192, .f32⟩
  | .hbm, ⟨101, _⟩ => ⟨S_, .f32⟩
  | .hbm, ⟨102, _⟩ => ⟨S12x8192, .f32⟩
  | .hbm, ⟨103, _⟩ => ⟨S12x1x8192, .f32⟩
  | .hbm, ⟨104, _⟩ => ⟨S_, .f32⟩
  | .hbm, ⟨105, _⟩ => ⟨S12x8192, .f32⟩
  | .hbm, ⟨106, _⟩ => ⟨S_, .f32⟩
  | .hbm, ⟨107, _⟩ => ⟨S12x8192, .f32⟩
  | .hbm, ⟨108, _⟩ => ⟨S12x8192x1, .f32⟩
  | .hbm, ⟨109, _⟩ => ⟨S_, .f32⟩
  | .hbm, ⟨110, _⟩ => ⟨S12x8192, .f32⟩
  | .hbm, ⟨111, _⟩ => ⟨S_, .f32⟩
  | .hbm, ⟨112, _⟩ => ⟨S12x8192x8192, .f32⟩
  | .hbm, ⟨113, _⟩ => ⟨S12x8192x8192, .f32⟩
  | .hbm, ⟨114, _⟩ => ⟨S12x8192x128, .f32⟩
  | .hbm, ⟨115, _⟩ => ⟨S12x8192x128, .f32⟩
  | .hbm, ⟨116, _⟩ => ⟨S8192x12x128, .f32⟩
  | .hbm, ⟨117, _⟩ => ⟨S8192x1536, .f32⟩
  | .hbm, ⟨118, _⟩ => ⟨S8192x12x128, .f32⟩
  | .hbm, ⟨119, _⟩ => ⟨S8192x1536, .f32⟩
  | .hbm, ⟨120, _⟩ => ⟨S8192x12x128, .f32⟩
  | .hbm, ⟨121, _⟩ => ⟨S8192x1536, .f32⟩
  | .hbm, ⟨122, _⟩ => ⟨S12x8192x1, .f32⟩
  | .hbm, ⟨123, _⟩ => ⟨S_, .i32⟩
  | .hbm, ⟨124, _⟩ => ⟨S_, .f32⟩
  | .hbm, ⟨125, _⟩ => ⟨S12x8192x128, .f32⟩
  | .hbm, ⟨126, _⟩ => ⟨S12x16x1x512, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_call0_v0 : Ref sig .tc := ⟨.hbm, 30, rfl⟩
abbrev main_v25_1 : Ref sig .tc := ⟨.hbm, 31, rfl⟩
abbrev main_call0_v2 : Ref sig .tc := ⟨.hbm, 32, rfl⟩
abbrev main_v25_0 : Ref sig .tc := ⟨.hbm, 33, rfl⟩
abbrev main_call0_cst : Ref sig .tc := ⟨.hbm, 34, rfl⟩
abbrev main_v25_2 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_11 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_12 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_call1_cst : Ref sig .tc := ⟨.hbm, 97, rfl⟩
abbrev main_call1_v0 : Ref sig .tc := ⟨.hbm, 98, rfl⟩
abbrev main_v75 : Ref sig .tc := ⟨.hbm, 99, rfl⟩
abbrev main_v76 : Ref sig .tc := ⟨.hbm, 100, rfl⟩
abbrev main_cst_13 : Ref sig .tc := ⟨.hbm, 101, rfl⟩
abbrev main_v77 : Ref sig .tc := ⟨.hbm, 102, rfl⟩
abbrev main_v78 : Ref sig .tc := ⟨.hbm, 103, rfl⟩
abbrev main_cst_14 : Ref sig .tc := ⟨.hbm, 104, rfl⟩
abbrev main_v79 : Ref sig .tc := ⟨.hbm, 105, rfl⟩
abbrev main_cst_15 : Ref sig .tc := ⟨.hbm, 106, rfl⟩
abbrev main_v80 : Ref sig .tc := ⟨.hbm, 107, rfl⟩
abbrev main_v81 : Ref sig .tc := ⟨.hbm, 108, rfl⟩
abbrev main_cst_16 : Ref sig .tc := ⟨.hbm, 109, rfl⟩
abbrev main_v82 : Ref sig .tc := ⟨.hbm, 110, rfl⟩
abbrev main_cst_17 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_c : Ref sig .tc := ⟨.hbm, 123, rfl⟩
abbrev main_call2_v0 : Ref sig .tc := ⟨.hbm, 124, rfl⟩
abbrev main_v94 : Ref sig .tc := ⟨.hbm, 125, rfl⟩
abbrev main_v95 : Ref sig .tc := ⟨.hbm, 126, rfl⟩

abbrev nD : Nat := 1
abbrev τ : Topo := Topo.v7x

variable {F : FTy → Type} [FloatOps F]
-- ==== Kernel2.lean ====
abbrev S8192x2048 : Shape := ⟨2, ![8192, 2048]⟩
abbrev S8192x8192 : Shape := ⟨2, ![8192, 8192]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x8192, .f32⟩
  | .hbm, ⟨3, _⟩ => ⟨S8192x8192, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S8192x2048 : Shape := ⟨2, ![8192, 2048]⟩
abbrev S8192x8192 : Shape := ⟨2, ![8192, 8192]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x8192, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x2048, .f32⟩
  | .hbm, ⟨16, _⟩ => ⟨S8192x2048, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Kernel3.lean ====
abbrev S8192x8192 : Shape := ⟨2, ![8192, 8192]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .f32⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x8192 : Shape := ⟨2, ![8192, 8192]⟩
abbrev S8192x2048 : Shape := ⟨2, ![8192, 2048]⟩
abbrev S_ : Shape := ⟨0, ![]⟩
abbrev S2048x8192 : Shape := ⟨2, ![2048, 8192]⟩

abbrev nBuf : Space → Nat
  | .hbm => 9
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .f32⟩
  | .hbm, ⟨2, _⟩ => ⟨S_, .f32⟩
  | .hbm, ⟨3, _⟩ => ⟨S8192x2048, .f32⟩
  | .hbm, ⟨4, _⟩ => ⟨S8192x8192, .f32⟩
  | .hbm, ⟨5, _⟩ => ⟨S8192x2048, .f32⟩
  | .hbm, ⟨6, _⟩ => ⟨S2048x8192, .f32⟩
  | .hbm, ⟨7, _⟩ => ⟨S8192x2048, .f32⟩
  | .hbm, ⟨8, _⟩ => ⟨S8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x8192 : Shape := ⟨2, ![8192, 8192]⟩
abbrev S8x2048x1024 : Shape := ⟨3, ![8, 2048, 1024]⟩
abbrev S8192x2048 : Shape := ⟨2, ![8192, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S8x2048x1024, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x8192 : Shape := ⟨2, ![8192, 8192]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S_ : Shape := ⟨0, ![]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8x2048x1024, .bf16⟩
  | .hbm, ⟨2, _⟩ => ⟨S8x2048x1024, .f32⟩
  | .hbm, ⟨3, _⟩ => ⟨S2048x8x1024, .f32⟩
  | .hbm, ⟨4, _⟩ => ⟨S2048x8192, .f32⟩
  | .hbm, ⟨5, _⟩ => ⟨S_, .f32⟩
  | .hbm, ⟨6, _⟩ => ⟨S8192x2048, .f32⟩
  | .hbm, ⟨7, _⟩ => ⟨S8192x8192, .f32⟩
  | .hbm, ⟨8, _⟩ => ⟨S8192x8192, .f32⟩
  | .hbm, ⟨9, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x2048 : Shape := ⟨2, ![8192, 2048]⟩
abbrev S8192x8192 : Shape := ⟨2, ![8192, 8192]⟩
abbrev S8x2048x1024 : Shape := ⟨3, ![8, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S8x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S8192x8192 : Shape := ⟨2, ![8192, 8192]⟩
abbrev S_ : Shape := ⟨0, ![]⟩
abbrev S2048x8192 : Shape := ⟨2, ![2048, 8192]⟩
abbrev S2048x8x1024 : Shape := ⟨3, ![2048, 8, 1024]⟩
abbrev S8x2048x1024 : Shape := ⟨3, ![8, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S_, .f32⟩
  | .hbm, ⟨3, _⟩ => ⟨S2048x8192, .f32⟩
  | .hbm, ⟨4, _⟩ => ⟨S8192x2048, .f32⟩
  | .hbm, ⟨5, _⟩ => ⟨S8192x8192, .f32⟩
  | .hbm, ⟨6, _⟩ => ⟨S8192x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | .hbm, ⟨10, _⟩ => ⟨S2048x8x1024, .bf16⟩
  | .hbm, ⟨11, _⟩ => ⟨S8x2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S8192x2048 : Shape := ⟨2, ![8192, 2048]⟩
abbrev S8x2048x1024 : Shape := ⟨3, ![8, 2048, 1024]⟩
abbrev S8192x8192 : Shape := ⟨2, ![8192, 8192]⟩
abbrev S1024x2048 : Shape := ⟨2, ![1024, 2048]⟩
abbrev S1x2048x1024 : Shape := ⟨3, ![1, 2048, 1024]⟩
abbrev S1024x1024 : Shape := ⟨2, ![1024, 1024]⟩
abbrev S8x128 : Shape := ⟨2, ![8, 128]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S8x2048x1024, .bf16⟩
  | .hbm, ⟨2, _⟩ => ⟨S8192x8192, .f32⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S8192x2048 : Shape := ⟨2, ![8192, 2048]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S8192x8192 : Shape := ⟨2, ![8192, 8192]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x2048x1024, .bf16⟩
  | .hbm, ⟨2, _⟩ => ⟨S8x2048x1024, .f32⟩
  | .hbm, ⟨3, _⟩ => ⟨S2048x8x1024, .f32⟩
  | .hbm, ⟨4, _⟩ => ⟨S2048x8192, .f32⟩
  | .hbm, ⟨5, _⟩ => ⟨S8192x2048, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel7.lean ====
abbrev S8192x8192 : Shape := ⟨2, ![8192, 8192]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S8192x8192 : Shape := ⟨2, ![8192, 8192]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .f32⟩
  | .hbm, ⟨3, _⟩ => ⟨S8192x8192, .f32⟩
  | .hbm, ⟨4, _⟩ => ⟨S8192x2048, .f32⟩
  | .hbm, ⟨5, _⟩ => ⟨S8192x2048, .f32⟩
  | .hbm, ⟨6, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference11Ideal.lean ====
abbrev S8x256x1024 : Shape := ⟨3, ![8, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel12.lean ====
abbrev S8x2048x835 : Shape := ⟨3, ![8, 2048, 835]⟩
abbrev S1x2048x835 : Shape := ⟨3, ![1, 2048, 835]⟩
abbrev S8x256x835 : Shape := ⟨3, ![8, 256, 835]⟩
abbrev S1x256x835 : Shape := ⟨3, ![1, 256, 835]⟩
abbrev S256x835 : Shape := ⟨2, ![256, 835]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x835, .bf16⟩
  | .hbm, ⟨1, _⟩ => ⟨S1x2048x835, .f32⟩
  | .hbm, ⟨2, _⟩ => ⟨S1x2048x835, .f32⟩
  | .hbm, ⟨3, _⟩ => ⟨S1x2048x835, .f32⟩
  | .hbm, ⟨4, _⟩ => ⟨S1x2048x835, .f32⟩
  | .hbm, ⟨5, _⟩ => ⟨S1x2048x835, .f32⟩
  | .hbm, ⟨6, _⟩ => ⟨S1x2048x835, .f32⟩
  | .hbm, ⟨7, _⟩ => ⟨S1x2048x835, .f32⟩
  | .local _ .vmem, ⟨0, _⟩ => ⟨S8x256x835, .bf16⟩
  | .local _ .vmem, ⟨1, _⟩ => ⟨S8x256x835, .bf16⟩
  | .local _ .vmem, ⟨2, _⟩ => ⟨S1x256x835, .f32⟩
  | .local _ .vmem, ⟨3, _⟩ => ⟨S1x256x835, .f32⟩
  | .local _ .vmem, ⟨4, _⟩ => ⟨S1x256x835, .f32⟩
  | .local _ .vmem, ⟨5, _⟩ => ⟨S1x256x835, .f32⟩
  | .local _ .vmem, ⟨6, _⟩ => ⟨S1x256x835, .f32⟩
  | .local _ .vmem, ⟨7, _⟩ => ⟨S1x256x835, .f32⟩
  | .local _ .vmem, ⟨8, _⟩ => ⟨S1x256x835, .f32⟩
  | .local _ .vmem, ⟨9, _⟩ => ⟨S1x256x835, .f32⟩
  | .local _ .vmem, ⟨10, _⟩ => ⟨S1x256x835, .f32⟩
  | .local _ .vmem, ⟨11, _⟩ => ⟨S1x256x835, .f32⟩
  | .local _ .vmem, ⟨12, _⟩ => ⟨S1x256x835, .f32⟩
  | .local _ .vmem, ⟨13, _⟩ => ⟨S1x256x835, .f32⟩
  | .local _ .vmem, ⟨14, _⟩ => ⟨S1x256x835, .f32⟩
  | .local _ .vmem, ⟨15, _⟩ => ⟨S1x256x835, .f32⟩
  | _, _ => ⟨S8x2048x835, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x835 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x835 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x835 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x835 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x835 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x835 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x835 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x835 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S8x2048x835 : Shape := ⟨3, ![8, 2048, 835]⟩
abbrev S1x2048x835 : Shape := ⟨3, ![1, 2048, 835]⟩
abbrev S_ : Shape := ⟨0, ![]⟩
abbrev S2048x835 : Shape := ⟨2, ![2048, 835]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x835, .bf16⟩
  | .hbm, ⟨1, _⟩ => ⟨S1x2048x835, .f32⟩
  | .hbm, ⟨2, _⟩ => ⟨S1x2048x835, .f32⟩
  | .hbm, ⟨3, _⟩ => ⟨S1x2048x835, .f32⟩
  | .hbm, ⟨4, _⟩ => ⟨S8x2048x835, .f32⟩
  | .hbm, ⟨5, _⟩ => ⟨S_, .f32⟩
  | .hbm, ⟨6, _⟩ => ⟨S2048x835, .f32⟩
  | .hbm, ⟨7, _⟩ => ⟨S1x2048x835, .f32⟩
  | .hbm, ⟨8, _⟩ => ⟨S_, .f32⟩
  | .hbm, ⟨9, _⟩ => ⟨S1x2048x835, .f32⟩
  | .hbm, ⟨10, _⟩ => ⟨S1x2048x835, .f32⟩
  | .hbm, ⟨11, _⟩ => ⟨S_, .f32⟩
  | .hbm, ⟨12, _⟩ => ⟨S1x2048x835, .f32⟩
  | .hbm, ⟨13, _⟩ => ⟨S1x2048x835, .f32⟩
  | .hbm, ⟨14, _⟩ => ⟨S1x2048x835, .f32⟩
  | .hbm, ⟨15, _⟩ => ⟨S_, .f32⟩
  | .hbm, ⟨16, _⟩ => ⟨S1x2048x835, .f32⟩
  | .hbm, ⟨17, _⟩ => ⟨S1x2048x835, .f32⟩
  | .hbm, ⟨18, _⟩ => ⟨S1x2048x835, .f32⟩
  | .hbm, ⟨19, _⟩ => ⟨S_, .f32⟩
  | .hbm, ⟨20, _⟩ => ⟨S1x2048x835, .f32⟩
  | .hbm, ⟨21, _⟩ => ⟨S1x2048x835, .f32⟩
  | .hbm, ⟨22, _⟩ => ⟨S1x2048x835, .f32⟩
  | .hbm, ⟨23, _⟩ => ⟨S_, .f32⟩
  | .hbm, ⟨24, _⟩ => ⟨S1x2048x835, .f32⟩
  | .hbm, ⟨25, _⟩ => ⟨S1x2048x835, .f32⟩
  | .hbm, ⟨26, _⟩ => ⟨S_, .f32⟩
  | .hbm, ⟨27, _⟩ => ⟨S1x2048x835, .f32⟩
  | .hbm, ⟨28, _⟩ => ⟨S1x2048x835, .f32⟩
  | .hbm, ⟨29, _⟩ => ⟨S1x2048x835, .f32⟩
  | .hbm, ⟨30, _⟩ => ⟨S_, .f32⟩
  | .hbm, ⟨31, _⟩ => ⟨S1x2048x835, .f32⟩
  | .hbm, ⟨32, _⟩ => ⟨S1x2048x835, .f32⟩
  | .hbm, ⟨33, _⟩ => ⟨S1x2048x835, .f32⟩
  | .hbm, ⟨34, _⟩ => ⟨S_, .f32⟩
  | .hbm, ⟨35, _⟩ => ⟨S1x2048x835, .f32⟩
  | .hbm, ⟨36, _⟩ => ⟨S1x2048x835, .f32⟩
  | .hbm, ⟨37, _⟩ => ⟨S1x2048x835, .f32⟩
  | .hbm, ⟨38, _⟩ => ⟨S_, .f32⟩
  | .hbm, ⟨39, _⟩ => ⟨S1x2048x835, .f32⟩
  | .hbm, ⟨40, _⟩ => ⟨S1x2048x835, .f32⟩
  | _, _ => ⟨S8x2048x835, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel13.lean ====
abbrev S1x256x5132 : Shape := ⟨3, ![1, 256, 5132]⟩
abbrev S1x64x5132 : Shape := ⟨3, ![1, 64, 5132]⟩
abbrev S64x5132 : Shape := ⟨2, ![64, 5132]⟩

abbrev nBuf : Space → Nat
  | .hbm => 8
  | .vmem => 16
  | .smem => 0
  | _ => 0

abbrev bufTy : (tb : Table) → Fin (tcTables nBuf tb) → BufTy
  | .hbm, ⟨0, _⟩ => ⟨S1x256x5132, .f32⟩
  | .hbm, ⟨1, _⟩ => ⟨S1x256x5132, .f32⟩
  | .hbm, ⟨2, _⟩ => ⟨S1x256x5132, .f32⟩
  | .hbm, ⟨3, _⟩ => ⟨S1x256x5132, .f32⟩
  | .hbm, ⟨4, _⟩ => ⟨S1x256x5132, .f32⟩
  | .hbm, ⟨5, _⟩ => ⟨S1x256x5132, .f32⟩
  | .hbm, ⟨6, _⟩ => ⟨S1x256x5132, .f32⟩
  | .hbm, ⟨7, _⟩ => ⟨S1x256x5132, .f32⟩
  | .local _ .vmem, ⟨0, _⟩ => ⟨S1x64x5132, .f32⟩
  | .local _ .vmem, ⟨1, _⟩ => ⟨S1x64x5132, .f32⟩
  | .local _ .vmem, ⟨2, _⟩ => ⟨S1x64x5132, .f32⟩
  | .local _ .vmem, ⟨3, _⟩ => ⟨S1x64x5132, .f32⟩
  | .local _ .vmem, ⟨4, _⟩ => ⟨S1x64x5132, .f32⟩
  | .local _ .vmem, ⟨5, _⟩ => ⟨S1x64x5132, .f32⟩
  | .local _ .vmem, ⟨6, _⟩ => ⟨S1x64x5132, .f32⟩
  | .local _ .vmem, ⟨7, _⟩ => ⟨S1x64x5132, .f32⟩
  | .local _ .vmem, ⟨8, _⟩ => ⟨S1x64x5132, .f32⟩
  | .local _ .vmem, ⟨9, _⟩ => ⟨S1x64x5132, .f32⟩
  | .local _ .vmem, ⟨10, _⟩ => ⟨S1x64x5132, .f32⟩
  | .local _ .vmem, ⟨11, _⟩ => ⟨S1x64x5132, .f32⟩
  | .local _ .vmem, ⟨12, _⟩ => ⟨S1x64x5132, .f32⟩
  | .local _ .vmem, ⟨13, _⟩ => ⟨S1x64x5132, .f32⟩
  | .local _ .vmem, ⟨14, _⟩ => ⟨S1x64x5132, .f32⟩
  | .local _ .vmem, ⟨15, _⟩ => ⟨S1x64x5132, .f32⟩
  | _, _ => ⟨S1x256x5132, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x64x5132 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x5132 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x5132 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x5132 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x5132 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x5132 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x5132 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x5132 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S1x256x5132 : Shape := ⟨3, ![1, 256, 5132]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256x5132, .f32⟩
  | .hbm, ⟨1, _⟩ => ⟨S1x256x5132, .f32⟩
  | .hbm, ⟨2, _⟩ => ⟨S1x256x5132, .f32⟩
  | .hbm, ⟨3, _⟩ => ⟨S1x256x5132, .f32⟩
  | .hbm, ⟨4, _⟩ => ⟨S_, .f32⟩
  | .hbm, ⟨5, _⟩ => ⟨S1x256x5132, .f32⟩
  | .hbm, ⟨6, _⟩ => ⟨S1x256x5132, .f32⟩
  | .hbm, ⟨7, _⟩ => ⟨S_, .f32⟩
  | .hbm, ⟨8, _⟩ => ⟨S1x256x5132, .f32⟩
  | .hbm, ⟨9, _⟩ => ⟨S1x256x5132, .f32⟩
  | .hbm, ⟨10, _⟩ => ⟨S1x256x5132, .f32⟩
  | .hbm, ⟨11, _⟩ => ⟨S_, .f32⟩
  | .hbm, ⟨12, _⟩ => ⟨S1x256x5132, .f32⟩
  | .hbm, ⟨13, _⟩ => ⟨S1x256x5132, .f32⟩
  | .hbm, ⟨14, _⟩ => ⟨S1x256x5132, .f32⟩
  | .hbm, ⟨15, _⟩ => ⟨S_, .f32⟩
  | .hbm, ⟨16, _⟩ => ⟨S1x256x5132, .f32⟩
  | .hbm, ⟨17, _⟩ => ⟨S1x256x5132, .f32⟩
  | .hbm, ⟨18, _⟩ => ⟨S1x256x5132, .f32⟩
  | .hbm, ⟨19, _⟩ => ⟨S_, .f32⟩
  | .hbm, ⟨20, _⟩ => ⟨S1x256x5132, .f32⟩
  | .hbm, ⟨21, _⟩ => ⟨S1x256x5132, .f32⟩
  | .hbm, ⟨22, _⟩ => ⟨S_, .f32⟩
  | .hbm, ⟨23, _⟩ => ⟨S1x256x5132, .f32⟩
  | .hbm, ⟨24, _⟩ => ⟨S1x256x5132, .f32⟩
  | .hbm, ⟨25, _⟩ => ⟨S1x256x5132, .f32⟩
  | .hbm, ⟨26, _⟩ => ⟨S_, .f32⟩
  | .hbm, ⟨27, _⟩ => ⟨S1x256x5132, .f32⟩
  | .hbm, ⟨28, _⟩ => ⟨S1x256x5132, .f32⟩
  | .hbm, ⟨29, _⟩ => ⟨S1x256x5132, .f32⟩
  | .hbm, ⟨30, _⟩ => ⟨S_, .f32⟩
  | .hbm, ⟨31, _⟩ => ⟨S1x256x5132, .f32⟩
  | .hbm, ⟨32, _⟩ => ⟨S1x256x5132, .f32⟩
  | .hbm, ⟨33, _⟩ => ⟨S1x256x5132, .f32⟩
  | .hbm, ⟨34, _⟩ => ⟨S_, .f32⟩
  | .hbm, ⟨35, _⟩ => ⟨S1x256x5132, .f32⟩
  | .hbm, ⟨36, _⟩ => ⟨S1x256x5132, .f32⟩
  | _, _ => ⟨S1x256x5132, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S1x6656x128 : Shape := ⟨3, ![1, 6656, 128]⟩
abbrev S6656x128 : Shape := ⟨2, ![6656, 128]⟩
abbrev S1x512x128 : Shape := ⟨3, ![1, 512, 128]⟩
abbrev S512x128 : Shape := ⟨2, ![512, 128]⟩

abbrev nBuf : Space → Nat
  | .hbm => 8
  | .vmem => 16
  | .smem => 0
  | _ => 0

abbrev bufTy : (tb : Table) → Fin (tcTables nBuf tb) → BufTy
  | .hbm, ⟨0, _⟩ => ⟨S1x6656x128, .f32⟩
  | .hbm, ⟨1, _⟩ => ⟨S6656x128, .f32⟩
  | .hbm, ⟨2, _⟩ => ⟨S6656x128, .f32⟩
  | .hbm, ⟨3, _⟩ => ⟨S6656x128, .f32⟩
  | .hbm, ⟨4, _⟩ => ⟨S6656x128, .f32⟩
  | .hbm, ⟨5, _⟩ => ⟨S6656x128, .f32⟩
  | .hbm, ⟨6, _⟩ => ⟨S6656x128, .f32⟩
  | .hbm, ⟨7, _⟩ => ⟨S6656x128, .f32⟩
  | .local _ .vmem, ⟨0, _⟩ => ⟨S1x512x128, .f32⟩
  | .local _ .vmem, ⟨1, _⟩ => ⟨S1x512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S1x6656x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![13], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S1x6656x128 : Shape := ⟨3, ![1, 6656, 128]⟩
abbrev S6656x128 : Shape := ⟨2, ![6656, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x6656x128, .f32⟩
  | .hbm, ⟨1, _⟩ => ⟨S6656x128, .f32⟩
  | .hbm, ⟨2, _⟩ => ⟨S6656x128, .f32⟩
  | .hbm, ⟨3, _⟩ => ⟨S6656x128, .f32⟩
  | .hbm, ⟨4, _⟩ => ⟨S6656x128, .f32⟩
  | .hbm, ⟨5, _⟩ => ⟨S_, .f32⟩
  | .hbm, ⟨6, _⟩ => ⟨S6656x128, .f32⟩
  | .hbm, ⟨7, _⟩ => ⟨S6656x128, .f32⟩
  | .hbm, ⟨8, _⟩ => ⟨S_, .f32⟩
  | .hbm, ⟨9, _⟩ => ⟨S6656x128, .f32⟩
  | .hbm, ⟨10, _⟩ => ⟨S6656x128, .f32⟩
  | .hbm, ⟨11, _⟩ => ⟨S6656x128, .f32⟩
  | .hbm, ⟨12, _⟩ => ⟨S_, .f32⟩
  | .hbm, ⟨13, _⟩ => ⟨S6656x128, .f32⟩
  | .hbm, ⟨14, _⟩ => ⟨S6656x128, .f32⟩
  | .hbm, ⟨15, _⟩ => ⟨S6656x128, .f32⟩
  | .hbm, ⟨16, _⟩ => ⟨S_, .f32⟩
  | .hbm, ⟨17, _⟩ => ⟨S6656x128, .f32⟩
  | .hbm, ⟨18, _⟩ => ⟨S6656x128, .f32⟩
  | .hbm, ⟨19, _⟩ => ⟨S6656x128, .f32⟩
  | .hbm, ⟨20, _⟩ => ⟨S_, .f32⟩
  | .hbm, ⟨21, _⟩ => ⟨S6656x128, .f32⟩
  | .hbm, ⟨22, _⟩ => ⟨S6656x128, .f32⟩
  | .hbm, ⟨23, _⟩ => ⟨S_, .f32⟩
  | .hbm, ⟨24, _⟩ => ⟨S6656x128, .f32⟩
  | .hbm, ⟨25, _⟩ => ⟨S6656x128, .f32⟩
  | .hbm, ⟨26, _⟩ => ⟨S6656x128, .f32⟩
  | .hbm, ⟨27, _⟩ => ⟨S_, .f32⟩
  | .hbm, ⟨28, _⟩ => ⟨S6656x128, .f32⟩
  | .hbm, ⟨29, _⟩ => ⟨S6656x128, .f32⟩
  | .hbm, ⟨30, _⟩ => ⟨S6656x128, .f32⟩
  | .hbm, ⟨31, _⟩ => ⟨S_, .f32⟩
  | .hbm, ⟨32, _⟩ => ⟨S6656x128, .f32⟩
  | .hbm, ⟨33, _⟩ => ⟨S6656x128, .f32⟩
  | .hbm, ⟨34, _⟩ => ⟨S6656x128, .f32⟩
  | .hbm, ⟨35, _⟩ => ⟨S_, .f32⟩
  | .hbm, ⟨36, _⟩ => ⟨S6656x128, .f32⟩
  | .hbm, ⟨37, _⟩ => ⟨S6656x128, .f32⟩
  | _, _ => ⟨S1x6656x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel16.lean ====
abbrev S8x192x1536 : Shape := ⟨3, ![8, 192, 1536]⟩
abbrev S2x192x1536 : Shape := ⟨3, ![2, 192, 1536]⟩
abbrev S8x64x1536 : Shape := ⟨3, ![8, 64, 1536]⟩
abbrev S1x64x1536 : Shape := ⟨3, ![1, 64, 1536]⟩
abbrev S64x1536 : Shape := ⟨2, ![64, 1536]⟩

abbrev nBuf : Space → Nat
  | .hbm => 13
  | .vmem => 32
  | .smem => 0
  | _ => 0

abbrev bufTy : (tb : Table) → Fin (tcTables nBuf tb) → BufTy
  | .hbm, ⟨0, _⟩ => ⟨S8x192x1536, .bf16⟩
  | .hbm, ⟨1, _⟩ => ⟨S8x192x1536, .bf16⟩
  | .hbm, ⟨2, _⟩ => ⟨S2x192x1536, .f32⟩
  | .hbm, ⟨3, _⟩ => ⟨S2x192x1536, .f32⟩
  | .hbm, ⟨4, _⟩ => ⟨S2x192x1536, .f32⟩
  | .hbm, ⟨5, _⟩ => ⟨S2x192x1536, .f32⟩
  | .hbm, ⟨6, _⟩ => ⟨S2x192x1536, .f32⟩
  | .hbm, ⟨7, _⟩ => ⟨S2x192x1536, .f32⟩
  | .hbm, ⟨8, _⟩ => ⟨S2x192x1536, .f32⟩
  | .hbm, ⟨9, _⟩ => ⟨S2x192x1536, .f32⟩
  | .hbm, ⟨10, _⟩ => ⟨S2x192x1536, .f32⟩
  | .hbm, ⟨11, _⟩ => ⟨S2x192x1536, .f32⟩
  | .hbm, ⟨12, _⟩ => ⟨S2x192x1536, .f32⟩
  | .local _ .vmem, ⟨0, _⟩ => ⟨S8x64x1536, .bf16⟩
  | .local _ .vmem, ⟨1, _⟩ => ⟨S8x64x1536, .bf16⟩
  | .local _ .vmem, ⟨2, _⟩ => ⟨S1x64x1536, .f32⟩
  | .local _ .vmem, ⟨3, _⟩ => ⟨S1x64x1536, .f32⟩
  | .local _ .vmem, ⟨4, _⟩ => ⟨S1x64x1536, .f32⟩
  | .local _ .vmem, ⟨5, _⟩ => ⟨S1x64x1536, .f32⟩
  | .local _ .vmem, ⟨6, _⟩ => ⟨S1x64x1536, .f32⟩
  | .local _ .vmem, ⟨7, _⟩ => ⟨S1x64x1536, .f32⟩
  | .local _ .vmem, ⟨8, _⟩ => ⟨S1x64x1536, .f32⟩
  | .local _ .vmem, ⟨9, _⟩ => ⟨S1x64x1536, .f32⟩
  | .local _ .vmem, ⟨10, _⟩ => ⟨S1x64x1536, .f32⟩
  | .local _ .vmem, ⟨11, _⟩ => ⟨S1x64x1536, .f32⟩
  | .local _ .vmem, ⟨12, _⟩ => ⟨S1x64x1536, .f32⟩
  | .local _ .vmem, ⟨13, _⟩ => ⟨S1x64x1536, .f32⟩
  | .local _ .vmem, ⟨14, _⟩ => ⟨S1x64x1536, .f32⟩
  | .local _ .vmem, ⟨15, _⟩ => ⟨S1x64x1536, .f32⟩
  | .local _ .vmem, ⟨16, _⟩ => ⟨S8x64x1536, .bf16⟩
  | .local _ .vmem, ⟨17, _⟩ => ⟨S8x64x1536, .bf16⟩
  | .local _ .vmem, ⟨18, _⟩ => ⟨S1x64x1536, .f32⟩
  | .local _ .vmem, ⟨19, _⟩ => ⟨S1x64x1536, .f32⟩
  | .local _ .vmem, ⟨20, _⟩ => ⟨S1x64x1536, .f32⟩
  | .local _ .vmem, ⟨21, _⟩ => ⟨S1x64x1536, .f32⟩
  | .local _ .vmem, ⟨22, _⟩ => ⟨S1x64x1536, .f32⟩
  | .local _ .vmem, ⟨23, _⟩ => ⟨S1x64x1536, .f32⟩
  | .local _ .vmem, ⟨24, _⟩ => ⟨S1x64x1536, .f32⟩
  | .local _ .vmem, ⟨25, _⟩ => ⟨S1x64x1536, .f32⟩
  | .local _ .vmem, ⟨26, _⟩ => ⟨S1x64x1536, .f32⟩
  | .local _ .vmem, ⟨27, _⟩ => ⟨S1x64x1536, .f32⟩
  | .local _ .vmem, ⟨28, _⟩ => ⟨S1x64x1536, .f32⟩
  | .local _ .vmem, ⟨29, _⟩ => ⟨S1x64x1536, .f32⟩
  | .local _ .vmem, ⟨30, _⟩ => ⟨S1x64x1536, .f32⟩
  | .local _ .vmem, ⟨31, _⟩ => ⟨S1x64x1536, .f32⟩
  | _, _ => ⟨S8x192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x64x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![3], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_3 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_8 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_9 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_10 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_11 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage1_0 : Fin 2 → Memref sig .tc .vmem S8x64x1536 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x64x1536 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x64x1536 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x64x1536 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x64x1536 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x64x1536 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x64x1536 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x64x1536 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Reference16Ideal.lean ====
abbrev S8x192x1536 : Shape := ⟨3, ![8, 192, 1536]⟩
abbrev S2x192x1536 : Shape := ⟨3, ![2, 192, 1536]⟩
abbrev S_ : Shape := ⟨0, ![]⟩
abbrev S192x1536 : Shape := ⟨2, ![192, 1536]⟩
abbrev S1x192x1536 : Shape := ⟨3, ![1, 192, 1536]⟩

abbrev nBuf : Space → Nat
  | .hbm => 47
  | .vmem => 0
  | .smem => 0
  | _ => 0

abbrev bufTy : (tb : Table) → Fin (tcTables nBuf tb) → BufTy
  | .hbm, ⟨0, _⟩ => ⟨S8x192x1536, .bf16⟩
  | .hbm, ⟨1, _⟩ => ⟨S8x192x1536, .bf16⟩
  | .hbm, ⟨2, _⟩ => ⟨S2x192x1536, .f32⟩
  | .hbm, ⟨3, _⟩ => ⟨S2x192x1536, .f32⟩
  | .hbm, ⟨4, _⟩ => ⟨S2x192x1536, .f32⟩
  | .hbm, ⟨5, _⟩ => ⟨S8x192x1536, .f32⟩
  | .hbm, ⟨6, _⟩ => ⟨S_, .f32⟩
  | .hbm, ⟨7, _⟩ => ⟨S192x1536, .f32⟩
  | .hbm, ⟨8, _⟩ => ⟨S8x192x1536, .f32⟩
  | .hbm, ⟨9, _⟩ => ⟨S_, .f32⟩
  | .hbm, ⟨10, _⟩ => ⟨S192x1536, .f32⟩
  | .hbm, ⟨11, _⟩ => ⟨S1x192x1536, .f32⟩
  | .hbm, ⟨12, _⟩ => ⟨S1x192x1536, .f32⟩
  | .hbm, ⟨13, _⟩ => ⟨S2x192x1536, .f32⟩
  | .hbm, ⟨14, _⟩ => ⟨S_, .f32⟩
  | .hbm, ⟨15, _⟩ => ⟨S2x192x1536, .f32⟩
  | .hbm, ⟨16, _⟩ => ⟨S2x192x1536, .f32⟩
  | .hbm, ⟨17, _⟩ => ⟨S_, .f32⟩
  | .hbm, ⟨18, _⟩ => ⟨S2x192x1536, .f32⟩
  | .hbm, ⟨19, _⟩ => ⟨S2x192x1536, .f32⟩
  | .hbm, ⟨20, _⟩ => ⟨S2x192x1536, .f32⟩
  | .hbm, ⟨21, _⟩ => ⟨S_, .f32⟩
  | .hbm, ⟨22, _⟩ => ⟨S2x192x1536, .f32⟩
  | .hbm, ⟨23, _⟩ => ⟨S2x192x1536, .f32⟩
  | .hbm, ⟨24, _⟩ => ⟨S2x192x1536, .f32⟩
  | .hbm, ⟨25, _⟩ => ⟨S_, .f32⟩
  | .hbm, ⟨26, _⟩ => ⟨S2x192x1536, .f32⟩
  | .hbm, ⟨27, _⟩ => ⟨S2x192x1536, .f32⟩
  | .hbm, ⟨28, _⟩ => ⟨S2x192x1536, .f32⟩
  | .hbm, ⟨29, _⟩ => ⟨S_, .f32⟩
  | .hbm, ⟨30, _⟩ => ⟨S2x192x1536, .f32⟩
  | .hbm, ⟨31, _⟩ => ⟨S2x192x1536, .f32⟩
  | .hbm, ⟨32, _⟩ => ⟨S_, .f32⟩
  | .hbm, ⟨33, _⟩ => ⟨S2x192x1536, .f32⟩
  | .hbm, ⟨34, _⟩ => ⟨S2x192x1536, .f32⟩
  | .hbm, ⟨35, _⟩ => ⟨S2x192x1536, .f32⟩
  | .hbm, ⟨36, _⟩ => ⟨S_, .f32⟩
  | .hbm, ⟨37, _⟩ => ⟨S2x192x1536, .f32⟩
  | .hbm, ⟨38, _⟩ => ⟨S2x192x1536, .f32⟩
  | .hbm, ⟨39, _⟩ => ⟨S2x192x1536, .f32⟩
  | .hbm, ⟨40, _⟩ => ⟨S_, .f32⟩
  | .hbm, ⟨41, _⟩ => ⟨S2x192x1536, .f32⟩
  | .hbm, ⟨42, _⟩ => ⟨S2x192x1536, .f32⟩
  | .hbm, ⟨43, _⟩ => ⟨S2x192x1536, .f32⟩
  | .hbm, ⟨44, _⟩ => ⟨S_, .f32⟩
  | .hbm, ⟨45, _⟩ => ⟨S2x192x1536, .f32⟩
  | .hbm, ⟨46, _⟩ => ⟨S2x192x1536, .f32⟩
  | _, _ => ⟨S8x192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel17.lean ====
abbrev S8x256x2048 : Shape := ⟨3, ![8, 256, 2048]⟩
abbrev S2x256x2048 : Shape := ⟨3, ![2, 256, 2048]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 13
  | .vmem => 32
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .hbm, ⟨9, _⟩ => ⟨S2x256x2048, .f32⟩
  | .hbm, ⟨10, _⟩ => ⟨S2x256x2048, .f32⟩
  | .hbm, ⟨11, _⟩ => ⟨S2x256x2048, .f32⟩
  | .hbm, ⟨12, _⟩ => ⟨S2x256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S8x128x2048, .bf16⟩
  | .local _ .vmem, ⟨17, _⟩ => ⟨S8x128x2048, .bf16⟩
  | .local _ .vmem, ⟨18, _⟩ => ⟨S1x128x2048, .f32⟩
  | .local _ .vmem, ⟨19, _⟩ => ⟨S1x128x2048, .f32⟩
  | .local _ .vmem, ⟨20, _⟩ => ⟨S1x128x2048, .f32⟩
  | .local _ .vmem, ⟨21, _⟩ => ⟨S1x128x2048, .f32⟩
  | .local _ .vmem, ⟨22, _⟩ => ⟨S1x128x2048, .f32⟩
  | .local _ .vmem, ⟨23, _⟩ => ⟨S1x128x2048, .f32⟩
  | .local _ .vmem, ⟨24, _⟩ => ⟨S1x128x2048, .f32⟩
  | .local _ .vmem, ⟨25, _⟩ => ⟨S1x128x2048, .f32⟩
  | .local _ .vmem, ⟨26, _⟩ => ⟨S1x128x2048, .f32⟩
  | .local _ .vmem, ⟨27, _⟩ => ⟨S1x128x2048, .f32⟩
  | .local _ .vmem, ⟨28, _⟩ => ⟨S1x128x2048, .f32⟩
  | .local _ .vmem, ⟨29, _⟩ => ⟨S1x128x2048, .f32⟩
  | .local _ .vmem, ⟨30, _⟩ => ⟨S1x128x2048, .f32⟩
  | .local _ .vmem, ⟨31, _⟩ => ⟨S1x128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_3 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_8 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_9 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_10 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_11 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage1_0 : Fin 2 → Memref sig .tc .vmem S8x128x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x128x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Reference17Ideal.lean ====
abbrev S8x256x2048 : Shape := ⟨3, ![8, 256, 2048]⟩
abbrev S2x256x2048 : Shape := ⟨3, ![2, 256, 2048]⟩
abbrev S_ : Shape := ⟨0, ![]⟩
abbrev S256x2048 : Shape := ⟨2, ![256, 2048]⟩
abbrev S1x256x2048 : Shape := ⟨3, ![1, 256, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S8x256x2048, .f32⟩
  | .hbm, ⟨6, _⟩ => ⟨S_, .f32⟩
  | .hbm, ⟨7, _⟩ => ⟨S256x2048, .f32⟩
  | .hbm, ⟨8, _⟩ => ⟨S8x256x2048, .f32⟩
  | .hbm, ⟨9, _⟩ => ⟨S_, .f32⟩
  | .hbm, ⟨10, _⟩ => ⟨S256x2048, .f32⟩
  | .hbm, ⟨11, _⟩ => ⟨S1x256x2048, .f32⟩
  | .hbm, ⟨12, _⟩ => ⟨S1x256x2048, .f32⟩
  | .hbm, ⟨13, _⟩ => ⟨S2x256x2048, .f32⟩
  | .hbm, ⟨14, _⟩ => ⟨S_, .f32⟩
  | .hbm, ⟨15, _⟩ => ⟨S2x256x2048, .f32⟩
  | .hbm, ⟨16, _⟩ => ⟨S2x256x2048, .f32⟩
  | .hbm, ⟨17, _⟩ => ⟨S_, .f32⟩
  | .hbm, ⟨18, _⟩ => ⟨S2x256x2048, .f32⟩
  | .hbm, ⟨19, _⟩ => ⟨S2x256x2048, .f32⟩
  | .hbm, ⟨20, _⟩ => ⟨S2x256x2048, .f32⟩
  | .hbm, ⟨21, _⟩ => ⟨S_, .f32⟩
  | .hbm, ⟨22, _⟩ => ⟨S2x256x2048, .f32⟩
  | .hbm, ⟨23, _⟩ => ⟨S2x256x2048, .f32⟩
  | .hbm, ⟨24, _⟩ => ⟨S2x256x2048, .f32⟩
  | .hbm, ⟨25, _⟩ => ⟨S_, .f32⟩
  | .hbm, ⟨26, _⟩ => ⟨S2x256x2048, .f32⟩
  | .hbm, ⟨27, _⟩ => ⟨S2x256x2048, .f32⟩
  | .hbm, ⟨28, _⟩ => ⟨S2x256x2048, .f32⟩
  | .hbm, ⟨29, _⟩ => ⟨S_, .f32⟩
  | .hbm, ⟨30, _⟩ => ⟨S2x256x2048, .f32⟩
  | .hbm, ⟨31, _⟩ => ⟨S2x256x2048, .f32⟩
  | .hbm, ⟨32, _⟩ => ⟨S_, .f32⟩
  | .hbm, ⟨33, _⟩ => ⟨S2x256x2048, .f32⟩
  | .hbm, ⟨34, _⟩ => ⟨S2x256x2048, .f32⟩
  | .hbm, ⟨35, _⟩ => ⟨S2x256x2048, .f32⟩
  | .hbm, ⟨36, _⟩ => ⟨S_, .f32⟩
  | .hbm, ⟨37, _⟩ => ⟨S2x256x2048, .f32⟩
  | .hbm, ⟨38, _⟩ => ⟨S2x256x2048, .f32⟩
  | .hbm, ⟨39, _⟩ => ⟨S2x256x2048, .f32⟩
  | .hbm, ⟨40, _⟩ => ⟨S_, .f32⟩
  | .hbm, ⟨41, _⟩ => ⟨S2x256x2048, .f32⟩
  | .hbm, ⟨42, _⟩ => ⟨S2x256x2048, .f32⟩
  | .hbm, ⟨43, _⟩ => ⟨S2x256x2048, .f32⟩
  | .hbm, ⟨44, _⟩ => ⟨S_, .f32⟩
  | .hbm, ⟨45, _⟩ => ⟨S2x256x2048, .f32⟩
  | .hbm, ⟨46, _⟩ => ⟨S2x256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel18.lean ====
abbrev S8x256x2048 : Shape := ⟨3, ![8, 256, 2048]⟩
abbrev S4x256x2048 : Shape := ⟨3, ![4, 256, 2048]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 23
  | .vmem => 64
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S8x256x2048, .bf16⟩
  | .hbm, ⟨3, _⟩ => ⟨S8x256x2048, .bf16⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S4x256x2048, .f32⟩
  | .hbm, ⟨9, _⟩ => ⟨S4x256x2048, .f32⟩
  | .hbm, ⟨10, _⟩ => ⟨S4x256x2048, .f32⟩
  | .hbm, ⟨11, _⟩ => ⟨S4x256x2048, .f32⟩
  | .hbm, ⟨12, _⟩ => ⟨S4x256x2048, .f32⟩
  | .hbm, ⟨13, _⟩ => ⟨S4x256x2048, .f32⟩
  | .hbm, ⟨14, _⟩ => ⟨S4x256x2048, .f32⟩
  | .hbm, ⟨15, _⟩ => ⟨S4x256x2048, .f32⟩
  | .hbm, ⟨16, _⟩ => ⟨S4x256x2048, .f32⟩
  | .hbm, ⟨17, _⟩ => ⟨S4x256x2048, .f32⟩
  | .hbm, ⟨18, _⟩ => ⟨S4x256x2048, .f32⟩
  | .hbm, ⟨19, _⟩ => ⟨S4x256x2048, .f32⟩
  | .hbm, ⟨20, _⟩ => ⟨S4x256x2048, .f32⟩
  | .hbm, ⟨21, _⟩ => ⟨S4x256x2048, .f32⟩
  | .hbm, ⟨22, _⟩ => ⟨S4x256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S8x128x2048, .bf16⟩
  | .local _ .vmem, ⟨17, _⟩ => ⟨S8x128x2048, .bf16⟩
  | .local _ .vmem, ⟨18, _⟩ => ⟨S1x128x2048, .f32⟩
  | .local _ .vmem, ⟨19, _⟩ => ⟨S1x128x2048, .f32⟩
  | .local _ .vmem, ⟨20, _⟩ => ⟨S1x128x2048, .f32⟩
  | .local _ .vmem, ⟨21, _⟩ => ⟨S1x128x2048, .f32⟩
  | .local _ .vmem, ⟨22, _⟩ => ⟨S1x128x2048, .f32⟩
  | .local _ .vmem, ⟨23, _⟩ => ⟨S1x128x2048, .f32⟩
  | .local _ .vmem, ⟨24, _⟩ => ⟨S1x128x2048, .f32⟩
  | .local _ .vmem, ⟨25, _⟩ => ⟨S1x128x2048, .f32⟩
  | .local _ .vmem, ⟨26, _⟩ => ⟨S1x128x2048, .f32⟩
  | .local _ .vmem, ⟨27, _⟩ => ⟨S1x128x2048, .f32⟩
  | .local _ .vmem, ⟨28, _⟩ => ⟨S1x128x2048, .f32⟩
  | .local _ .vmem, ⟨29, _⟩ => ⟨S1x128x2048, .f32⟩
  | .local _ .vmem, ⟨30, _⟩ => ⟨S1x128x2048, .f32⟩
  | .local _ .vmem, ⟨31, _⟩ => ⟨S1x128x2048, .f32⟩
  | .local _ .vmem, ⟨32, _⟩ => ⟨S8x128x2048, .bf16⟩
  | .local _ .vmem, ⟨33, _⟩ => ⟨S8x128x2048, .bf16⟩
  | .local _ .vmem, ⟨34, _⟩ => ⟨S1x128x2048, .f32⟩
  | .local _ .vmem, ⟨35, _⟩ => ⟨S1x128x2048, .f32⟩
  | .local _ .vmem, ⟨36, _⟩ => ⟨S1x128x2048, .f32⟩
  | .local _ .vmem, ⟨37, _⟩ => ⟨S1x128x2048, .f32⟩
  | .local _ .vmem, ⟨38, _⟩ => ⟨S1x128x2048, .f32⟩
  | .local _ .vmem, ⟨39, _⟩ => ⟨S1x128x2048, .f32⟩
  | .local _ .vmem, ⟨40, _⟩ => ⟨S1x128x2048, .f32⟩
  | .local _ .vmem, ⟨41, _⟩ => ⟨S1x128x2048, .f32⟩
  | .local _ .vmem, ⟨42, _⟩ => ⟨S1x128x2048, .f32⟩
  | .local _ .vmem, ⟨43, _⟩ => ⟨S1x128x2048, .f32⟩
  | .local _ .vmem, ⟨44, _⟩ => ⟨S1x128x2048, .f32⟩
  | .local _ .vmem, ⟨45, _⟩ => ⟨S1x128x2048, .f32⟩
  | .local _ .vmem, ⟨46, _⟩ => ⟨S1x128x2048, .f32⟩
  | .local _ .vmem, ⟨47, _⟩ => ⟨S1x128x2048, .f32⟩
  | .local _ .vmem, ⟨48, _⟩ => ⟨S8x128x2048, .bf16⟩
  | .local _ .vmem, ⟨49, _⟩ => ⟨S8x128x2048, .bf16⟩
  | .local _ .vmem, ⟨50, _⟩ => ⟨S1x128x2048, .f32⟩
  | .local _ .vmem, ⟨51, _⟩ => ⟨S1x128x2048, .f32⟩
  | .local _ .vmem, ⟨52, _⟩ => ⟨S1x128x2048, .f32⟩
  | .local _ .vmem, ⟨53, _⟩ => ⟨S1x128x2048, .f32⟩
  | .local _ .vmem, ⟨54, _⟩ => ⟨S1x128x2048, .f32⟩
  | .local _ .vmem, ⟨55, _⟩ => ⟨S1x128x2048, .f32⟩
  | .local _ .vmem, ⟨56, _⟩ => ⟨S1x128x2048, .f32⟩
  | .local _ .vmem, ⟨57, _⟩ => ⟨S1x128x2048, .f32⟩
  | .local _ .vmem, ⟨58, _⟩ => ⟨S1x128x2048, .f32⟩
  | .local _ .vmem, ⟨59, _⟩ => ⟨S1x128x2048, .f32⟩
  | .local _ .vmem, ⟨60, _⟩ => ⟨S1x128x2048, .f32⟩
  | .local _ .vmem, ⟨61, _⟩ => ⟨S1x128x2048, .f32⟩
  | .local _ .vmem, ⟨62, _⟩ => ⟨S1x128x2048, .f32⟩
  | .local _ .vmem, ⟨63, _⟩ => ⟨S1x128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v2_3 : Ref sig .tc := ⟨.hbm, 18, rfl⟩
abbrev main_v3_0 : Ref sig .tc := ⟨.hbm, 19, rfl⟩
abbrev main_v3_1 : Ref sig .tc := ⟨.hbm, 20, rfl⟩
abbrev main_v3_2 : Ref sig .tc := ⟨.hbm, 21, rfl⟩
abbrev main_v3_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_3 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_8 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_9 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_10 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_11 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage1_0 : Fin 2 → Memref sig .tc .vmem S8x128x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x128x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![2], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_2 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_3 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_8 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_9 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_10 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_11 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage2_0 : Fin 2 → Memref sig .tc .vmem S8x128x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x128x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x128x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x128x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x128x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x128x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x128x2048 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x128x2048 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![2], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_2 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_3 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_8 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_9 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_10 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_11 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage3_0 : Fin 2 → Memref sig .tc .vmem S8x128x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x128x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x128x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x128x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x128x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x128x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x128x2048 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x128x2048 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== Reference18Ideal.lean ====
abbrev S8x256x2048 : Shape := ⟨3, ![8, 256, 2048]⟩
abbrev S4x256x2048 : Shape := ⟨3, ![4, 256, 2048]⟩
abbrev S_ : Shape := ⟨0, ![]⟩
abbrev S256x2048 : Shape := ⟨2, ![256, 2048]⟩
abbrev S1x256x2048 : Shape := ⟨3, ![1, 256, 2048]⟩

abbrev nBuf : Space → Nat
  | .hbm => 57
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S8x256x2048, .bf16⟩
  | .hbm, ⟨3, _⟩ => ⟨S8x256x2048, .bf16⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S8x256x2048, .f32⟩
  | .hbm, ⟨8, _⟩ => ⟨S_, .f32⟩
  | .hbm, ⟨9, _⟩ => ⟨S256x2048, .f32⟩
  | .hbm, ⟨10, _⟩ => ⟨S8x256x2048, .f32⟩
  | .hbm, ⟨11, _⟩ => ⟨S_, .f32⟩
  | .hbm, ⟨12, _⟩ => ⟨S256x2048, .f32⟩
  | .hbm, ⟨13, _⟩ => ⟨S8x256x2048, .f32⟩
  | .hbm, ⟨14, _⟩ => ⟨S_, .f32⟩
  | .hbm, ⟨15, _⟩ => ⟨S256x2048, .f32⟩
  | .hbm, ⟨16, _⟩ => ⟨S8x256x2048, .f32⟩
  | .hbm, ⟨17, _⟩ => ⟨S_, .f32⟩
  | .hbm, ⟨18, _⟩ => ⟨S256x2048, .f32⟩
  | .hbm, ⟨19, _⟩ => ⟨S1x256x2048, .f32⟩
  | .hbm, ⟨20, _⟩ => ⟨S1x256x2048, .f32⟩
  | .hbm, ⟨21, _⟩ => ⟨S1x256x2048, .f32⟩
  | .hbm, ⟨22, _⟩ => ⟨S1x256x2048, .f32⟩
  | .hbm, ⟨23, _⟩ => ⟨S4x256x2048, .f32⟩
  | .hbm, ⟨24, _⟩ => ⟨S_, .f32⟩
  | .hbm, ⟨25, _⟩ => ⟨S4x256x2048, .f32⟩
  | .hbm, ⟨26, _⟩ => ⟨S4x256x2048, .f32⟩
  | .hbm, ⟨27, _⟩ => ⟨S_, .f32⟩
  | .hbm, ⟨28, _⟩ => ⟨S4x256x2048, .f32⟩
  | .hbm, ⟨29, _⟩ => ⟨S4x256x2048, .f32⟩
  | .hbm, ⟨30, _⟩ => ⟨S4x256x2048, .f32⟩
  | .hbm, ⟨31, _⟩ => ⟨S_, .f32⟩
  | .hbm, ⟨32, _⟩ => ⟨S4x256x2048, .f32⟩
  | .hbm, ⟨33, _⟩ => ⟨S4x256x2048, .f32⟩
  | .hbm, ⟨34, _⟩ => ⟨S4x256x2048, .f32⟩
  | .hbm, ⟨35, _⟩ => ⟨S_, .f32⟩
  | .hbm, ⟨36, _⟩ => ⟨S4x256x2048, .f32⟩
  | .hbm, ⟨37, _⟩ => ⟨S4x256x2048, .f32⟩
  | .hbm, ⟨38, _⟩ => ⟨S4x256x2048, .f32⟩
  | .hbm, ⟨39, _⟩ => ⟨S_, .f32⟩
  | .hbm, ⟨40, _⟩ => ⟨S4x256x2048, .f32⟩
  | .hbm, ⟨41, _⟩ => ⟨S4x256x2048, .f32⟩
  | .hbm, ⟨42, _⟩ => ⟨S_, .f32⟩
  | .hbm, ⟨43, _⟩ => ⟨S4x256x2048, .f32⟩
  | .hbm, ⟨44, _⟩ => ⟨S4x256x2048, .f32⟩
  | .hbm, ⟨45, _⟩ => ⟨S4x256x2048, .f32⟩
  | .hbm, ⟨46, _⟩ => ⟨S_, .f32⟩
  | .hbm, ⟨47, _⟩ => ⟨S4x256x2048, .f32⟩
  | .hbm, ⟨48, _⟩ => ⟨S4x256x2048, .f32⟩
  | .hbm, ⟨49, _⟩ => ⟨S4x256x2048, .f32⟩
  | .hbm, ⟨50, _⟩ => ⟨S_, .f32⟩
  | .hbm, ⟨51, _⟩ => ⟨S4x256x2048, .f32⟩
  | .hbm, ⟨52, _⟩ => ⟨S4x256x2048, .f32⟩
  | .hbm, ⟨53, _⟩ => ⟨S4x256x2048, .f32⟩
  | .hbm, ⟨54, _⟩ => ⟨S_, .f32⟩
  | .hbm, ⟨55, _⟩ => ⟨S4x256x2048, .f32⟩
  | .hbm, ⟨56, _⟩ => ⟨S4x256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Kernel19.lean ====
abbrev S8x2048x1024 : Shape := ⟨3, ![8, 2048, 1024]⟩
abbrev S4x2048x1024 : Shape := ⟨3, ![4, 2048, 1024]⟩
abbrev S8x256x1024 : Shape := ⟨3, ![8, 256, 1024]⟩
abbrev S1x256x1024 : Shape := ⟨3, ![1, 256, 1024]⟩
abbrev S256x1024 : Shape := ⟨2, ![256, 1024]⟩

abbrev nBuf : Space → Nat
  | .hbm => 23
  | .vmem => 64
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x2048x1024, .bf16⟩
  | .hbm, ⟨3, _⟩ => ⟨S8x2048x1024, .bf16⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S4x2048x1024, .f32⟩
  | .hbm, ⟨19, _⟩ => ⟨S4x2048x1024, .f32⟩
  | .hbm, ⟨20, _⟩ => ⟨S4x2048x1024, .f32⟩
  | .hbm, ⟨21, _⟩ => ⟨S4x2048x1024, .f32⟩
  | .hbm, ⟨22, _⟩ => ⟨S4x2048x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S8x256x1024, .bf16⟩
  | .local _ .vmem, ⟨17, _⟩ => ⟨S8x256x1024, .bf16⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x256x1024, .f32⟩
  | .local _ .vmem, ⟨23, _⟩ => ⟨S1x256x1024, .f32⟩
  | .local _ .vmem, ⟨24, _⟩ => ⟨S1x256x1024, .f32⟩
  | .local _ .vmem, ⟨25, _⟩ => ⟨S1x256x1024, .f32⟩
  | .local _ .vmem, ⟨26, _⟩ => ⟨S1x256x1024, .f32⟩
  | .local _ .vmem, ⟨27, _⟩ => ⟨S1x256x1024, .f32⟩
  | .local _ .vmem, ⟨28, _⟩ => ⟨S1x256x1024, .f32⟩
  | .local _ .vmem, ⟨29, _⟩ => ⟨S1x256x1024, .f32⟩
  | .local _ .vmem, ⟨30, _⟩ => ⟨S1x256x1024, .f32⟩
  | .local _ .vmem, ⟨31, _⟩ => ⟨S1x256x1024, .f32⟩
  | .local _ .vmem, ⟨32, _⟩ => ⟨S8x256x1024, .bf16⟩
  | .local _ .vmem, ⟨33, _⟩ => ⟨S8x256x1024, .bf16⟩
  | .local _ .vmem, ⟨34, _⟩ => ⟨S1x256x1024, .f32⟩
  | .local _ .vmem, ⟨35, _⟩ => ⟨S1x256x1024, .f32⟩
  | .local _ .vmem, ⟨36, _⟩ => ⟨S1x256x1024, .f32⟩
  | .local _ .vmem, ⟨37, _⟩ => ⟨S1x256x1024, .f32⟩
  | .local _ .vmem, ⟨38, _⟩ => ⟨S1x256x1024, .f32⟩
  | .local _ .vmem, ⟨39, _⟩ => ⟨S1x256x1024, .f32⟩
  | .local _ .vmem, ⟨40, _⟩ => ⟨S1x256x1024, .f32⟩
  | .local _ .vmem, ⟨41, _⟩ => ⟨S1x256x1024, .f32⟩
  | .local _ .vmem, ⟨42, _⟩ => ⟨S1x256x1024, .f32⟩
  | .local _ .vmem, ⟨43, _⟩ => ⟨S1x256x1024, .f32⟩
  | .local _ .vmem, ⟨44, _⟩ => ⟨S1x256x1024, .f32⟩
  | .local _ .vmem, ⟨45, _⟩ => ⟨S1x256x1024, .f32⟩
  | .local _ .vmem, ⟨46, _⟩ => ⟨S1x256x1024, .f32⟩
  | .local _ .vmem, ⟨47, _⟩ => ⟨S1x256x1024, .f32⟩
  | .local _ .vmem, ⟨48, _⟩ => ⟨S8x256x1024, .bf16⟩
  | .local _ .vmem, ⟨49, _⟩ => ⟨S8x256x1024, .bf16⟩
  | .local _ .vmem, ⟨50, _⟩ => ⟨S1x256x1024, .f32⟩
  | .local _ .vmem, ⟨51, _⟩ => ⟨S1x256x1024, .f32⟩
  | .local _ .vmem, ⟨52, _⟩ => ⟨S1x256x1024, .f32⟩
  | .local _ .vmem, ⟨53, _⟩ => ⟨S1x256x1024, .f32⟩
  | .local _ .vmem, ⟨54, _⟩ => ⟨S1x256x1024, .f32⟩
  | .local _ .vmem, ⟨55, _⟩ => ⟨S1x256x1024, .f32⟩
  | .local _ .vmem, ⟨56, _⟩ => ⟨S1x256x1024, .f32⟩
  | .local _ .vmem, ⟨57, _⟩ => ⟨S1x256x1024, .f32⟩
  | .local _ .vmem, ⟨58, _⟩ => ⟨S1x256x1024, .f32⟩
  | .local _ .vmem, ⟨59, _⟩ => ⟨S1x256x1024, .f32⟩
  | .local _ .vmem, ⟨60, _⟩ => ⟨S1x256x1024, .f32⟩
  | .local _ .vmem, ⟨61, _⟩ => ⟨S1x256x1024, .f32⟩
  | .local _ .vmem, ⟨62, _⟩ => ⟨S1x256x1024, .f32⟩
  | .local _ .vmem, ⟨63, _⟩ => ⟨S1x256x1024, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v2_3 : Ref sig .tc := ⟨.hbm, 18, rfl⟩
abbrev main_v3_0 : Ref sig .tc := ⟨.hbm, 19, rfl⟩
abbrev main_v3_1 : Ref sig .tc := ⟨.hbm, 20, rfl⟩
abbrev main_v3_2 : Ref sig .tc := ⟨.hbm, 21, rfl⟩
abbrev main_v3_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_3 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_8 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_9 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_10 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_11 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage1_0 : Fin 2 → Memref sig .tc .vmem S8x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_2 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_3 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_8 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_9 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_10 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_11 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage2_0 : Fin 2 → Memref sig .tc .vmem S8x256x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x256x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x256x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x256x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x256x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_2 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_3 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_8 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_9 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_10 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_11 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage3_0 : Fin 2 → Memref sig .tc .vmem S8x256x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x256x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x256x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x256x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x256x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x256x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x256x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== Reference19Ideal.lean ====
abbrev S8x2048x1024 : Shape := ⟨3, ![8, 2048, 1024]⟩
abbrev S4x2048x1024 : Shape := ⟨3, ![4, 2048, 1024]⟩
abbrev S_ : Shape := ⟨0, ![]⟩
abbrev S2048x1024 : Shape := ⟨2, ![2048, 1024]⟩
abbrev S1x2048x1024 : Shape := ⟨3, ![1, 2048, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x2048x1024, .bf16⟩
  | .hbm, ⟨3, _⟩ => ⟨S8x2048x1024, .bf16⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S8x2048x1024, .f32⟩
  | .hbm, ⟨8, _⟩ => ⟨S_, .f32⟩
  | .hbm, ⟨9, _⟩ => ⟨S2048x1024, .f32⟩
  | .hbm, ⟨10, _⟩ => ⟨S8x2048x1024, .f32⟩
  | .hbm, ⟨11, _⟩ => ⟨S_, .f32⟩
  | .hbm, ⟨12, _⟩ => ⟨S2048x1024, .f32⟩
  | .hbm, ⟨13, _⟩ => ⟨S8x2048x1024, .f32⟩
  | .hbm, ⟨14, _⟩ => ⟨S_, .f32⟩
  | .hbm, ⟨15, _⟩ => ⟨S2048x1024, .f32⟩
  | .hbm, ⟨16, _⟩ => ⟨S8x2048x1024, .f32⟩
  | .hbm, ⟨17, _⟩ => ⟨S_, .f32⟩
  | .hbm, ⟨18, _⟩ => ⟨S2048x1024, .f32⟩
  | .hbm, ⟨19, _⟩ => ⟨S1x2048x1024, .f32⟩
  | .hbm, ⟨20, _⟩ => ⟨S1x2048x1024, .f32⟩
  | .hbm, ⟨21, _⟩ => ⟨S1x2048x1024, .f32⟩
  | .hbm, ⟨22, _⟩ => ⟨S1x2048x1024, .f32⟩
  | .hbm, ⟨23, _⟩ => ⟨S4x2048x1024, .f32⟩
  | .hbm, ⟨24, _⟩ => ⟨S_, .f32⟩
  | .hbm, ⟨25, _⟩ => ⟨S4x2048x1024, .f32⟩
  | .hbm, ⟨26, _⟩ => ⟨S4x2048x1024, .f32⟩
  | .hbm, ⟨27, _⟩ => ⟨S_, .f32⟩
  | .hbm, ⟨28, _⟩ => ⟨S4x2048x1024, .f32⟩
  | .hbm, ⟨29, _⟩ => ⟨S4x2048x1024, .f32⟩
  | .hbm, ⟨30, _⟩ => ⟨S4x2048x1024, .f32⟩
  | .hbm, ⟨31, _⟩ => ⟨S_, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S_, .f32⟩
  | .hbm, ⟨36, _⟩ => ⟨S4x2048x1024, .f32⟩
  | .hbm, ⟨37, _⟩ => ⟨S4x2048x1024, .f32⟩
  | .hbm, ⟨38, _⟩ => ⟨S4x2048x1024, .f32⟩
  | .hbm, ⟨39, _⟩ => ⟨S_, .f32⟩
  | .hbm, ⟨40, _⟩ => ⟨S4x2048x1024, .f32⟩
  | .hbm, ⟨41, _⟩ => ⟨S4x2048x1024, .f32⟩
  | .hbm, ⟨42, _⟩ => ⟨S_, .f32⟩
  | .hbm, ⟨43, _⟩ => ⟨S4x2048x1024, .f32⟩
  | .hbm, ⟨44, _⟩ => ⟨S4x2048x1024, .f32⟩
  | .hbm, ⟨45, _⟩ => ⟨S4x2048x1024, .f32⟩
  | .hbm, ⟨46, _⟩ => ⟨S_, .f32⟩
  | .hbm, ⟨47, _⟩ => ⟨S4x2048x1024, .f32⟩
  | .hbm, ⟨48, _⟩ => ⟨S4x2048x1024, .f32⟩
  | .hbm, ⟨49, _⟩ => ⟨S4x2048x1024, .f32⟩
  | .hbm, ⟨50, _⟩ => ⟨S_, .f32⟩
  | .hbm, ⟨51, _⟩ => ⟨S4x2048x1024, .f32⟩
  | .hbm, ⟨52, _⟩ => ⟨S4x2048x1024, .f32⟩
  | .hbm, ⟨53, _⟩ => ⟨S4x2048x1024, .f32⟩
  | .hbm, ⟨54, _⟩ => ⟨S_, .f32⟩
  | .hbm, ⟨55, _⟩ => ⟨S4x2048x1024, .f32⟩
  | .hbm, ⟨56, _⟩ => ⟨S4x2048x1024, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Kernel20.lean ====
abbrev S8x1024x2048 : Shape := ⟨3, ![8, 1024, 2048]⟩
abbrev S4x1024x2048 : Shape := ⟨3, ![4, 1024, 2048]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 23
  | .vmem => 64
  | .smem => 0
  | _ => 0

abbrev bufTy : (tb : Table) → Fin (tcTables nBuf tb) → BufTy
  | .hbm, ⟨0, _⟩ => ⟨S8x1024x2048, .bf16⟩
  | .hbm, ⟨1, _⟩ => ⟨S8x1024x2048, .bf16⟩
  | .hbm, ⟨2, _⟩ => ⟨S8x1024x2048, .bf16⟩
  | .hbm, ⟨3, _⟩ => ⟨S8x1024x2048, .bf16⟩
  | .hbm, ⟨4, _⟩ => ⟨S4x1024x2048, .f32⟩
  | .hbm, ⟨5, _⟩ => ⟨S4x1024x2048, .f32⟩
  | .hbm, ⟨6, _⟩ => ⟨S4x1024x2048, .f32⟩
  | .hbm, ⟨7, _⟩ => ⟨S4x1024x2048, .f32⟩
  | .hbm, ⟨8, _⟩ => ⟨S4x1024x2048, .f32⟩
  | .hbm, ⟨9, _⟩ => ⟨S4x1024x2048, .f32⟩
  | .hbm, ⟨10, _⟩ => ⟨S4x1024x2048, .f32⟩
  | .hbm, ⟨11, _⟩ => ⟨S4x1024x2048, .f32⟩
  | .hbm, ⟨12, _⟩ => ⟨S4x1024x2048, .f32⟩
  | .hbm, ⟨13, _⟩ => ⟨S4x1024x2048, .f32⟩
  | .hbm, ⟨14, _⟩ => ⟨S4x1024x2048, .f32⟩
  | .hbm, ⟨15, _⟩ => ⟨S4x1024x2048, .f32⟩
  | .hbm, ⟨16, _⟩ => ⟨S4x1024x2048, .f32⟩
  | .hbm, ⟨17, _⟩ => ⟨S4x1024x2048, .f32⟩
  | .hbm, ⟨18, _⟩ => ⟨S4x1024x2048, .f32⟩
  | .hbm, ⟨19, _⟩ => ⟨S4x1024x2048, .f32⟩
  | .hbm, ⟨20, _⟩ => ⟨S4x1024x2048, .f32⟩
  | .hbm, ⟨21, _⟩ => ⟨S4x1024x2048, .f32⟩
  | .hbm, ⟨22, _⟩ => ⟨S4x1024x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S8x128x2048, .bf16⟩
  | .local _ .vmem, ⟨17, _⟩ => ⟨S8x128x2048, .bf16⟩
  | .local _ .vmem, ⟨18, _⟩ => ⟨S1x128x2048, .f32⟩
  | .local _ .vmem, ⟨19, _⟩ => ⟨S1x128x2048, .f32⟩
  | .local _ .vmem, ⟨20, _⟩ => ⟨S1x128x2048, .f32⟩
  | .local _ .vmem, ⟨21, _⟩ => ⟨S1x128x2048, .f32⟩
  | .local _ .vmem, ⟨22, _⟩ => ⟨S1x128x2048, .f32⟩
  | .local _ .vmem, ⟨23, _⟩ => ⟨S1x128x2048, .f32⟩
  | .local _ .vmem, ⟨24, _⟩ => ⟨S1x128x2048, .f32⟩
  | .local _ .vmem, ⟨25, _⟩ => ⟨S1x128x2048, .f32⟩
  | .local _ .vmem, ⟨26, _⟩ => ⟨S1x128x2048, .f32⟩
  | .local _ .vmem, ⟨27, _⟩ => ⟨S1x128x2048, .f32⟩
  | .local _ .vmem, ⟨28, _⟩ => ⟨S1x128x2048, .f32⟩
  | .local _ .vmem, ⟨29, _⟩ => ⟨S1x128x2048, .f32⟩
  | .local _ .vmem, ⟨30, _⟩ => ⟨S1x128x2048, .f32⟩
  | .local _ .vmem, ⟨31, _⟩ => ⟨S1x128x2048, .f32⟩
  | .local _ .vmem, ⟨32, _⟩ => ⟨S8x128x2048, .bf16⟩
  | .local _ .vmem, ⟨33, _⟩ => ⟨S8x128x2048, .bf16⟩
  | .local _ .vmem, ⟨34, _⟩ => ⟨S1x128x2048, .f32⟩
  | .local _ .vmem, ⟨35, _⟩ => ⟨S1x128x2048, .f32⟩
  | .local _ .vmem, ⟨36, _⟩ => ⟨S1x128x2048, .f32⟩
  | .local _ .vmem, ⟨37, _⟩ => ⟨S1x128x2048, .f32⟩
  | .local _ .vmem, ⟨38, _⟩ => ⟨S1x128x2048, .f32⟩
  | .local _ .vmem, ⟨39, _⟩ => ⟨S1x128x2048, .f32⟩
  | .local _ .vmem, ⟨40, _⟩ => ⟨S1x128x2048, .f32⟩
  | .local _ .vmem, ⟨41, _⟩ => ⟨S1x128x2048, .f32⟩
  | .local _ .vmem, ⟨42, _⟩ => ⟨S1x128x2048, .f32⟩
  | .local _ .vmem, ⟨43, _⟩ => ⟨S1x128x2048, .f32⟩
  | .local _ .vmem, ⟨44, _⟩ => ⟨S1x128x2048, .f32⟩
  | .local _ .vmem, ⟨45, _⟩ => ⟨S1x128x2048, .f32⟩
  | .local _ .vmem, ⟨46, _⟩ => ⟨S1x128x2048, .f32⟩
  | .local _ .vmem, ⟨47, _⟩ => ⟨S1x128x2048, .f32⟩
  | .local _ .vmem, ⟨48, _⟩ => ⟨S8x128x2048, .bf16⟩
  | .local _ .vmem, ⟨49, _⟩ => ⟨S8x128x2048, .bf16⟩
  | .local _ .vmem, ⟨50, _⟩ => ⟨S1x128x2048, .f32⟩
  | .local _ .vmem, ⟨51, _⟩ => ⟨S1x128x2048, .f32⟩
  | .local _ .vmem, ⟨52, _⟩ => ⟨S1x128x2048, .f32⟩
  | .local _ .vmem, ⟨53, _⟩ => ⟨S1x128x2048, .f32⟩
  | .local _ .vmem, ⟨54, _⟩ => ⟨S1x128x2048, .f32⟩
  | .local _ .vmem, ⟨55, _⟩ => ⟨S1x128x2048, .f32⟩
  | .local _ .vmem, ⟨56, _⟩ => ⟨S1x128x2048, .f32⟩
  | .local _ .vmem, ⟨57, _⟩ => ⟨S1x128x2048, .f32⟩
  | .local _ .vmem, ⟨58, _⟩ => ⟨S1x128x2048, .f32⟩
  | .local _ .vmem, ⟨59, _⟩ => ⟨S1x128x2048, .f32⟩
  | .local _ .vmem, ⟨60, _⟩ => ⟨S1x128x2048, .f32⟩
  | .local _ .vmem, ⟨61, _⟩ => ⟨S1x128x2048, .f32⟩
  | .local _ .vmem, ⟨62, _⟩ => ⟨S1x128x2048, .f32⟩
  | .local _ .vmem, ⟨63, _⟩ => ⟨S1x128x2048, .f32⟩
  | _, _ => ⟨S8x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v2_3 : Ref sig .tc := ⟨.hbm, 18, rfl⟩
abbrev main_v3_0 : Ref sig .tc := ⟨.hbm, 19, rfl⟩
abbrev main_v3_1 : Ref sig .tc := ⟨.hbm, 20, rfl⟩
abbrev main_v3_2 : Ref sig .tc := ⟨.hbm, 21, rfl⟩
abbrev main_v3_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_3 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_8 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_9 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_10 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_11 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage1_0 : Fin 2 → Memref sig .tc .vmem S8x128x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x128x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_2 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_3 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_8 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_9 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_10 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_11 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage2_0 : Fin 2 → Memref sig .tc .vmem S8x128x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x128x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x128x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x128x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x128x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x128x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x128x2048 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x128x2048 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_2 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_3 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_8 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_9 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_10 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_11 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage3_0 : Fin 2 → Memref sig .tc .vmem S8x128x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x128x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x128x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x128x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x128x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x128x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x128x2048 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x128x2048 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== Reference20Ideal.lean ====
abbrev S8x1024x2048 : Shape := ⟨3, ![8, 1024, 2048]⟩
abbrev S4x1024x2048 : Shape := ⟨3, ![4, 1024, 2048]⟩
abbrev S_ : Shape := ⟨0, ![]⟩
abbrev S1024x2048 : Shape := ⟨2, ![1024, 2048]⟩
abbrev S1x1024x2048 : Shape := ⟨3, ![1, 1024, 2048]⟩

abbrev nBuf : Space → Nat
  | .hbm => 57
  | .vmem => 0
  | .smem => 0
  | _ => 0

abbrev bufTy : (tb : Table) → Fin (tcTables nBuf tb) → BufTy
  | .hbm, ⟨0, _⟩ => ⟨S8x1024x2048, .bf16⟩
  | .hbm, ⟨1, _⟩ => ⟨S8x1024x2048, .bf16⟩
  | .hbm, ⟨2, _⟩ => ⟨S8x1024x2048, .bf16⟩
  | .hbm, ⟨3, _⟩ => ⟨S8x1024x2048, .bf16⟩
  | .hbm, ⟨4, _⟩ => ⟨S4x1024x2048, .f32⟩
  | .hbm, ⟨5, _⟩ => ⟨S4x1024x2048, .f32⟩
  | .hbm, ⟨6, _⟩ => ⟨S4x1024x2048, .f32⟩
  | .hbm, ⟨7, _⟩ => ⟨S8x1024x2048, .f32⟩
  | .hbm, ⟨8, _⟩ => ⟨S_, .f32⟩
  | .hbm, ⟨9, _⟩ => ⟨S1024x2048, .f32⟩
  | .hbm, ⟨10, _⟩ => ⟨S8x1024x2048, .f32⟩
  | .hbm, ⟨11, _⟩ => ⟨S_, .f32⟩
  | .hbm, ⟨12, _⟩ => ⟨S1024x2048, .f32⟩
  | .hbm, ⟨13, _⟩ => ⟨S8x1024x2048, .f32⟩
  | .hbm, ⟨14, _⟩ => ⟨S_, .f32⟩
  | .hbm, ⟨15, _⟩ => ⟨S1024x2048, .f32⟩
  | .hbm, ⟨16, _⟩ => ⟨S8x1024x2048, .f32⟩
  | .hbm, ⟨17, _⟩ => ⟨S_, .f32⟩
  | .hbm, ⟨18, _⟩ => ⟨S1024x2048, .f32⟩
  | .hbm, ⟨19, _⟩ => ⟨S1x1024x2048, .f32⟩
  | .hbm, ⟨20, _⟩ => ⟨S1x1024x2048, .f32⟩
  | .hbm, ⟨21, _⟩ => ⟨S1x1024x2048, .f32⟩
  | .hbm, ⟨22, _⟩ => ⟨S1x1024x2048, .f32⟩
  | .hbm, ⟨23, _⟩ => ⟨S4x1024x2048, .f32⟩
  | .hbm, ⟨24, _⟩ => ⟨S_, .f32⟩
  | .hbm, ⟨25, _⟩ => ⟨S4x1024x2048, .f32⟩
  | .hbm, ⟨26, _⟩ => ⟨S4x1024x2048, .f32⟩
  | .hbm, ⟨27, _⟩ => ⟨S_, .f32⟩
  | .hbm, ⟨28, _⟩ => ⟨S4x1024x2048, .f32⟩
  | .hbm, ⟨29, _⟩ => ⟨S4x1024x2048, .f32⟩
  | .hbm, ⟨30, _⟩ => ⟨S4x1024x2048, .f32⟩
  | .hbm, ⟨31, _⟩ => ⟨S_, .f32⟩
  | .hbm, ⟨32, _⟩ => ⟨S4x1024x2048, .f32⟩
  | .hbm, ⟨33, _⟩ => ⟨S4x1024x2048, .f32⟩
  | .hbm, ⟨34, _⟩ => ⟨S4x1024x2048, .f32⟩
  | .hbm, ⟨35, _⟩ => ⟨S_, .f32⟩
  | .hbm, ⟨36, _⟩ => ⟨S4x1024x2048, .f32⟩
  | .hbm, ⟨37, _⟩ => ⟨S4x1024x2048, .f32⟩
  | .hbm, ⟨38, _⟩ => ⟨S4x1024x2048, .f32⟩
  | .hbm, ⟨39, _⟩ => ⟨S_, .f32⟩
  | .hbm, ⟨40, _⟩ => ⟨S4x1024x2048, .f32⟩
  | .hbm, ⟨41, _⟩ => ⟨S4x1024x2048, .f32⟩
  | .hbm, ⟨42, _⟩ => ⟨S_, .f32⟩
  | .hbm, ⟨43, _⟩ => ⟨S4x1024x2048, .f32⟩
  | .hbm, ⟨44, _⟩ => ⟨S4x1024x2048, .f32⟩
  | .hbm, ⟨45, _⟩ => ⟨S4x1024x2048, .f32⟩
  | .hbm, ⟨46, _⟩ => ⟨S_, .f32⟩
  | .hbm, ⟨47, _⟩ => ⟨S4x1024x2048, .f32⟩
  | .hbm, ⟨48, _⟩ => ⟨S4x1024x2048, .f32⟩
  | .hbm, ⟨49, _⟩ => ⟨S4x1024x2048, .f32⟩
  | .hbm, ⟨50, _⟩ => ⟨S_, .f32⟩
  | .hbm, ⟨51, _⟩ => ⟨S4x1024x2048, .f32⟩
  | .hbm, ⟨52, _⟩ => ⟨S4x1024x2048, .f32⟩
  | .hbm, ⟨53, _⟩ => ⟨S4x1024x2048, .f32⟩
  | .hbm, ⟨54, _⟩ => ⟨S_, .f32⟩
  | .hbm, ⟨55, _⟩ => ⟨S4x1024x2048, .f32⟩
  | .hbm, ⟨56, _⟩ => ⟨S4x1024x2048, .f32⟩
  | _, _ => ⟨S8x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Kernel15.lean ====
abbrev S8x6912x128 : Shape := ⟨3, ![8, 6912, 128]⟩
abbrev S6912x128 : Shape := ⟨2, ![6912, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x6912x128, .f32⟩
  | .hbm, ⟨1, _⟩ => ⟨S6912x128, .f32⟩
  | .local _ .vmem, ⟨0, _⟩ => ⟨S8x256x128, .f32⟩
  | .local _ .vmem, ⟨1, _⟩ => ⟨S8x256x128, .f32⟩
  | .local _ .vmem, ⟨2, _⟩ => ⟨S256x128, .f32⟩
  | .local _ .vmem, ⟨3, _⟩ => ⟨S256x128, .f32⟩
  | _, _ => ⟨S8x6912x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![27], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference15Ideal.lean ====
abbrev S8x6912x128 : Shape := ⟨3, ![8, 6912, 128]⟩
abbrev S_ : Shape := ⟨0, ![]⟩
abbrev S6912x128 : Shape := ⟨2, ![6912, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x6912x128, .f32⟩
  | .hbm, ⟨1, _⟩ => ⟨S_, .f32⟩
  | .hbm, ⟨2, _⟩ => ⟨S6912x128, .f32⟩
  | _, _ => ⟨S8x6912x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.FoxStep.lean ====
/-
  What one grid step of the backward kernel leaves in the carried values and in the two accumulated outputs, as plain
  functions of vectors: the loop over the row tiles below the diagonal is a recursion on its trip number.
-/
module

public import proofs.«01_k».proof.Proof.Gen.KernelIdeal.Frame
public import proofs.«01_k».proof.Proof.Gen.KernelIdeal.Loops
public import Idealize.ShloMosaic.Lib.VecWindow
public import Idealize.ShloMosaic.Lib.ValueIdxCore

@[expose] public section
set_option maxRecDepth 16384
noncomputable section
namespace Cert.KernelIdeal.Fox

open Idealize.ShloMosaic Idealize.ShloMosaic.TcCoe Idealize.ShloMosaic.Tactic
open Cert.KernelIdeal.Gen Idealize.ShloMosaic.ValueIdx

variable {F : FTy → Type} [FloatOps F]

/-- 1024 rows from row `o` (the row number taken within the array). -/
def rows {e : EltTy} (x : Vec F S8192x128 e) (o : ℕ) : Vec F S1024x128 e :=
  fun y => x (ix2 (⟨(o + (y 0).val) % 8192, Nat.mod_lt _ (by decide)⟩ : Fin 8192) (⟨(y 1).val, (y 1).isLt⟩ : Fin 128))

/-- 1024 rows from row `o` of a one-plane array. -/
def planeRows {e : EltTy} (x : Vec F S1x8192x128 e) (o : ℕ) : Vec F S1x1024x128 e :=
  fun y => x (ix3 (0 : Fin 1) (⟨(o + (y 1).val) % 8192, Nat.mod_lt _ (by decide)⟩ : Fin 8192) (⟨(y 2).val, (y 2).isLt⟩ : Fin 128))

/-- The values one grid step carries over its row tiles, with the two accumulated outputs: `dk`, `dv`, `dck`; `dq`, `dst`. -/
abbrev St (F : FTy → Type) [FloatOps F] := (FVec F S512x128 .f32 × FVec F S512x128 .f32 × FVec F S1x512 .f32) × Vec F S8192x128 .f32 × Vec F S1x8192x128 .f32

/-- One row tile below the diagonal, its rows beginning at `o`. -/
def tile (v4 v6 : FVec F S512x128 .bf16) (v8 : FVec F S1x512 .f32) (v9 : IVec S1024x128 32)
    (x0 x3 : Vec F S8192x128 .f32) (x4 : Vec F S1x8192x128 .f32) (o : ℕ) (s : St F) : St F :=
  ((k0_pay5 s.1.1 (k0_pay11 (rows x0 o)) (k0_pay17 v4 v6 v8 (rows x0 o) (rows x3 o) (planeRows x4 o)),
    k0_pay15 v4 v8 s.1.2.1 (rows x0 o) (rows x3 o) (planeRows x4 o),
    k0_pay6 s.1.2.2 (k0_pay16 v4 v6 v8 (rows x0 o) (rows x3 o) (planeRows x4 o))),
   VecWindow.put s.2.1 ![o, 0] ![1024, 128] (k0_pay18 v4 v6 v8 (rows x0 o) (rows x3 o) (planeRows x4 o) (rows s.2.1 o)),
   VecWindow.put s.2.2 ![0, o, 0] ![1, 1024, 128] (k0_pay4 v9 (k0_pay16 v4 v6 v8 (rows x0 o) (rows x3 o) (planeRows x4 o)) (planeRows s.2.2 o)))

/-- The first `n` row tiles below the diagonal tile, which begins at row `b`. -/
def tiles (v4 v6 : FVec F S512x128 .bf16) (v8 : FVec F S1x512 .f32) (v9 : IVec S1024x128 32)
    (x0 x3 : Vec F S8192x128 .f32) (x4 : Vec F S1x8192x128 .f32) (b : ℕ) (s : St F) : ℕ → St F
  | 0 => s
  | n + 1 => tile v4 v6 v8 v9 x0 x3 x4 (b + 1024 * n + 1024) (tiles v4 v6 v8 v9 x0 x3 x4 b s n)

theorem window_rows {e : EltTy} (x : Vec F S8192x128 e) (o : ℕ) (inb : ∀ a, (![o, 0] : Fin 2 → ℕ) a + S1024x128.size a ≤ S8192x128.size a) :
    VecWindow.window x ![o, 0] S1024x128.size inb = rows x o := by
  have h0 : o + 1024 ≤ 8192 := inb 0
  funext y
  refine congrArg x (funext fun a => ?_)
  match a with
  | ⟨0, _⟩ => exact Fin.ext (by
      have : (y 0).val < 1024 := (y 0).isLt
      show o + 1 * (y 0).val = (o + (y 0).val) % 8192
      omega)
  | ⟨1, _⟩ => exact Fin.ext (by show 0 + 1 * (y 1).val = (y 1).val; omega)

theorem window_planeRows {e : EltTy} (x : Vec F S1x8192x128 e) (o : ℕ) (inb : ∀ a, (![0, o, 0] : Fin 3 → ℕ) a + S1x1024x128.size a ≤ S1x8192x128.size a) :
    VecWindow.window x ![0, o, 0] S1x1024x128.size inb = planeRows x o := by
  have h0 : o + 1024 ≤ 8192 := inb 1
  funext y
  refine congrArg x (funext fun a => ?_)
  match a with
  | ⟨0, _⟩ => exact Fin.ext (by
      have : (y 0).val < 1 := (y 0).isLt
      show 0 + 1 * (y 0).val = 0
      omega)
  | ⟨1, _⟩ => exact Fin.ext (by
      have : (y 1).val < 1024 := (y 1).isLt
      show o + 1 * (y 1).val = (o + (y 1).val) % 8192
      omega)
  | ⟨2, _⟩ => exact Fin.ext (by show 0 + 1 * (y 2).val = (y 2).val; omega)

theorem readAt_rows {sp : Space} {κ : Kind} {e : EltTy} (v : View sig κ sp S8192x128 e) (f : v.ty.Contents (Elt F)) {off : Fin 2 → ℕ} (o : ℕ)
    (inb : ∀ a, off a + S1024x128.size a ≤ S8192x128.size a) (h : off = ![o, 0]) :
    v.readAt (Elt F) (Rect.unit (s := S8192x128) off S1024x128.size inb).toLoadRect f = rows (F := F) (v.read (Elt F) f) o := by
  subst h
  rw [View.readAt_unit v f inb rfl inb, window_rows]

theorem readAt_planeRows {sp : Space} {κ : Kind} {e : EltTy} (v : View sig κ sp S1x8192x128 e) (f : v.ty.Contents (Elt F)) {off : Fin 3 → ℕ} (o : ℕ)
    (inb : ∀ a, off a + S1x1024x128.size a ≤ S1x8192x128.size a) (h : off = ![0, o, 0]) :
    v.readAt (Elt F) (Rect.unit (s := S1x8192x128) off S1x1024x128.size inb).toLoadRect f = planeRows (F := F) (v.read (Elt F) f) o := by
  subst h
  rw [View.readAt_unit v f inb rfl inb, window_planeRows]

/-- The loop below the diagonal runs to the last row tile. -/
theorem trips_eq : ∀ i : grid0.Coords, (k0_t1_loop i).trips = 7 - (i 1).val / 2 := by decide +kernel

section Loop

variable (𝒱 : Variants) (c : Dev nD) (bd : Option 𝒱.V) (i : grid0.Coords) (arg2 : Memref sig .tc .vmem S8192x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S8192x128 .f32) (harg5 : arg5.IsWhole) (arg6 : Memref sig .tc .vmem S1x8192x128 .f32) (harg6 : arg6.IsWhole) (arg7 : Memref sig .tc .vmem S1x1x1x512 .f32) (harg7 : arg7.IsWhole) (arg8 : Memref sig .tc .vmem S8192x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x8192x128 .f32) (harg11 : arg11.IsWhole) (arg12 : Memref sig .tc .vmem S1x1x1x512 .f32) (harg12 : arg12.IsWhole) (v4 : FVec F S512x128 .bf16) (v6 : FVec F S512x128 .bf16) (v8 : FVec F S1x512 .f32) (v9 : IVec S1024x128 32) (v14 : BitVec 32) (X2 : BufTy.Contents (Elt F) arg2.view.ty) (X5 : BufTy.Contents (Elt F) arg5.view.ty) (X6 : BufTy.Contents (Elt F) arg6.view.ty)

/-- What one trip of the loop yields. -/
theorem tripR_eq (k : Fin (k0_t1_loop i).trips) (acc : FVec F S512x128 .f32 × FVec F S512x128 .f32 × FVec F S1x512 .f32) (G8 : BufTy.Contents (Elt F) arg8.view.ty) (G11 : BufTy.Contents (Elt F) arg11.view.ty) :
    tripR_k0_t1 (F := F) 𝒱 c bd i arg2 harg2 arg3 harg3 arg4 harg4 arg5 harg5 arg6 harg6 arg7 harg7 arg8 harg8 arg9 harg9 arg10 harg10 arg11 harg11 arg12 harg12 v4 v6 v8 v9 v14 X2 X5 X6 k acc G8 G11
      = (tile v4 v6 v8 v9 (arg2.view.read (Elt F) X2) (arg5.view.read (Elt F) X5) (arg6.view.read (Elt F) X6) (1024 * ((i 1).val / 2) + 1024 * k.val + 1024)
          (acc, arg8.view.read (Elt F) G8, arg11.view.read (Elt F) G11)).1 := by
  unfold tile
  rw [← readAt_rows arg2.view X2 _ (k0_off3_inb i k) (k0_off3_eq i k), ← readAt_rows arg5.view X5 _ (k0_off3_inb i k) (k0_off3_eq i k),
    ← readAt_planeRows arg6.view X6 _ (k0_off4_inb i k) (k0_off4_eq i k)]
  unfold tripR_k0_t1 trip_k0_t1
  rfl

/-- What one trip leaves in the query gradient, the contents it found being `G8`. -/
theorem tripL8_eq (k : Fin (k0_t1_loop i).trips) (acc : FVec F S512x128 .f32 × FVec F S512x128 .f32 × FVec F S1x512 .f32) (G8 : BufTy.Contents (Elt F) arg8.view.ty) (G11 : BufTy.Contents (Elt F) arg11.view.ty) (L : List (View.Piece (Elt F) S8192x128 .f32))
    (g : arg8.view.ty.Contents (Elt F)) (hg : arg8.view.read (Elt F) (arg8.view.writes (Elt F) g L) = arg8.view.read (Elt F) G8) :
    arg8.view.read (Elt F) (arg8.view.writes (Elt F) g ((tripL_k0_t1 (F := F) 𝒱 c bd i arg2 harg2 arg3 harg3 arg4 harg4 arg5 harg5 arg6 harg6 arg7 harg7 arg8 harg8 arg9 harg9 arg10 harg10 arg11 harg11 arg12 harg12 v4 v6 v8 v9 v14 X2 X5 X6 k acc G8 G11).1 ++ L))
      = (tile v4 v6 v8 v9 (arg2.view.read (Elt F) X2) (arg5.view.read (Elt F) X5) (arg6.view.read (Elt F) X6) (1024 * ((i 1).val / 2) + 1024 * k.val + 1024)
          (acc, arg8.view.read (Elt F) G8, arg11.view.read (Elt F) G11)).2.1 := by
  unfold tile
  rw [← readAt_rows arg2.view X2 _ (k0_off3_inb i k) (k0_off3_eq i k), ← readAt_rows arg5.view X5 _ (k0_off3_inb i k) (k0_off3_eq i k),
    ← readAt_planeRows arg6.view X6 _ (k0_off4_inb i k) (k0_off4_eq i k), ← readAt_rows arg8.view G8 _ (k0_off3_inb i k) (k0_off3_eq i k)]
  have e : (tripL_k0_t1 (F := F) 𝒱 c bd i arg2 harg2 arg3 harg3 arg4 harg4 arg5 harg5 arg6 harg6 arg7 harg7 arg8 harg8 arg9 harg9 arg10 harg10 arg11 harg11 arg12 harg12 v4 v6 v8 v9 v14 X2 X5 X6 k acc G8 G11).1
      = [⟨Rect.unit (s := S8192x128) (k0_off3 i k) S1024x128.size (k0_off3_inb i k), k0_pay18 v4 v6 v8 (arg2.view.readAt (Elt F) (Rect.unit (s := S8192x128) (k0_off3 i k) S1024x128.size (k0_off3_inb i k)).toLoadRect X2)
          (arg5.view.readAt (Elt F) (Rect.unit (s := S8192x128) (k0_off3 i k) S1024x128.size (k0_off3_inb i k)).toLoadRect X5)
          (arg6.view.readAt (Elt F) (Rect.unit (s := S1x8192x128) (k0_off4 i k) S1x1024x128.size (k0_off4_inb i k)).toLoadRect X6)
          (arg8.view.readAt (Elt F) (Rect.unit (s := S8192x128) (k0_off3 i k) S1024x128.size (k0_off3_inb i k)).toLoadRect G8)⟩] := by
    unfold tripL_k0_t1 trip_k0_t1
    rfl
  rw [e, List.cons_append, List.nil_append, View.read_writes_cons_put arg8.view _ (k0_off3_inb i k) _ _ (k0_off3_eq i k), hg]

/-- What one trip leaves in the row sums, the contents it found being `G11`. -/
theorem tripL11_eq (k : Fin (k0_t1_loop i).trips) (acc : FVec F S512x128 .f32 × FVec F S512x128 .f32 × FVec F S1x512 .f32) (G8 : BufTy.Contents (Elt F) arg8.view.ty) (G11 : BufTy.Contents (Elt F) arg11.view.ty) (L : List (View.Piece (Elt F) S1x8192x128 .f32))
    (g : arg11.view.ty.Contents (Elt F)) (hg : arg11.view.read (Elt F) (arg11.view.writes (Elt F) g L) = arg11.view.read (Elt F) G11) :
    arg11.view.read (Elt F) (arg11.view.writes (Elt F) g ((tripL_k0_t1 (F := F) 𝒱 c bd i arg2 harg2 arg3 harg3 arg4 harg4 arg5 harg5 arg6 harg6 arg7 harg7 arg8 harg8 arg9 harg9 arg10 harg10 arg11 harg11 arg12 harg12 v4 v6 v8 v9 v14 X2 X5 X6 k acc G8 G11).2 ++ L))
      = (tile v4 v6 v8 v9 (arg2.view.read (Elt F) X2) (arg5.view.read (Elt F) X5) (arg6.view.read (Elt F) X6) (1024 * ((i 1).val / 2) + 1024 * k.val + 1024)
          (acc, arg8.view.read (Elt F) G8, arg11.view.read (Elt F) G11)).2.2 := by
  unfold tile
  rw [← readAt_rows arg2.view X2 _ (k0_off3_inb i k) (k0_off3_eq i k), ← readAt_rows arg5.view X5 _ (k0_off3_inb i k) (k0_off3_eq i k),
    ← readAt_planeRows arg6.view X6 _ (k0_off4_inb i k) (k0_off4_eq i k), ← readAt_planeRows arg11.view G11 _ (k0_off4_inb i k) (k0_off4_eq i k)]
  have e : (tripL_k0_t1 (F := F) 𝒱 c bd i arg2 harg2 arg3 harg3 arg4 harg4 arg5 harg5 arg6 harg6 arg7 harg7 arg8 harg8 arg9 harg9 arg10 harg10 arg11 harg11 arg12 harg12 v4 v6 v8 v9 v14 X2 X5 X6 k acc G8 G11).2
      = [⟨Rect.unit (s := S1x8192x128) (k0_off4 i k) S1x1024x128.size (k0_off4_inb i k), k0_pay4 v9 (k0_pay16 v4 v6 v8 (arg2.view.readAt (Elt F) (Rect.unit (s := S8192x128) (k0_off3 i k) S1024x128.size (k0_off3_inb i k)).toLoadRect X2)
          (arg5.view.readAt (Elt F) (Rect.unit (s := S8192x128) (k0_off3 i k) S1024x128.size (k0_off3_inb i k)).toLoadRect X5)
          (arg6.view.readAt (Elt F) (Rect.unit (s := S1x8192x128) (k0_off4 i k) S1x1024x128.size (k0_off4_inb i k)).toLoadRect X6))
          (arg11.view.readAt (Elt F) (Rect.unit (s := S1x8192x128) (k0_off4 i k) S1x1024x128.size (k0_off4_inb i k)).toLoadRect G11)⟩] := by
    unfold tripL_k0_t1 trip_k0_t1
    rfl
  rw [e, List.cons_append, List.nil_append, View.read_writes_cons_put arg11.view _ (k0_off4_inb i k) _ _ (k0_off4_eq i k), hg]

/-- The loop's state before trip `n` is the first `n` tiles'. -/
theorem st_eq (G8 : BufTy.Contents (Elt F) arg8.view.ty) (G11 : BufTy.Contents (Elt F) arg11.view.ty) (init : FVec F S512x128 .f32 × FVec F S512x128 .f32 × FVec F S1x512 .f32) (n : ℕ) (hn : n ≤ (k0_t1_loop i).trips) :
    ((st_k0_t1 (F := F) 𝒱 c bd i arg2 harg2 arg3 harg3 arg4 harg4 arg5 harg5 arg6 harg6 arg7 harg7 arg8 harg8 arg9 harg9 arg10 harg10 arg11 harg11 arg12 harg12 v4 v6 v8 v9 v14 X2 X5 X6 G8 G11 init n).1,
      arg8.view.read (Elt F) (arg8.view.writes (Elt F) G8 (st_k0_t1 (F := F) 𝒱 c bd i arg2 harg2 arg3 harg3 arg4 harg4 arg5 harg5 arg6 harg6 arg7 harg7 arg8 harg8 arg9 harg9 arg10 harg10 arg11 harg11 arg12 harg12 v4 v6 v8 v9 v14 X2 X5 X6 G8 G11 init n).2.1),
      arg11.view.read (Elt F) (arg11.view.writes (Elt F) G11 (st_k0_t1 (F := F) 𝒱 c bd i arg2 harg2 arg3 harg3 arg4 harg4 arg5 harg5 arg6 harg6 arg7 harg7 arg8 harg8 arg9 harg9 arg10 harg10 arg11 harg11 arg12 harg12 v4 v6 v8 v9 v14 X2 X5 X6 G8 G11 init n).2.2))
    = tiles v4 v6 v8 v9 (arg2.view.read (Elt F) X2) (arg5.view.read (Elt F) X5) (arg6.view.read (Elt F) X6) (1024 * ((i 1).val / 2))
        (init, arg8.view.read (Elt F) G8, arg11.view.read (Elt F) G11) n := by
  induction n with
  | zero => rfl
  | succ n ih =>
    have ih' := ih (Nat.le_of_succ_le hn)
    have hs := st_k0_t1_succ (F := F) 𝒱 c bd i arg2 harg2 arg3 harg3 arg4 harg4 arg5 harg5 arg6 harg6 arg7 harg7 arg8 harg8 arg9 harg9 arg10 harg10 arg11 harg11 arg12 harg12 v4 v6 v8 v9 v14 X2 X5 X6 G8 G11 init ⟨n, hn⟩
    dsimp only at hs
    rw [hs]
    dsimp only
    rw [tripR_eq, tripL8_eq (hg := rfl), tripL11_eq (hg := rfl)]
    show _ = tile v4 v6 v8 v9 _ _ _ _ _
    rw [← ih']

end Loop

end Cert.KernelIdeal.Fox
-- ==== Proof.FoxBody.lean ====
/-
  The backward kernel's body at one grid step: what it leaves in its five outputs, the step that clears the two
  accumulated ones and the steps that add to them.
-/
module

public import proofs.«01_k».proof.Proof.FoxStep
public import Idealize.ShloMosaic.Lib.LoopRemainder

@[expose] public section
set_option maxRecDepth 16384
noncomputable section
namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Idealize.ShloMosaic.ValueIdx

variable {F : FTy → Type} [FloatOps F]
local notation "𝕄" => MT nD τ sig Unit (Elt F) ℕ (UR sig nD τ) ℕ

/-- The condition of the step that clears the accumulated outputs. -/
abbrev firstStep (i : grid0.Coords) : Prop := (Scalar.cmpi .ne (Scalar.extui (Scalar.cmpi .eq (BitVec.ofNat 32 (i 1).val) 0#32)) 0#32) = 1#1

/-- The lane numbers. -/
abbrev lanes : IVec S1024x128 32 := iota .tc S1024x128 32 [1] iota_S1024x128_d1_w32

/-- The diagonal tile, from the values loaded: the tile's rows of the query, output-gradient, statistics, key, value and
    key-decay arrays, the accumulated outputs and the tile's rows of them. -/
def diag (kj : BitVec 32) (b : ℕ) (q d : Vec F S1024x128 .f32) (st : Vec F S1x1024x128 .f32) (k v : Vec F S512x128 .f32) (ck : Vec F S1x1x1x512 .f32)
    (o8 : Vec F S8192x128 .f32) (o11 : Vec F S1x8192x128 .f32) (r8 : Vec F S1024x128 .f32) (r11 : Vec F S1x1024x128 .f32) : St F :=
  ((k0_pay2 k0_pay32 (k0_pay35 q) (k0_pay45 kj (k0_pay30 v) (k0_pay36 d) (k0_pay38 st) (k0_pay39 st) (k0_pay40 k q st) (k0_pay41 ck)),
    k0_pay43 kj k0_pay33 (k0_pay36 d) (k0_pay38 st) (k0_pay40 k q st) (k0_pay41 ck),
    k0_pay3 k0_pay34 (k0_pay44 kj (k0_pay30 v) (k0_pay36 d) (k0_pay38 st) (k0_pay39 st) (k0_pay40 k q st) (k0_pay41 ck))),
   VecWindow.put o8 ![b, 0] ![1024, 128] (k0_pay46 kj (k0_pay29 k) (k0_pay30 v) (k0_pay36 d) (k0_pay38 st) (k0_pay39 st) (k0_pay40 k q st) (k0_pay41 ck) r8),
   VecWindow.put o11 ![0, b, 0] ![1, 1024, 128] (k0_pay1 (k0_pay47 kj (k0_pay30 v) lanes (k0_pay36 d) (k0_pay38 st) (k0_pay39 st) (k0_pay40 k q st) (k0_pay41 ck) r11)))

/-- Everything one grid step computes: the diagonal tile, then the tiles below it. -/
def stepVal (i : grid0.Coords) (x0 : Vec F S8192x128 .f32) (x1 x2 : Vec F S512x128 .f32) (x3 : Vec F S8192x128 .f32) (x4 : Vec F S1x8192x128 .f32) (x5 : Vec F S1x1x1x512 .f32)
    (o8 : Vec F S8192x128 .f32) (o11 : Vec F S1x8192x128 .f32) : St F :=
  tiles (k0_pay29 x1) (k0_pay30 x2) (k0_pay31 x5) lanes x0 x3 x4 (1024 * ((i 1).val / 2))
    (diag (BitVec.ofNat 32 (i 1).val) (1024 * ((i 1).val / 2)) (rows x0 (1024 * ((i 1).val / 2))) (rows x3 (1024 * ((i 1).val / 2))) (planeRows x4 (1024 * ((i 1).val / 2)))
      x1 x2 x5 o8 o11 (rows o8 (1024 * ((i 1).val / 2))) (planeRows o11 (1024 * ((i 1).val / 2)))) (k0_t1_loop i).trips

/-- The carried values and the accumulated outputs after the loop, whatever was stored in them before the diagonal tile. -/
theorem steps_eq (c : Dev nD) (i : grid0.Coords) (arg2 : Memref sig .tc .vmem S8192x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S8192x128 .f32) (harg5 : arg5.IsWhole) (arg6 : Memref sig .tc .vmem S1x8192x128 .f32) (harg6 : arg6.IsWhole) (arg7 : Memref sig .tc .vmem S1x1x1x512 .f32) (harg7 : arg7.IsWhole) (arg8 : Memref sig .tc .vmem S8192x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x8192x128 .f32) (harg11 : arg11.IsWhole) (arg12 : Memref sig .tc .vmem S1x1x1x512 .f32) (harg12 : arg12.IsWhole) (v14 : BitVec 32)
    (X2 : BufTy.Contents (Elt F) arg2.view.ty) (X3 : BufTy.Contents (Elt F) arg3.view.ty) (X4 : BufTy.Contents (Elt F) arg4.view.ty) (X5 : BufTy.Contents (Elt F) arg5.view.ty)
    (X6 : BufTy.Contents (Elt F) arg6.view.ty) (X7 : BufTy.Contents (Elt F) arg7.view.ty)
    (g8 : BufTy.Contents (Elt F) arg8.view.ty) (L8 : List (View.Piece (Elt F) S8192x128 .f32)) (g11 : BufTy.Contents (Elt F) arg11.view.ty) (L11 : List (View.Piece (Elt F) S1x8192x128 .f32))
    {x0 : Vec F S8192x128 .f32} {x1 x2 : Vec F S512x128 .f32} {x3 : Vec F S8192x128 .f32} {x4 : Vec F S1x8192x128 .f32} {x5 : Vec F S1x1x1x512 .f32} {o8 : Vec F S8192x128 .f32} {o11 : Vec F S1x8192x128 .f32}
    (h0 : arg2.view.read (Elt F) X2 = x0) (h1 : arg3.view.read (Elt F) X3 = x1) (h2 : arg4.view.read (Elt F) X4 = x2) (h3 : arg5.view.read (Elt F) X5 = x3)
    (h4 : arg6.view.read (Elt F) X6 = x4) (h5 : arg7.view.read (Elt F) X7 = x5)
    (h8 : arg8.view.read (Elt F) (arg8.view.writes (Elt F) g8 L8) = o8) (h11 : arg11.view.read (Elt F) (arg11.view.writes (Elt F) g11 L11) = o11) :
    ((st_k0_t1 (F := F) Variants.none c none i arg2 harg2 arg3 harg3 arg4 harg4 arg5 harg5 arg6 harg6 arg7 harg7 arg8 harg8 arg9 harg9 arg10 harg10 arg11 harg11 arg12 harg12 (k0_pay29 (arg3.view.readAt (Elt F) (Rect.unit (s := S512x128) ![0, 0] S512x128.size inb_S512x128_S512x128_0_0).toLoadRect X3)) (k0_pay30 (arg4.view.readAt (Elt F) (Rect.unit (s := S512x128) ![0, 0] S512x128.size inb_S512x128_S512x128_0_0).toLoadRect X4)) (k0_pay31 (arg7.view.readAt (Elt F) (Rect.unit (s := S1x1x1x512) ![0, 0, 0, 0] S1x1x1x512.size inb_S1x1x1x512_S1x1x1x512_0_0_0_0).toLoadRect X7)) lanes v14 X2 X5 X6
      (arg8.view.writes (Elt F) g8 (⟨Rect.unit (s := S8192x128) (k0_off1 i) S1024x128.size (k0_off1_inb i), k0_pay46 (BitVec.ofNat 32 (i 1).val) (k0_pay29 (arg3.view.readAt (Elt F) (Rect.unit (s := S512x128) ![0, 0] S512x128.size inb_S512x128_S512x128_0_0).toLoadRect X3)) (k0_pay30 (arg4.view.readAt (Elt F) (Rect.unit (s := S512x128) ![0, 0] S512x128.size inb_S512x128_S512x128_0_0).toLoadRect X4)) (k0_pay36 (arg5.view.readAt (Elt F) (Rect.unit (s := S8192x128) (k0_off1 i) S1024x128.size (k0_off1_inb i)).toLoadRect X5)) (k0_pay38 (arg6.view.readAt (Elt F) (Rect.unit (s := S1x8192x128) (k0_off2 i) S1x1024x128.size (k0_off2_inb i)).toLoadRect X6)) (k0_pay39 (arg6.view.readAt (Elt F) (Rect.unit (s := S1x8192x128) (k0_off2 i) S1x1024x128.size (k0_off2_inb i)).toLoadRect X6)) (k0_pay40 (arg3.view.readAt (Elt F) (Rect.unit (s := S512x128) ![0, 0] S512x128.size inb_S512x128_S512x128_0_0).toLoadRect X3) (arg2.view.readAt (Elt F) (Rect.unit (s := S8192x128) (k0_off1 i) S1024x128.size (k0_off1_inb i)).toLoadRect X2) (arg6.view.readAt (Elt F) (Rect.unit (s := S1x8192x128) (k0_off2 i) S1x1024x128.size (k0_off2_inb i)).toLoadRect X6)) (k0_pay41 (arg7.view.readAt (Elt F) (Rect.unit (s := S1x1x1x512) ![0, 0, 0, 0] S1x1x1x512.size inb_S1x1x1x512_S1x1x1x512_0_0_0_0).toLoadRect X7)) (arg8.view.readAt (Elt F) (Rect.unit (s := S8192x128) (k0_off1 i) S1024x128.size (k0_off1_inb i)).toLoadRect (arg8.view.writes (Elt F) g8 L8))⟩ :: L8)) (arg11.view.writes (Elt F) g11 (⟨Rect.unit (s := S1x8192x128) (k0_off2 i) S1x1024x128.size (k0_off2_inb i), k0_pay1 (k0_pay47 (BitVec.ofNat 32 (i 1).val) (k0_pay30 (arg4.view.readAt (Elt F) (Rect.unit (s := S512x128) ![0, 0] S512x128.size inb_S512x128_S512x128_0_0).toLoadRect X4)) lanes (k0_pay36 (arg5.view.readAt (Elt F) (Rect.unit (s := S8192x128) (k0_off1 i) S1024x128.size (k0_off1_inb i)).toLoadRect X5)) (k0_pay38 (arg6.view.readAt (Elt F) (Rect.unit (s := S1x8192x128) (k0_off2 i) S1x1024x128.size (k0_off2_inb i)).toLoadRect X6)) (k0_pay39 (arg6.view.readAt (Elt F) (Rect.unit (s := S1x8192x128) (k0_off2 i) S1x1024x128.size (k0_off2_inb i)).toLoadRect X6)) (k0_pay40 (arg3.view.readAt (Elt F) (Rect.unit (s := S512x128) ![0, 0] S512x128.size inb_S512x128_S512x128_0_0).toLoadRect X3) (arg2.view.readAt (Elt F) (Rect.unit (s := S8192x128) (k0_off1 i) S1024x128.size (k0_off1_inb i)).toLoadRect X2) (arg6.view.readAt (Elt F) (Rect.unit (s := S1x8192x128) (k0_off2 i) S1x1024x128.size (k0_off2_inb i)).toLoadRect X6)) (k0_pay41 (arg7.view.readAt (Elt F) (Rect.unit (s := S1x1x1x512) ![0, 0, 0, 0] S1x1x1x512.size inb_S1x1x1x512_S1x1x1x512_0_0_0_0).toLoadRect X7)) (arg11.view.readAt (Elt F) (Rect.unit (s := S1x8192x128) (k0_off2 i) S1x1024x128.size (k0_off2_inb i)).toLoadRect (arg11.view.writes (Elt F) g11 L11)))⟩ :: L11)) (k0_pay2 k0_pay32 (k0_pay35 (arg2.view.readAt (Elt F) (Rect.unit (s := S8192x128) (k0_off1 i) S1024x128.size (k0_off1_inb i)).toLoadRect X2)) (k0_pay45 (BitVec.ofNat 32 (i 1).val) (k0_pay30 (arg4.view.readAt (Elt F) (Rect.unit (s := S512x128) ![0, 0] S512x128.size inb_S512x128_S512x128_0_0).toLoadRect X4)) (k0_pay36 (arg5.view.readAt (Elt F) (Rect.unit (s := S8192x128) (k0_off1 i) S1024x128.size (k0_off1_inb i)).toLoadRect X5)) (k0_pay38 (arg6.view.readAt (Elt F) (Rect.unit (s := S1x8192x128) (k0_off2 i) S1x1024x128.size (k0_off2_inb i)).toLoadRect X6)) (k0_pay39 (arg6.view.readAt (Elt F) (Rect.unit (s := S1x8192x128) (k0_off2 i) S1x1024x128.size (k0_off2_inb i)).toLoadRect X6)) (k0_pay40 (arg3.view.readAt (Elt F) (Rect.unit (s := S512x128) ![0, 0] S512x128.size inb_S512x128_S512x128_0_0).toLoadRect X3) (arg2.view.readAt (Elt F) (Rect.unit (s := S8192x128) (k0_off1 i) S1024x128.size (k0_off1_inb i)).toLoadRect X2) (arg6.view.readAt (Elt F) (Rect.unit (s := S1x8192x128) (k0_off2 i) S1x1024x128.size (k0_off2_inb i)).toLoadRect X6)) (k0_pay41 (arg7.view.readAt (Elt F) (Rect.unit (s := S1x1x1x512) ![0, 0, 0, 0] S1x1x1x512.size inb_S1x1x1x512_S1x1x1x512_0_0_0_0).toLoadRect X7))),
    k0_pay43 (BitVec.ofNat 32 (i 1).val) k0_pay33 (k0_pay36 (arg5.view.readAt (Elt F) (Rect.unit (s := S8192x128) (k0_off1 i) S1024x128.size (k0_off1_inb i)).toLoadRect X5)) (k0_pay38 (arg6.view.readAt (Elt F) (Rect.unit (s := S1x8192x128) (k0_off2 i) S1x1024x128.size (k0_off2_inb i)).toLoadRect X6)) (k0_pay40 (arg3.view.readAt (Elt F) (Rect.unit (s := S512x128) ![0, 0] S512x128.size inb_S512x128_S512x128_0_0).toLoadRect X3) (arg2.view.readAt (Elt F) (Rect.unit (s := S8192x128) (k0_off1 i) S1024x128.size (k0_off1_inb i)).toLoadRect X2) (arg6.view.readAt (Elt F) (Rect.unit (s := S1x8192x128) (k0_off2 i) S1x1024x128.size (k0_off2_inb i)).toLoadRect X6)) (k0_pay41 (arg7.view.readAt (Elt F) (Rect.unit (s := S1x1x1x512) ![0, 0, 0, 0] S1x1x1x512.size inb_S1x1x1x512_S1x1x1x512_0_0_0_0).toLoadRect X7)),
    k0_pay3 k0_pay34 (k0_pay44 (BitVec.ofNat 32 (i 1).val) (k0_pay30 (arg4.view.readAt (Elt F) (Rect.unit (s := S512x128) ![0, 0] S512x128.size inb_S512x128_S512x128_0_0).toLoadRect X4)) (k0_pay36 (arg5.view.readAt (Elt F) (Rect.unit (s := S8192x128) (k0_off1 i) S1024x128.size (k0_off1_inb i)).toLoadRect X5)) (k0_pay38 (arg6.view.readAt (Elt F) (Rect.unit (s := S1x8192x128) (k0_off2 i) S1x1024x128.size (k0_off2_inb i)).toLoadRect X6)) (k0_pay39 (arg6.view.readAt (Elt F) (Rect.unit (s := S1x8192x128) (k0_off2 i) S1x1024x128.size (k0_off2_inb i)).toLoadRect X6)) (k0_pay40 (arg3.view.readAt (Elt F) (Rect.unit (s := S512x128) ![0, 0] S512x128.size inb_S512x128_S512x128_0_0).toLoadRect X3) (arg2.view.readAt (Elt F) (Rect.unit (s := S8192x128) (k0_off1 i) S1024x128.size (k0_off1_inb i)).toLoadRect X2) (arg6.view.readAt (Elt F) (Rect.unit (s := S1x8192x128) (k0_off2 i) S1x1024x128.size (k0_off2_inb i)).toLoadRect X6)) (k0_pay41 (arg7.view.readAt (Elt F) (Rect.unit (s := S1x1x1x512) ![0, 0, 0, 0] S1x1x1x512.size inb_S1x1x1x512_S1x1x1x512_0_0_0_0).toLoadRect X7)))) (k0_t1_loop i).trips).1,
      arg8.view.read (Elt F) (arg8.view.writes (Elt F) g8 ((st_k0_t1 (F := F) Variants.none c none i arg2 harg2 arg3 harg3 arg4 harg4 arg5 harg5 arg6 harg6 arg7 harg7 arg8 harg8 arg9 harg9 arg10 harg10 arg11 harg11 arg12 harg12 (k0_pay29 (arg3.view.readAt (Elt F) (Rect.unit (s := S512x128) ![0, 0] S512x128.size inb_S512x128_S512x128_0_0).toLoadRect X3)) (k0_pay30 (arg4.view.readAt (Elt F) (Rect.unit (s := S512x128) ![0, 0] S512x128.size inb_S512x128_S512x128_0_0).toLoadRect X4)) (k0_pay31 (arg7.view.readAt (Elt F) (Rect.unit (s := S1x1x1x512) ![0, 0, 0, 0] S1x1x1x512.size inb_S1x1x1x512_S1x1x1x512_0_0_0_0).toLoadRect X7)) lanes v14 X2 X5 X6
      (arg8.view.writes (Elt F) g8 (⟨Rect.unit (s := S8192x128) (k0_off1 i) S1024x128.size (k0_off1_inb i), k0_pay46 (BitVec.ofNat 32 (i 1).val) (k0_pay29 (arg3.view.readAt (Elt F) (Rect.unit (s := S512x128) ![0, 0] S512x128.size inb_S512x128_S512x128_0_0).toLoadRect X3)) (k0_pay30 (arg4.view.readAt (Elt F) (Rect.unit (s := S512x128) ![0, 0] S512x128.size inb_S512x128_S512x128_0_0).toLoadRect X4)) (k0_pay36 (arg5.view.readAt (Elt F) (Rect.unit (s := S8192x128) (k0_off1 i) S1024x128.size (k0_off1_inb i)).toLoadRect X5)) (k0_pay38 (arg6.view.readAt (Elt F) (Rect.unit (s := S1x8192x128) (k0_off2 i) S1x1024x128.size (k0_off2_inb i)).toLoadRect X6)) (k0_pay39 (arg6.view.readAt (Elt F) (Rect.unit (s := S1x8192x128) (k0_off2 i) S1x1024x128.size (k0_off2_inb i)).toLoadRect X6)) (k0_pay40 (arg3.view.readAt (Elt F) (Rect.unit (s := S512x128) ![0, 0] S512x128.size inb_S512x128_S512x128_0_0).toLoadRect X3) (arg2.view.readAt (Elt F) (Rect.unit (s := S8192x128) (k0_off1 i) S1024x128.size (k0_off1_inb i)).toLoadRect X2) (arg6.view.readAt (Elt F) (Rect.unit (s := S1x8192x128) (k0_off2 i) S1x1024x128.size (k0_off2_inb i)).toLoadRect X6)) (k0_pay41 (arg7.view.readAt (Elt F) (Rect.unit (s := S1x1x1x512) ![0, 0, 0, 0] S1x1x1x512.size inb_S1x1x1x512_S1x1x1x512_0_0_0_0).toLoadRect X7)) (arg8.view.readAt (Elt F) (Rect.unit (s := S8192x128) (k0_off1 i) S1024x128.size (k0_off1_inb i)).toLoadRect (arg8.view.writes (Elt F) g8 L8))⟩ :: L8)) (arg11.view.writes (Elt F) g11 (⟨Rect.unit (s := S1x8192x128) (k0_off2 i) S1x1024x128.size (k0_off2_inb i), k0_pay1 (k0_pay47 (BitVec.ofNat 32 (i 1).val) (k0_pay30 (arg4.view.readAt (Elt F) (Rect.unit (s := S512x128) ![0, 0] S512x128.size inb_S512x128_S512x128_0_0).toLoadRect X4)) lanes (k0_pay36 (arg5.view.readAt (Elt F) (Rect.unit (s := S8192x128) (k0_off1 i) S1024x128.size (k0_off1_inb i)).toLoadRect X5)) (k0_pay38 (arg6.view.readAt (Elt F) (Rect.unit (s := S1x8192x128) (k0_off2 i) S1x1024x128.size (k0_off2_inb i)).toLoadRect X6)) (k0_pay39 (arg6.view.readAt (Elt F) (Rect.unit (s := S1x8192x128) (k0_off2 i) S1x1024x128.size (k0_off2_inb i)).toLoadRect X6)) (k0_pay40 (arg3.view.readAt (Elt F) (Rect.unit (s := S512x128) ![0, 0] S512x128.size inb_S512x128_S512x128_0_0).toLoadRect X3) (arg2.view.readAt (Elt F) (Rect.unit (s := S8192x128) (k0_off1 i) S1024x128.size (k0_off1_inb i)).toLoadRect X2) (arg6.view.readAt (Elt F) (Rect.unit (s := S1x8192x128) (k0_off2 i) S1x1024x128.size (k0_off2_inb i)).toLoadRect X6)) (k0_pay41 (arg7.view.readAt (Elt F) (Rect.unit (s := S1x1x1x512) ![0, 0, 0, 0] S1x1x1x512.size inb_S1x1x1x512_S1x1x1x512_0_0_0_0).toLoadRect X7)) (arg11.view.readAt (Elt F) (Rect.unit (s := S1x8192x128) (k0_off2 i) S1x1024x128.size (k0_off2_inb i)).toLoadRect (arg11.view.writes (Elt F) g11 L11)))⟩ :: L11)) (k0_pay2 k0_pay32 (k0_pay35 (arg2.view.readAt (Elt F) (Rect.unit (s := S8192x128) (k0_off1 i) S1024x128.size (k0_off1_inb i)).toLoadRect X2)) (k0_pay45 (BitVec.ofNat 32 (i 1).val) (k0_pay30 (arg4.view.readAt (Elt F) (Rect.unit (s := S512x128) ![0, 0] S512x128.size inb_S512x128_S512x128_0_0).toLoadRect X4)) (k0_pay36 (arg5.view.readAt (Elt F) (Rect.unit (s := S8192x128) (k0_off1 i) S1024x128.size (k0_off1_inb i)).toLoadRect X5)) (k0_pay38 (arg6.view.readAt (Elt F) (Rect.unit (s := S1x8192x128) (k0_off2 i) S1x1024x128.size (k0_off2_inb i)).toLoadRect X6)) (k0_pay39 (arg6.view.readAt (Elt F) (Rect.unit (s := S1x8192x128) (k0_off2 i) S1x1024x128.size (k0_off2_inb i)).toLoadRect X6)) (k0_pay40 (arg3.view.readAt (Elt F) (Rect.unit (s := S512x128) ![0, 0] S512x128.size inb_S512x128_S512x128_0_0).toLoadRect X3) (arg2.view.readAt (Elt F) (Rect.unit (s := S8192x128) (k0_off1 i) S1024x128.size (k0_off1_inb i)).toLoadRect X2) (arg6.view.readAt (Elt F) (Rect.unit (s := S1x8192x128) (k0_off2 i) S1x1024x128.size (k0_off2_inb i)).toLoadRect X6)) (k0_pay41 (arg7.view.readAt (Elt F) (Rect.unit (s := S1x1x1x512) ![0, 0, 0, 0] S1x1x1x512.size inb_S1x1x1x512_S1x1x1x512_0_0_0_0).toLoadRect X7))),
    k0_pay43 (BitVec.ofNat 32 (i 1).val) k0_pay33 (k0_pay36 (arg5.view.readAt (Elt F) (Rect.unit (s := S8192x128) (k0_off1 i) S1024x128.size (k0_off1_inb i)).toLoadRect X5)) (k0_pay38 (arg6.view.readAt (Elt F) (Rect.unit (s := S1x8192x128) (k0_off2 i) S1x1024x128.size (k0_off2_inb i)).toLoadRect X6)) (k0_pay40 (arg3.view.readAt (Elt F) (Rect.unit (s := S512x128) ![0, 0] S512x128.size inb_S512x128_S512x128_0_0).toLoadRect X3) (arg2.view.readAt (Elt F) (Rect.unit (s := S8192x128) (k0_off1 i) S1024x128.size (k0_off1_inb i)).toLoadRect X2) (arg6.view.readAt (Elt F) (Rect.unit (s := S1x8192x128) (k0_off2 i) S1x1024x128.size (k0_off2_inb i)).toLoadRect X6)) (k0_pay41 (arg7.view.readAt (Elt F) (Rect.unit (s := S1x1x1x512) ![0, 0, 0, 0] S1x1x1x512.size inb_S1x1x1x512_S1x1x1x512_0_0_0_0).toLoadRect X7)),
    k0_pay3 k0_pay34 (k0_pay44 (BitVec.ofNat 32 (i 1).val) (k0_pay30 (arg4.view.readAt (Elt F) (Rect.unit (s := S512x128) ![0, 0] S512x128.size inb_S512x128_S512x128_0_0).toLoadRect X4)) (k0_pay36 (arg5.view.readAt (Elt F) (Rect.unit (s := S8192x128) (k0_off1 i) S1024x128.size (k0_off1_inb i)).toLoadRect X5)) (k0_pay38 (arg6.view.readAt (Elt F) (Rect.unit (s := S1x8192x128) (k0_off2 i) S1x1024x128.size (k0_off2_inb i)).toLoadRect X6)) (k0_pay39 (arg6.view.readAt (Elt F) (Rect.unit (s := S1x8192x128) (k0_off2 i) S1x1024x128.size (k0_off2_inb i)).toLoadRect X6)) (k0_pay40 (arg3.view.readAt (Elt F) (Rect.unit (s := S512x128) ![0, 0] S512x128.size inb_S512x128_S512x128_0_0).toLoadRect X3) (arg2.view.readAt (Elt F) (Rect.unit (s := S8192x128) (k0_off1 i) S1024x128.size (k0_off1_inb i)).toLoadRect X2) (arg6.view.readAt (Elt F) (Rect.unit (s := S1x8192x128) (k0_off2 i) S1x1024x128.size (k0_off2_inb i)).toLoadRect X6)) (k0_pay41 (arg7.view.readAt (Elt F) (Rect.unit (s := S1x1x1x512) ![0, 0, 0, 0] S1x1x1x512.size inb_S1x1x1x512_S1x1x1x512_0_0_0_0).toLoadRect X7)))) (k0_t1_loop i).trips).2.1 ++ (⟨Rect.unit (s := S8192x128) (k0_off1 i) S1024x128.size (k0_off1_inb i), k0_pay46 (BitVec.ofNat 32 (i 1).val) (k0_pay29 (arg3.view.readAt (Elt F) (Rect.unit (s := S512x128) ![0, 0] S512x128.size inb_S512x128_S512x128_0_0).toLoadRect X3)) (k0_pay30 (arg4.view.readAt (Elt F) (Rect.unit (s := S512x128) ![0, 0] S512x128.size inb_S512x128_S512x128_0_0).toLoadRect X4)) (k0_pay36 (arg5.view.readAt (Elt F) (Rect.unit (s := S8192x128) (k0_off1 i) S1024x128.size (k0_off1_inb i)).toLoadRect X5)) (k0_pay38 (arg6.view.readAt (Elt F) (Rect.unit (s := S1x8192x128) (k0_off2 i) S1x1024x128.size (k0_off2_inb i)).toLoadRect X6)) (k0_pay39 (arg6.view.readAt (Elt F) (Rect.unit (s := S1x8192x128) (k0_off2 i) S1x1024x128.size (k0_off2_inb i)).toLoadRect X6)) (k0_pay40 (arg3.view.readAt (Elt F) (Rect.unit (s := S512x128) ![0, 0] S512x128.size inb_S512x128_S512x128_0_0).toLoadRect X3) (arg2.view.readAt (Elt F) (Rect.unit (s := S8192x128) (k0_off1 i) S1024x128.size (k0_off1_inb i)).toLoadRect X2) (arg6.view.readAt (Elt F) (Rect.unit (s := S1x8192x128) (k0_off2 i) S1x1024x128.size (k0_off2_inb i)).toLoadRect X6)) (k0_pay41 (arg7.view.readAt (Elt F) (Rect.unit (s := S1x1x1x512) ![0, 0, 0, 0] S1x1x1x512.size inb_S1x1x1x512_S1x1x1x512_0_0_0_0).toLoadRect X7)) (arg8.view.readAt (Elt F) (Rect.unit (s := S8192x128) (k0_off1 i) S1024x128.size (k0_off1_inb i)).toLoadRect (arg8.view.writes (Elt F) g8 L8))⟩ :: L8))),
      arg11.view.read (Elt F) (arg11.view.writes (Elt F) g11 ((st_k0_t1 (F := F) Variants.none c none i arg2 harg2 arg3 harg3 arg4 harg4 arg5 harg5 arg6 harg6 arg7 harg7 arg8 harg8 arg9 harg9 arg10 harg10 arg11 harg11 arg12 harg12 (k0_pay29 (arg3.view.readAt (Elt F) (Rect.unit (s := S512x128) ![0, 0] S512x128.size inb_S512x128_S512x128_0_0).toLoadRect X3)) (k0_pay30 (arg4.view.readAt (Elt F) (Rect.unit (s := S512x128) ![0, 0] S512x128.size inb_S512x128_S512x128_0_0).toLoadRect X4)) (k0_pay31 (arg7.view.readAt (Elt F) (Rect.unit (s := S1x1x1x512) ![0, 0, 0, 0] S1x1x1x512.size inb_S1x1x1x512_S1x1x1x512_0_0_0_0).toLoadRect X7)) lanes v14 X2 X5 X6
      (arg8.view.writes (Elt F) g8 (⟨Rect.unit (s := S8192x128) (k0_off1 i) S1024x128.size (k0_off1_inb i), k0_pay46 (BitVec.ofNat 32 (i 1).val) (k0_pay29 (arg3.view.readAt (Elt F) (Rect.unit (s := S512x128) ![0, 0] S512x128.size inb_S512x128_S512x128_0_0).toLoadRect X3)) (k0_pay30 (arg4.view.readAt (Elt F) (Rect.unit (s := S512x128) ![0, 0] S512x128.size inb_S512x128_S512x128_0_0).toLoadRect X4)) (k0_pay36 (arg5.view.readAt (Elt F) (Rect.unit (s := S8192x128) (k0_off1 i) S1024x128.size (k0_off1_inb i)).toLoadRect X5)) (k0_pay38 (arg6.view.readAt (Elt F) (Rect.unit (s := S1x8192x128) (k0_off2 i) S1x1024x128.size (k0_off2_inb i)).toLoadRect X6)) (k0_pay39 (arg6.view.readAt (Elt F) (Rect.unit (s := S1x8192x128) (k0_off2 i) S1x1024x128.size (k0_off2_inb i)).toLoadRect X6)) (k0_pay40 (arg3.view.readAt (Elt F) (Rect.unit (s := S512x128) ![0, 0] S512x128.size inb_S512x128_S512x128_0_0).toLoadRect X3) (arg2.view.readAt (Elt F) (Rect.unit (s := S8192x128) (k0_off1 i) S1024x128.size (k0_off1_inb i)).toLoadRect X2) (arg6.view.readAt (Elt F) (Rect.unit (s := S1x8192x128) (k0_off2 i) S1x1024x128.size (k0_off2_inb i)).toLoadRect X6)) (k0_pay41 (arg7.view.readAt (Elt F) (Rect.unit (s := S1x1x1x512) ![0, 0, 0, 0] S1x1x1x512.size inb_S1x1x1x512_S1x1x1x512_0_0_0_0).toLoadRect X7)) (arg8.view.readAt (Elt F) (Rect.unit (s := S8192x128) (k0_off1 i) S1024x128.size (k0_off1_inb i)).toLoadRect (arg8.view.writes (Elt F) g8 L8))⟩ :: L8)) (arg11.view.writes (Elt F) g11 (⟨Rect.unit (s := S1x8192x128) (k0_off2 i) S1x1024x128.size (k0_off2_inb i), k0_pay1 (k0_pay47 (BitVec.ofNat 32 (i 1).val) (k0_pay30 (arg4.view.readAt (Elt F) (Rect.unit (s := S512x128) ![0, 0] S512x128.size inb_S512x128_S512x128_0_0).toLoadRect X4)) lanes (k0_pay36 (arg5.view.readAt (Elt F) (Rect.unit (s := S8192x128) (k0_off1 i) S1024x128.size (k0_off1_inb i)).toLoadRect X5)) (k0_pay38 (arg6.view.readAt (Elt F) (Rect.unit (s := S1x8192x128) (k0_off2 i) S1x1024x128.size (k0_off2_inb i)).toLoadRect X6)) (k0_pay39 (arg6.view.readAt (Elt F) (Rect.unit (s := S1x8192x128) (k0_off2 i) S1x1024x128.size (k0_off2_inb i)).toLoadRect X6)) (k0_pay40 (arg3.view.readAt (Elt F) (Rect.unit (s := S512x128) ![0, 0] S512x128.size inb_S512x128_S512x128_0_0).toLoadRect X3) (arg2.view.readAt (Elt F) (Rect.unit (s := S8192x128) (k0_off1 i) S1024x128.size (k0_off1_inb i)).toLoadRect X2) (arg6.view.readAt (Elt F) (Rect.unit (s := S1x8192x128) (k0_off2 i) S1x1024x128.size (k0_off2_inb i)).toLoadRect X6)) (k0_pay41 (arg7.view.readAt (Elt F) (Rect.unit (s := S1x1x1x512) ![0, 0, 0, 0] S1x1x1x512.size inb_S1x1x1x512_S1x1x1x512_0_0_0_0).toLoadRect X7)) (arg11.view.readAt (Elt F) (Rect.unit (s := S1x8192x128) (k0_off2 i) S1x1024x128.size (k0_off2_inb i)).toLoadRect (arg11.view.writes (Elt F) g11 L11)))⟩ :: L11)) (k0_pay2 k0_pay32 (k0_pay35 (arg2.view.readAt (Elt F) (Rect.unit (s := S8192x128) (k0_off1 i) S1024x128.size (k0_off1_inb i)).toLoadRect X2)) (k0_pay45 (BitVec.ofNat 32 (i 1).val) (k0_pay30 (arg4.view.readAt (Elt F) (Rect.unit (s := S512x128) ![0, 0] S512x128.size inb_S512x128_S512x128_0_0).toLoadRect X4)) (k0_pay36 (arg5.view.readAt (Elt F) (Rect.unit (s := S8192x128) (k0_off1 i) S1024x128.size (k0_off1_inb i)).toLoadRect X5)) (k0_pay38 (arg6.view.readAt (Elt F) (Rect.unit (s := S1x8192x128) (k0_off2 i) S1x1024x128.size (k0_off2_inb i)).toLoadRect X6)) (k0_pay39 (arg6.view.readAt (Elt F) (Rect.unit (s := S1x8192x128) (k0_off2 i) S1x1024x128.size (k0_off2_inb i)).toLoadRect X6)) (k0_pay40 (arg3.view.readAt (Elt F) (Rect.unit (s := S512x128) ![0, 0] S512x128.size inb_S512x128_S512x128_0_0).toLoadRect X3) (arg2.view.readAt (Elt F) (Rect.unit (s := S8192x128) (k0_off1 i) S1024x128.size (k0_off1_inb i)).toLoadRect X2) (arg6.view.readAt (Elt F) (Rect.unit (s := S1x8192x128) (k0_off2 i) S1x1024x128.size (k0_off2_inb i)).toLoadRect X6)) (k0_pay41 (arg7.view.readAt (Elt F) (Rect.unit (s := S1x1x1x512) ![0, 0, 0, 0] S1x1x1x512.size inb_S1x1x1x512_S1x1x1x512_0_0_0_0).toLoadRect X7))),
    k0_pay43 (BitVec.ofNat 32 (i 1).val) k0_pay33 (k0_pay36 (arg5.view.readAt (Elt F) (Rect.unit (s := S8192x128) (k0_off1 i) S1024x128.size (k0_off1_inb i)).toLoadRect X5)) (k0_pay38 (arg6.view.readAt (Elt F) (Rect.unit (s := S1x8192x128) (k0_off2 i) S1x1024x128.size (k0_off2_inb i)).toLoadRect X6)) (k0_pay40 (arg3.view.readAt (Elt F) (Rect.unit (s := S512x128) ![0, 0] S512x128.size inb_S512x128_S512x128_0_0).toLoadRect X3) (arg2.view.readAt (Elt F) (Rect.unit (s := S8192x128) (k0_off1 i) S1024x128.size (k0_off1_inb i)).toLoadRect X2) (arg6.view.readAt (Elt F) (Rect.unit (s := S1x8192x128) (k0_off2 i) S1x1024x128.size (k0_off2_inb i)).toLoadRect X6)) (k0_pay41 (arg7.view.readAt (Elt F) (Rect.unit (s := S1x1x1x512) ![0, 0, 0, 0] S1x1x1x512.size inb_S1x1x1x512_S1x1x1x512_0_0_0_0).toLoadRect X7)),
    k0_pay3 k0_pay34 (k0_pay44 (BitVec.ofNat 32 (i 1).val) (k0_pay30 (arg4.view.readAt (Elt F) (Rect.unit (s := S512x128) ![0, 0] S512x128.size inb_S512x128_S512x128_0_0).toLoadRect X4)) (k0_pay36 (arg5.view.readAt (Elt F) (Rect.unit (s := S8192x128) (k0_off1 i) S1024x128.size (k0_off1_inb i)).toLoadRect X5)) (k0_pay38 (arg6.view.readAt (Elt F) (Rect.unit (s := S1x8192x128) (k0_off2 i) S1x1024x128.size (k0_off2_inb i)).toLoadRect X6)) (k0_pay39 (arg6.view.readAt (Elt F) (Rect.unit (s := S1x8192x128) (k0_off2 i) S1x1024x128.size (k0_off2_inb i)).toLoadRect X6)) (k0_pay40 (arg3.view.readAt (Elt F) (Rect.unit (s := S512x128) ![0, 0] S512x128.size inb_S512x128_S512x128_0_0).toLoadRect X3) (arg2.view.readAt (Elt F) (Rect.unit (s := S8192x128) (k0_off1 i) S1024x128.size (k0_off1_inb i)).toLoadRect X2) (arg6.view.readAt (Elt F) (Rect.unit (s := S1x8192x128) (k0_off2 i) S1x1024x128.size (k0_off2_inb i)).toLoadRect X6)) (k0_pay41 (arg7.view.readAt (Elt F) (Rect.unit (s := S1x1x1x512) ![0, 0, 0, 0] S1x1x1x512.size inb_S1x1x1x512_S1x1x1x512_0_0_0_0).toLoadRect X7)))) (k0_t1_loop i).trips).2.2 ++ (⟨Rect.unit (s := S1x8192x128) (k0_off2 i) S1x1024x128.size (k0_off2_inb i), k0_pay1 (k0_pay47 (BitVec.ofNat 32 (i 1).val) (k0_pay30 (arg4.view.readAt (Elt F) (Rect.unit (s := S512x128) ![0, 0] S512x128.size inb_S512x128_S512x128_0_0).toLoadRect X4)) lanes (k0_pay36 (arg5.view.readAt (Elt F) (Rect.unit (s := S8192x128) (k0_off1 i) S1024x128.size (k0_off1_inb i)).toLoadRect X5)) (k0_pay38 (arg6.view.readAt (Elt F) (Rect.unit (s := S1x8192x128) (k0_off2 i) S1x1024x128.size (k0_off2_inb i)).toLoadRect X6)) (k0_pay39 (arg6.view.readAt (Elt F) (Rect.unit (s := S1x8192x128) (k0_off2 i) S1x1024x128.size (k0_off2_inb i)).toLoadRect X6)) (k0_pay40 (arg3.view.readAt (Elt F) (Rect.unit (s := S512x128) ![0, 0] S512x128.size inb_S512x128_S512x128_0_0).toLoadRect X3) (arg2.view.readAt (Elt F) (Rect.unit (s := S8192x128) (k0_off1 i) S1024x128.size (k0_off1_inb i)).toLoadRect X2) (arg6.view.readAt (Elt F) (Rect.unit (s := S1x8192x128) (k0_off2 i) S1x1024x128.size (k0_off2_inb i)).toLoadRect X6)) (k0_pay41 (arg7.view.readAt (Elt F) (Rect.unit (s := S1x1x1x512) ![0, 0, 0, 0] S1x1x1x512.size inb_S1x1x1x512_S1x1x1x512_0_0_0_0).toLoadRect X7)) (arg11.view.readAt (Elt F) (Rect.unit (s := S1x8192x128) (k0_off2 i) S1x1024x128.size (k0_off2_inb i)).toLoadRect (arg11.view.writes (Elt F) g11 L11)))⟩ :: L11))))
    = stepVal i x0 x1 x2 x3 x4 x5 o8 o11 := by
  rw [View.writes_append, View.writes_append, st_eq (hn := le_refl _),
    View.read_writes_cons_put arg8.view _ (k0_off1_inb i) _ _ (k0_off1_eq i), View.read_writes_cons_put arg11.view _ (k0_off2_inb i) _ _ (k0_off2_eq i),
    readAt_rows arg2.view X2 _ (k0_off1_inb i) (k0_off1_eq i), readAt_rows arg5.view X5 _ (k0_off1_inb i) (k0_off1_eq i), readAt_rows arg8.view _ _ (k0_off1_inb i) (k0_off1_eq i),
    readAt_planeRows arg6.view X6 _ (k0_off2_inb i) (k0_off2_eq i), readAt_planeRows arg11.view _ _ (k0_off2_inb i) (k0_off2_eq i),
    View.readAt_full, View.readAt_full, View.readAt_full, h0, h1, h2, h3, h4, h5, h8, h11]
  rfl

end Cert.KernelIdeal.Fox
-- ==== Proof.FoxRunFirst.lean ====
/-
  The backward kernel's body at one grid step: the step that clears the two accumulated outputs.
-/
module

public import proofs.«01_k».proof.Proof.FoxBody
public import Idealize.ShloMosaic.Lib.LoopRemainder

@[expose] public section
set_option maxRecDepth 16384
noncomputable section
namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Idealize.ShloMosaic.ValueIdx

variable {F : FTy → Type} [FloatOps F]
local notation "𝕄" => MT nD τ sig Unit (Elt F) ℕ (UR sig nD τ) ℕ

set_option maxHeartbeats 40000000 in
/-- The step that clears the accumulated outputs. -/
theorem runFirst (c : Dev nD) (i : grid0.Coords) (arg2 : Memref sig .tc .vmem S8192x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S8192x128 .f32) (harg5 : arg5.IsWhole) (arg6 : Memref sig .tc .vmem S1x8192x128 .f32) (harg6 : arg6.IsWhole) (arg7 : Memref sig .tc .vmem S1x1x1x512 .f32) (harg7 : arg7.IsWhole) (arg8 : Memref sig .tc .vmem S8192x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x8192x128 .f32) (harg11 : arg11.IsWhole) (arg12 : Memref sig .tc .vmem S1x1x1x512 .f32) (harg12 : arg12.IsWhole) (hc0 : firstStep i)
    (x0 : Vec F S8192x128 .f32) (x1 : Vec F S512x128 .f32) (x2 : Vec F S512x128 .f32) (x3 : Vec F S8192x128 .f32) (x4 : Vec F S1x8192x128 .f32) (x5 : Vec F S1x1x1x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (stepVal i x0 x1 x2 x3 x4 x5 k0_pay27 k0_pay28).2.1 ∗ owns (c : Thread nD τ) arg9 fullShare (stepVal i x0 x1 x2 x3 x4 x5 k0_pay27 k0_pay28).1.1 ∗ owns (c : Thread nD τ) arg10 fullShare (stepVal i x0 x1 x2 x3 x4 x5 k0_pay27 k0_pay28).1.2.1 ∗ owns (c : Thread nD τ) arg11 fullShare (stepVal i x0 x1 x2 x3 x4 x5 k0_pay27 k0_pay28).2.2 ∗ owns (c : Thread nD τ) arg12 fullShare (k0_pay10 (stepVal i x0 x1 x2 x3 x4 x5 k0_pay27 k0_pay28).1.2.2)) -∗ K ⟨⟩))
      ⊢ wp frame (wpE (defs₀ (F := F)) Variants.none c none) E (cc0_fox_bwd_l2 i arg2 harg2 arg3 harg3 arg4 harg4 arg5 harg5 arg6 harg6 arg7 harg7 arg8 harg8 arg9 harg9 arg10 harg10 arg11 harg11 arg12 harg12) K := by
  simp only [cc0_fox_bwd_l2_eq_skeleton]; unfold cc0_fox_bwd_l2_skel
  simp only [k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    exact congrArg (fun s : St F => s.2.1) (steps_eq c i arg2 harg2 arg3 harg3 arg4 harg4 arg5 harg5 arg6 harg6 arg7 harg7 arg8 harg8 arg9 harg9 arg10 harg10 arg11 harg11 arg12 harg12 (Scalar.addi (Scalar.divsi (BitVec.ofNat 32 (i 1).val) 2#32) 1#32) _ _ _ _ _ _ arg8.view.junk [⟨Rect.unit (s := S8192x128) ![0, 0] S8192x128.size inb_S8192x128_S8192x128_0_0, k0_pay27⟩] arg11.view.junk [⟨Rect.unit (s := S1x8192x128) ![0, 0, 0] S1x8192x128.size inb_S1x8192x128_S1x8192x128_0_0_0, k0_pay28⟩] hf0 hf1 hf2 hf3 hf4 hf5 (View.read_writes_full arg8.view _ inb_S8192x128_S8192x128_0_0 _ []) (View.read_writes_full arg11.view _ inb_S1x8192x128_S1x8192x128_0_0_0 _ []))
  isplitl [H7]
  · iexists _; isplitr; swap; · iexact H7
    ipureintro
    have key := congrArg (fun s : St F => s.1.1) (steps_eq c i arg2 harg2 arg3 harg3 arg4 harg4 arg5 harg5 arg6 harg6 arg7 harg7 arg8 harg8 arg9 harg9 arg10 harg10 arg11 harg11 arg12 harg12 (Scalar.addi (Scalar.divsi (BitVec.ofNat 32 (i 1).val) 2#32) 1#32) _ _ _ _ _ _ arg8.view.junk [⟨Rect.unit (s := S8192x128) ![0, 0] S8192x128.size inb_S8192x128_S8192x128_0_0, k0_pay27⟩] arg11.view.junk [⟨Rect.unit (s := S1x8192x128) ![0, 0, 0] S1x8192x128.size inb_S1x8192x128_S1x8192x128_0_0_0, k0_pay28⟩] hf0 hf1 hf2 hf3 hf4 hf5 (View.read_writes_full arg8.view _ inb_S8192x128_S8192x128_0_0 _ []) (View.read_writes_full arg11.view _ inb_S1x8192x128_S1x8192x128_0_0_0 _ []))
    dsimp only at key ⊢
    exact (View.read_writes_full arg9.view _ inb_S512x128_S512x128_0_0 _ []).trans (key)
  isplitl [H8]
  · iexists _; isplitr; swap; · iexact H8
    ipureintro
    have key := congrArg (fun s : St F => s.1.2.1) (steps_eq c i arg2 harg2 arg3 harg3 arg4 harg4 arg5 harg5 arg6 harg6 arg7 harg7 arg8 harg8 arg9 harg9 arg10 harg10 arg11 harg11 arg12 harg12 (Scalar.addi (Scalar.divsi (BitVec.ofNat 32 (i 1).val) 2#32) 1#32) _ _ _ _ _ _ arg8.view.junk [⟨Rect.unit (s := S8192x128) ![0, 0] S8192x128.size inb_S8192x128_S8192x128_0_0, k0_pay27⟩] arg11.view.junk [⟨Rect.unit (s := S1x8192x128) ![0, 0, 0] S1x8192x128.size inb_S1x8192x128_S1x8192x128_0_0_0, k0_pay28⟩] hf0 hf1 hf2 hf3 hf4 hf5 (View.read_writes_full arg8.view _ inb_S8192x128_S8192x128_0_0 _ []) (View.read_writes_full arg11.view _ inb_S1x8192x128_S1x8192x128_0_0_0 _ []))
    dsimp only at key ⊢
    exact (View.read_writes_full arg10.view _ inb_S512x128_S512x128_0_0 _ []).trans (key)
  isplitl [H9]
  · iexists _; isplitr; swap; · iexact H9
    ipureintro
    exact congrArg (fun s : St F => s.2.2) (steps_eq c i arg2 harg2 arg3 harg3 arg4 harg4 arg5 harg5 arg6 harg6 arg7 harg7 arg8 harg8 arg9 harg9 arg10 harg10 arg11 harg11 arg12 harg12 (Scalar.addi (Scalar.divsi (BitVec.ofNat 32 (i 1).val) 2#32) 1#32) _ _ _ _ _ _ arg8.view.junk [⟨Rect.unit (s := S8192x128) ![0, 0] S8192x128.size inb_S8192x128_S8192x128_0_0, k0_pay27⟩] arg11.view.junk [⟨Rect.unit (s := S1x8192x128) ![0, 0, 0] S1x8192x128.size inb_S1x8192x128_S1x8192x128_0_0_0, k0_pay28⟩] hf0 hf1 hf2 hf3 hf4 hf5 (View.read_writes_full arg8.view _ inb_S8192x128_S8192x128_0_0 _ []) (View.read_writes_full arg11.view _ inb_S1x8192x128_S1x8192x128_0_0_0 _ []))
  iexists _; isplitr; swap; · iexact H10
  ipureintro
  have key := congrArg (fun s : St F => s.1.2.2) (steps_eq c i arg2 harg2 arg3 harg3 arg4 harg4 arg5 harg5 arg6 harg6 arg7 harg7 arg8 harg8 arg9 harg9 arg10 harg10 arg11 harg11 arg12 harg12 (Scalar.addi (Scalar.divsi (BitVec.ofNat 32 (i 1).val) 2#32) 1#32) _ _ _ _ _ _ arg8.view.junk [⟨Rect.unit (s := S8192x128) ![0, 0] S8192x128.size inb_S8192x128_S8192x128_0_0, k0_pay27⟩] arg11.view.junk [⟨Rect.unit (s := S1x8192x128) ![0, 0, 0] S1x8192x128.size inb_S1x8192x128_S1x8192x128_0_0_0, k0_pay28⟩] hf0 hf1 hf2 hf3 hf4 hf5 (View.read_writes_full arg8.view _ inb_S8192x128_S8192x128_0_0 _ []) (View.read_writes_full arg11.view _ inb_S1x8192x128_S1x8192x128_0_0_0 _ []))
  dsimp only at key ⊢
  exact (View.read_writes_full arg12.view _ inb_S1x1x1x512_S1x1x1x512_0_0_0_0 _ []).trans (congrArg k0_pay10 key)

end Cert.KernelIdeal.Fox
-- ==== Proof.FoxRunNext.lean ====
/-
  The backward kernel's body at one grid step: the steps that add to the two accumulated outputs.
-/
module

public import proofs.«01_k».proof.Proof.FoxBody
public import Idealize.ShloMosaic.Lib.LoopRemainder

@[expose] public section
set_option maxRecDepth 16384
noncomputable section
namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Idealize.ShloMosaic.ValueIdx

variable {F : FTy → Type} [FloatOps F]
local notation "𝕄" => MT nD τ sig Unit (Elt F) ℕ (UR sig nD τ) ℕ

set_option maxHeartbeats 40000000 in
/-- A step that adds to the accumulated outputs. -/
theorem runNext (c : Dev nD) (i : grid0.Coords) (arg2 : Memref sig .tc .vmem S8192x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S8192x128 .f32) (harg5 : arg5.IsWhole) (arg6 : Memref sig .tc .vmem S1x8192x128 .f32) (harg6 : arg6.IsWhole) (arg7 : Memref sig .tc .vmem S1x1x1x512 .f32) (harg7 : arg7.IsWhole) (arg8 : Memref sig .tc .vmem S8192x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x8192x128 .f32) (harg11 : arg11.IsWhole) (arg12 : Memref sig .tc .vmem S1x1x1x512 .f32) (harg12 : arg12.IsWhole) (hc0 : ¬ firstStep i)
    (x0 : Vec F S8192x128 .f32) (x1 : Vec F S512x128 .f32) (x2 : Vec F S512x128 .f32) (x3 : Vec F S8192x128 .f32) (x4 : Vec F S1x8192x128 .f32) (x5 : Vec F S1x1x1x512 .f32) (o8 : Vec F S8192x128 .f32) (o11 : Vec F S1x8192x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o8 ∗ (∃ d, owns (c : Thread nD τ) arg9 fullShare d) ∗ (∃ d, owns (c : Thread nD τ) arg10 fullShare d) ∗ owns (c : Thread nD τ) arg11 fullShare o11 ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (stepVal i x0 x1 x2 x3 x4 x5 o8 o11).2.1 ∗ owns (c : Thread nD τ) arg9 fullShare (stepVal i x0 x1 x2 x3 x4 x5 o8 o11).1.1 ∗ owns (c : Thread nD τ) arg10 fullShare (stepVal i x0 x1 x2 x3 x4 x5 o8 o11).1.2.1 ∗ owns (c : Thread nD τ) arg11 fullShare (stepVal i x0 x1 x2 x3 x4 x5 o8 o11).2.2 ∗ owns (c : Thread nD τ) arg12 fullShare (k0_pay10 (stepVal i x0 x1 x2 x3 x4 x5 o8 o11).1.2.2)) -∗ K ⟨⟩))
      ⊢ wp frame (wpE (defs₀ (F := F)) Variants.none c none) E (cc0_fox_bwd_l2 i arg2 harg2 arg3 harg3 arg4 harg4 arg5 harg5 arg6 harg6 arg7 harg7 arg8 harg8 arg9 harg9 arg10 harg10 arg11 harg11 arg12 harg12) K := by
  simp only [cc0_fox_bwd_l2_eq_skeleton]; unfold cc0_fox_bwd_l2_skel
  simp only [k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%d10, %f10, -, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg8.eq_unread hf6; obtain rfl := harg11.eq_unread hf9
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    exact congrArg (fun s : St F => s.2.1) (steps_eq c i arg2 harg2 arg3 harg3 arg4 harg4 arg5 harg5 arg6 harg6 arg7 harg7 arg8 harg8 arg9 harg9 arg10 harg10 arg11 harg11 arg12 harg12 (Scalar.addi (Scalar.divsi (BitVec.ofNat 32 (i 1).val) 2#32) 1#32) _ _ _ _ _ _ (harg8.unread o8) [] (harg11.unread o11) [] hf0 hf1 hf2 hf3 hf4 hf5 hf6 hf9)
  isplitl [H7]
  · iexists _; isplitr; swap; · iexact H7
    ipureintro
    have key := congrArg (fun s : St F => s.1.1) (steps_eq c i arg2 harg2 arg3 harg3 arg4 harg4 arg5 harg5 arg6 harg6 arg7 harg7 arg8 harg8 arg9 harg9 arg10 harg10 arg11 harg11 arg12 harg12 (Scalar.addi (Scalar.divsi (BitVec.ofNat 32 (i 1).val) 2#32) 1#32) _ _ _ _ _ _ (harg8.unread o8) [] (harg11.unread o11) [] hf0 hf1 hf2 hf3 hf4 hf5 hf6 hf9)
    dsimp only at key ⊢
    exact (View.read_writes_full arg9.view _ inb_S512x128_S512x128_0_0 _ []).trans (key)
  isplitl [H8]
  · iexists _; isplitr; swap; · iexact H8
    ipureintro
    have key := congrArg (fun s : St F => s.1.2.1) (steps_eq c i arg2 harg2 arg3 harg3 arg4 harg4 arg5 harg5 arg6 harg6 arg7 harg7 arg8 harg8 arg9 harg9 arg10 harg10 arg11 harg11 arg12 harg12 (Scalar.addi (Scalar.divsi (BitVec.ofNat 32 (i 1).val) 2#32) 1#32) _ _ _ _ _ _ (harg8.unread o8) [] (harg11.unread o11) [] hf0 hf1 hf2 hf3 hf4 hf5 hf6 hf9)
    dsimp only at key ⊢
    exact (View.read_writes_full arg10.view _ inb_S512x128_S512x128_0_0 _ []).trans (key)
  isplitl [H9]
  · iexists _; isplitr; swap; · iexact H9
    ipureintro
    exact congrArg (fun s : St F => s.2.2) (steps_eq c i arg2 harg2 arg3 harg3 arg4 harg4 arg5 harg5 arg6 harg6 arg7 harg7 arg8 harg8 arg9 harg9 arg10 harg10 arg11 harg11 arg12 harg12 (Scalar.addi (Scalar.divsi (BitVec.ofNat 32 (i 1).val) 2#32) 1#32) _ _ _ _ _ _ (harg8.unread o8) [] (harg11.unread o11) [] hf0 hf1 hf2 hf3 hf4 hf5 hf6 hf9)
  iexists _; isplitr; swap; · iexact H10
  ipureintro
  have key := congrArg (fun s : St F => s.1.2.2) (steps_eq c i arg2 harg2 arg3 harg3 arg4 harg4 arg5 harg5 arg6 harg6 arg7 harg7 arg8 harg8 arg9 harg9 arg10 harg10 arg11 harg11 arg12 harg12 (Scalar.addi (Scalar.divsi (BitVec.ofNat 32 (i 1).val) 2#32) 1#32) _ _ _ _ _ _ (harg8.unread o8) [] (harg11.unread o11) [] hf0 hf1 hf2 hf3 hf4 hf5 hf6 hf9)
  dsimp only at key ⊢
  exact (View.read_writes_full arg12.view _ inb_S1x1x1x512_S1x1x1x512_0_0_0_0 _ []).trans (congrArg k0_pay10 key)

end Cert.KernelIdeal.Fox
-- ==== Proof.FoxRun.lean ====
/-
  The backward kernel's run with its five outputs named: what each grid step leaves, the body's triple at every step, the
  run of the launch, and the frame.
-/
module

public import proofs.«01_k».proof.Proof.FoxRunFirst
public import proofs.«01_k».proof.Proof.FoxRunNext
public import Idealize.ShloMosaic.Lib.Claim

@[expose] public section
set_option maxRecDepth 16384
noncomputable section
namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

/-- The accumulated outputs are cleared at every sixteenth step. -/
theorem firstStep_iff (t : Fin cfg0.N) : firstStep (grid0.coords t) ↔ t.val % 16 = 0 := by
  have h : ∀ t : Fin grid0.N, firstStep (grid0.coords t) ↔ t.val % 16 = 0 := by
    intro t
    have ht : t.val < 192 := Nat.lt_of_lt_of_eq t.isLt N_0
    have e1 : (grid0.coords t 1).val = t.val / 1 % 16 := Pipeline.Grid.coords_val t 1 (by decide) rfl
    simp only [firstStep, e1]
    word_cmp
  exact h t

/-- What step `t` computes from its blocks, the accumulated outputs being at `o8` and `o11`. -/
def pt (c : Dev nD) (t : Fin cfg0.N) (o8 : Vec F S8192x128 .f32) (o11 : Vec F S1x8192x128 .f32) : St F :=
  stepVal (grid0.coords t) (iblk m c 0 t) (iblk m c 1 t) (iblk m c 2 t) (iblk m c 3 t) (iblk m c 4 t) (iblk m c 5 t) o8 o11

/-- What step `n` leaves, by recursion on the step. -/
def accN (c : Dev nD) : (n : ℕ) → n < cfg0.N → St F
  | 0, h => pt m c ⟨0, h⟩ k0_pay27 k0_pay28
  | n + 1, h => if (n + 1) % 16 = 0 then pt m c ⟨n + 1, h⟩ k0_pay27 k0_pay28
      else pt m c ⟨n + 1, h⟩ (accN c n (Nat.lt_of_succ_lt h)).2.1 (accN c n (Nat.lt_of_succ_lt h)).2.2

/-- What step `t` leaves. -/
def stepSt (c : Dev nD) (t : Fin cfg0.N) : St F := accN m c t.val t.isLt

theorem stepSt_first (c : Dev nD) (t : Fin cfg0.N) (h : t.val % 16 = 0) : stepSt m c t = pt m c t k0_pay27 k0_pay28 := by
  obtain ⟨n, hn⟩ := t
  cases n with
  | zero => rfl
  | succ n => unfold stepSt; rw [accN, if_pos h]

theorem stepSt_next (c : Dev nD) (t : Fin cfg0.N) (h : t.val % 16 ≠ 0) :
    stepSt m c t = pt m c t (stepSt m c ⟨t.val - 1, Nat.lt_of_le_of_lt (Nat.sub_le _ _) t.isLt⟩).2.1 (stepSt m c ⟨t.val - 1, Nat.lt_of_le_of_lt (Nat.sub_le _ _) t.isLt⟩).2.2 := by
  obtain ⟨n, hn⟩ := t
  cases n with
  | zero => exact absurd rfl h
  | succ n => unfold stepSt; rw [accN, if_neg h]; rfl

/-- The proof data of the pipeline: each input's buffer at its block, each output's at what the step leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (stepSt m c t).2.1
    | ⟨7, _⟩ => (stepSt m c t).1.1
    | ⟨8, _⟩ => (stepSt m c t).1.2.1
    | ⟨9, _⟩ => (stepSt m c t).2.2
    | ⟨10, _⟩ => k0_pay10 (stepSt m c t).1.2.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (stepSt m c t).2.1 := by dsimp only [dats]
theorem after0_7 (c : Dev nD) (t : Fin cfg0.N) : (dats m 0 c).after 7 t = (stepSt m c t).1.1 := by dsimp only [dats]
theorem after0_8 (c : Dev nD) (t : Fin cfg0.N) : (dats m 0 c).after 8 t = (stepSt m c t).1.2.1 := by dsimp only [dats]
theorem after0_9 (c : Dev nD) (t : Fin cfg0.N) : (dats m 0 c).after 9 t = (stepSt m c t).2.2 := by dsimp only [dats]
theorem after0_10 (c : Dev nD) (t : Fin cfg0.N) : (dats m 0 c).after 10 t = k0_pay10 (stepSt m c t).1.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Between two clearings the accumulated output holds what the step before left. -/
theorem before0_6 (c : Dev nD) (t : Fin cfg0.N) (h : t.val % 16 ≠ 0) (d) :
    (dats m 0 c).before 6 t d = (stepSt m c ⟨t.val - 1, Nat.lt_of_le_of_lt (Nat.sub_le _ _) t.isLt⟩).2.1 :=
  ((dats m 0 c).before_out_kept 6 rfl t (by omega) (by
      rw [Bool.eq_false_iff]; intro hf
      have := (flush0_6 _).mp hf
      simp only at this
      omega) (fun _ => rfl) (fun _ _ => rfl) d).trans (after0_6 m c _)

/-- Between two clearings the accumulated output holds what the step before left. -/
theorem before0_9 (c : Dev nD) (t : Fin cfg0.N) (h : t.val % 16 ≠ 0) (d) :
    (dats m 0 c).before 9 t d = (stepSt m c ⟨t.val - 1, Nat.lt_of_le_of_lt (Nat.sub_le _ _) t.isLt⟩).2.2 :=
  ((dats m 0 c).before_out_kept 9 rfl t (by omega) (by
      rw [Bool.eq_false_iff]; intro hf
      have := (flush0_9 _).mp hf
      simp only at this
      omega) (fun _ => rfl) (fun _ _ => rfl) d).trans (after0_9 m c _)

/-- What the body is called with at step `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 4000000 in
/-- The body at any step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  by_cases h0 : t.val % 16 = 0
  · rw [stepSt_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runFirst c (grid0.coords t) _ _ _ _ _ _ _ _ _ _ _ _ _ _ _ _ _ _ _ _ _ _ ((firstStep_iff t).mpr h0) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [stepSt_next m c t h0]
    simp only [before0_6 m c t h0, before0_9 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runNext c (grid0.coords t) _ _ _ _ _ _ _ _ _ _ _ _ _ _ _ _ _ _ _ _ _ _ (fun h => h0 ((firstStep_iff t).mp h)) (iblk m c 0 t) (iblk m c 1 t) (iblk m c 2 t) (iblk m c 3 t) (iblk m c 4 t) (iblk m c 5 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the run's implicit arguments are found by unifying its conclusion with this one, which takes unfolding plain definitions in
-- a metavariable's type
set_option backward.isDefEq.respectTransparency.types false in
/-- The launch, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Fox
-- ==== Proof.FoxFrame.lean ====
/-
  The frame of the program at machine words, from the run over any float values: the two programs have the same text.
-/
module

public import proofs.«01_k».proof.Proof.FoxRun
public import proofs.«01_k».proof.Proof.Gen.Kernel
public import proofs.«01_k».proof.Defs

@[expose] public section
set_option maxRecDepth 65536
set_option maxHeartbeats 1000000
namespace Cert.KernelIdeal.Fox
open Idealize.ShloMosaic

section text
variable {F : FTy → Type} [FloatOps F] [Cert.Kernel.Facts] [Cert.KernelIdeal.Facts]

/-- The body tables are one. -/
theorem bodies_same : Cert.Kernel.defs₀ (F := F) = Cert.KernelIdeal.defs₀ (F := F) := by
  unfold Cert.Kernel.defs₀ Cert.KernelIdeal.defs₀
  refine congrArg _ ?_
  funext i x
  match i, x with
  | ⟨0, _⟩, (t, s) => rfl
theorem defs_same : Cert.Kernel.defs (F := F) = Cert.KernelIdeal.defs (F := F) :=
  congrArg (Pipeline.defs (Cert.KernelIdeal.pcfgs (F := F))) bodies_same
/-- The main programs are one. -/
theorem main_same : Cert.Kernel.main (F := F) = Cert.KernelIdeal.main (F := F) := by
  funext c
  unfold Cert.Kernel.main Cert.KernelIdeal.main
  rfl
end text

theorem frame_kernel : Cert.quiescent_Kernel (hKernel := Cert.Kernel.Gen.facts) := fun m ρ _ => by
  have h := frame (F := Bits) m ρ
  rw [← @defs_same Bits _ Cert.Kernel.Gen.facts Cert.KernelIdeal.Gen.facts, ← @main_same Bits _ Cert.Kernel.Gen.facts Cert.KernelIdeal.Gen.facts] at h
  exact h

end Cert.KernelIdeal.Fox
-- ==== Proof.FoxAlg.lean ====
/-
  The softmax of one row over the real numbers: what the maximum, the exponentials and their sum are when every logit is
  finite, and the two ways of writing the gradient of the logits.
-/
module

public import Idealize.ShloMosaic.PureOps.Ideal.Laws
public import Mathlib.Data.EReal.Operations
public import Mathlib.Analysis.SpecialFunctions.Log.Basic

@[expose] public section
noncomputable section
namespace Cert.KernelIdeal.Fox
open Idealize.ShloMosaic

theorem sum_coe {ι : Type} [Fintype ι] (f : ι → ℝ) : ∑ i, (f i : EReal) = ((∑ i, f i : ℝ) : EReal) :=
  (map_sum (⟨⟨Real.toEReal, rfl⟩, EReal.coe_add⟩ : ℝ →+ EReal) f Finset.univ).symm

section row
variable (r : Fin 8192) (l : Fin 8192 → ℝ)

/-- The row's logits under the mask. -/
def rS (k : Fin 8192) : EReal := if k.val ≤ r.val then (l k : EReal) else ⊥
/-- The greatest. -/
def rM : EReal := Finset.univ.fold max ⊥ fun k : Fin 8192 => rS r l k
/-- The exponentials against it, and their sum. -/
def rE (k : Fin 8192) : EReal := Ideal.exp (rS r l k - rM r l)
def rL : EReal := ∑ k : Fin 8192, rE r l k

/-- The same as real numbers. -/
def xE (k : Fin 8192) : ℝ := if k.val ≤ r.val then Real.exp (l k - (rM r l).toReal) else 0
def xL : ℝ := ∑ k : Fin 8192, xE r l k
def xP (k : Fin 8192) : ℝ := xE r l k / xL r l

theorem rM_coe : rM r l = ((rM r l).toReal : EReal) := by
  have hs : rM r l = Finset.univ.sup (rS r l) := rfl
  obtain ⟨i, -, hi⟩ := Finset.exists_mem_eq_sup Finset.univ ⟨r, Finset.mem_univ r⟩ (rS r l)
  have hr : (l r : EReal) ≤ rM r l := by
    rw [hs]
    have := Finset.le_sup (f := rS r l) (Finset.mem_univ r)
    rwa [rS, if_pos (le_refl r.val)] at this
  rw [hs, hi] at hr ⊢
  by_cases h : i.val ≤ r.val
  · rw [rS, if_pos h, EReal.toReal_coe]
  · rw [rS, if_neg h] at hr
    exact absurd (le_bot_iff.mp hr) (EReal.coe_ne_bot _)

theorem rE_coe (k : Fin 8192) : rE r l k = (xE r l k : EReal) := by
  unfold rE xE
  rw [rM_coe r l, EReal.toReal_coe]
  unfold rS
  split
  · rw [← EReal.coe_sub, Ideal.exp_coe]
  · rw [EReal.bot_sub]
    exact Ideal.exp_bot

theorem rL_coe : rL r l = (xL r l : EReal) := by
  unfold rL xL
  simp only [rE_coe, sum_coe]

theorem xE_nonneg (k : Fin 8192) : 0 ≤ xE r l k := by
  unfold xE
  split
  · exact (Real.exp_pos _).le
  · exact le_refl _

theorem xL_pos : 0 < xL r l :=
  Finset.sum_pos' (fun k _ => xE_nonneg r l k) ⟨r, Finset.mem_univ r, by
    unfold xE
    rw [if_pos (le_refl _)]
    exact Real.exp_pos _⟩

theorem div_eq (x y : ℝ) (h : y ≠ 0) : Ideal.div (x : EReal) (y : EReal) = ((x / y : ℝ) : EReal) := by
  rw [Ideal.div_coe h, ← EReal.coe_mul, mul_one_div]

theorem p_coe (k : Fin 8192) : Ideal.div (rE r l k) (rL r l) = (xP r l k : EReal) := by
  rw [rE_coe, rL_coe, div_eq _ _ (xL_pos r l).ne']
  rfl

/-- The weight computed from the logarithm of the sum. -/
theorem w_coe (k : Fin 8192) : (if k.val ≤ r.val then Ideal.exp ((l k : EReal) - (rM r l + Ideal.log (rL r l))) else 0) = (xP r l k : EReal) := by
  unfold xP xE
  split
  · rw [rL_coe, Ideal.log_coe, if_neg (not_le.mpr (xL_pos r l)), rM_coe r l, EReal.toReal_coe, ← EReal.coe_add, ← EReal.coe_sub, Ideal.exp_coe,
      ← sub_sub, Real.exp_sub, Real.exp_log (xL_pos r l)]
  · rw [zero_div, EReal.coe_zero]

variable (v : Fin 8192 → Fin 128 → ℝ) (o : Fin 128 → ℝ)

/-- The gradient of the weights. -/
def xD (k : Fin 8192) : ℝ := ∑ d : Fin 128, o d * v k d
/-- The gradient of the logits. -/
def xG (k : Fin 8192) : ℝ := xP r l k * (xD v o k - ∑ i : Fin 8192, xP r l i * xD v o i)

theorem delta_coe : ∑ d : Fin 128, (∑ k : Fin 8192, Ideal.div (rE r l k) (rL r l) * (v k d : EReal)) * (o d : EReal)
    = ((∑ i : Fin 8192, xP r l i * xD v o i : ℝ) : EReal) := by
  simp only [p_coe, ← EReal.coe_mul, sum_coe]
  refine congrArg _ ?_
  simp only [xD, Finset.sum_mul, Finset.mul_sum]
  rw [Finset.sum_comm]
  exact Finset.sum_congr rfl fun k _ => Finset.sum_congr rfl fun d _ => by ring

/-- The gradient as the kernel writes it. -/
theorem kds_coe (k : Fin 8192) : (xP r l k : EReal) * ((xD v o k : EReal) - ((∑ i : Fin 8192, xP r l i * xD v o i : ℝ) : EReal)) = (xG r l v o k : EReal) := by
  rw [← EReal.coe_sub, ← EReal.coe_mul]
  rfl

/-- The gradient as differentiating the quotient writes it. -/
theorem rds_coe (k : Fin 8192) :
    (if k.val ≤ r.val then (Ideal.div (xD v o k : EReal) (rL r l) + - ∑ i : Fin 8192, ((xD v o i : EReal) * Ideal.div 1 (rL r l * rL r l)) * rE r l i) * rE r l k else 0)
      = (xG r l v o k : EReal) := by
  have hL := (xL_pos r l).ne'
  have h1 : ∀ i, ((xD v o i : EReal) * Ideal.div 1 (rL r l * rL r l)) * rE r l i = ((xD v o i * (1 / (xL r l * xL r l)) * xE r l i : ℝ) : EReal) := fun i => by
    rw [rE_coe, rL_coe, ← EReal.coe_mul, ← EReal.coe_one, div_eq _ _ (mul_ne_zero hL hL), ← EReal.coe_mul, ← EReal.coe_mul]
  simp only [h1, sum_coe]
  rw [rL_coe, div_eq _ _ hL, rE_coe, ← EReal.coe_neg, ← EReal.coe_add, ← EReal.coe_mul, ← EReal.coe_zero, ← apply_ite Real.toEReal]
  refine congrArg _ ?_
  have h2 : ∑ i : Fin 8192, xD v o i * (1 / (xL r l * xL r l)) * xE r l i = (∑ i : Fin 8192, xP r l i * xD v o i) / xL r l := by
    rw [Finset.sum_div]
    exact Finset.sum_congr rfl fun i _ => by unfold xP; field_simp
  rw [h2]
  unfold xG
  split
  · unfold xP
    field_simp
    ring
  · rename_i h
    have : xP r l k = 0 := by unfold xP xE; rw [if_neg h, zero_div]
    rw [this, zero_mul]

theorem xG_above (k : Fin 8192) (h : ¬ k.val ≤ r.val) : xG r l v o k = 0 := by
  have : xP r l k = 0 := by unfold xP xE; rw [if_neg h, zero_div]
  unfold xG
  rw [this, zero_mul]

end row

end Cert.KernelIdeal.Fox
-- ==== Proof.FoxPay.lean ====
/-
  The values of one row tile of the backward kernel, element by element: the weights, the gradient of the logits, and what
  the tile adds to each output.
-/
module

public import proofs.«01_k».proof.Proof.FoxBody
public import Idealize.ShloMosaic.Lib.Pointwise

@[expose] public section
set_option maxRecDepth 16384
noncomputable section
namespace Cert.KernelIdeal.Fox

open Idealize.ShloMosaic
open Cert.KernelIdeal.Gen

/-- The scale of the logits, the word both programs hold. -/
def sc : EReal := Ideal.ofBits .f32 0x3DB504F3#32

/-- Row `a` of the tile that begins at row `o`. -/
def row (o : ℕ) (a : Fin 1024) : Fin 8192 := ⟨(o + a.val) % 8192, Nat.mod_lt _ (by decide)⟩

theorem row_val (o : ℕ) (a : Fin 1024) (h : o + 1024 ≤ 8192) : (row o a).val = o + a.val := by
  have := a.isLt
  show (o + a.val) % 8192 = _
  omega

theorem rows_apply (x : Vec Ideal S8192x128 .f32) (o : ℕ) (a : Fin 1024) (d : Fin 128) : rows x o (ix2 a d) = x (ix2 (row o a) d) := rfl
theorem planeRows_apply (x : Vec Ideal S1x8192x128 .f32) (o : ℕ) (u : Fin 1) (a : Fin 1024) (d : Fin 128) :
    planeRows x o (ix3 u a d) = x (ix3 0 (row o a) d) := rfl

/-- The weight of key `c` of the block for query row `r`, the mask apart. -/
def wt (x0 : Vec Ideal S8192x128 .f32) (x1 : Vec Ideal S512x128 .f32) (x4 : Vec Ideal S1x8192x128 .f32) (x5 : Vec Ideal S1x1x1x512 .f32) (r : Fin 8192) (c : Fin 512) : EReal :=
  Ideal.exp ((((∑ d : Fin 128, x0 (ix2 r d) * x1 (ix2 c d)) * sc + x4 (ix3 0 r 1)) - x5 (ix4 0 0 0 c)) - x4 (ix3 0 r 0))

/-- The weight under the causal mask, for block `j` of the keys. -/
def pm (j : ℕ) (x0 : Vec Ideal S8192x128 .f32) (x1 : Vec Ideal S512x128 .f32) (x4 : Vec Ideal S1x8192x128 .f32) (x5 : Vec Ideal S1x1x1x512 .f32) (r : Fin 8192) (c : Fin 512) : EReal :=
  if 512 * j + c.val ≤ r.val then wt x0 x1 x4 x5 r c else 0

/-- The gradient of the logit at query row `r` and key `c`, for weights `p`. -/
def dsOf (p : Fin 8192 → Fin 512 → EReal) (x2 : Vec Ideal S512x128 .f32) (x3 : Vec Ideal S8192x128 .f32) (x4 : Vec Ideal S1x8192x128 .f32) (r : Fin 8192) (c : Fin 512) : EReal :=
  p r c * ((∑ d : Fin 128, x3 (ix2 r d) * x2 (ix2 c d)) - x4 (ix3 0 r 2))

section loop
variable (x0 x3 : Vec Ideal S8192x128 .f32) (x1 x2 : Vec Ideal S512x128 .f32) (x4 : Vec Ideal S1x8192x128 .f32) (x5 : Vec Ideal S1x1x1x512 .f32) (o : ℕ)

theorem pay29_apply (c : Fin 512) (d : Fin 128) : k0_pay29 x1 (ix2 c d) = x1 (ix2 c d) := rfl

theorem pay14_apply (a : Fin 1024) (c : Fin 512) :
    k0_pay14 (k0_pay29 x1) (k0_pay31 x5) (rows x0 o) (planeRows x4 o) (ix2 a c) = wt x0 x1 x4 x5 (row o a) c := by
  pointwise [k0_pay14, k0_pay29, k0_pay31, k0_pay13, k0_pay11, rows_apply, planeRows_apply, wt]
  rfl

theorem pay16_apply (a : Fin 1024) (c : Fin 512) :
    k0_pay16 (k0_pay29 x1) (k0_pay30 x2) (k0_pay31 x5) (rows x0 o) (rows x3 o) (planeRows x4 o) (ix2 a c) = dsOf (wt x0 x1 x4 x5) x2 x3 x4 (row o a) c := by
  pointwise [k0_pay16, k0_pay30, k0_pay12, k0_pay13, rows_apply, planeRows_apply, dsOf, pay14_apply]

theorem pay17_apply (a : Fin 1024) (c : Fin 512) :
    k0_pay17 (k0_pay29 x1) (k0_pay30 x2) (k0_pay31 x5) (rows x0 o) (rows x3 o) (planeRows x4 o) (ix2 a c) = dsOf (wt x0 x1 x4 x5) x2 x3 x4 (row o a) c * sc := by
  pointwise [k0_pay17, pay16_apply]
  rfl

theorem pay5_apply (s : FVec Ideal S512x128 .f32) (c : Fin 512) (d : Fin 128) :
    k0_pay5 s (k0_pay11 (rows x0 o)) (k0_pay17 (k0_pay29 x1) (k0_pay30 x2) (k0_pay31 x5) (rows x0 o) (rows x3 o) (planeRows x4 o)) (ix2 c d)
      = s (ix2 c d) + ∑ a : Fin 1024, (dsOf (wt x0 x1 x4 x5) x2 x3 x4 (row o a) c * sc) * x0 (ix2 (row o a) d) := by
  pointwise [k0_pay5, k0_pay11, pay17_apply, rows_apply]

theorem pay15_apply (s : FVec Ideal S512x128 .f32) (c : Fin 512) (d : Fin 128) :
    k0_pay15 (k0_pay29 x1) (k0_pay31 x5) s (rows x0 o) (rows x3 o) (planeRows x4 o) (ix2 c d)
      = s (ix2 c d) + ∑ a : Fin 1024, wt x0 x1 x4 x5 (row o a) c * x3 (ix2 (row o a) d) := by
  pointwise [k0_pay15, k0_pay12, pay14_apply, rows_apply]

theorem pay6_apply (s : FVec Ideal S1x512 .f32) (c : Fin 512) :
    k0_pay6 s (k0_pay16 (k0_pay29 x1) (k0_pay30 x2) (k0_pay31 x5) (rows x0 o) (rows x3 o) (planeRows x4 o)) (ix2 0 c)
      = s (ix2 0 c) - ∑ a : Fin 1024, dsOf (wt x0 x1 x4 x5) x2 x3 x4 (row o a) c := by
  pointwise [k0_pay6, pay16_apply]

theorem pay18_apply (s : Vec Ideal S8192x128 .f32) (a : Fin 1024) (d : Fin 128) :
    k0_pay18 (k0_pay29 x1) (k0_pay30 x2) (k0_pay31 x5) (rows x0 o) (rows x3 o) (planeRows x4 o) (rows s o) (ix2 a d)
      = s (ix2 (row o a) d) + ∑ c : Fin 512, (dsOf (wt x0 x1 x4 x5) x2 x3 x4 (row o a) c * sc) * x1 (ix2 c d) := by
  pointwise [k0_pay18, pay17_apply, rows_apply, pay29_apply]

theorem lane_eq (l : Fin 128) {α : Type} (x y : α) : Scalar.select (IntOp.cmpi .eq (BitVec.ofNat 32 l.val) 0#32) x y = if l = 0 then x else y := by
  by_cases h : l = 0
  · subst h; rfl
  · have h1 : IntOp.cmpi .eq (BitVec.ofNat 32 l.val) 0#32 = 0#1 := by
      revert l; decide
    rw [h1, if_neg h]; rfl

theorem pay4_apply (s : Vec Ideal S1x8192x128 .f32) (a : Fin 1024) (l : Fin 128) :
    k0_pay4 lanes (k0_pay16 (k0_pay29 x1) (k0_pay30 x2) (k0_pay31 x5) (rows x0 o) (rows x3 o) (planeRows x4 o)) (planeRows s o) (ix3 0 a l)
      = s (ix3 0 (row o a) l) + (if l = 0 then ∑ c : Fin 512, dsOf (wt x0 x1 x4 x5) x2 x3 x4 (row o a) c else 0) := by
  pointwise [k0_pay4, pay16_apply, planeRows_apply]
  rw [← lane_eq]

end loop

theorem word_bot : Ideal.ofBits .f32 0xFF800000#32 = ⊥ := by
  simp [Ideal.ofBits, Ideal.ieee]

/-- The causal mask's bit at row `a` of the diagonal tile and key `c` of block `j`. -/
theorem causal_bit (j : ℕ) (hj : j < 16) (a : Fin 1024) (c : Fin 512) :
    IntOp.cmpi .sge (IntOp.addi (Scalar.muli (Scalar.subi (0#32) (Scalar.remsi (BitVec.ofNat 32 j) 2#32)) 512#32) (BitVec.ofNat 32 a.val)) (BitVec.ofNat 32 c.val)
      = if 512 * (j % 2) + c.val ≤ a.val then 1#1 else 0#1 := by
  have ha := a.isLt
  have hc := c.isLt
  have h1 : ∀ j : Fin 16, Scalar.muli (Scalar.subi (0#32) (Scalar.remsi (BitVec.ofNat 32 j.val) 2#32)) 512#32 = if j.val % 2 = 0 then 0#32 else 4294966784#32 := by decide
  rw [h1 ⟨j, hj⟩]
  have hx : ∀ x y : BitVec 32, IntOp.cmpi .sge x y = BitVec.ofBool (y.sle x) := fun _ _ => rfl
  have hs : ∀ x y : BitVec 32, y.sle x = decide (y.toInt ≤ x.toInt) := fun _ _ => rfl
  have hadd : ∀ x y : BitVec 32, IntOp.addi x y = x + y := fun _ _ => rfl
  have ey : (BitVec.ofNat 32 c.val).toInt = c.val := by
    rw [BitVec.toInt_eq_toNat_cond, BitVec.toNat_ofNat]; split <;> omega
  rw [hx, hs, hadd, ey]
  rcases Nat.mod_two_eq_zero_or_one j with h | h
  · have ex : (0#32 + BitVec.ofNat 32 a.val).toInt = a.val := by
      rw [BitVec.toInt_eq_toNat_cond, BitVec.toNat_add, BitVec.toNat_ofNat, BitVec.toNat_ofNat]; split <;> omega
    simp only [h, if_true, ex]
    by_cases hle : c.val ≤ a.val
    · rw [if_pos (by omega)]; simp [hle]
    · rw [if_neg (by omega)]; simp [hle]
  · have ex : (4294966784#32 + BitVec.ofNat 32 a.val).toInt = (a.val : ℤ) - 512 := by
      rw [BitVec.toInt_eq_toNat_cond, BitVec.toNat_add, BitVec.toNat_ofNat, BitVec.toNat_ofNat]; split <;> omega
    simp only [h, if_neg (by decide : ¬ (1 : ℕ) = 0), ex]
    by_cases hle : 512 + c.val ≤ a.val
    · have : (c.val : ℤ) ≤ (a.val : ℤ) - 512 := by omega
      simp [hle, this]
    · have : ¬ (c.val : ℤ) ≤ (a.val : ℤ) - 512 := by omega
      simp [hle, this]

section diagonal
variable (x0 x3 : Vec Ideal S8192x128 .f32) (x1 x2 : Vec Ideal S512x128 .f32) (x4 : Vec Ideal S1x8192x128 .f32) (x5 : Vec Ideal S1x1x1x512 .f32) (j : ℕ) (hj : j < 16) (o : ℕ)
  (ho : o = 1024 * (j / 2))

include hj ho in
theorem pay42_apply (a : Fin 1024) (c : Fin 512) :
    k0_pay42 (BitVec.ofNat 32 j) (k0_pay38 (planeRows x4 o)) (k0_pay40 x1 (rows x0 o) (planeRows x4 o)) (k0_pay41 x5) (ix2 a c) = pm j x0 x1 x4 x5 (row o a) c := by
  pointwise [k0_pay42, k0_pay38, k0_pay37, k0_pay40, k0_pay35, k0_pay29, k0_pay41, k0_pay31, rows_apply, planeRows_apply, pm, wt]
  rw [causal_bit j hj, row_val o a (by omega)]
  by_cases h : 512 * (j % 2) + c.val ≤ a.val
  · rw [if_pos h, if_pos (by omega)]; rfl
  · rw [if_neg h, if_neg (by omega)]
    show Ideal.exp (Ideal.ofBits .f32 0xFF800000#32 - _) = 0
    rw [word_bot, EReal.bot_sub, Ideal.exp_bot]

include hj ho in
theorem pay44_apply (a : Fin 1024) (c : Fin 512) :
    k0_pay44 (BitVec.ofNat 32 j) (k0_pay30 x2) (k0_pay36 (rows x3 o)) (k0_pay38 (planeRows x4 o)) (k0_pay39 (planeRows x4 o)) (k0_pay40 x1 (rows x0 o) (planeRows x4 o)) (k0_pay41 x5) (ix2 a c)
      = dsOf (pm j x0 x1 x4 x5) x2 x3 x4 (row o a) c := by
  pointwise [k0_pay44, k0_pay30, k0_pay36, k0_pay39, k0_pay37, rows_apply, planeRows_apply, dsOf, pay42_apply x0 x1 x4 x5 j hj o ho]

include hj ho in
theorem pay45_apply (a : Fin 1024) (c : Fin 512) :
    k0_pay45 (BitVec.ofNat 32 j) (k0_pay30 x2) (k0_pay36 (rows x3 o)) (k0_pay38 (planeRows x4 o)) (k0_pay39 (planeRows x4 o)) (k0_pay40 x1 (rows x0 o) (planeRows x4 o)) (k0_pay41 x5) (ix2 a c)
      = dsOf (pm j x0 x1 x4 x5) x2 x3 x4 (row o a) c * sc := by
  pointwise [k0_pay45, pay44_apply x0 x3 x1 x2 x4 x5 j hj o ho]
  rfl

include hj ho in
theorem pay2_apply (c : Fin 512) (d : Fin 128) :
    k0_pay2 k0_pay32 (k0_pay35 (rows x0 o)) (k0_pay45 (BitVec.ofNat 32 j) (k0_pay30 x2) (k0_pay36 (rows x3 o)) (k0_pay38 (planeRows x4 o)) (k0_pay39 (planeRows x4 o)) (k0_pay40 x1 (rows x0 o) (planeRows x4 o)) (k0_pay41 x5)) (ix2 c d)
      = ∑ a : Fin 1024, (dsOf (pm j x0 x1 x4 x5) x2 x3 x4 (row o a) c * sc) * x0 (ix2 (row o a) d) := by
  pointwise [k0_pay2, k0_pay32, k0_pay35, rows_apply, pay45_apply x0 x3 x1 x2 x4 x5 j hj o ho]

include hj ho in
theorem pay43_apply (c : Fin 512) (d : Fin 128) :
    k0_pay43 (BitVec.ofNat 32 j) k0_pay33 (k0_pay36 (rows x3 o)) (k0_pay38 (planeRows x4 o)) (k0_pay40 x1 (rows x0 o) (planeRows x4 o)) (k0_pay41 x5) (ix2 c d)
      = ∑ a : Fin 1024, pm j x0 x1 x4 x5 (row o a) c * x3 (ix2 (row o a) d) := by
  pointwise [k0_pay43, k0_pay33, k0_pay36, rows_apply, pay42_apply x0 x1 x4 x5 j hj o ho]

include hj ho in
theorem pay3_apply (c : Fin 512) :
    k0_pay3 k0_pay34 (k0_pay44 (BitVec.ofNat 32 j) (k0_pay30 x2) (k0_pay36 (rows x3 o)) (k0_pay38 (planeRows x4 o)) (k0_pay39 (planeRows x4 o)) (k0_pay40 x1 (rows x0 o) (planeRows x4 o)) (k0_pay41 x5)) (ix2 0 c)
      = - ∑ a : Fin 1024, dsOf (pm j x0 x1 x4 x5) x2 x3 x4 (row o a) c := by
  pointwise [k0_pay3, k0_pay34, pay44_apply x0 x3 x1 x2 x4 x5 j hj o ho, zero_sub]

include hj ho in
theorem pay46_apply (s : Vec Ideal S8192x128 .f32) (a : Fin 1024) (d : Fin 128) :
    k0_pay46 (BitVec.ofNat 32 j) (k0_pay29 x1) (k0_pay30 x2) (k0_pay36 (rows x3 o)) (k0_pay38 (planeRows x4 o)) (k0_pay39 (planeRows x4 o)) (k0_pay40 x1 (rows x0 o) (planeRows x4 o)) (k0_pay41 x5) (rows s o) (ix2 a d)
      = s (ix2 (row o a) d) + ∑ c : Fin 512, (dsOf (pm j x0 x1 x4 x5) x2 x3 x4 (row o a) c * sc) * x1 (ix2 c d) := by
  pointwise [k0_pay46, pay29_apply, rows_apply, pay45_apply x0 x3 x1 x2 x4 x5 j hj o ho]

include hj ho in
theorem pay47_apply (s : Vec Ideal S1x8192x128 .f32) (a : Fin 1024) (l : Fin 128) :
    k0_pay1 (k0_pay47 (BitVec.ofNat 32 j) (k0_pay30 x2) lanes (k0_pay36 (rows x3 o)) (k0_pay38 (planeRows x4 o)) (k0_pay39 (planeRows x4 o)) (k0_pay40 x1 (rows x0 o) (planeRows x4 o)) (k0_pay41 x5) (planeRows s o)) (ix3 0 a l)
      = s (ix3 0 (row o a) l) + (if l = 0 then ∑ c : Fin 512, dsOf (pm j x0 x1 x4 x5) x2 x3 x4 (row o a) c else 0) := by
  pointwise [k0_pay1, k0_pay47, planeRows_apply, pay44_apply x0 x3 x1 x2 x4 x5 j hj o ho]
  rw [← lane_eq]

end diagonal

end Cert.KernelIdeal.Fox
-- ==== Proof.FoxTile.lean ====
/-
  One grid step of the backward kernel in closed form: over the query rows from the diagonal tile on, the sums it leaves for
  its block of keys and what it adds to the query's gradient and to the rows' sums.
-/
module

public import proofs.«01_k».proof.Proof.FoxPay

@[expose] public section
set_option maxRecDepth 16384
noncomputable section
namespace Cert.KernelIdeal.Fox

open Idealize.ShloMosaic
open Cert.KernelIdeal.Gen

theorem put_rows_mem (x : Vec Ideal S8192x128 .f32) (w : Vec Ideal S1024x128 .f32) (o : ℕ) (ho : o + 1024 ≤ 8192) (a : Fin 1024) (d : Fin 128) :
    VecWindow.put x ![o, 0] ![1024, 128] w (ix2 (row o a) d) = w (ix2 a d) := by
  have hr := row_val o a ho
  unfold VecWindow.put
  rw [dif_pos (fun k => by
    match k with
    | ⟨0, _⟩ => exact (by show o ≤ (row o a).val ∧ (row o a).val < o + 1024; omega)
    | ⟨1, _⟩ => exact (by show 0 ≤ d.val ∧ d.val < 0 + 128; omega))]
  refine congrArg w (funext fun k => Fin.ext ?_)
  match k with
  | ⟨0, _⟩ => show (row o a).val - o = a.val; omega
  | ⟨1, _⟩ => show d.val - 0 = d.val; omega

theorem put_rows_not (x : Vec Ideal S8192x128 .f32) (w : Vec Ideal S1024x128 .f32) (o : ℕ) (r : Fin 8192) (d : Fin 128) (h : ¬ (o ≤ r.val ∧ r.val < o + 1024)) :
    VecWindow.put x ![o, 0] ![1024, 128] w (ix2 r d) = x (ix2 r d) := by
  unfold VecWindow.put
  rw [dif_neg (fun hk => h (hk 0))]

theorem put_planeRows_mem (x : Vec Ideal S1x8192x128 .f32) (w : Vec Ideal S1x1024x128 .f32) (o : ℕ) (ho : o + 1024 ≤ 8192) (a : Fin 1024) (d : Fin 128) :
    VecWindow.put x ![0, o, 0] ![1, 1024, 128] w (ix3 0 (row o a) d) = w (ix3 0 a d) := by
  have hr := row_val o a ho
  unfold VecWindow.put
  rw [dif_pos (fun k => by
    match k with
    | ⟨0, _⟩ => exact (by show 0 ≤ 0 ∧ 0 < 0 + 1; omega)
    | ⟨1, _⟩ => exact (by show o ≤ (row o a).val ∧ (row o a).val < o + 1024; omega)
    | ⟨2, _⟩ => exact (by show 0 ≤ d.val ∧ d.val < 0 + 128; omega))]
  refine congrArg w (funext fun k => Fin.ext ?_)
  match k with
  | ⟨0, _⟩ => rfl
  | ⟨1, _⟩ => show (row o a).val - o = a.val; omega
  | ⟨2, _⟩ => show d.val - 0 = d.val; omega

theorem put_planeRows_not (x : Vec Ideal S1x8192x128 .f32) (w : Vec Ideal S1x1024x128 .f32) (o : ℕ) (r : Fin 8192) (d : Fin 128) (h : ¬ (o ≤ r.val ∧ r.val < o + 1024)) :
    VecWindow.put x ![0, o, 0] ![1, 1024, 128] w (ix3 0 r d) = x (ix3 0 r d) := by
  unfold VecWindow.put
  rw [dif_neg (fun hk => h (hk 1))]

/-- A row between `o` and `o + 1024` is one of the tile's. -/
theorem exists_row (o : ℕ) (ho : o + 1024 ≤ 8192) (r : Fin 8192) (h : o ≤ r.val ∧ r.val < o + 1024) : ∃ a : Fin 1024, r = row o a :=
  ⟨⟨r.val - o, by omega⟩, Fin.ext (by rw [row_val o _ ho]; show r.val = o + (r.val - o); omega)⟩

/-- What block `j` of the keys adds to the query's gradient at row `r`, column `d`, for weights `p`. -/
def dqAdd (p : Fin 8192 → Fin 512 → EReal) (x1 x2 : Vec Ideal S512x128 .f32) (x3 : Vec Ideal S8192x128 .f32) (x4 : Vec Ideal S1x8192x128 .f32) (r : Fin 8192) (d : Fin 128) : EReal :=
  ∑ c : Fin 512, (dsOf p x2 x3 x4 r c * sc) * x1 (ix2 c d)

/-- What it adds to the row's sum. -/
def dstAdd (p : Fin 8192 → Fin 512 → EReal) (x2 : Vec Ideal S512x128 .f32) (x3 : Vec Ideal S8192x128 .f32) (x4 : Vec Ideal S1x8192x128 .f32) (r : Fin 8192) (l : Fin 128) : EReal :=
  if l = 0 then ∑ c : Fin 512, dsOf p x2 x3 x4 r c else 0

section
variable (x0 x3 : Vec Ideal S8192x128 .f32) (x1 x2 : Vec Ideal S512x128 .f32) (x4 : Vec Ideal S1x8192x128 .f32) (x5 : Vec Ideal S1x1x1x512 .f32)

/-- What the first `n` tiles from row `b` leave, for weights `p`, over accumulated outputs `o8` and `o11`. -/
structure TilesVal (p : Fin 8192 → Fin 512 → EReal) (b n : ℕ) (o8 : Vec Ideal S8192x128 .f32) (o11 : Vec Ideal S1x8192x128 .f32) (s : St Ideal) : Prop where
  dk : ∀ c d, s.1.1 (ix2 c d) = ∑ i ∈ Finset.range n, ∑ a : Fin 1024, (dsOf p x2 x3 x4 (row (b + 1024 * i) a) c * sc) * x0 (ix2 (row (b + 1024 * i) a) d)
  dv : ∀ c d, s.1.2.1 (ix2 c d) = ∑ i ∈ Finset.range n, ∑ a : Fin 1024, p (row (b + 1024 * i) a) c * x3 (ix2 (row (b + 1024 * i) a) d)
  dck : ∀ c, s.1.2.2 (ix2 0 c) = ∑ i ∈ Finset.range n, - ∑ a : Fin 1024, dsOf p x2 x3 x4 (row (b + 1024 * i) a) c
  dq : ∀ r d, s.2.1 (ix2 r d) = o8 (ix2 r d) + if b ≤ r.val ∧ r.val < b + 1024 * n then dqAdd p x1 x2 x3 x4 r d else 0
  dst : ∀ r l, s.2.2 (ix3 0 r l) = o11 (ix3 0 r l) + if b ≤ r.val ∧ r.val < b + 1024 * n then dstAdd p x2 x3 x4 r l else 0

theorem dsOf_congr (p p' : Fin 8192 → Fin 512 → EReal) (r : Fin 8192) (c : Fin 512) (h : p r c = p' r c) : dsOf p x2 x3 x4 r c = dsOf p' x2 x3 x4 r c := by
  unfold dsOf; rw [h]

theorem pm_below (j : ℕ) (r : Fin 8192) (c : Fin 512) (h : 512 * j + 511 ≤ r.val) : pm j x0 x1 x4 x5 r c = wt x0 x1 x4 x5 r c := by
  have := c.isLt
  exact if_pos (by omega)

theorem pm_above (j : ℕ) (r : Fin 8192) (c : Fin 512) (h : r.val < 512 * j) : pm j x0 x1 x4 x5 r c = 0 := if_neg (by omega)

theorem dsOf_above (j : ℕ) (r : Fin 8192) (c : Fin 512) (h : r.val < 512 * j) : dsOf (pm j x0 x1 x4 x5) x2 x3 x4 r c = 0 := by
  unfold dsOf; rw [pm_above x0 x1 x4 x5 j r c h, zero_mul]

theorem dqAdd_above (j : ℕ) (r : Fin 8192) (d : Fin 128) (h : r.val < 512 * j) : dqAdd (pm j x0 x1 x4 x5) x1 x2 x3 x4 r d = 0 :=
  Finset.sum_eq_zero fun c _ => by rw [dsOf_above x0 x3 x1 x2 x4 x5 j r c h, zero_mul, zero_mul]

theorem dstAdd_above (j : ℕ) (r : Fin 8192) (l : Fin 128) (h : r.val < 512 * j) : dstAdd (pm j x0 x1 x4 x5) x2 x3 x4 r l = 0 := by
  unfold dstAdd
  split
  · exact Finset.sum_eq_zero fun c _ => dsOf_above x0 x3 x1 x2 x4 x5 j r c h
  · rfl

/-- Adding one tile's part to a row. -/
theorem add_tile {α : Type} (X A : EReal) (b o n r : ℕ) (ho : o = b + 1024 * n) (hb : b ≤ o) :
    (X + if b ≤ r ∧ r < b + 1024 * n then A else 0) + (if o ≤ r ∧ r < o + 1024 then A else 0) = X + if b ≤ r ∧ r < b + 1024 * (n + 1) then A else 0 := by
  subst ho
  by_cases h1 : b ≤ r ∧ r < b + 1024 * n
  · rw [if_pos h1, if_neg (by omega), if_pos (by omega), add_zero]
  · by_cases h2 : b + 1024 * n ≤ r ∧ r < b + 1024 * n + 1024
    · rw [if_neg h1, if_pos h2, if_pos (by omega), add_zero]
    · rw [if_neg h1, if_neg h2, if_neg (by omega), add_zero]

theorem tile_val (j b n : ℕ) (hb : 512 * j < b + 1024) (hn : 0 < n) (hle : b + 1024 * n + 1024 ≤ 8192) (o8 : Vec Ideal S8192x128 .f32) (o11 : Vec Ideal S1x8192x128 .f32) (s : St Ideal)
    (hj : 512 * j + 511 ≤ b + 1023)
    (h : TilesVal x0 x3 x1 x2 x4 (pm j x0 x1 x4 x5) b n o8 o11 s) :
    TilesVal x0 x3 x1 x2 x4 (pm j x0 x1 x4 x5) b (n + 1) o8 o11 (tile (k0_pay29 x1) (k0_pay30 x2) (k0_pay31 x5) lanes x0 x3 x4 (b + 1024 * n) s) := by
  have hrow : ∀ (a : Fin 1024) (c : Fin 512), pm j x0 x1 x4 x5 (row (b + 1024 * n) a) c = wt x0 x1 x4 x5 (row (b + 1024 * n) a) c := fun a c =>
    pm_below x0 x1 x4 x5 j _ c (by rw [row_val _ a (by omega)]; omega)
  have hds : ∀ (a : Fin 1024) (c : Fin 512), dsOf (wt x0 x1 x4 x5) x2 x3 x4 (row (b + 1024 * n) a) c = dsOf (pm j x0 x1 x4 x5) x2 x3 x4 (row (b + 1024 * n) a) c := fun a c =>
    dsOf_congr x3 x2 x4 _ _ _ c (hrow a c).symm
  constructor
  · intro c d
    refine (pay5_apply x0 x3 x1 x2 x4 x5 (b + 1024 * n) s.1.1 c d).trans ?_
    rw [Finset.sum_range_succ, h.dk c d]
    simp only [hds]
  · intro c d
    refine (pay15_apply x0 x3 x1 x4 x5 (b + 1024 * n) s.1.2.1 c d).trans ?_
    rw [Finset.sum_range_succ, h.dv c d]
    simp only [hrow]
  · intro c
    refine (pay6_apply x0 x3 x1 x2 x4 x5 (b + 1024 * n) s.1.2.2 c).trans ?_
    rw [Finset.sum_range_succ, h.dck c, sub_eq_add_neg]
    simp only [hds]
  · intro r d
    rw [← add_tile (α := Unit) (o8 (ix2 r d)) (dqAdd (pm j x0 x1 x4 x5) x1 x2 x3 x4 r d) b (b + 1024 * n) n r.val rfl (by omega), ← h.dq r d]
    by_cases hr : b + 1024 * n ≤ r.val ∧ r.val < b + 1024 * n + 1024
    · obtain ⟨a, rfl⟩ := exists_row _ (by omega) r hr
      rw [if_pos hr]
      refine (put_rows_mem _ _ _ (by omega) a d).trans ?_
      refine (pay18_apply x0 x3 x1 x2 x4 x5 (b + 1024 * n) s.2.1 a d).trans ?_
      simp only [hds]; rfl
    · rw [if_neg hr, add_zero]
      exact put_rows_not _ _ _ r d hr
  · intro r l
    rw [← add_tile (α := Unit) (o11 (ix3 0 r l)) (dstAdd (pm j x0 x1 x4 x5) x2 x3 x4 r l) b (b + 1024 * n) n r.val rfl (by omega), ← h.dst r l]
    by_cases hr : b + 1024 * n ≤ r.val ∧ r.val < b + 1024 * n + 1024
    · obtain ⟨a, rfl⟩ := exists_row _ (by omega) r hr
      rw [if_pos hr]
      refine (put_planeRows_mem _ _ _ (by omega) a l).trans ?_
      refine (pay4_apply x0 x3 x1 x2 x4 x5 (b + 1024 * n) s.2.2 a l).trans ?_
      simp only [hds]; rfl
    · rw [if_neg hr, add_zero]
      exact put_planeRows_not _ _ _ r l hr

theorem diag_val (j : ℕ) (hj : j < 16) (o8 : Vec Ideal S8192x128 .f32) (o11 : Vec Ideal S1x8192x128 .f32) :
    TilesVal x0 x3 x1 x2 x4 (pm j x0 x1 x4 x5) (1024 * (j / 2)) 1 o8 o11
      (diag (BitVec.ofNat 32 j) (1024 * (j / 2)) (rows x0 (1024 * (j / 2))) (rows x3 (1024 * (j / 2))) (planeRows x4 (1024 * (j / 2))) x1 x2 x5 o8 o11
        (rows o8 (1024 * (j / 2))) (planeRows o11 (1024 * (j / 2)))) := by
  have ho : 1024 * (j / 2) + 1024 ≤ 8192 := by omega
  constructor
  · intro c d
    refine (pay2_apply x0 x3 x1 x2 x4 x5 j hj _ rfl c d).trans ?_
    rw [Finset.sum_range_one]; rfl
  · intro c d
    refine (pay43_apply x0 x3 x1 x4 x5 j hj _ rfl c d).trans ?_
    rw [Finset.sum_range_one]; rfl
  · intro c
    refine (pay3_apply x0 x3 x1 x2 x4 x5 j hj _ rfl c).trans ?_
    rw [Finset.sum_range_one]; rfl
  · intro r d
    by_cases hr : 1024 * (j / 2) ≤ r.val ∧ r.val < 1024 * (j / 2) + 1024 * 1
    · obtain ⟨a, rfl⟩ := exists_row _ ho r hr
      rw [if_pos hr]
      refine (put_rows_mem _ _ _ ho a d).trans ?_
      exact pay46_apply x0 x3 x1 x2 x4 x5 j hj _ rfl o8 a d
    · rw [if_neg hr, add_zero]
      exact put_rows_not _ _ _ r d hr
  · intro r l
    by_cases hr : 1024 * (j / 2) ≤ r.val ∧ r.val < 1024 * (j / 2) + 1024 * 1
    · obtain ⟨a, rfl⟩ := exists_row _ ho r hr
      rw [if_pos hr]
      refine (put_planeRows_mem _ _ _ ho a l).trans ?_
      exact pay47_apply x0 x3 x1 x2 x4 x5 j hj _ rfl o11 a l
    · rw [if_neg hr, add_zero]
      exact put_planeRows_not _ _ _ r l hr

theorem tiles_val (j : ℕ) (hj : j < 16) (o8 : Vec Ideal S8192x128 .f32) (o11 : Vec Ideal S1x8192x128 .f32) (s : St Ideal)
    (h : TilesVal x0 x3 x1 x2 x4 (pm j x0 x1 x4 x5) (1024 * (j / 2)) 1 o8 o11 s) :
    ∀ n : ℕ, 1024 * (j / 2) + 1024 * n + 1024 ≤ 8192 →
      TilesVal x0 x3 x1 x2 x4 (pm j x0 x1 x4 x5) (1024 * (j / 2)) (n + 1) o8 o11 (tiles (k0_pay29 x1) (k0_pay30 x2) (k0_pay31 x5) lanes x0 x3 x4 (1024 * (j / 2)) s n)
  | 0, _ => h
  | n + 1, hn => by
    have e : 1024 * (j / 2) + 1024 * n + 1024 = 1024 * (j / 2) + 1024 * (n + 1) := by omega
    have := tile_val x0 x3 x1 x2 x4 x5 j (1024 * (j / 2)) (n + 1) (by omega) (by omega) hn o8 o11 _ (by omega) (tiles_val j hj o8 o11 s h n (by omega))
    rw [← e] at this
    exact this

/-- The sums over all rows, by tiles of which the first `q` add nothing. -/
theorem sum_tiles (f : Fin 8192 → EReal) (q n : ℕ) (hq : q + n = 8) (h0 : ∀ r : Fin 8192, r.val < 1024 * q → f r = 0) :
    ∑ i ∈ Finset.range n, ∑ a : Fin 1024, f (row (1024 * q + 1024 * i) a) = ∑ r : Fin 8192, f r := by
  have e : ∑ r : Fin 8192, f r = ∑ i ∈ Finset.range 8, ∑ a : Fin 1024, f (row (1024 * i) a) := by
    rw [Finset.sum_range, ← Equiv.sum_comp (finProdFinEquiv (m := 8) (n := 1024)), Fintype.sum_prod_type]
    refine Finset.sum_congr rfl fun i _ => Finset.sum_congr rfl fun a _ => congrArg f (Fin.ext ?_)
    rw [row_val _ a (by have := i.isLt; omega)]
    show a.val + 1024 * i.val = _
    omega
  rw [e, ← hq, Finset.sum_range_add (fun i => ∑ a : Fin 1024, f (row (1024 * i) a)) q n]
  rw [Finset.sum_eq_zero (s := Finset.range q), zero_add]
  · refine Finset.sum_congr rfl fun i _ => ?_
    rw [Nat.mul_add]
  · intro i hi
    have := Finset.mem_range.mp hi
    refine Finset.sum_eq_zero fun a _ => h0 _ ?_
    have := a.isLt
    rw [row_val _ a (by omega)]; omega

/-- What a grid step at block `j` of the keys leaves. -/
structure StepVal (j : ℕ) (o8 : Vec Ideal S8192x128 .f32) (o11 : Vec Ideal S1x8192x128 .f32) (s : St Ideal) : Prop where
  dk : ∀ c d, s.1.1 (ix2 c d) = ∑ r : Fin 8192, (dsOf (pm j x0 x1 x4 x5) x2 x3 x4 r c * sc) * x0 (ix2 r d)
  dv : ∀ c d, s.1.2.1 (ix2 c d) = ∑ r : Fin 8192, pm j x0 x1 x4 x5 r c * x3 (ix2 r d)
  dck : ∀ c, s.1.2.2 (ix2 0 c) = ∑ i ∈ Finset.range (8 - j / 2), - ∑ a : Fin 1024, dsOf (pm j x0 x1 x4 x5) x2 x3 x4 (row (1024 * (j / 2) + 1024 * i) a) c
  dq : ∀ r d, s.2.1 (ix2 r d) = o8 (ix2 r d) + dqAdd (pm j x0 x1 x4 x5) x1 x2 x3 x4 r d
  dst : ∀ r l, s.2.2 (ix3 0 r l) = o11 (ix3 0 r l) + dstAdd (pm j x0 x1 x4 x5) x2 x3 x4 r l

theorem stepVal_val (i : grid0.Coords) (o8 : Vec Ideal S8192x128 .f32) (o11 : Vec Ideal S1x8192x128 .f32) :
    StepVal x0 x3 x1 x2 x4 x5 (i 1).val o8 o11 (stepVal i x0 x1 x2 x3 x4 x5 o8 o11) := by
  have hj : (i 1).val < 16 := (i 1).isLt
  unfold stepVal
  rw [trips_eq]
  generalize (i 1).val = j at hj
  have h := tiles_val x0 x3 x1 x2 x4 x5 j hj o8 o11 _ (diag_val x0 x3 x1 x2 x4 x5 j hj o8 o11) (7 - j / 2) (by omega)
  have e8 : 7 - j / 2 + 1 = 8 - j / 2 := by omega
  rw [e8] at h
  constructor
  · intro c d
    rw [h.dk c d]
    exact sum_tiles (fun r => (dsOf (pm j x0 x1 x4 x5) x2 x3 x4 r c * sc) * x0 (ix2 r d)) (j / 2) (8 - j / 2) (by omega) fun r hr => by
      rw [dsOf_above x0 x3 x1 x2 x4 x5 j r c (by omega), zero_mul, zero_mul]
  · intro c d
    rw [h.dv c d]
    exact sum_tiles (fun r => pm j x0 x1 x4 x5 r c * x3 (ix2 r d)) (j / 2) (8 - j / 2) (by omega) fun r hr => by
      rw [pm_above x0 x1 x4 x5 j r c (by omega), zero_mul]
  · exact h.dck
  · intro r d
    rw [h.dq r d]
    split
    · rfl
    · rw [dqAdd_above x0 x3 x1 x2 x4 x5 j r d (by have := r.isLt; omega)]
  · intro r l
    rw [h.dst r l]
    split
    · rfl
    · rw [dstAdd_above x0 x3 x1 x2 x4 x5 j r l (by have := r.isLt; omega)]

end

end Cert.KernelIdeal.Fox
-- ==== Proof.FoxArr.lean ====
/-
  The arrays the backward kernel leaves, as functions of the arrays it finds: each of its blocks read at coordinates, the
  steps of a head added up, and the five results over the whole arrays.
-/
module

public import proofs.«01_k».proof.Proof.FoxTile
public import proofs.«01_k».proof.Proof.FoxRun
public import Idealize.ShloMosaic.Lib.Pipeline.ValueKit.Geometry

@[expose] public section
set_option maxRecDepth 16384
noncomputable section
namespace Cert.KernelIdeal.Fox

open Idealize.ShloMosaic Idealize.ShloMosaic.TcCoe Idealize.ShloMosaic.Tactic
open Idealize.SL Idealize.SL.RA Idealize.SL.BI Idealize.SL.Sem
open Idealize.ShloMosaic.Pipeline (Dat Cfg Window)
open Cert.KernelIdeal.Gen

/-- The columns of head `h` in the query, key and value parts of the projection, and in the heads' outputs. -/
def qcol (h : Fin 12) (d : Fin 128) : Fin 5632 := ⟨128 * h.val + d.val, by omega⟩
def kcol (h : Fin 12) (d : Fin 128) : Fin 5632 := ⟨1536 + 128 * h.val + d.val, by omega⟩
def vcol (h : Fin 12) (d : Fin 128) : Fin 5632 := ⟨3072 + 128 * h.val + d.val, by omega⟩
def ocol (h : Fin 12) (d : Fin 128) : Fin 2048 := ⟨128 * h.val + d.val, by omega⟩
def ecol (h : Fin 12) (d : Fin 128) : Fin 1536 := ⟨128 * h.val + d.val, by omega⟩
/-- Key `c` of block `j`. -/
def key (j : Fin 16) (c : Fin 512) : Fin 8192 := ⟨512 * j.val + c.val, by omega⟩

/-- The weights of head `h` at query row `r` and key `C`: from the projection `A`, the rows' statistics `T` and the key decays `R`. -/
def gW (A : FVec Ideal S8192x5632 .f32) (T : FVec Ideal S12x8192x128 .f32) (R : FVec Ideal S12x16x1x512 .f32) (h : Fin 12) (r : Fin 8192) (j : Fin 16) (c : Fin 512) : EReal :=
  if (key j c).val ≤ r.val then
    Ideal.exp ((((∑ d : Fin 128, A (ix2 r (qcol h d)) * A (ix2 (key j c) (kcol h d))) * sc + T (ix3 h r 1)) - R (ix4 h j 0 c)) - T (ix3 h r 0))
  else 0

/-- The gradient of the logits. -/
def gDs (A : FVec Ideal S8192x5632 .f32) (G : FVec Ideal S8192x2048 .f32) (T : FVec Ideal S12x8192x128 .f32) (R : FVec Ideal S12x16x1x512 .f32) (h : Fin 12) (r : Fin 8192) (j : Fin 16) (c : Fin 512) : EReal :=
  gW A T R h r j c * ((∑ d : Fin 128, G (ix2 r (ocol h d)) * A (ix2 (key j c) (vcol h d))) - T (ix3 h r 2))

theorem N_eq : cfg0.N = 192 := N_0

/-- The head and the block of keys of step `t`. -/
def hd (t : Fin cfg0.N) : Fin 12 := ⟨t.val / 16, by have := t.isLt; have := N_eq; omega⟩
def jd (t : Fin cfg0.N) : Fin 16 := ⟨t.val % 16, by omega⟩

theorem coords1 (t : Fin cfg0.N) : (grid0.coords t 1).val = (jd t).val := by
  have e1 : (grid0.coords t 1).val = t.val / 1 % 16 := Pipeline.Grid.coords_val t 1 (by decide) rfl
  rw [e1]; show _ = t.val % 16; omega

theorem idx0 : ∀ t : Fin cfg0.N, win0_0.index t = ![0, t.val / 16] := (by decide +kernel : ∀ t : Fin grid0.N, _)
theorem idx1 : ∀ t : Fin cfg0.N, win0_1.index t = ![t.val % 16, 12 + t.val / 16] := (by decide +kernel : ∀ t : Fin grid0.N, _)
theorem idx2 : ∀ t : Fin cfg0.N, win0_2.index t = ![t.val % 16, 24 + t.val / 16] := (by decide +kernel : ∀ t : Fin grid0.N, _)
theorem idx3 : ∀ t : Fin cfg0.N, win0_3.index t = ![0, t.val / 16] := (by decide +kernel : ∀ t : Fin grid0.N, _)
theorem idx4 : ∀ t : Fin cfg0.N, win0_4.index t = ![t.val / 16, 0, 0] := (by decide +kernel : ∀ t : Fin grid0.N, _)
theorem idx5 : ∀ t : Fin cfg0.N, win0_5.index t = ![t.val / 16, t.val % 16, 0, 0] := (by decide +kernel : ∀ t : Fin grid0.N, _)
theorem idx6 : ∀ t : Fin cfg0.N, win0_6.index t = ![0, t.val / 16] := (by decide +kernel : ∀ t : Fin grid0.N, _)
theorem idx7 : ∀ t : Fin cfg0.N, win0_7.index t = ![t.val % 16, t.val / 16] := (by decide +kernel : ∀ t : Fin grid0.N, _)
theorem idx8 : ∀ t : Fin cfg0.N, win0_8.index t = ![t.val % 16, t.val / 16] := (by decide +kernel : ∀ t : Fin grid0.N, _)
theorem idx9 : ∀ t : Fin cfg0.N, win0_9.index t = ![t.val / 16, 0, 0] := (by decide +kernel : ∀ t : Fin grid0.N, _)
theorem idx10 : ∀ t : Fin cfg0.N, win0_10.index t = ![t.val / 16, t.val % 16, 0, 0] := (by decide +kernel : ∀ t : Fin grid0.N, _)

variable (m : (ℓ : Loc nD τ sig) → Buf (Elt Ideal) ℓ) (c : Dev nD)

/-- The arrays the kernel finds. -/
abbrev aA : FVec Ideal S8192x5632 .f32 := V m c main_arg0
abbrev aG : FVec Ideal S8192x2048 .f32 := V m c main_arg2
abbrev aT : FVec Ideal S12x8192x128 .f32 := V m c main_v46
abbrev aR : FVec Ideal S12x16x1x512 .f32 := V m c main_v47

theorem iblk0 (t : Fin cfg0.N) (r : Fin 8192) (d : Fin 128) : iblk m c 0 t (ix2 r d) = aA m c (ix2 r (qcol (hd t) d)) := by
  blk_simp [iblk]
  refine congrArg (aA m c) ?_
  blk_ext [idx0, qcol, hd]
theorem iblk1 (t : Fin cfg0.N) (k : Fin 512) (d : Fin 128) : iblk m c 1 t (ix2 k d) = aA m c (ix2 (key (jd t) k) (kcol (hd t) d)) := by
  blk_simp [iblk]
  refine congrArg (aA m c) ?_
  blk_ext [idx1, key, kcol, hd, jd]
theorem iblk2 (t : Fin cfg0.N) (k : Fin 512) (d : Fin 128) : iblk m c 2 t (ix2 k d) = aA m c (ix2 (key (jd t) k) (vcol (hd t) d)) := by
  blk_simp [iblk]
  refine congrArg (aA m c) ?_
  blk_ext [idx2, key, vcol, hd, jd]
theorem iblk3 (t : Fin cfg0.N) (r : Fin 8192) (d : Fin 128) : iblk m c 3 t (ix2 r d) = aG m c (ix2 r (ocol (hd t) d)) := by
  blk_simp [iblk]
  refine congrArg (aG m c) ?_
  blk_ext [idx3, ocol, hd]
theorem iblk4 (t : Fin cfg0.N) (r : Fin 8192) (d : Fin 128) : iblk m c 4 t (ix3 0 r d) = aT m c (ix3 (hd t) r d) := by
  blk_simp [iblk]
  refine congrArg (aT m c) ?_
  blk_ext [idx4, hd]
theorem iblk5 (t : Fin cfg0.N) (k : Fin 512) : iblk m c 5 t (ix4 0 0 0 k) = aR m c (ix4 (hd t) (jd t) 0 k) := by
  blk_simp [iblk]
  refine congrArg (aR m c) ?_
  blk_ext [idx5, hd, jd]

/-! ### The steps of a head added up -/

theorem pm_eq (t : Fin cfg0.N) (r : Fin 8192) (k : Fin 512) :
    pm (jd t).val (iblk m c 0 t) (iblk m c 1 t) (iblk m c 4 t) (iblk m c 5 t) r k = gW (aA m c) (aT m c) (aR m c) (hd t) r (jd t) k := by
  unfold pm wt gW
  simp only [iblk0, iblk1, iblk4, iblk5]
  rfl

theorem ds_eq (t : Fin cfg0.N) (r : Fin 8192) (k : Fin 512) :
    dsOf (pm (jd t).val (iblk m c 0 t) (iblk m c 1 t) (iblk m c 4 t) (iblk m c 5 t)) (iblk m c 2 t) (iblk m c 3 t) (iblk m c 4 t) r k
      = gDs (aA m c) (aG m c) (aT m c) (aR m c) (hd t) r (jd t) k := by
  unfold dsOf gDs
  simp only [pm_eq, iblk2, iblk3, iblk4]

theorem pt_val (t : Fin cfg0.N) (o8 : Vec Ideal S8192x128 .f32) (o11 : Vec Ideal S1x8192x128 .f32) :
    StepVal (iblk m c 0 t) (iblk m c 3 t) (iblk m c 1 t) (iblk m c 2 t) (iblk m c 4 t) (iblk m c 5 t) (jd t).val o8 o11 (pt m c t o8 o11) := by
  have h := stepVal_val (iblk m c 0 t) (iblk m c 3 t) (iblk m c 1 t) (iblk m c 2 t) (iblk m c 4 t) (iblk m c 5 t) (grid0.coords t) o8 o11
  rw [coords1] at h
  exact h

theorem stepSt_ex (t : Fin cfg0.N) : ∃ o8 o11, stepSt m c t = pt m c t o8 o11 := by
  by_cases h : t.val % 16 = 0
  · exact ⟨_, _, stepSt_first m c t h⟩
  · exact ⟨_, _, stepSt_next m c t h⟩

theorem step_dk (t : Fin cfg0.N) (k : Fin 512) (d : Fin 128) :
    (stepSt m c t).1.1 (ix2 k d) = ∑ r : Fin 8192, (gDs (aA m c) (aG m c) (aT m c) (aR m c) (hd t) r (jd t) k * sc) * aA m c (ix2 r (qcol (hd t) d)) := by
  obtain ⟨o8, o11, e⟩ := stepSt_ex m c t
  rw [e, (pt_val m c t o8 o11).dk k d]
  simp only [ds_eq, iblk0]

theorem step_dv (t : Fin cfg0.N) (k : Fin 512) (d : Fin 128) :
    (stepSt m c t).1.2.1 (ix2 k d) = ∑ r : Fin 8192, gW (aA m c) (aT m c) (aR m c) (hd t) r (jd t) k * aG m c (ix2 r (ocol (hd t) d)) := by
  obtain ⟨o8, o11, e⟩ := stepSt_ex m c t
  rw [e, (pt_val m c t o8 o11).dv k d]
  simp only [pm_eq, iblk3]

theorem step_dck (t : Fin cfg0.N) (k : Fin 512) :
    (stepSt m c t).1.2.2 (ix2 0 k) = ∑ i ∈ Finset.range (8 - (jd t).val / 2), - ∑ a : Fin 1024, gDs (aA m c) (aG m c) (aT m c) (aR m c) (hd t) (row (1024 * ((jd t).val / 2) + 1024 * i) a) (jd t) k := by
  obtain ⟨o8, o11, e⟩ := stepSt_ex m c t
  rw [e, (pt_val m c t o8 o11).dck k]
  simp only [ds_eq]

/-- What block `j` of the keys adds to the gradient of the queries of head `h`. -/
def dqBlk (A : FVec Ideal S8192x5632 .f32) (G : FVec Ideal S8192x2048 .f32) (T : FVec Ideal S12x8192x128 .f32) (R : FVec Ideal S12x16x1x512 .f32) (h : Fin 12) (r : Fin 8192) (d : Fin 128) (j : Fin 16) : EReal :=
  ∑ k : Fin 512, (gDs A G T R h r j k * sc) * A (ix2 (key j k) (kcol h d))

/-- What it adds to the rows' sums. -/
def dsBlk (A : FVec Ideal S8192x5632 .f32) (G : FVec Ideal S8192x2048 .f32) (T : FVec Ideal S12x8192x128 .f32) (R : FVec Ideal S12x16x1x512 .f32) (h : Fin 12) (r : Fin 8192) (l : Fin 128) (j : Fin 16) : EReal :=
  if l = 0 then ∑ k : Fin 512, gDs A G T R h r j k else 0

theorem word_zero : Ideal.ofBits .f32 0x00000000#32 = 0 := by
  rw [Ideal.ofBits_zero]

theorem pay27_apply (r : Fin 8192) (d : Fin 128) : k0_pay27 (F := Ideal) (ix2 r d) = 0 := by
  pointwise [k0_pay27]
theorem pay28_apply (r : Fin 8192) (d : Fin 128) : k0_pay28 (F := Ideal) (ix3 0 r d) = 0 := by
  pointwise [k0_pay28]
theorem pay10_apply (x : FVec Ideal S1x512 .f32) (k : Fin 512) : k0_pay10 x (ix4 0 0 0 k) = x (ix2 0 k) := by
  pointwise [k0_pay10]

theorem pt_dq (t : Fin cfg0.N) (o8 : Vec Ideal S8192x128 .f32) (o11 : Vec Ideal S1x8192x128 .f32) (r : Fin 8192) (d : Fin 128) :
    (pt m c t o8 o11).2.1 (ix2 r d) = o8 (ix2 r d) + dqBlk (aA m c) (aG m c) (aT m c) (aR m c) (hd t) r d (jd t) := by
  rw [(pt_val m c t o8 o11).dq r d]
  simp only [dqAdd, dqBlk, ds_eq, iblk1]

theorem pt_dst (t : Fin cfg0.N) (o8 : Vec Ideal S8192x128 .f32) (o11 : Vec Ideal S1x8192x128 .f32) (r : Fin 8192) (l : Fin 128) :
    (pt m c t o8 o11).2.2 (ix3 0 r l) = o11 (ix3 0 r l) + dsBlk (aA m c) (aG m c) (aT m c) (aR m c) (hd t) r l (jd t) := by
  rw [(pt_val m c t o8 o11).dst r l]
  simp only [dstAdd, dsBlk, ds_eq]

/-- A quantity that starts from zero at a head's first step and grows by `f h j` at block `j` is, after a step, the sum over the blocks so far. -/
theorem acc_sum (g : Fin cfg0.N → EReal) (f : Fin 12 → Fin 16 → EReal)
    (first : ∀ t : Fin cfg0.N, t.val % 16 = 0 → g t = 0 + f (hd t) (jd t))
    (next : ∀ t : Fin cfg0.N, t.val % 16 ≠ 0 → g t = g ⟨t.val - 1, Nat.lt_of_le_of_lt (Nat.sub_le _ _) t.isLt⟩ + f (hd t) (jd t)) :
    ∀ (n : ℕ) (hn : n < 16) (h : Fin 12) (ht : 16 * h.val + n < cfg0.N), g ⟨16 * h.val + n, ht⟩ = ∑ j ∈ Finset.range (n + 1), if q : j < 16 then f h ⟨j, q⟩ else 0 := by
  intro n
  induction n with
  | zero =>
    intro hn h ht
    have e1 : hd ⟨16 * h.val + 0, ht⟩ = h := Fin.ext (by show (16 * h.val + 0) / 16 = h.val; omega)
    have e2 : jd ⟨16 * h.val + 0, ht⟩ = ⟨0, by omega⟩ := Fin.ext (by show (16 * h.val + 0) % 16 = 0; omega)
    rw [first _ (by show (16 * h.val + 0) % 16 = 0; omega), e1, e2]
    simp
  | succ n ih =>
    intro hn h ht
    have e1 : hd ⟨16 * h.val + (n + 1), ht⟩ = h := Fin.ext (by show (16 * h.val + (n + 1)) / 16 = h.val; omega)
    have e2 : jd ⟨16 * h.val + (n + 1), ht⟩ = ⟨n + 1, hn⟩ := Fin.ext (by show (16 * h.val + (n + 1)) % 16 = n + 1; omega)
    rw [next _ (by show (16 * h.val + (n + 1)) % 16 ≠ 0; omega), e1, e2, Finset.sum_range_succ, dif_pos hn]
    exact congrArg (· + f h ⟨n + 1, hn⟩) (ih (by omega) h (by omega))

theorem acc_last (g : Fin cfg0.N → EReal) (f : Fin 12 → Fin 16 → EReal)
    (first : ∀ t : Fin cfg0.N, t.val % 16 = 0 → g t = 0 + f (hd t) (jd t))
    (next : ∀ t : Fin cfg0.N, t.val % 16 ≠ 0 → g t = g ⟨t.val - 1, Nat.lt_of_le_of_lt (Nat.sub_le _ _) t.isLt⟩ + f (hd t) (jd t))
    (t : Fin cfg0.N) (h : t.val % 16 = 15) : g t = ∑ j : Fin 16, f (hd t) j := by
  have hlt : 16 * (hd t).val + 15 < cfg0.N := by have := t.isLt; show 16 * (t.val / 16) + 15 < _; omega
  have e : t = ⟨16 * (hd t).val + 15, hlt⟩ := Fin.ext (by show t.val = 16 * (t.val / 16) + 15; omega)
  refine (congrArg g e).trans ((acc_sum g f first next 15 (by omega) (hd t) hlt).trans ?_)
  rw [← Fin.sum_univ_eq_sum_range (fun j => if q : j < 16 then f (hd t) ⟨j, q⟩ else 0) 16]
  exact Finset.sum_congr rfl fun j _ => by rw [dif_pos j.isLt]

theorem step_dq (t : Fin cfg0.N) (h : t.val % 16 = 15) (r : Fin 8192) (d : Fin 128) :
    (stepSt m c t).2.1 (ix2 r d) = ∑ j : Fin 16, dqBlk (aA m c) (aG m c) (aT m c) (aR m c) (hd t) r d j :=
  acc_last (fun t => (stepSt m c t).2.1 (ix2 r d)) (fun h j => dqBlk (aA m c) (aG m c) (aT m c) (aR m c) h r d j)
    (fun t h0 => by rw [stepSt_first m c t h0, pt_dq, pay27_apply])
    (fun t h0 => by rw [stepSt_next m c t h0, pt_dq]) t h

theorem step_dst (t : Fin cfg0.N) (h : t.val % 16 = 15) (r : Fin 8192) (l : Fin 128) :
    (stepSt m c t).2.2 (ix3 0 r l) = ∑ j : Fin 16, dsBlk (aA m c) (aG m c) (aT m c) (aR m c) (hd t) r l j :=
  acc_last (fun t => (stepSt m c t).2.2 (ix3 0 r l)) (fun h j => dsBlk (aA m c) (aG m c) (aT m c) (aR m c) h r l j)
    (fun t h0 => by rw [stepSt_first m c t h0, pt_dst, pay28_apply])
    (fun t h0 => by rw [stepSt_next m c t h0, pt_dst]) t h

/-! ### The five arrays -/

/-- The head of a column of an output, and the column within it. -/
def eh (e : Fin 1536) : Fin 12 := ⟨e.val / 128, by omega⟩
def ed (e : Fin 1536) : Fin 128 := ⟨e.val % 128, by omega⟩
theorem eh_ecol (h : Fin 12) (d : Fin 128) : eh (ecol h d) = h := Fin.ext (by show (128 * h.val + d.val) / 128 = h.val; omega)
theorem ed_ecol (h : Fin 12) (d : Fin 128) : ed (ecol h d) = d := Fin.ext (by show (128 * h.val + d.val) % 128 = d.val; omega)
/-- The block of a key, and the key within it. -/
def kj (C : Fin 8192) : Fin 16 := ⟨C.val / 512, by omega⟩
def kc (C : Fin 8192) : Fin 512 := ⟨C.val % 512, by omega⟩
theorem kj_key (j : Fin 16) (k : Fin 512) : kj (key j k) = j := Fin.ext (by show (512 * j.val + k.val) / 512 = j.val; omega)
theorem kc_key (j : Fin 16) (k : Fin 512) : kc (key j k) = k := Fin.ext (by show (512 * j.val + k.val) % 512 = k.val; omega)

section arrays
variable (A : FVec Ideal S8192x5632 .f32) (G : FVec Ideal S8192x2048 .f32) (T : FVec Ideal S12x8192x128 .f32) (R : FVec Ideal S12x16x1x512 .f32)

/-- The gradient of the queries. -/
def outDq : FVec Ideal S8192x1536 .f32 := fun i => ∑ j : Fin 16, dqBlk A G T R (eh (i 1)) (i 0) (ed (i 1)) j
/-- The gradient of the keys. -/
def outDk : FVec Ideal S8192x1536 .f32 := fun i => ∑ r : Fin 8192, (gDs A G T R (eh (i 1)) r (kj (i 0)) (kc (i 0)) * sc) * A (ix2 r (qcol (eh (i 1)) (ed (i 1))))
/-- The gradient of the values. -/
def outDv : FVec Ideal S8192x1536 .f32 := fun i => ∑ r : Fin 8192, gW A T R (eh (i 1)) r (kj (i 0)) (kc (i 0)) * G (ix2 r (ocol (eh (i 1)) (ed (i 1))))
/-- The gradient of the rows' decays, in lane 0. -/
def outDst : FVec Ideal S12x8192x128 .f32 := fun i => ∑ j : Fin 16, dsBlk A G T R (i 0) (i 1) (i 2) j
/-- The gradient of the keys' decays. -/
def outDcr : FVec Ideal S12x16x1x512 .f32 := fun i => ∑ n ∈ Finset.range (8 - (i 1).val / 2), - ∑ a : Fin 1024, gDs A G T R (i 0) (row (1024 * ((i 1).val / 2) + 1024 * n) a) (i 1) (i 3)

theorem outDq_at (r : Fin 8192) (h : Fin 12) (d : Fin 128) : outDq A G T R (ix2 r (ecol h d)) = ∑ j : Fin 16, dqBlk A G T R h r d j := by
  show ∑ j : Fin 16, dqBlk A G T R (eh (ecol h d)) r (ed (ecol h d)) j = _
  rw [eh_ecol, ed_ecol]
theorem outDk_at (j : Fin 16) (k : Fin 512) (h : Fin 12) (d : Fin 128) :
    outDk A G T R (ix2 (key j k) (ecol h d)) = ∑ r : Fin 8192, (gDs A G T R h r j k * sc) * A (ix2 r (qcol h d)) := by
  show ∑ r : Fin 8192, (gDs A G T R (eh (ecol h d)) r (kj (key j k)) (kc (key j k)) * sc) * A (ix2 r (qcol (eh (ecol h d)) (ed (ecol h d)))) = _
  rw [eh_ecol, ed_ecol, kj_key, kc_key]
theorem outDv_at (j : Fin 16) (k : Fin 512) (h : Fin 12) (d : Fin 128) :
    outDv A G T R (ix2 (key j k) (ecol h d)) = ∑ r : Fin 8192, gW A T R h r j k * G (ix2 r (ocol h d)) := by
  show ∑ r : Fin 8192, gW A T R (eh (ecol h d)) r (kj (key j k)) (kc (key j k)) * G (ix2 r (ocol (eh (ecol h d)) (ed (ecol h d)))) = _
  rw [eh_ecol, ed_ecol, kj_key, kc_key]
end arrays

theorem point_dq (t : Fin cfg0.N) (h : t.val % 16 = 15) (y : S8192x128.Idx) :
    (stepSt m c t).2.1 y = outDq (aA m c) (aG m c) (aT m c) (aR m c) (ix2 (y 0) (ecol (hd t) (y 1))) := by
  have ey : y = ix2 (y 0) (y 1) := by blk_ext
  exact (congrArg _ ey).trans ((step_dq m c t h (y 0) (y 1)).trans (outDq_at _ _ _ _ (y 0) (hd t) (y 1)).symm)

theorem point_dk (t : Fin cfg0.N) (y : S512x128.Idx) :
    (stepSt m c t).1.1 y = outDk (aA m c) (aG m c) (aT m c) (aR m c) (ix2 (key (jd t) (y 0)) (ecol (hd t) (y 1))) := by
  have ey : y = ix2 (y 0) (y 1) := by blk_ext
  exact (congrArg _ ey).trans ((step_dk m c t (y 0) (y 1)).trans (outDk_at _ _ _ _ (jd t) (y 0) (hd t) (y 1)).symm)

theorem point_dv (t : Fin cfg0.N) (y : S512x128.Idx) :
    (stepSt m c t).1.2.1 y = outDv (aA m c) (aG m c) (aT m c) (aR m c) (ix2 (key (jd t) (y 0)) (ecol (hd t) (y 1))) := by
  have ey : y = ix2 (y 0) (y 1) := by blk_ext
  exact (congrArg _ ey).trans ((step_dv m c t (y 0) (y 1)).trans (outDv_at _ _ _ _ (jd t) (y 0) (hd t) (y 1)).symm)

theorem point_dst (t : Fin cfg0.N) (h : t.val % 16 = 15) (y : S1x8192x128.Idx) :
    (stepSt m c t).2.2 y = outDst (aA m c) (aG m c) (aT m c) (aR m c) (ix3 (hd t) (y 1) (y 2)) := by
  have ey : y = ix3 0 (y 1) (y 2) := by blk_ext
  exact (congrArg _ ey).trans (step_dst m c t h (y 1) (y 2))

theorem point_dcr (t : Fin cfg0.N) (y : S1x1x1x512.Idx) :
    k0_pay10 (stepSt m c t).1.2.2 y = outDcr (aA m c) (aG m c) (aT m c) (aR m c) (ix4 (hd t) (jd t) 0 (y 3)) := by
  have ey : y = ix4 0 0 0 (y 3) := by blk_ext
  exact (congrArg _ ey).trans ((pay10_apply _ (y 3)).trans (step_dck m c t (y 3)))

theorem arr_dq : (dats m 0 c).arrAt 6 cfg0.N = outDq (aA m c) (aG m c) (aT m c) (aR m c) := by
  refine (dats m 0 c).arrAt_eq_of_covers 6 _ (by decide +kernel) fun t hf y => ?_
  blk_simp
  rw [after0_6]
  have e : (win0_6.blk t).view.emb y = ix2 (y 0) (ecol (hd t) (y 1)) := by blk_ext [idx6, ecol, hd]
  rw [e]
  exact point_dq m c t ((flush0_6 t).mp hf) y

theorem arr_dk : (dats m 0 c).arrAt 7 cfg0.N = outDk (aA m c) (aG m c) (aT m c) (aR m c) := by
  refine (dats m 0 c).arrAt_eq_of_covers 7 _ (by decide +kernel) fun t hf y => ?_
  blk_simp
  rw [after0_7]
  have e : (win0_7.blk t).view.emb y = ix2 (key (jd t) (y 0)) (ecol (hd t) (y 1)) := by blk_ext [idx7, ecol, hd, key, jd]
  rw [e]
  exact point_dk m c t y

theorem arr_dv : (dats m 0 c).arrAt 8 cfg0.N = outDv (aA m c) (aG m c) (aT m c) (aR m c) := by
  refine (dats m 0 c).arrAt_eq_of_covers 8 _ (by decide +kernel) fun t hf y => ?_
  blk_simp
  rw [after0_8]
  have e : (win0_8.blk t).view.emb y = ix2 (key (jd t) (y 0)) (ecol (hd t) (y 1)) := by blk_ext [idx8, ecol, hd, key, jd]
  rw [e]
  exact point_dv m c t y

theorem arr_dst : (dats m 0 c).arrAt 9 cfg0.N = outDst (aA m c) (aG m c) (aT m c) (aR m c) := by
  refine (dats m 0 c).arrAt_eq_of_covers 9 _ (by decide +kernel) fun t hf y => ?_
  blk_simp
  rw [after0_9]
  have e : (win0_9.blk t).view.emb y = ix3 (hd t) (y 1) (y 2) := by blk_ext [idx9, hd]
  rw [e]
  exact point_dst m c t ((flush0_9 t).mp hf) y

theorem arr_dcr : (dats m 0 c).arrAt 10 cfg0.N = outDcr (aA m c) (aG m c) (aT m c) (aR m c) := by
  refine (dats m 0 c).arrAt_eq_of_covers 10 _ (by decide +kernel) fun t hf y => ?_
  blk_simp
  rw [after0_10]
  have e : (win0_10.blk t).view.emb y = ix4 (hd t) (jd t) 0 (y 3) := by blk_ext [idx10, hd, jd]
  rw [e]
  exact point_dcr m c t y

end Cert.KernelIdeal.Fox
-- ==== Proof.FoxHost.lean ====
/-
  The arrays computed on the host before the backward kernel: the rows' statistics (log of the sum of exponentials, decay,
  and the output's dot product with its gradient), as one term and then at an index.
-/
module

public import proofs.«01_k».proof.Proof.FoxArr
public import Idealize.ShloMosaic.Lib.WordCmp

@[expose] public section
set_option maxRecDepth 16384
noncomputable section
namespace Cert.KernelIdeal.Fox

open Idealize.ShloMosaic Idealize.ShloMosaic.TcCoe Idealize.ShloMosaic.Tactic Idealize.ShloMosaic.StableHlo
open Idealize.SL Idealize.SL.RA Idealize.SL.BI Idealize.SL.Sem
open Cert.KernelIdeal.Gen

section terms
variable (A : FVec Ideal S8192x5632 .f32) (C : FVec Ideal S12x8192 .f32) (G : FVec Ideal S8192x2048 .f32)

/-- The heads of the queries, keys and values. -/
def hQ : FVec Ideal S12x8192x128 .f32 :=
  transpose S12x8192x128 [1, 0, 2] (shapeCast S8192x12x128 (extractStridedSlice S8192x1536 ![0, 0] A slices_S8192x5632_S8192x1536_0_0) shapeCasts_S8192x1536_S8192x12x128) transposes_S8192x12x128_S12x8192x128_1_0_2
def hK : FVec Ideal S12x8192x128 .f32 :=
  transpose S12x8192x128 [1, 0, 2] (shapeCast S8192x12x128 (extractStridedSlice S8192x1536 ![0, 1536] A slices_S8192x5632_S8192x1536_0_1536) shapeCasts_S8192x1536_S8192x12x128) transposes_S8192x12x128_S12x8192x128_1_0_2
def hV : FVec Ideal S12x8192x128 .f32 :=
  transpose S12x8192x128 [1, 0, 2] (shapeCast S8192x12x128 (extractStridedSlice S8192x1536 ![0, 3072] A slices_S8192x5632_S8192x1536_0_3072) shapeCasts_S8192x1536_S8192x12x128) transposes_S8192x12x128_S12x8192x128_1_0_2
/-- The heads of the output's gradient. -/
def hO : FVec Ideal S12x8192x128 .f32 :=
  transpose S12x8192x128 [1, 0, 2] (shapeCast S8192x12x128 (extractStridedSlice S8192x1536 ![0, 0] G slices_S8192x2048_S8192x1536_0_0) shapeCasts_S8192x1536_S8192x12x128) transposes_S8192x12x128_S12x8192x128_1_0_2

/-- The logits before the mask. -/
def hLogit : FVec Ideal S12x8192x8192 .f32 :=
  subf (addf (mulf (Host.dotGeneral dot_S12x8192x128_S12x8192x128_S12x8192x8192_2_2_1_1_0_0 none (hQ A) (hK A))
      (broadcastInDim S12x8192x8192 ![] bcast_S_S12x8192x8192 (constant S_ .f32 0x3DB504F3#32)))
    (broadcastInDim S12x8192x8192 ![0, 1, 2] bcast_S12x8192x1_S12x8192x8192_0_1_2 (broadcastInDim S12x8192x1 ![0, 1] bcast_S12x8192_S12x8192x1_0_1 C)))
    (broadcastInDim S12x8192x8192 ![0, 1, 2] bcast_S12x1x8192_S12x8192x8192_0_1_2 (broadcastInDim S12x1x8192 ![0, 2] bcast_S12x8192_S12x1x8192_0_2 C))

/-- The causal mask. -/
def hMask : IVec S8192x8192 1 :=
  cmpi .sge (broadcastInDim S8192x8192 ![0, 1] bcast_S8192x1_S8192x8192_0_1 (broadcastInDim S8192x1 ![0] bcast_S8192_S8192x1_0 (iotaInDim S8192 32 0)))
    (broadcastInDim S8192x8192 ![0, 1] bcast_S1x8192_S8192x8192_0_1 (broadcastInDim S1x8192 ![1] bcast_S8192_S1x8192_1 (iotaInDim S8192 32 0)))

/-- The logits under the mask. -/
def hS : FVec Ideal S12x8192x8192 .f32 :=
  select (broadcastInDim S12x8192x8192 ![1, 2] bcast_S8192x8192_S12x8192x8192_1_2 hMask) (hLogit A C)
    (broadcastInDim S12x8192x8192 ![] bcast_S_S12x8192x8192 (constant (F := Ideal) S_ .f32 0xFF800000#32))

/-- Each row's greatest logit. -/
def hM : FVec Ideal S12x8192x1 .f32 :=
  broadcastInDim S12x8192x1 ![0, 1] bcast_S12x8192_S12x8192x1_0_1 (Host.reduce FloatOps.maximumf (hS A C) (constant S_ .f32 0xFF800000#32) reducesTo_S12x8192x8192_S12x8192_d2 h_S_)

/-- The exponentials against it. -/
def hE : FVec Ideal S12x8192x8192 .f32 :=
  Host.exp (subf (hS A C) (broadcastInDim S12x8192x8192 ![0, 1, 2] bcast_S12x8192x1_S12x8192x8192_0_1_2 (hM A C)))

/-- Each row's sum of them. -/
def hL : FVec Ideal S12x8192x1 .f32 :=
  broadcastInDim S12x8192x1 ![0, 1] bcast_S12x8192_S12x8192x1_0_1 (Host.reduceAdd (hE A C) (constant S_ .f32 0x00000000#32) reducesTo_S12x8192x8192_S12x8192_d2 h_S_)

/-- The output of the heads. -/
def hOut : FVec Ideal S12x8192x128 .f32 :=
  Host.dotGeneral dot_S12x8192x8192_S12x8192x128_S12x8192x128_2_1_1_2_0_0 none
    (Host.divf (hE A C) (broadcastInDim S12x8192x8192 ![0, 1, 2] bcast_S12x8192x1_S12x8192x8192_0_1_2 (hL A C))) (hV A)

/-- Its dot product with its gradient, row by row. -/
def hDelta : FVec Ideal S12x8192x1 .f32 :=
  broadcastInDim S12x8192x1 ![0, 1] bcast_S12x8192_S12x8192x1_0_1 (Host.reduceAdd (mulf (hOut A C) (hO G)) (constant S_ .f32 0x00000000#32) reducesTo_S12x8192x128_S12x8192_d2 h_S_)

/-- Four arrays side by side in the lanes. -/
def hCat (a b d : FVec Ideal S12x8192x1 .f32) (e : FVec Ideal S12x8192x125 .f32) : FVec Ideal S12x8192x128 .f32 :=
  concatenate S12x8192x128 2 [⟨S12x8192x1, a⟩, ⟨S12x8192x1, b⟩, ⟨S12x8192x1, d⟩, ⟨S12x8192x125, e⟩]
    concatenates_S12x8192x1_S12x8192x1_S12x8192x1_S12x8192x125_S12x8192x128_d2

/-- The rows' statistics, side by side in the lanes. -/
def hStats : FVec Ideal S12x8192x128 .f32 :=
  hCat (addf (hM A C) (Host.log (hL A C))) (broadcastInDim S12x8192x1 ![0, 1] bcast_S12x8192_S12x8192x1_0_1 C) (hDelta A C G)
    (broadcastInDim S12x8192x125 ![] bcast_S_S12x8192x125 (constant (F := Ideal) S_ .f32 0x00000000#32))
end terms

/-! ### At an index -/

section reads
variable (A : FVec Ideal S8192x5632 .f32) (C : FVec Ideal S12x8192 .f32) (G : FVec Ideal S8192x2048 .f32)

/-- The logit of head `h` at query row `r` and key `k`. -/
def lg (h : Fin 12) (r k : Fin 8192) : EReal :=
  (((∑ d : Fin 128, A (ix2 r (qcol h d)) * A (ix2 k (kcol h d))) * sc + C (ix2 h r)) - C (ix2 h k))

theorem hQ_apply (h : Fin 12) (r : Fin 8192) (d : Fin 128) : hQ A (ix3 h r d) = A (ix2 r (qcol h d)) := by
  pointwise [hQ, qcol]
  exact congrArg (fun z => A (ix2 r z)) (Fin.ext (by show _ = (_ : ℕ); simp only [] <;> omega))
theorem hK_apply (h : Fin 12) (r : Fin 8192) (d : Fin 128) : hK A (ix3 h r d) = A (ix2 r (kcol h d)) := by
  pointwise [hK, kcol]
  exact congrArg (fun z => A (ix2 r z)) (Fin.ext (by show _ = (_ : ℕ); simp only [] <;> omega))
theorem hV_apply (h : Fin 12) (r : Fin 8192) (d : Fin 128) : hV A (ix3 h r d) = A (ix2 r (vcol h d)) := by
  pointwise [hV, vcol]
  exact congrArg (fun z => A (ix2 r z)) (Fin.ext (by show _ = (_ : ℕ); simp only [] <;> omega))
theorem hO_apply (h : Fin 12) (r : Fin 8192) (d : Fin 128) : hO G (ix3 h r d) = G (ix2 r (ocol h d)) := by
  pointwise [hO, ocol]
  exact congrArg (fun z => G (ix2 r z)) (Fin.ext (by show _ = (_ : ℕ); simp only [] <;> omega))
theorem hLogit_apply (h : Fin 12) (r k : Fin 8192) : hLogit A C (ix3 h r k) = lg A C h r k := by
  pointwise [hLogit, hQ_apply, hK_apply, lg, sc]
theorem hMask_apply (r k : Fin 8192) : hMask (ix2 r k) = if k.val ≤ r.val then 1#1 else 0#1 := by
  pointwise [hMask]
  rw [WordCmp.cmpi_sge_ofNat (by have := r.isLt; omega) (by have := k.isLt; omega)]
  by_cases h : k.val ≤ r.val <;> simp [h]
theorem hS_apply (h : Fin 12) (r k : Fin 8192) : hS A C (ix3 h r k) = if k.val ≤ r.val then lg A C h r k else ⊥ := by
  pointwise [hS, hMask_apply, hLogit_apply, word_bot]
  by_cases h : k.val ≤ r.val <;> simp [h, Scalar.select]
theorem hM_apply (h : Fin 12) (r : Fin 8192) : hM A C (ix3 h r 0) = Finset.univ.fold max ⊥ fun k : Fin 8192 => hS A C (ix3 h r k) := by
  pointwise [hM, word_bot]
theorem hE_apply (h : Fin 12) (r k : Fin 8192) : hE A C (ix3 h r k) = Ideal.exp (hS A C (ix3 h r k) - hM A C (ix3 h r 0)) := by
  pointwise [hE]
theorem hL_apply (h : Fin 12) (r : Fin 8192) : hL A C (ix3 h r 0) = ∑ k : Fin 8192, hE A C (ix3 h r k) := by
  pointwise [hL]
theorem hOut_apply (h : Fin 12) (r : Fin 8192) (d : Fin 128) :
    hOut A C (ix3 h r d) = ∑ k : Fin 8192, Ideal.div (hE A C (ix3 h r k)) (hL A C (ix3 h r 0)) * A (ix2 k (vcol h d)) := by
  pointwise [hOut, hV_apply]
theorem hDelta_apply (h : Fin 12) (r : Fin 8192) : hDelta A C G (ix3 h r 0) = ∑ d : Fin 128, hOut A C (ix3 h r d) * G (ix2 r (ocol h d)) := by
  pointwise [hDelta, hO_apply]
theorem hCat_0 (a b d : FVec Ideal S12x8192x1 .f32) (e : FVec Ideal S12x8192x125 .f32) (h : Fin 12) (r : Fin 8192) : hCat a b d e (ix3 h r 0) = a (ix3 h r 0) := by
  pointwise [hCat]
theorem hCat_1 (a b d : FVec Ideal S12x8192x1 .f32) (e : FVec Ideal S12x8192x125 .f32) (h : Fin 12) (r : Fin 8192) : hCat a b d e (ix3 h r 1) = b (ix3 h r 0) := by
  pointwise [hCat]
theorem hCat_2 (a b d : FVec Ideal S12x8192x1 .f32) (e : FVec Ideal S12x8192x125 .f32) (h : Fin 12) (r : Fin 8192) : hCat a b d e (ix3 h r 2) = d (ix3 h r 0) := by
  pointwise [hCat]
theorem addlog_apply (a b : FVec Ideal S12x8192x1 .f32) (i : S12x8192x1.Idx) : addf a (Host.log b) i = a i + Ideal.log (b i) := rfl
theorem hStats_0 (h : Fin 12) (r : Fin 8192) : hStats A C G (ix3 h r 0) = hM A C (ix3 h r 0) + Ideal.log (hL A C (ix3 h r 0)) := by
  unfold hStats
  rw [hCat_0, addlog_apply]
theorem hStats_1 (h : Fin 12) (r : Fin 8192) : hStats A C G (ix3 h r 1) = C (ix2 h r) := by
  unfold hStats
  rw [hCat_1]
  pointwise
theorem hStats_2 (h : Fin 12) (r : Fin 8192) : hStats A C G (ix3 h r 2) = hDelta A C G (ix3 h r 0) := by
  unfold hStats
  rw [hCat_2]
theorem keys_apply (h : Fin 12) (j : Fin 16) (k : Fin 512) :
    shapeCast S12x16x1x512 C shapeCasts_S12x8192_S12x16x1x512 (ix4 h j 0 k) = C (ix2 h (key j k)) := by
  pointwise [key]
  exact congrArg (fun z => C (ix2 h z)) (Fin.ext (by show _ = (_ : ℕ); simp only [] <;> omega))
end reads

variable (m : (ℓ : Loc nD τ sig) → Buf (Elt Ideal) ℓ) (c : Dev nD)

theorem aR_eq : aR m c = shapeCast S12x16x1x512 (m ((c : Thread nD τ).loc main_arg1) : FVec Ideal S12x8192 .f32) shapeCasts_S12x8192_S12x16x1x512 := by
  show StableHlo.after (List.flatten [hostOps0, hostOps0_1, hostOps0_2]) (fun b => m (c, b)) (Proc.devRef .tc main_v47) = _
  simp only [hostOps0, hostOps0_1, hostOps0_2, List.flatten_cons, List.flatten_nil, List.append_nil, List.cons_append, List.nil_append]
  after_results_simp
  rfl

theorem hCat_congr {a b d a' b' d' : FVec Ideal S12x8192x1 .f32} {e e' : FVec Ideal S12x8192x125 .f32} (h0 : a = a') (h1 : b = b') (h2 : d = d') (h3 : e = e') :
    hCat a b d e = hCat a' b' d' e' := by rw [h0, h1, h2, h3]

set_option maxHeartbeats 4000000 in
theorem aT_eq : aT m c = hStats (m ((c : Thread nD τ).loc main_arg0)) (m ((c : Thread nD τ).loc main_arg1)) (m ((c : Thread nD τ).loc main_arg2)) := by
  show StableHlo.after (List.flatten [hostOps0, hostOps0_1, hostOps0_2]) (fun b => m (c, b)) (Proc.devRef .tc main_v46) = _
  simp only [hostOps0, hostOps0_1, hostOps0_2, List.flatten_cons, List.flatten_nil, List.append_nil, List.cons_append, List.nil_append]
  simp only [after_cons, after_nil]
  refine (reshape_result_ne (r := main_v46) _ _ _ _ _ _ _ (by decide)).trans ?_
  refine (nary_result _ _ _ _ _ _).trans ?_
  refine hCat_congr ?_ ?_ ?_ ?_
  · show HloOp.result _ _ (Proc.devRef .tc main_v43) = _
    after_results_simp
    unfold hL hE hM hS hLogit hMask hQ hK
    rfl
  · show HloOp.result _ _ (Proc.devRef .tc main_v44) = _
    after_results_simp
  · show HloOp.result _ _ (Proc.devRef .tc main_v41) = _
    after_results_simp
    unfold hDelta hOut hL hE hM hS hLogit hMask hQ hK hV hO
    rfl
  · show HloOp.result _ _ (Proc.devRef .tc main_v45) = _
    after_results_simp

end Cert.KernelIdeal.Fox
-- ==== Proof.FoxRef.lean ====
/-
  The reference of the backward pass at an index: the logits, the softmax, the gradient of the logits and the five results.
-/
module

public import proofs.«01_k».proof.Proof.FoxHost
public import proofs.«01_k».proof.Proof.Gen.ReferenceIdeal.Read

@[expose] public section
set_option maxRecDepth 16384
noncomputable section
namespace Cert.ReferenceIdeal.Fox

open Idealize.ShloMosaic Idealize.ShloMosaic.TcCoe Idealize.ShloMosaic.Tactic
open Cert.ReferenceIdeal.Read
open Cert.KernelIdeal.Fox (sc qcol kcol vcol ocol ecol eh ed key word_bot)

variable (A : FVec Ideal S8192x5632 .f32) (C : FVec Ideal S12x8192 .f32) (G : FVec Ideal S8192x2048 .f32)

/-- The logit of head `h` at query row `r` and key `k`. -/
def lg (h : Fin 12) (r k : Fin 8192) : EReal :=
  (((∑ d : Fin 128, A (ix2 r (qcol h d)) * A (ix2 k (kcol h d))) * sc + C (ix2 h r)) - C (ix2 h k))

theorem q_apply (h : Fin 12) (r : Fin 8192) (d : Fin 128) : val_main_v4 (F := Ideal) A (ix3 h r d) = A (ix2 r (qcol h d)) := by
  pointwise [val_main_v4, val_main_v3, val_main_v0, qcol]
  exact congrArg (fun z => A (ix2 r z)) (Fin.ext (by show _ = (_ : ℕ); simp only [] <;> omega))
theorem k_apply (h : Fin 12) (r : Fin 8192) (d : Fin 128) : val_main_v6 (F := Ideal) A (ix3 h r d) = A (ix2 r (kcol h d)) := by
  pointwise [val_main_v6, val_main_v5, val_main_v1, kcol]
  exact congrArg (fun z => A (ix2 r z)) (Fin.ext (by show _ = (_ : ℕ); simp only [] <;> omega))
theorem v_apply (h : Fin 12) (r : Fin 8192) (d : Fin 128) : val_main_v8 (F := Ideal) A (ix3 h r d) = A (ix2 r (vcol h d)) := by
  pointwise [val_main_v8, val_main_v7, val_main_v2, vcol]
  exact congrArg (fun z => A (ix2 r z)) (Fin.ext (by show _ = (_ : ℕ); simp only [] <;> omega))
theorem do_apply (h : Fin 12) (r : Fin 8192) (d : Fin 128) : val_main_v59 (F := Ideal) G (ix3 h r d) = G (ix2 r (ocol h d)) := by
  pointwise [val_main_v59, val_main_v58, val_main_v57, ocol]
  exact congrArg (fun z => G (ix2 r z)) (Fin.ext (by show _ = (_ : ℕ); simp only [] <;> omega))
theorem lg_apply (h : Fin 12) (r k : Fin 8192) : val_main_v17 (F := Ideal) A C (ix3 h r k) = lg A C h r k := by
  pointwise [val_main_v17, val_main_v16, val_main_v15, val_main_v14, val_main_v13, val_main_v12, val_main_v11, val_main_v10, val_main_cst, val_main_v9, q_apply, k_apply, lg, sc]
theorem mask_apply (h : Fin 12) (r k : Fin 8192) : val_main_v25_1 (F := Ideal) (ix3 h r k) = if k.val ≤ r.val then 1#1 else 0#1 := by
  pointwise [val_main_v25_1, val_main_v24, val_main_v23, val_main_v22, val_main_v21, val_main_v20, val_main_v19, val_main_v18]
  rw [WordCmp.cmpi_sge_ofNat (by have := r.isLt; omega) (by have := k.isLt; omega)]
  by_cases h : k.val ≤ r.val <;> simp [h]
theorem s_apply (h : Fin 12) (r k : Fin 8192) : val_main_v25_0 (F := Ideal) A C (ix3 h r k) = if k.val ≤ r.val then lg A C h r k else ⊥ := by
  pointwise [val_main_v25_0, mask_apply, lg_apply, val_main_call0_v2, val_main_call0_v0, val_main_cst_0, word_bot]
  have hb : constant (F := Ideal) S_ .f32 0xFF800000#32 ix0 = (⊥ : EReal) := word_bot
  rw [id_eq, hb]
  by_cases h : k.val ≤ r.val <;> simp [h, Scalar.select]
theorem m_apply (h : Fin 12) (r : Fin 8192) : val_main_v26 (F := Ideal) A C (ix2 h r) = Finset.univ.fold max ⊥ fun k : Fin 8192 => val_main_v25_0 (F := Ideal) A C (ix3 h r k) := by
  pointwise [val_main_v26, val_main_cst_1, word_bot]
theorem max_word_bot (x : Ideal .f32) : FloatOps.maximumf (F := Ideal) (FloatOps.ofBits .f32 0xFF800000#32) x = x :=
  (congrArg (fun z => max z x) word_bot).trans (max_eq_right bot_le)
theorem m2_apply (h : Fin 12) (r : Fin 8192) : val_main_v33 (F := Ideal) A C (ix2 h r) = val_main_v26 (F := Ideal) A C (ix2 h r) := by
  rw [val_main_v33_apply, val_main_v32_apply, val_main_cst_3_apply]
  exact max_word_bot _
theorem e_apply (h : Fin 12) (r k : Fin 8192) : val_main_v46 (F := Ideal) A C (ix3 h r k) = Ideal.exp (val_main_v25_0 (F := Ideal) A C (ix3 h r k) - val_main_v26 (F := Ideal) A C (ix2 h r)) := by
  pointwise [val_main_v46, val_main_v45, val_main_v44, val_main_v43, m2_apply]
theorem l_apply (h : Fin 12) (r : Fin 8192) : val_main_v47 (F := Ideal) A C (ix2 h r) = ∑ k : Fin 8192, val_main_v46 (F := Ideal) A C (ix3 h r k) := by
  pointwise [val_main_v47, val_main_cst_9]
theorem p_apply (h : Fin 12) (r k : Fin 8192) : val_main_v50 (F := Ideal) A C (ix3 h r k) = Ideal.div (val_main_v46 (F := Ideal) A C (ix3 h r k)) (val_main_v47 (F := Ideal) A C (ix2 h r)) := by
  pointwise [val_main_v50, val_main_v49, val_main_v48]
theorem dp_apply (h : Fin 12) (r k : Fin 8192) : val_main_v62 (F := Ideal) A G (ix3 h r k) = ∑ d : Fin 128, G (ix2 r (ocol h d)) * A (ix2 k (vcol h d)) := by
  pointwise [val_main_v62, do_apply, v_apply]
theorem inv_apply (h : Fin 12) (r k : Fin 8192) : val_main_v63 (F := Ideal) A C (ix3 h r k) = Ideal.div 1 (val_main_v47 (F := Ideal) A C (ix2 h r) * val_main_v47 (F := Ideal) A C (ix2 h r)) := by
  pointwise [val_main_v63, val_main_v53, val_main_v52, val_main_cst_10, val_main_v51, val_main_v48]
theorem sum_apply (h : Fin 12) (r : Fin 8192) : val_main_v66 (F := Ideal) A C G (ix2 h r)
    = ∑ k : Fin 8192, (val_main_v62 (F := Ideal) A G (ix3 h r k) * val_main_v63 (F := Ideal) A C (ix3 h r k)) * val_main_v46 (F := Ideal) A C (ix3 h r k) := by
  pointwise [val_main_v66, val_main_v65, val_main_v64, val_main_cst_11]
theorem neg_apply (h : Fin 12) (r k : Fin 8192) : val_main_v72 (F := Ideal) A C G (ix3 h r k) = - val_main_v66 (F := Ideal) A C G (ix2 h r) := by
  pointwise [val_main_v72, val_main_v71, val_main_cst_12, val_main_v68, val_main_v67]
  exact Fin.sum_univ_one _
theorem ds_apply (h : Fin 12) (r k : Fin 8192) : val_main_v75 (F := Ideal) A C G (ix3 h r k) = if k.val ≤ r.val then
      (Ideal.div (val_main_v62 (F := Ideal) A G (ix3 h r k)) (val_main_v47 (F := Ideal) A C (ix2 h r)) + - val_main_v66 (F := Ideal) A C G (ix2 h r)) * val_main_v46 (F := Ideal) A C (ix3 h r k) else 0 := by
  pointwise [val_main_v75, mask_apply, val_main_v74, val_main_v73, val_main_v70, val_main_v69, val_main_v48, neg_apply, val_main_call1_v0, val_main_call1_cst]
  by_cases h : k.val ≤ r.val <;> simp [h, Scalar.select]

theorem dcol_apply (h : Fin 12) (k : Fin 8192) : val_main_v79 (F := Ideal) A C G (ix2 h k) = ∑ r : Fin 8192, - val_main_v75 (F := Ideal) A C G (ix3 h r k) := by
  pointwise [val_main_v79, val_main_cst_14, val_main_v78, val_main_v77, val_main_cst_13, val_main_v76]
  exact Fin.sum_univ_one _
theorem drow_apply (h : Fin 12) (r : Fin 8192) : val_main_v82 (F := Ideal) A C G (ix2 h r) = ∑ k : Fin 8192, val_main_v75 (F := Ideal) A C G (ix3 h r k) := by
  pointwise [val_main_v82, val_main_cst_16, val_main_v81, val_main_v80, val_main_cst_15]
  exact Fin.sum_univ_one _

theorem dq_apply (r : Fin 8192) (e : Fin 1536) : val_main_v92 (F := Ideal) A C G (ix2 r e)
    = ∑ k : Fin 8192, (val_main_v75 (F := Ideal) A C G (ix3 (eh e) r k) * sc) * A (ix2 k (kcol (eh e) (ed e))) := by
  pointwise [val_main_v92, val_main_v91, val_main_v86, val_main_v84, val_main_v83, val_main_cst_17, k_apply, sc, eh, ed]
theorem dk_apply (k : Fin 8192) (e : Fin 1536) : val_main_v90 (F := Ideal) A C G (ix2 k e)
    = ∑ r : Fin 8192, (val_main_v75 (F := Ideal) A C G (ix3 (eh e) r k) * sc) * A (ix2 r (qcol (eh e) (ed e))) := by
  pointwise [val_main_v90, val_main_v89, val_main_v85, val_main_v84, val_main_v83, val_main_cst_17, q_apply, sc, eh, ed]
theorem dv_apply (k : Fin 8192) (e : Fin 1536) : val_main_v88 (F := Ideal) A C G (ix2 k e)
    = ∑ r : Fin 8192, G (ix2 r (ocol (eh e) (ed e))) * val_main_v50 (F := Ideal) A C (ix3 (eh e) r k) := by
  pointwise [val_main_v88, val_main_v87, val_main_v61, val_main_v60, do_apply, eh, ed]
theorem dst_apply (h : Fin 12) (r : Fin 8192) (l : Fin 128) : val_main_v94 (F := Ideal) A C G (ix3 h r l)
    = if l = 0 then val_main_v82 (F := Ideal) A C G (ix2 h r) else 0 := by
  pointwise [val_main_v94, val_main_v93, val_main_call2_v0, val_main_c]
  have hz : (FloatOps.sitofp (F := Ideal) .f32 (0#32) : Ideal .f32) = (0 : EReal) := by
    show (((0#32 : BitVec 32).toInt : ℝ) : EReal) = 0
    simp
  by_cases h : l = 0
  · subst h; rfl
  · have hl : ¬ l.val < 1 := fun q => h (Fin.ext (by show l.val = 0; omega))
    rw [dif_neg hl, if_neg h]; exact hz
theorem dck_apply (h : Fin 12) (j : Fin 16) (c : Fin 512) : val_main_v95 (F := Ideal) A C G (ix4 h j 0 c) = val_main_v79 (F := Ideal) A C G (ix2 h (key j c)) := by
  pointwise [val_main_v95, key]
  exact congrArg (fun z => val_main_v79 (F := Ideal) A C G (ix2 h z)) (Fin.ext (by show _ = (_ : ℕ); simp only [] <;> omega))

end Cert.ReferenceIdeal.Fox
-- ==== Proof.FoxEq.lean ====
/-
  The kernel's five arrays are the reference's five gradients, when the projection, the decays and the gradient of the
  heads' outputs are finite.
-/
module

public import proofs.«01_k».proof.Proof.FoxAlg
public import proofs.«01_k».proof.Proof.FoxRef

@[expose] public section
set_option maxRecDepth 16384
noncomputable section
namespace Cert.ReferenceIdeal.Fox

open Idealize.ShloMosaic Idealize.ShloMosaic.TcCoe Idealize.ShloMosaic.Tactic
open Cert.ReferenceIdeal.Read
open Cert.KernelIdeal.Fox

/-- Every element is a real number. -/
def Fin' {s : Shape} (X : FVec Ideal s .f32) : Prop := ∀ i, ∃ x : ℝ, X i = (x : EReal)

theorem Fin'.eq {s : Shape} {X : FVec Ideal s .f32} (h : Fin' X) (i : s.Idx) : X i = ((EReal.toReal (X i) : ℝ) : EReal) := by
  obtain ⟨x, hx⟩ := h i
  rw [hx, EReal.toReal_coe]

theorem sc_real : ∃ x : ℝ, sc = (x : EReal) := by
  refine ⟨_, (?_ : sc = ((EReal.toReal sc : ℝ) : EReal))⟩
  refine (EReal.coe_toReal ?_ ?_).symm <;> simp [sc, Ideal.ofBits, Ideal.ieee]
  · exact (EReal.coe_mul _ _ ▸ EReal.coe_ne_top _ : ((11863283 : ℝ) : EReal) * (((2 ^ 27)⁻¹ : ℝ) : EReal) ≠ ⊤)
  · exact (EReal.coe_mul _ _ ▸ EReal.coe_ne_bot _ : ((11863283 : ℝ) : EReal) * (((2 ^ 27)⁻¹ : ℝ) : EReal) ≠ ⊥)

variable (A : FVec Ideal S8192x5632 .f32) (C : FVec Ideal S12x8192 .f32) (G : FVec Ideal S8192x2048 .f32)

/-- The logits, the values and the gradient of the outputs as real numbers. -/
def xl (h : Fin 12) (r k : Fin 8192) : ℝ := (lg A C h r k).toReal
def xv (h : Fin 12) (k : Fin 8192) (d : Fin 128) : ℝ := EReal.toReal (A (ix2 k (vcol h d)))
def xo (h : Fin 12) (r : Fin 8192) (d : Fin 128) : ℝ := EReal.toReal (G (ix2 r (ocol h d)))
/-- The weights, and the gradient of the logits. -/
def wt (h : Fin 12) (r k : Fin 8192) : ℝ := xP r (xl A C h r) k
def gr (h : Fin 12) (r k : Fin 8192) : ℝ := xG r (xl A C h r) (xv A h) (xo G h r) k

theorem lg_real (hA : Fin' A) (hC : Fin' C) (h : Fin 12) (r k : Fin 8192) : lg A C h r k = (xl A C h r k : EReal) := by
  obtain ⟨s, hs⟩ := sc_real
  have e : ∃ x : ℝ, lg A C h r k = (x : EReal) := by
    refine ⟨(∑ d : Fin 128, EReal.toReal (A (ix2 r (qcol h d))) * EReal.toReal (A (ix2 k (kcol h d)))) * s + EReal.toReal (C (ix2 h r)) - EReal.toReal (C (ix2 h k)), ?_⟩
    rw [EReal.coe_sub, EReal.coe_add, EReal.coe_mul, ← sum_coe]
    simp only [EReal.coe_mul, ← hA.eq, ← hC.eq, ← hs, lg]
  obtain ⟨x, hx⟩ := e
  rw [xl, hx, EReal.toReal_coe]

section ref
variable {A C G}
variable (hA : Fin' A) (hC : Fin' C) (hG : Fin' G) (h : Fin 12) (r k : Fin 8192)
include hA hC

theorem s_row : val_main_v25_0 (F := Ideal) A C (ix3 h r k) = rS r (xl A C h r) k := by
  rw [s_apply, lg_real A C hA hC]; rfl
theorem m_row : val_main_v26 (F := Ideal) A C (ix2 h r) = rM r (xl A C h r) := by
  rw [m_apply]; simp only [s_row hA hC]; rfl
theorem e_row : val_main_v46 (F := Ideal) A C (ix3 h r k) = rE r (xl A C h r) k := by
  rw [e_apply, s_row hA hC, m_row hA hC]; rfl
theorem l_row : val_main_v47 (F := Ideal) A C (ix2 h r) = rL r (xl A C h r) := by
  rw [l_apply]; simp only [e_row hA hC]; rfl
theorem ref_wt : val_main_v50 (F := Ideal) A C (ix3 h r k) = (wt A C h r k : EReal) := by
  rw [p_apply, e_row hA hC, l_row hA hC, p_coe]; rfl
omit hC in
include hG in
theorem dp_row : val_main_v62 (F := Ideal) A G (ix3 h r k) = (xD (xv A h) (xo G h r) k : EReal) := by
  rw [dp_apply, xD, ← sum_coe]
  simp only [EReal.coe_mul, xo, xv, ← hA.eq, ← hG.eq]
include hG in
theorem ref_gr : val_main_v75 (F := Ideal) A C G (ix3 h r k) = (gr A C G h r k : EReal) := by
  rw [ds_apply, sum_apply]
  simp only [inv_apply, dp_row hA hG, e_row hA hC, l_row hA hC]
  exact rds_coe r _ _ _ k

theorem ks_row : hS A C (ix3 h r k) = rS r (xl A C h r) k := by
  rw [hS_apply, show Cert.KernelIdeal.Fox.lg A C h r k = _ from lg_real A C hA hC h r k]; rfl
theorem km_row : hM A C (ix3 h r 0) = rM r (xl A C h r) := by
  rw [hM_apply]; simp only [ks_row hA hC]; rfl
theorem ke_row : hE A C (ix3 h r k) = rE r (xl A C h r) k := by
  rw [hE_apply, ks_row hA hC, km_row hA hC]; rfl
theorem kl_row : hL A C (ix3 h r 0) = rL r (xl A C h r) := by
  rw [hL_apply]; simp only [ke_row hA hC]; rfl
include hG in
theorem kdelta_row : hDelta A C G (ix3 h r 0) = ((∑ i : Fin 8192, xP r (xl A C h r) i * xD (xv A h) (xo G h r) i : ℝ) : EReal) := by
  rw [← delta_coe, hDelta_apply]
  simp only [hOut_apply, ke_row hA hC, kl_row hA hC, xv, xo, ← hA.eq, ← hG.eq]

theorem ker_wt (j : Fin 16) (c : Fin 512) :
    gW A (hStats A C G) (shapeCast _ C Cert.KernelIdeal.Gen.shapeCasts_S12x8192_S12x16x1x512) h r j c = (wt A C h r (key j c) : EReal) := by
  rw [gW, hStats_0, hStats_1, keys_apply, km_row hA hC, kl_row hA hC]
  have e := lg_real A C hA hC h r (key j c)
  rw [lg] at e
  rw [e]
  exact w_coe r _ _
include hG in
theorem ker_gr (j : Fin 16) (c : Fin 512) :
    gDs A G (hStats A C G) (shapeCast _ C Cert.KernelIdeal.Gen.shapeCasts_S12x8192_S12x16x1x512) h r j c = (gr A C G h r (key j c) : EReal) := by
  rw [gDs, ker_wt hA hC, hStats_2, kdelta_row hA hC hG]
  have e := dp_row hA hG h r (key j c)
  rw [dp_apply] at e
  rw [e]
  exact kds_coe r _ _ _ _
end ref

theorem key_kj (k : Fin 8192) : key (kj k) (kc k) = k := Fin.ext (by show 512 * (k.val / 512) + k.val % 512 = k.val; omega)

/-- A sum over the keys, block by block. -/
theorem sum_keys (f : Fin 8192 → EReal) : ∑ j : Fin 16, ∑ c : Fin 512, f (key j c) = ∑ k : Fin 8192, f k := by
  rw [← Fintype.sum_prod_type']
  exact Fintype.sum_equiv ⟨fun p : Fin 16 × Fin 512 => key p.1 p.2, fun k => (kj k, kc k), fun p => Prod.ext (kj_key p.1 p.2) (kc_key p.1 p.2), fun k => key_kj k⟩ _ _ fun _ => rfl

theorem ext2 {n k : ℕ} {f g : (⟨2, ![n, k]⟩ : Shape).Idx → EReal} (h : ∀ (a : Fin n) (b : Fin k), f (ix2 a b) = g (ix2 a b)) : f = g :=
  funext fun i => by rw [eq_ix2 i]; exact h _ _
theorem ext3 {n k l : ℕ} {f g : (⟨3, ![n, k, l]⟩ : Shape).Idx → EReal} (h : ∀ (a : Fin n) (b : Fin k) (c : Fin l), f (ix3 a b c) = g (ix3 a b c)) : f = g :=
  funext fun i => by rw [eq_ix3 i]; exact h _ _ _
theorem ext4 {n k l : ℕ} {f g : (⟨4, ![n, k, 1, l]⟩ : Shape).Idx → EReal} (h : ∀ (a : Fin n) (b : Fin k) (c : Fin l), f (ix4 a b 0 c) = g (ix4 a b 0 c)) : f = g :=
  funext fun i => by
    have e : i 2 = (0 : Fin 1) := Subsingleton.elim (α := Fin 1) _ _
    rw [eq_ix4 i, e]
    exact h _ _ _

section results
variable {A C G}
variable (hA : Fin' A) (hC : Fin' C) (hG : Fin' G)

/-- The key decays by blocks. -/
local notation "KK" => shapeCast _ C Cert.KernelIdeal.Gen.shapeCasts_S12x8192_S12x16x1x512

include hA hC hG in
theorem dq_eq : outDq A G (hStats A C G) KK = val_main_v92 (F := Ideal) A C G := by
  refine ext2 fun r e => ?_
  refine Eq.trans (?_ : ∑ j : Fin 16, dqBlk A G _ KK (eh e) r (ed e) j = _) (dq_apply A C G r e).symm
  simp only [dqBlk, ker_gr hA hC hG, ref_gr hA hC hG]
  exact sum_keys fun k => ((gr A C G (eh e) r k : EReal) * sc) * A (ix2 k (kcol (eh e) (ed e)))
include hA hC hG in
theorem dk_eq : outDk A G (hStats A C G) KK = val_main_v90 (F := Ideal) A C G := by
  refine ext2 fun k e => ?_
  refine Eq.trans (?_ : ∑ r : Fin 8192, (gDs A G _ KK (eh e) r (kj k) (kc k) * sc) * A (ix2 r (qcol (eh e) (ed e))) = _) (dk_apply A C G k e).symm
  simp only [ker_gr hA hC hG, ref_gr hA hC hG, key_kj]
include hA hC in
theorem dv_eq : outDv A G (hStats A C G) KK = val_main_v88 (F := Ideal) A C G := by
  refine ext2 fun k e => ?_
  refine Eq.trans (?_ : ∑ r : Fin 8192, gW A _ KK (eh e) r (kj k) (kc k) * G (ix2 r (ocol (eh e) (ed e))) = _) (dv_apply A C G k e).symm
  simp only [ker_wt hA hC, ref_wt hA hC, key_kj]
  exact Finset.sum_congr rfl fun r _ => mul_comm _ _
include hA hC hG in
theorem dst_eq : outDst A G (hStats A C G) KK = val_main_v94 (F := Ideal) A C G := by
  refine ext3 fun h r l => ?_
  refine Eq.trans (?_ : ∑ j : Fin 16, dsBlk A G _ KK h r l j = _) (dst_apply A C G h r l).symm
  rw [drow_apply]
  simp only [dsBlk, ker_gr hA hC hG, ref_gr hA hC hG]
  by_cases hl : l = 0
  · simp only [if_pos hl]
    exact sum_keys fun k => (gr A C G h r k : EReal)
  · simp only [if_neg hl, Finset.sum_const_zero]
include hA hC hG in
theorem dcr_eq : outDcr A G (hStats A C G) KK = val_main_v95 (F := Ideal) A C G := by
  refine ext4 fun h j c => ?_
  refine Eq.trans (?_ : ∑ n ∈ Finset.range (8 - j.val / 2), - ∑ a : Fin 1024, gDs A G _ KK h (row (1024 * (j.val / 2) + 1024 * n) a) j c = _) (dck_apply A C G h j c).symm
  rw [dcol_apply]
  simp only [ker_gr hA hC hG, ref_gr hA hC hG]
  have h1 : ∀ n : ℕ, - ∑ a : Fin 1024, (gr A C G h (row (1024 * (j.val / 2) + 1024 * n) a) (key j c) : EReal)
      = ∑ a : Fin 1024, ((- gr A C G h (row (1024 * (j.val / 2) + 1024 * n) a) (key j c) : ℝ) : EReal) := fun n => by
    rw [sum_coe, sum_coe, ← EReal.coe_neg, Finset.sum_neg_distrib]
  simp only [h1, ← EReal.coe_neg]
  have hj : j.val < 16 := j.isLt
  refine sum_tiles (fun r => ((- gr A C G h r (key j c) : ℝ) : EReal)) (j.val / 2) (8 - j.val / 2) (by omega) fun r hr => ?_
  have : gr A C G h r (key j c) = 0 := xG_above r _ _ _ _ (by
    show ¬ 512 * j.val + c.val ≤ r.val
    omega)
  simp only [this, neg_zero, EReal.coe_zero]
end results

end Cert.ReferenceIdeal.Fox
-- ==== Proof.FoxPre.lean ====
/-
  The precondition read at an element: an array whose absolute values are all below infinity holds real numbers.
-/
module

public import proofs.«01_k».proof.Defs
public import proofs.«01_k».proof.Proof.FoxEq

@[expose] public section
noncomputable section
namespace Cert.Pre_finite_inputs

open Idealize.ShloMosaic Idealize.ShloMosaic.TcCoe

theorem facts : Facts where
  bcast_S_S8192x5632 := ⟨by decide, by decide⟩
  bcast_S_S12x8192 := ⟨by decide, by decide⟩
  bcast_S_S8192x2048 := ⟨by decide, by decide⟩

theorem word_inf : Ideal.ofBits .f32 0x7F800000#32 = ⊤ := by simp [Ideal.ofBits, Ideal.ieee]

theorem real_of {x : EReal} (h : Ideal.cmp .olt (max x (-x)) (Ideal.ofBits .f32 0x7F800000#32) = 1#1) : ∃ y : ℝ, x = (y : EReal) := by
  rw [word_inf] at h
  have hx : max x (-x) < ⊤ := by
    by_contra hn
    simp [Ideal.cmp, hn] at h
  have h1 : x ≠ ⊤ := fun e => by simp [e] at hx
  have h2 : x ≠ ⊥ := fun e => by simp [e] at hx
  exact ⟨x.toReal, (EReal.coe_toReal h1 h2).symm⟩

theorem finite [Facts] (m : (ℓ : Loc Cert.KernelIdeal.nD Cert.KernelIdeal.τ Cert.KernelIdeal.sig) → Buf (Elt Ideal) ℓ) (h : Cert.Pre_KernelIdeal_finite_inputs m)
    (c : Dev Cert.KernelIdeal.nD) :
    Cert.ReferenceIdeal.Fox.Fin' (m ((c : Thread Cert.KernelIdeal.nD Cert.KernelIdeal.τ).loc Cert.KernelIdeal.main_arg0) : FVec Ideal S8192x5632 .f32)
    ∧ Cert.ReferenceIdeal.Fox.Fin' (m ((c : Thread Cert.KernelIdeal.nD Cert.KernelIdeal.τ).loc Cert.KernelIdeal.main_arg1) : FVec Ideal S12x8192 .f32)
    ∧ Cert.ReferenceIdeal.Fox.Fin' (m ((c : Thread Cert.KernelIdeal.nD Cert.KernelIdeal.τ).loc Cert.KernelIdeal.main_arg2) : FVec Ideal S8192x2048 .f32) :=
  ⟨fun i => real_of (congrFun (h c).1 i), fun i => real_of (congrFun (h c).2.1 i), fun i => real_of (congrFun (h c).2.2 i)⟩

end Cert.Pre_finite_inputs
-- ==== Proof.FoxClaim.lean ====
/-
  The claims about the backward pass of the heads: the frames of the three programs, and the equality of the kernel's results
  with the reference's.
-/
module

public import proofs.«01_k».proof.Proof.FoxPre

@[expose] public section
set_option maxRecDepth 16384
noncomputable section
namespace Cert.KernelIdeal.Fox

open Idealize.ShloMosaic Idealize.ShloMosaic.TcCoe Idealize.SL.Sem
open Cert.ReferenceIdeal.Read
open Cert.KernelIdeal.Gen

theorem frame_ideal : Cert.quiescent_KernelIdeal (hKernelIdeal := Cert.KernelIdeal.Gen.facts) := fun m ρ _ => frame (F := Ideal) m ρ

theorem frame_reference : Cert.quiescent_ReferenceIdeal (hReferenceIdeal := Cert.ReferenceIdeal.Gen.facts) := fun m ρ _ =>
  (θ_run Cert.ReferenceIdeal.defs _ _).mono (fun r h => ⟨fun c => (h c).2.2.2.2.2, Idealize.ShloMosaic.sem_eq_zero_of_no_sems (by decide) r.2⟩)
    (Cert.ReferenceIdeal.Value.run (F := Ideal) m ρ)

section values
variable (m : (ℓ : Loc nD τ sig) → Buf (Elt Ideal) ℓ) (c : Dev nD)

/-- The three argument arrays. -/
abbrev m0 : FVec Ideal S8192x5632 .f32 := m ((c : Thread nD τ).loc main_arg0)
abbrev m1 : FVec Ideal S12x8192 .f32 := m ((c : Thread nD τ).loc main_arg1)
abbrev m2 : FVec Ideal S8192x2048 .f32 := m ((c : Thread nD τ).loc main_arg2)

variable {m c}
variable (hA : Cert.ReferenceIdeal.Fox.Fin' (m0 m c)) (hC : Cert.ReferenceIdeal.Fox.Fin' (m1 m c)) (hG : Cert.ReferenceIdeal.Fox.Fin' (m2 m c))

theorem eA : aA m c = m0 m c := V_main_arg0 m c
theorem eG : aG m c = m2 m c := V_main_arg2 m c

include hA hC hG in
theorem res_dq : (dats m 0 c).arrAt 6 cfg0.N = val_main_v92 (F := Ideal) (m0 m c) (m1 m c) (m2 m c) := by
  rw [arr_dq, aT_eq, aR_eq, eA, eG]
  exact Cert.ReferenceIdeal.Fox.dq_eq hA hC hG
include hA hC hG in
theorem res_dk : (dats m 0 c).arrAt 7 cfg0.N = val_main_v90 (F := Ideal) (m0 m c) (m1 m c) (m2 m c) := by
  rw [arr_dk, aT_eq, aR_eq, eA, eG]
  exact Cert.ReferenceIdeal.Fox.dk_eq hA hC hG
include hA hC in
theorem res_dv : (dats m 0 c).arrAt 8 cfg0.N = val_main_v88 (F := Ideal) (m0 m c) (m1 m c) (m2 m c) := by
  rw [arr_dv, aT_eq, aR_eq, eA, eG]
  exact Cert.ReferenceIdeal.Fox.dv_eq hA hC
include hA hC hG in
theorem res_dst : (dats m 0 c).arrAt 9 cfg0.N = val_main_v94 (F := Ideal) (m0 m c) (m1 m c) (m2 m c) := by
  rw [arr_dst, aT_eq, aR_eq, eA, eG]
  exact Cert.ReferenceIdeal.Fox.dst_eq hA hC hG
include hA hC hG in
theorem res_dcr : (dats m 0 c).arrAt 10 cfg0.N = val_main_v95 (F := Ideal) (m0 m c) (m1 m c) (m2 m c) := by
  rw [arr_dcr, aT_eq, aR_eq, eA, eG]
  exact Cert.ReferenceIdeal.Fox.dcr_eq hA hC hG
end values

/-- The kernel's results over the initial memory. -/
theorem run_values (m : (ℓ : Loc nD τ sig) → Buf (Elt Ideal) ℓ) (ρ : Dev nD → PrngReg) (hpre : Cert.Pre_KernelIdeal_finite_inputs (hPre_finite_inputs := Cert.Pre_finite_inputs.facts) m) :
    θ_run defs (onTc (τ := τ) (main (F := Ideal))) ⟨m, fun _ => 0, ρ⟩ fun r => ∀ c : Dev nD,
      r.2.mem ((c : Thread nD τ).loc main_v48_0) = val_main_v92 (F := Ideal) (m0 m c) (m1 m c) (m2 m c)
      ∧ r.2.mem ((c : Thread nD τ).loc main_v48_1) = val_main_v90 (F := Ideal) (m0 m c) (m1 m c) (m2 m c)
      ∧ r.2.mem ((c : Thread nD τ).loc main_v48_2) = val_main_v88 (F := Ideal) (m0 m c) (m1 m c) (m2 m c)
      ∧ r.2.mem ((c : Thread nD τ).loc main_v48_3) = val_main_v94 (F := Ideal) (m0 m c) (m1 m c) (m2 m c)
      ∧ r.2.mem ((c : Thread nD τ).loc main_v48_4) = val_main_v95 (F := Ideal) (m0 m c) (m1 m c) (m2 m c) :=
  (θ_run defs _ _).mono (fun _ h c => by
    obtain ⟨hA, hC, hG⟩ := @Cert.Pre_finite_inputs.finite Cert.Pre_finite_inputs.facts m hpre c
    exact ⟨((h c).1 6).trans (res_dq hA hC hG), ((h c).1 7).trans (res_dk hA hC hG), ((h c).1 8).trans (res_dv hA hC),
      ((h c).1 9).trans (res_dst hA hC hG), ((h c).1 10).trans (res_dcr hA hC hG)⟩) (run_main (F := Ideal) m ρ)

theorem algebraic : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.facts) := fun m ρ m' ρ' hpre hagree =>
  ⟨fun c => val_main_v92 (F := Ideal) (m0 m c) (m1 m c) (m2 m c),
    fun c => val_main_v90 (F := Ideal) (m0 m c) (m1 m c) (m2 m c),
    fun c => val_main_v88 (F := Ideal) (m0 m c) (m1 m c) (m2 m c),
    fun c => val_main_v94 (F := Ideal) (m0 m c) (m1 m c) (m2 m c),
    fun c => val_main_v95 (F := Ideal) (m0 m c) (m1 m c) (m2 m c),
    (θ_run defs _ _).mono (fun _ h c => ⟨(h.1 c).1, (h.1 c).2.1, (h.1 c).2.2.1, (h.1 c).2.2.2.1, (h.1 c).2.2.2.2, (h.2.1 c).1, (h.2.1 c).2.1, (h.2.1 c).2.2⟩)
      (θ_run_and (run_values m ρ hpre) (frame m ρ)),
    (θ_run Cert.ReferenceIdeal.defs _ _).mono (fun _ h c => by
      obtain ⟨h0, h1, h2⟩ := hagree c
      obtain ⟨r0, r1, r2, r3, r4, ra⟩ := h c
      beta_reduce
      rw [show m0 m c = _ from h0.symm, show m1 m c = _ from h1.symm, show m2 m c = _ from h2.symm]
      exact ⟨r0.trans (val_main_v92_eq m' c), r1.trans (val_main_v90_eq m' c), r2.trans (val_main_v88_eq m' c), r3.trans (val_main_v94_eq m' c), r4.trans (val_main_v95_eq m' c), ra⟩)
      (Cert.ReferenceIdeal.Value.run (F := Ideal) m' ρ')⟩

end Cert.KernelIdeal.Fox
-- ==== Proof.MmSum.lean ====
/-
  A sum of products taken tile by tile is the whole sum: what the tiled products add up.
-/
module

public import Idealize.ShloMosaic.Lib.Pointwise

@[expose] public section
noncomputable section
namespace Cert.Mm

open Idealize.ShloMosaic

/-- A function of the numbers below `n`, as zero beyond them. -/
def zext {n : ℕ} (f : Fin n → EReal) (k : ℕ) : EReal := if h : k < n then f ⟨k, h⟩ else 0

/-- The sum of `f` over the numbers below `N`. -/
def upto {n : ℕ} (f : Fin n → EReal) (N : ℕ) : EReal := ∑ k ∈ Finset.range N, zext f k

theorem upto_all {n : ℕ} (f : Fin n → EReal) (N : ℕ) (h : N = n) : upto f N = ∑ k, f k := by
  subst h
  unfold upto
  rw [Finset.sum_range]
  exact Finset.sum_congr rfl fun k _ => dif_pos k.isLt

/-- The tile of length `l` that begins at `o` carries the sum from `o` to `o + l`. -/
theorem upto_add {n : ℕ} (f : Fin n → EReal) (o l N : ℕ) (hN : N = o + l) (g : Fin l → EReal) (hl : o + l ≤ n)
    (hg : ∀ k : Fin l, g k = f ⟨o + k.val, by omega⟩) : upto f o + ∑ k, g k = upto f N := by
  subst hN
  unfold upto
  rw [Finset.sum_range_add, Finset.sum_range (n := l)]
  refine congrArg _ (Finset.sum_congr rfl fun k _ => ?_)
  rw [hg k, zext, dif_pos (by omega)]

/-- The first tile. -/
theorem upto_first {n : ℕ} (f : Fin n → EReal) (l : ℕ) (g : Fin l → EReal) (hl : l ≤ n)
    (hg : ∀ k : Fin l, g k = f ⟨k.val, by omega⟩) : ∑ k, g k = upto f l := by
  unfold upto
  rw [Finset.sum_range]
  refine Finset.sum_congr rfl fun k _ => ?_
  rw [hg k, zext, dif_pos (by omega)]

theorem ext2 {n k : ℕ} {f g : (⟨2, ![n, k]⟩ : Shape).Idx → EReal} (h : ∀ (a : Fin n) (b : Fin k), f (ix2 a b) = g (ix2 a b)) : f = g :=
  funext fun i => by rw [eq_ix2 i]; exact h _ _
theorem ext3 {n k l : ℕ} {f g : (⟨3, ![n, k, l]⟩ : Shape).Idx → EReal} (h : ∀ (a : Fin n) (b : Fin k) (c : Fin l), f (ix3 a b c) = g (ix3 a b c)) : f = g :=
  funext fun i => by rw [eq_ix3 i]; exact h _ _ _

theorem zeros2 : (![0, 0] : Fin 2 → ℕ) = fun _ => 0 := funext fun a => by fin_cases a <;> rfl
theorem zeros3 : (![0, 0, 0] : Fin 3 → ℕ) = fun _ => 0 := funext fun a => by fin_cases a <;> rfl

end Cert.Mm
-- ==== Proof.Mm2.lean ====
/-
  The gradient of the MLP's hidden units before the squared relu, `dh` times the second weight transposed, times twice the
  positive part of `u`: 64 grid steps, each a whole sum. The array it leaves is the reference's.
-/
module

public import proofs.«01_k».proof.Defs
public import proofs.«01_k».proof.Proof.MmSum
public import proofs.«01_k».proof.Proof.Gen.Kernel2.Frame
public import proofs.«01_k».proof.Proof.Gen.Kernel2Ideal.Value
public import proofs.«01_k».proof.Proof.Gen.Reference2Ideal.Run
public import Idealize.ShloMosaic.Lib.Pipeline.ValueKit.Geometry

@[expose] public section
set_option maxRecDepth 16384
noncomputable section
namespace Cert.Kernel2Ideal.Mm

open Idealize.ShloMosaic Idealize.ShloMosaic.TcCoe Idealize.ShloMosaic.Tactic Idealize.SL.Sem
open Cert.Kernel2Ideal.Gen Cert.Kernel2Ideal.Value Cert.Mm

/-- The number two, as the program writes it. -/
def two : EReal := Scalar.ofBits (F := Ideal) .f32 0x40000000#32

section step
variable (c : Dev nD) (i : grid0.Coords) (a3 : Memref sig .tc .vmem S1024x2048 .f32) (h3 : a3.IsWhole)
  (a4 : Memref sig .tc .vmem S1024x2048 .bf16) (h4 : a4.IsWhole)
  (a5 : Memref sig .tc .vmem S1024x1024 .f32) (h5 : a5.IsWhole)
  (a6 : Memref sig .tc .vmem S1024x1024 .bf16) (h6 : a6.IsWhole)
  (a7 : Memref sig .tc .vmem S8x128 .f32) (h7 : a7.IsWhole)
  (x : Vec Ideal S1024x2048 .f32) (y : Vec Ideal S1024x2048 .bf16) (z : Vec Ideal S1024x1024 .f32)

/-- What a step leaves in its block. -/
theorem step_eq : out0_A_3 c i a3 h3 a4 h4 a5 h5 a6 h6 a7 h7 x y z = k0_pay1 x y z := by
  unfold out0_A_3
  rw [View.read_writes_eq_canon _ _ _ (cover0_A_3 c i a3 h3 a4 h4 a5 h5 a6 h6 a7 h7 x y z)]
  unfold kernelRun0_A
  dsimp only
  rw [View.canon_unit_zero zeros2]
  simp only [View.readAt_eq_ld, h3.read_unread, h4.read_unread, h5.read_unread, View.ld_unit_zero (S := S1024x2048) zeros2, View.ld_unit_zero (S := S1024x1024) zeros2]

theorem pay1_apply (p q : Fin 1024) : k0_pay1 x y z (ix2 p q) = (∑ k : Fin 2048, x (ix2 p k) * y (ix2 q k)) * two * max (z (ix2 p q)) 0 := by
  pointwise [k0_pay1, two]
end step

theorem N_eq : cfg0.N = 64 := N_0

theorem idx0 : ∀ t : Fin cfg0.N, win0_0.index t = ![t.val / 8, 0] := (by decide +kernel : ∀ t : Fin grid0.N, _)
theorem idx1 : ∀ t : Fin cfg0.N, win0_1.index t = ![t.val % 8, 0] := (by decide +kernel : ∀ t : Fin grid0.N, _)
theorem idx2 : ∀ t : Fin cfg0.N, win0_2.index t = ![t.val / 8, t.val % 8] := (by decide +kernel : ∀ t : Fin grid0.N, _)
theorem idx3 : ∀ t : Fin cfg0.N, win0_3.index t = ![t.val / 8, t.val % 8] := (by decide +kernel : ∀ t : Fin grid0.N, _)

/-- The row and the column of the result at place `p` of step `t`'s block. -/
def row (t : Fin cfg0.N) (p : Fin 1024) : Fin 8192 := ⟨1024 * (t.val / 8) + p.val, by have := t.isLt; have := N_eq; omega⟩
def col (t : Fin cfg0.N) (q : Fin 1024) : Fin 8192 := ⟨1024 * (t.val % 8) + q.val, by omega⟩

/-- The result: at each row and column the sum over the columns of `dh`, times twice the positive part of `u`. -/
def out (A : FVec Ideal S8192x2048 .f32) (B : FVec Ideal S8192x2048 .bf16) (U : FVec Ideal S8192x8192 .f32) : FVec Ideal S8192x8192 .bf16 :=
  fun i => (∑ k : Fin 2048, A (ix2 (i 0) k) * B (ix2 (i 1) k)) * two * max (U (ix2 (i 0) (i 1))) 0

variable (m : (ℓ : Loc nD τ sig) → Buf (Elt Ideal) ℓ) (c : Dev nD)

/-- The three arguments. -/
abbrev m0 : FVec Ideal S8192x2048 .f32 := m ((c : Thread nD τ).loc main_arg0)
abbrev m1 : FVec Ideal S8192x2048 .bf16 := m ((c : Thread nD τ).loc main_arg1)
abbrev m2 : FVec Ideal S8192x8192 .f32 := m ((c : Thread nD τ).loc main_arg2)

theorem iblk0 (t : Fin cfg0.N) (p : Fin 1024) (k : Fin 2048) : iblk m c 0 t (ix2 p k) = m0 m c (ix2 (row t p) k) := by
  blk_simp [iblk]
  refine congrArg (m0 m c) ?_
  blk_ext [idx0, row]
theorem iblk1 (t : Fin cfg0.N) (q : Fin 1024) (k : Fin 2048) : iblk m c 1 t (ix2 q k) = m1 m c (ix2 (col t q) k) := by
  blk_simp [iblk]
  refine congrArg (m1 m c) ?_
  blk_ext [idx1, col]
theorem iblk2 (t : Fin cfg0.N) (p q : Fin 1024) : iblk m c 2 t (ix2 p q) = m2 m c (ix2 (row t p) (col t q)) := by
  blk_simp [iblk]
  refine congrArg (m2 m c) ?_
  blk_ext [idx2, row, col]

theorem point_eq (t : Fin cfg0.N) (p q : Fin 1024) : outsAt0 m c t (ix2 p q) = out (m0 m c) (m1 m c) (m2 m c) (ix2 (row t p) (col t q)) := by
  unfold outsAt0
  rw [step_eq, pay1_apply, iblk2]
  exact congrArg (fun e => e * two * _) (Finset.sum_congr rfl fun k _ => by rw [iblk0, iblk1]; rfl)

/-- The array the call leaves. -/
theorem arr_eq : (dats m 0 c).arrAt 3 cfg0.N = out (m0 m c) (m1 m c) (m2 m c) := by
  refine (dats m 0 c).arrAt_eq_of_covers 3 _ (by decide +kernel) fun t hf y => ?_
  blk_simp
  rw [after0_3]
  have e : (win0_3.blk t).view.emb y = ix2 (row t (y 0)) (col t (y 1)) := by blk_ext [idx3, row, col]
  rw [e]
  have ey : y = ix2 (y 0) (y 1) := by blk_ext
  exact (congrArg _ ey).trans (point_eq m c t (y 0) (y 1))

/-- The reference's value. -/
theorem ref_eq (A : FVec Ideal S8192x2048 .f32) (B : FVec Ideal S8192x2048 .bf16) (U : FVec Ideal S8192x8192 .f32) :
    (truncf .bf16 (select (cmpf .ogt U (broadcastInDim S8192x8192 ![] Cert.Reference2Ideal.Facts₀.bcast_S_S8192x8192 (constant Cert.Reference2Ideal.S_ .f32 0x00000000#32)))
      (mulf (Host.dotGeneral Cert.Reference2Ideal.dot_S8192x2048_S8192x2048_S8192x8192_1_1_0_0_n_n none A (extf .f32 B Cert.Reference2Ideal.Facts₀.bitsLt_bf16_f32))
        (mulf (broadcastInDim S8192x8192 ![] Cert.Reference2Ideal.Facts₀.bcast_S_S8192x8192 (constant Cert.Reference2Ideal.S_ .f32 0x40000000#32))
          (maximumf U (broadcastInDim S8192x8192 ![] Cert.Reference2Ideal.Facts₀.bcast_S_S8192x8192 (constant Cert.Reference2Ideal.S_ .f32 0x00000000#32)))))
      (broadcastInDim S8192x8192 ![] Cert.Reference2Ideal.Facts₀.bcast_S_S8192x8192 (constant Cert.Reference2Ideal.S_ .f32 0x00000000#32)))
      Cert.Reference2Ideal.Facts₀.bitsLt_bf16_f32 : FVec Ideal S8192x8192 .bf16) = out A B U := by
  refine ext2 fun a b => ?_
  pointwise [out, two]
  split
  · exact (mul_assoc _ _ _).symm
  · rename_i h
    rw [max_eq_right (not_lt.mp h), mul_zero]

theorem frame_reference : Cert.quiescent_Reference2Ideal (hReference2Ideal := Cert.Reference2Ideal.Gen.facts) := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem algebraic : Cert.algebraic_Kernel2Ideal_Reference2Ideal (hKernel2Ideal := Cert.Kernel2Ideal.Gen.facts)
    (hReference2Ideal := Cert.Reference2Ideal.Gen.facts) := fun m ρ m' ρ' _ hagree =>
  ⟨fun c => out (m0 m c) (m1 m c) (m2 m c),
    (θ_run defs _ _).mono (fun _ h c => ⟨(h c).1.trans (arr_eq m c), (h c).2⟩) (run_blocks (F := Ideal) m ρ),
    (θ_run Cert.Reference2Ideal.defs _ _).mono (fun _ h c => by
      obtain ⟨h0, h1, h2⟩ := hagree c
      beta_reduce
      rw [show m0 m c = _ from h0.symm, show m1 m c = _ from h1.symm, show m2 m c = _ from h2.symm]
      exact ⟨(h c).1.trans (ref_eq _ _ _), (h c).2⟩)
      (Cert.Reference2Ideal.Value.run (F := Ideal) m' ρ')⟩

end Cert.Kernel2Ideal.Mm
-- ==== Proof.Mm3.lean ====
/-
  The gradient of the second MLP weight, `act` transposed times `dh`: 64 grid steps, four tiles of 2048 tokens for each
  block, added up in a scratch buffer. The array it leaves is the reference's.
-/
module

public import proofs.«01_k».proof.Defs
public import proofs.«01_k».proof.Proof.MmSum
public import proofs.«01_k».proof.Proof.Gen.Kernel3.Frame
public import proofs.«01_k».proof.Proof.Gen.Kernel3Ideal.Value
public import proofs.«01_k».proof.Proof.Gen.Reference3Ideal.Run
public import Idealize.ShloMosaic.Lib.Pipeline.ValueKit.Geometry

@[expose] public section
set_option maxRecDepth 16384
noncomputable section
namespace Cert.Kernel3Ideal.Mm

open Idealize.ShloMosaic Idealize.ShloMosaic.TcCoe Idealize.ShloMosaic.Tactic Idealize.SL.Sem
open Cert.Kernel3Ideal.Gen Cert.Kernel3Ideal.Value Cert.Mm

section step
variable (c : Dev nD) (i : grid0.Coords) (a3 : Memref sig .tc .vmem S2048x1024 .bf16) (h3 : a3.IsWhole)
  (a4 : Memref sig .tc .vmem S2048x1024 .f32) (h4 : a4.IsWhole) (a5 : Memref sig .tc .vmem S1024x1024 .bf16) (h5 : a5.IsWhole)
  (a6 : Memref sig .tc .vmem S1024x1024 .f32) (h6 : a6.IsWhole)
  (x : Vec Ideal S2048x1024 .bf16) (y : Vec Ideal S2048x1024 .f32) (s : Vec Ideal S1024x1024 .f32)

/-- The first tile leaves its product. -/
theorem first_eq (hc0 : cond0_0 i) (hc1 : ¬cond0_1 i) (hc2 : ¬cond0_2 i) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero zeros2]
  simp only [View.readAt_eq_ld, h3.read_unread, h4.read_unread, View.ld_unit_zero (S := S2048x1024) zeros2]

/-- A middle tile adds its product. -/
theorem mid_eq (hc0 : ¬cond0_0 i) (hc1 : cond0_1 i) (hc2 : ¬cond0_2 i) :
    sout0_B_0 c i a3 h3 a4 h4 a5 h5 a6 h6 hc0 hc1 hc2 x y s = k0_pay3 x y s := by
  unfold sout0_B_0
  rw [View.read_writes_eq_canon _ _ _ (scover0_B_0 c i a3 h3 a4 h4 a5 h5 a6 h6 hc0 hc1 hc2 x y s)]
  unfold kernelRun0_B
  dsimp only
  rw [View.canon_unit_zero zeros2]
  simp only [View.readAt_eq_ld, h3.read_unread, h4.read_unread, h6.read_unread, View.ld_unit_zero (S := S2048x1024) zeros2, View.ld_unit_zero (S := S1024x1024) zeros2]

/-- The last tile adds its product and writes the sum to the block. -/
theorem last_eq (hc0 : ¬cond0_0 i) (hc1 : cond0_1 i) (hc2 : cond0_2 i) :
    out0_C_2 c i a3 h3 a4 h4 a5 h5 a6 h6 hc0 hc1 hc2 x y s = k0_pay4 (k0_pay3 x y s) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero zeros2, View.readCov_unit_zero (S := S1024x1024) _ zeros2]
  simp only [View.readAt_eq_ld, h3.read_unread, h4.read_unread, h6.read_unread, View.ld_unit_zero (S := S2048x1024) zeros2, View.ld_unit_zero (S := S1024x1024) zeros2]

theorem pay2_apply (p q : Fin 1024) : k0_pay2 x y (ix2 p q) = ∑ k : Fin 2048, x (ix2 k p) * y (ix2 k q) := by
  pointwise [k0_pay2, k0_pay1]
theorem pay3_apply (p q : Fin 1024) : k0_pay3 x y s (ix2 p q) = s (ix2 p q) + ∑ k : Fin 2048, x (ix2 k p) * y (ix2 k q) := by
  pointwise [k0_pay3, k0_pay1]
theorem pay4_apply (p q : Fin 1024) : k0_pay4 s (ix2 p q) = s (ix2 p q) := by
  pointwise [k0_pay4]
end step

theorem N_eq : cfg0.N = 64 := N_0

theorem idx0 : ∀ t : Fin cfg0.N, win0_0.index t = ![t.val % 4, t.val / 8] := (by decide +kernel : ∀ t : Fin grid0.N, _)
theorem idx1 : ∀ t : Fin cfg0.N, win0_1.index t = ![t.val % 4, t.val / 4 % 2] := (by decide +kernel : ∀ t : Fin grid0.N, _)
theorem idx2 : ∀ t : Fin cfg0.N, win0_2.index t = ![t.val / 8, t.val / 4 % 2] := (by decide +kernel : ∀ t : Fin grid0.N, _)

/-- The row and the column of the result at place `p` of step `t`'s block, and the token at place `k` of its tile. -/
def row (t : Fin cfg0.N) (p : Fin 1024) : Fin 8192 := ⟨1024 * (t.val / 8) + p.val, by have := t.isLt; have := N_eq; omega⟩
def col (t : Fin cfg0.N) (q : Fin 1024) : Fin 2048 := ⟨1024 * (t.val / 4 % 2) + q.val, by omega⟩
def tok (t : Fin cfg0.N) (k : Fin 2048) : Fin 8192 := ⟨2048 * (t.val % 4) + k.val, by omega⟩

/-- The products that make the result at row `i` and column `j`. -/
def term (A : FVec Ideal S8192x8192 .bf16) (B : FVec Ideal S8192x2048 .f32) (i : Fin 8192) (j : Fin 2048) (k : Fin 8192) : EReal :=
  A (ix2 k i) * B (ix2 k j)

/-- The result: at each row and column the sum over the tokens. -/
def out (A : FVec Ideal S8192x8192 .bf16) (B : FVec Ideal S8192x2048 .f32) : FVec Ideal S8192x2048 .bf16 :=
  fun i => ∑ k, term A B (i 0) (i 1) k

variable (m : (ℓ : Loc nD τ sig) → Buf (Elt Ideal) ℓ) (c : Dev nD)

/-- The two arguments. -/
abbrev m0 : FVec Ideal S8192x8192 .bf16 := m ((c : Thread nD τ).loc main_arg0)
abbrev m1 : FVec Ideal S8192x2048 .f32 := m ((c : Thread nD τ).loc main_arg1)

theorem iblk0 (t : Fin cfg0.N) (k : Fin 2048) (p : Fin 1024) : iblk m c 0 t (ix2 k p) = m0 m c (ix2 (tok t k) (row t p)) := by
  blk_simp [iblk]
  refine congrArg (m0 m c) ?_
  blk_ext [idx0, tok, row]
theorem iblk1 (t : Fin cfg0.N) (k : Fin 2048) (q : Fin 1024) : iblk m c 1 t (ix2 k q) = m1 m c (ix2 (tok t k) (col t q)) := by
  blk_simp [iblk]
  refine congrArg (m1 m c) ?_
  blk_ext [idx1, tok, col]

/-- What the scratch buffer holds after step `t`: the sum over the tokens of the tiles so far. -/
theorem scratch_eq (p q : Fin 1024) : ∀ (n : ℕ) (h : n < cfg0.N), ¬n % 4 = 3 →
    (outsAt0 m c n h).2 (ix2 p q) = upto (term (m0 m c) (m1 m c) (row ⟨n, h⟩ p) (col ⟨n, h⟩ q)) (2048 * (n % 4) + 2048)
  | n, h, h3 => by
    by_cases h0 : n % 4 = 0
    · rw [outsAt0_A m c ⟨n, h⟩ h0 (by dsimp only; omega) h3]
      dsimp only
      rw [first_eq, pay2_apply, h0]
      refine upto_first _ _ _ (by omega) fun k => ?_
      rw [iblk0, iblk1]
      have e : tok ⟨n, h⟩ k = ⟨k.val, by omega⟩ := Fin.ext (by show 2048 * (n % 4) + k.val = k.val; omega)
      rw [e]; rfl
    · have hp : n - 1 < cfg0.N := by omega
      have ih := scratch_eq p q (n - 1) hp (by omega)
      have er : row ⟨n - 1, hp⟩ p = row ⟨n, h⟩ p := Fin.ext (by show 1024 * ((n - 1) / 8) + p.val = 1024 * (n / 8) + p.val; omega)
      have ec : col ⟨n - 1, hp⟩ q = col ⟨n, h⟩ q := Fin.ext (by show 1024 * ((n - 1) / 4 % 2) + q.val = 1024 * (n / 4 % 2) + q.val; omega)
      rw [er, ec, show 2048 * ((n - 1) % 4) + 2048 = 2048 * (n % 4) by omega] at ih
      rw [outsAt0_B m c ⟨n, h⟩ h0 (by dsimp only; omega) h3]
      dsimp only
      rw [mid_eq, pay3_apply, ih]
      refine upto_add _ _ _ _ rfl _ (by omega) fun k => ?_
      rw [iblk0, iblk1]
      rfl
  termination_by n => n

/-- The block a last tile leaves: the whole sum. -/
theorem point_eq (t : Fin cfg0.N) (h3 : t.val % 4 = 3) (p q : Fin 1024) :
    (outsAt0 m c t.val t.isLt).1 (ix2 p q) = ∑ k, term (m0 m c) (m1 m c) (row t p) (col t q) k := by
  have hp : t.val - 1 < cfg0.N := by have := t.isLt; omega
  have ih := scratch_eq m c p q (t.val - 1) hp (by omega)
  have er : row ⟨t.val - 1, hp⟩ p = row t p := Fin.ext (by show 1024 * ((t.val - 1) / 8) + p.val = 1024 * (t.val / 8) + p.val; omega)
  have ec : col ⟨t.val - 1, hp⟩ q = col t q := Fin.ext (by show 1024 * ((t.val - 1) / 4 % 2) + q.val = 1024 * (t.val / 4 % 2) + q.val; omega)
  rw [er, ec, show 2048 * ((t.val - 1) % 4) + 2048 = 2048 * (t.val % 4) by omega] at ih
  rw [outsAt0_C m c t (by omega) (by omega) h3]
  dsimp only
  rw [last_eq, pay4_apply, pay3_apply, ih, ← upto_all (term (m0 m c) (m1 m c) (row t p) (col t q)) (2048 * (t.val % 4) + 2048) (by rw [h3])]
  refine upto_add _ _ _ _ rfl _ (by omega) fun k => ?_
  rw [iblk0, iblk1]
  rfl

/-- The array the call leaves. -/
theorem arr_eq : (dats m 0 c).arrAt 2 cfg0.N = out (m0 m c) (m1 m c) := by
  refine (dats m 0 c).arrAt_eq_of_covers 2 _ (by decide +kernel) fun t hf y => ?_
  blk_simp
  rw [after0_2]
  have e : (win0_2.blk t).view.emb y = ix2 (row t (y 0)) (col t (y 1)) := by blk_ext [idx2, row, col]
  rw [e]
  have ey : y = ix2 (y 0) (y 1) := by blk_ext
  exact (congrArg _ ey).trans (point_eq m c t ((flush0_2 t).mp hf) (y 0) (y 1))

/-- The reference's value. -/
theorem ref_eq (A : FVec Ideal S8192x8192 .bf16) (B : FVec Ideal S8192x2048 .f32) :
    (truncf .bf16 (transpose S8192x2048 [1, 0] (Host.dotGeneral Cert.Reference3Ideal.dot_S8192x2048_S8192x8192_S2048x8192_0_0_1_1_n_n none B
      (extf .f32 A Cert.Reference3Ideal.Facts₀.bitsLt_bf16_f32)) Cert.Reference3Ideal.Facts₀.transposes_S2048x8192_S8192x2048_1_0)
      Cert.Reference3Ideal.Facts₀.bitsLt_bf16_f32 : FVec Ideal S8192x2048 .bf16) = out A B := by
  refine ext2 fun a b => ?_
  pointwise [out, term, mul_comm]

theorem frame_reference : Cert.quiescent_Reference3Ideal (hReference3Ideal := Cert.Reference3Ideal.Gen.facts) := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem algebraic : Cert.algebraic_Kernel3Ideal_Reference3Ideal (hKernel3Ideal := Cert.Kernel3Ideal.Gen.facts)
    (hReference3Ideal := Cert.Reference3Ideal.Gen.facts) := fun m ρ m' ρ' _ hagree =>
  ⟨fun c => out (m0 m c) (m1 m c),
    (θ_run defs _ _).mono (fun _ h c => ⟨(h c).1.trans (arr_eq m c), (h c).2⟩) (run_blocks (F := Ideal) m ρ),
    (θ_run Cert.Reference3Ideal.defs _ _).mono (fun _ h c => by
      obtain ⟨h0, h1⟩ := hagree c
      beta_reduce
      rw [show m0 m c = _ from h0.symm, show m1 m c = _ from h1.symm]
      exact ⟨(h c).1.trans (ref_eq _ _), (h c).2⟩)
      (Cert.Reference3Ideal.Value.run (F := Ideal) m' ρ')⟩

end Cert.Kernel3Ideal.Mm
-- ==== Proof.Mm4.lean ====
/-
  The gradient of the MLP's input, `du` times the first weight transposed, the weight stored by column shards: 128 grid
  steps, eight tiles of 1024 hidden units for each block, one a shard, added up in a scratch buffer. The array it leaves is the reference's.
-/
module

public import proofs.«01_k».proof.Defs
public import proofs.«01_k».proof.Proof.MmSum
public import proofs.«01_k».proof.Proof.Gen.Kernel4.Frame
public import proofs.«01_k».proof.Proof.Gen.Kernel4Ideal.Value
public import proofs.«01_k».proof.Proof.Gen.Reference4Ideal.Run
public import Idealize.ShloMosaic.Lib.Pipeline.ValueKit.Geometry

@[expose] public section
set_option maxRecDepth 16384
noncomputable section
namespace Cert.Kernel4Ideal.Mm

open Idealize.ShloMosaic Idealize.ShloMosaic.TcCoe Idealize.ShloMosaic.Tactic Idealize.SL.Sem
open Cert.Kernel4Ideal.Gen Cert.Kernel4Ideal.Value Cert.Mm

section step
variable (c : Dev nD) (i : grid0.Coords) (a3 : Memref sig .tc .vmem S1024x1024 .bf16) (h3 : a3.IsWhole)
  (a4 : Memref sig .tc .vmem S1x1024x1024 .bf16) (h4 : a4.IsWhole) (a5 : Memref sig .tc .vmem S1024x1024 .f32) (h5 : a5.IsWhole)
  (a6 : Memref sig .tc .vmem S1024x1024 .f32) (h6 : a6.IsWhole)
  (x : Vec Ideal S1024x1024 .bf16) (y : Vec Ideal S1x1024x1024 .bf16) (s : Vec Ideal S1024x1024 .f32)

/-- The first tile leaves its product. -/
theorem first_eq (hc0 : cond0_0 i) (hc1 : ¬cond0_1 i) (hc2 : ¬cond0_2 i) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero zeros2]
  simp only [View.readAt_eq_ld, h3.read_unread, h4.read_unread, View.ld_unit_zero (S := S1024x1024) zeros2, View.ld_unit_zero (S := S1x1024x1024) zeros3]

/-- A middle tile adds its product. -/
theorem mid_eq (hc0 : ¬cond0_0 i) (hc1 : cond0_1 i) (hc2 : ¬cond0_2 i) :
    sout0_B_0 c i a3 h3 a4 h4 a5 h5 a6 h6 hc0 hc1 hc2 x y s = k0_pay3 x y s := by
  unfold sout0_B_0
  rw [View.read_writes_eq_canon _ _ _ (scover0_B_0 c i a3 h3 a4 h4 a5 h5 a6 h6 hc0 hc1 hc2 x y s)]
  unfold kernelRun0_B
  dsimp only
  rw [View.canon_unit_zero zeros2]
  simp only [View.readAt_eq_ld, h3.read_unread, h4.read_unread, h6.read_unread, View.ld_unit_zero (S := S1024x1024) zeros2, View.ld_unit_zero (S := S1x1024x1024) zeros3]

/-- The last tile adds its product and writes the sum to the block. -/
theorem last_eq (hc0 : ¬cond0_0 i) (hc1 : cond0_1 i) (hc2 : cond0_2 i) :
    out0_C_2 c i a3 h3 a4 h4 a5 h5 a6 h6 hc0 hc1 hc2 x y s = k0_pay3 x y s := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero zeros2, View.readCov_unit_zero (S := S1024x1024) _ zeros2]
  simp only [View.readAt_eq_ld, h3.read_unread, h4.read_unread, h6.read_unread, View.ld_unit_zero (S := S1024x1024) zeros2, View.ld_unit_zero (S := S1x1024x1024) zeros3]

theorem pay2_apply (p q : Fin 1024) : k0_pay2 x y (ix2 p q) = ∑ k : Fin 1024, x (ix2 p k) * y (ix3 0 q k) := by
  pointwise [k0_pay2, k0_pay1]
theorem pay3_apply (p q : Fin 1024) : k0_pay3 x y s (ix2 p q) = s (ix2 p q) + ∑ k : Fin 1024, x (ix2 p k) * y (ix3 0 q k) := by
  pointwise [k0_pay3, k0_pay1]
end step

theorem N_eq : cfg0.N = 128 := N_0

theorem idx0 : ∀ t : Fin cfg0.N, win0_0.index t = ![t.val / 16, t.val % 8] := (by decide +kernel : ∀ t : Fin grid0.N, _)
theorem idx1 : ∀ t : Fin cfg0.N, win0_1.index t = ![t.val % 8, t.val / 8 % 2, 0] := (by decide +kernel : ∀ t : Fin grid0.N, _)
theorem idx2 : ∀ t : Fin cfg0.N, win0_2.index t = ![t.val / 16, t.val / 8 % 2] := (by decide +kernel : ∀ t : Fin grid0.N, _)

/-- The row and the column of the result at place `p` of step `t`'s block, and the hidden unit at place `k` of its tile. -/
def row (t : Fin cfg0.N) (p : Fin 1024) : Fin 8192 := ⟨1024 * (t.val / 16) + p.val, by have := t.isLt; have := N_eq; omega⟩
def col (t : Fin cfg0.N) (q : Fin 1024) : Fin 2048 := ⟨1024 * (t.val / 8 % 2) + q.val, by omega⟩
def tok (t : Fin cfg0.N) (k : Fin 1024) : Fin 8192 := ⟨1024 * (t.val % 8) + k.val, by omega⟩

/-- The hidden units by shard: unit `k` is place `k % 1024` of shard `k / 1024`. -/
def shard (k : Fin 8192) : Fin 8 := ⟨k.val / 1024, by omega⟩
def place (k : Fin 8192) : Fin 1024 := ⟨k.val % 1024, by omega⟩

/-- The products that make the result at row `i` and column `j`. -/
def term (A : FVec Ideal S8192x8192 .bf16) (B : FVec Ideal S8x2048x1024 .bf16) (i : Fin 8192) (j : Fin 2048) (k : Fin 8192) : EReal :=
  A (ix2 i k) * B (ix3 (shard k) j (place k))

/-- The result: at each row and column the sum over the hidden units. -/
def out (A : FVec Ideal S8192x8192 .bf16) (B : FVec Ideal S8x2048x1024 .bf16) : FVec Ideal S8192x2048 .f32 :=
  fun i => ∑ k, term A B (i 0) (i 1) k

variable (m : (ℓ : Loc nD τ sig) → Buf (Elt Ideal) ℓ) (c : Dev nD)

/-- The two arguments. -/
abbrev m0 : FVec Ideal S8192x8192 .bf16 := m ((c : Thread nD τ).loc main_arg0)
abbrev m1 : FVec Ideal S8x2048x1024 .bf16 := m ((c : Thread nD τ).loc main_arg1)

theorem iblk0 (t : Fin cfg0.N) (p k : Fin 1024) : iblk m c 0 t (ix2 p k) = m0 m c (ix2 (row t p) (tok t k)) := by
  blk_simp [iblk]
  refine congrArg (m0 m c) ?_
  blk_ext [idx0, tok, row]
theorem iblk1 (t : Fin cfg0.N) (q k : Fin 1024) : iblk m c 1 t (ix3 0 q k) = m1 m c (ix3 (shard (tok t k)) (col t q) (place (tok t k))) := by
  blk_simp [iblk]
  refine congrArg (m1 m c) ?_
  blk_ext [idx1, tok, col, shard, place]

/-- What the scratch buffer holds after step `t`: the sum over the hidden units of the tiles so far. -/
theorem scratch_eq (p q : Fin 1024) : ∀ (n : ℕ) (h : n < cfg0.N), ¬n % 8 = 7 →
    (outsAt0 m c n h).2 (ix2 p q) = upto (term (m0 m c) (m1 m c) (row ⟨n, h⟩ p) (col ⟨n, h⟩ q)) (1024 * (n % 8) + 1024)
  | n, h, h3 => by
    by_cases h0 : n % 8 = 0
    · rw [outsAt0_A m c ⟨n, h⟩ h0 (by dsimp only; omega) h3]
      dsimp only
      rw [first_eq, pay2_apply, h0]
      refine upto_first _ _ _ (by omega) fun k => ?_
      rw [iblk0, iblk1]
      have e : tok ⟨n, h⟩ k = ⟨k.val, by omega⟩ := Fin.ext (by show 1024 * (n % 8) + k.val = k.val; omega)
      rw [e]; rfl
    · have hp : n - 1 < cfg0.N := by omega
      have ih := scratch_eq p q (n - 1) hp (by omega)
      have er : row ⟨n - 1, hp⟩ p = row ⟨n, h⟩ p := Fin.ext (by show 1024 * ((n - 1) / 16) + p.val = 1024 * (n / 16) + p.val; omega)
      have ec : col ⟨n - 1, hp⟩ q = col ⟨n, h⟩ q := Fin.ext (by show 1024 * ((n - 1) / 8 % 2) + q.val = 1024 * (n / 8 % 2) + q.val; omega)
      rw [er, ec, show 1024 * ((n - 1) % 8) + 1024 = 1024 * (n % 8) by omega] at ih
      rw [outsAt0_B m c ⟨n, h⟩ h0 (by dsimp only; omega) h3]
      dsimp only
      rw [mid_eq, pay3_apply, ih]
      refine upto_add _ _ _ _ rfl _ (by omega) fun k => ?_
      rw [iblk0, iblk1]
      rfl
  termination_by n => n

/-- The block a last tile leaves: the whole sum. -/
theorem point_eq (t : Fin cfg0.N) (h3 : t.val % 8 = 7) (p q : Fin 1024) :
    (outsAt0 m c t.val t.isLt).1 (ix2 p q) = ∑ k, term (m0 m c) (m1 m c) (row t p) (col t q) k := by
  have hp : t.val - 1 < cfg0.N := by have := t.isLt; omega
  have ih := scratch_eq m c p q (t.val - 1) hp (by omega)
  have er : row ⟨t.val - 1, hp⟩ p = row t p := Fin.ext (by show 1024 * ((t.val - 1) / 16) + p.val = 1024 * (t.val / 16) + p.val; omega)
  have ec : col ⟨t.val - 1, hp⟩ q = col t q := Fin.ext (by show 1024 * ((t.val - 1) / 8 % 2) + q.val = 1024 * (t.val / 8 % 2) + q.val; omega)
  rw [er, ec, show 1024 * ((t.val - 1) % 8) + 1024 = 1024 * (t.val % 8) by omega] at ih
  rw [outsAt0_C m c t (by omega) (by omega) h3]
  dsimp only
  rw [last_eq, pay3_apply, ih, ← upto_all (term (m0 m c) (m1 m c) (row t p) (col t q)) (1024 * (t.val % 8) + 1024) (by rw [h3])]
  refine upto_add _ _ _ _ rfl _ (by omega) fun k => ?_
  rw [iblk0, iblk1]
  rfl

/-- The array the call leaves. -/
theorem arr_eq : (dats m 0 c).arrAt 2 cfg0.N = out (m0 m c) (m1 m c) := by
  refine (dats m 0 c).arrAt_eq_of_covers 2 _ (by decide +kernel) fun t hf y => ?_
  blk_simp
  rw [after0_2]
  have e : (win0_2.blk t).view.emb y = ix2 (row t (y 0)) (col t (y 1)) := by blk_ext [idx2, row, col]
  rw [e]
  have ey : y = ix2 (y 0) (y 1) := by blk_ext
  exact (congrArg _ ey).trans (point_eq m c t ((flush0_2 t).mp hf) (y 0) (y 1))

/-- The reference's value. -/
theorem ref_eq (A : FVec Ideal S8192x8192 .bf16) (B : FVec Ideal S8x2048x1024 .bf16) :
    (Host.dotGeneral Cert.Reference4Ideal.dot_S8192x8192_S2048x8192_S8192x2048_1_1_0_0_n_n none (extf .f32 A Cert.Reference4Ideal.Facts₀.bitsLt_bf16_f32)
      (shapeCast _ (transpose Cert.Reference4Ideal.S2048x8x1024 [1, 0, 2] (extf .f32 B Cert.Reference4Ideal.Facts₀.bitsLt_bf16_f32)
        Cert.Reference4Ideal.Facts₀.transposes_S8x2048x1024_S2048x8x1024_1_0_2) Cert.Reference4Ideal.Facts₀.shapeCasts_S2048x8x1024_S2048x8192)
      : FVec Ideal S8192x2048 .f32) = out A B := by
  refine ext2 fun a b => ?_
  pointwise [out, term, shard, place]

theorem frame_reference : Cert.quiescent_Reference4Ideal (hReference4Ideal := Cert.Reference4Ideal.Gen.facts) := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem algebraic : Cert.algebraic_Kernel4Ideal_Reference4Ideal (hKernel4Ideal := Cert.Kernel4Ideal.Gen.facts)
    (hReference4Ideal := Cert.Reference4Ideal.Gen.facts) := fun m ρ m' ρ' _ hagree =>
  ⟨fun c => out (m0 m c) (m1 m c),
    (θ_run defs _ _).mono (fun _ h c => ⟨(h c).1.trans (arr_eq m c), (h c).2⟩) (run_blocks (F := Ideal) m ρ),
    (θ_run Cert.Reference4Ideal.defs _ _).mono (fun _ h c => by
      obtain ⟨h0, h1⟩ := hagree c
      beta_reduce
      rw [show m0 m c = _ from h0.symm, show m1 m c = _ from h1.symm]
      exact ⟨(h c).1.trans (ref_eq _ _), (h c).2⟩)
      (Cert.Reference4Ideal.Value.run (F := Ideal) m' ρ')⟩

end Cert.Kernel4Ideal.Mm
-- ==== Proof.Mm5.lean ====
/-
  The gradient of the first MLP weight, the normalised tokens transposed times `du`, stored by column shards: 64 grid
  steps, four tiles of 2048 tokens for each block, added up in a scratch buffer. The array it leaves is the reference's.
-/
module

public import proofs.«01_k».proof.Defs
public import proofs.«01_k».proof.Proof.MmSum
public import proofs.«01_k».proof.Proof.Gen.Kernel5.Frame
public import proofs.«01_k».proof.Proof.Gen.Kernel5Ideal.Value
public import proofs.«01_k».proof.Proof.Gen.Reference5Ideal.Run
public import Idealize.ShloMosaic.Lib.Pipeline.ValueKit.Geometry

@[expose] public section
set_option maxRecDepth 16384
noncomputable section
namespace Cert.Kernel5Ideal.Mm

open Idealize.ShloMosaic Idealize.ShloMosaic.TcCoe Idealize.ShloMosaic.Tactic Idealize.SL.Sem
open Cert.Kernel5Ideal.Gen Cert.Kernel5Ideal.Value Cert.Mm

section step
variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1x1024x1024 .bf16) (h5 : a5.IsWhole)
  (a6 : Memref sig .tc .vmem S1024x1024 .f32) (h6 : a6.IsWhole)
  (x : Vec Ideal S2048x1024 .bf16) (y : Vec Ideal S2048x1024 .bf16) (s : Vec Ideal S1024x1024 .f32)

/-- The first tile leaves its product. -/
theorem first_eq (hc0 : cond0_0 i) (hc1 : ¬cond0_1 i) (hc2 : ¬cond0_2 i) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero zeros2]
  simp only [View.readAt_eq_ld, h3.read_unread, h4.read_unread, View.ld_unit_zero (S := S2048x1024) zeros2]

/-- A middle tile adds its product. -/
theorem mid_eq (hc0 : ¬cond0_0 i) (hc1 : cond0_1 i) (hc2 : ¬cond0_2 i) :
    sout0_B_0 c i a3 h3 a4 h4 a5 h5 a6 h6 hc0 hc1 hc2 x y s = k0_pay3 x y s := by
  unfold sout0_B_0
  rw [View.read_writes_eq_canon _ _ _ (scover0_B_0 c i a3 h3 a4 h4 a5 h5 a6 h6 hc0 hc1 hc2 x y s)]
  unfold kernelRun0_B
  dsimp only
  rw [View.canon_unit_zero zeros2]
  simp only [View.readAt_eq_ld, h3.read_unread, h4.read_unread, h6.read_unread, View.ld_unit_zero (S := S2048x1024) zeros2, View.ld_unit_zero (S := S1024x1024) zeros2]

/-- The last tile adds its product and writes the sum to the block. -/
theorem last_eq (hc0 : ¬cond0_0 i) (hc1 : cond0_1 i) (hc2 : cond0_2 i) :
    out0_C_2 c i a3 h3 a4 h4 a5 h5 a6 h6 hc0 hc1 hc2 x y s = k0_pay4 (k0_pay3 x y s) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero zeros3, View.readCov_unit_zero (S := S1024x1024) _ zeros2]
  simp only [View.readAt_eq_ld, h3.read_unread, h4.read_unread, h6.read_unread, View.ld_unit_zero (S := S2048x1024) zeros2, View.ld_unit_zero (S := S1024x1024) zeros2]

theorem pay2_apply (p q : Fin 1024) : k0_pay2 x y (ix2 p q) = ∑ k : Fin 2048, x (ix2 k p) * y (ix2 k q) := by
  pointwise [k0_pay2, k0_pay1]
theorem pay3_apply (p q : Fin 1024) : k0_pay3 x y s (ix2 p q) = s (ix2 p q) + ∑ k : Fin 2048, x (ix2 k p) * y (ix2 k q) := by
  pointwise [k0_pay3, k0_pay1]
theorem pay4_apply (p q : Fin 1024) : k0_pay4 s (ix3 0 p q) = s (ix2 p q) := by
  pointwise [k0_pay4]
end step

theorem N_eq : cfg0.N = 64 := N_0

theorem idx0 : ∀ t : Fin cfg0.N, win0_0.index t = ![t.val % 4, t.val / 32] := (by decide +kernel : ∀ t : Fin grid0.N, _)
theorem idx1 : ∀ t : Fin cfg0.N, win0_1.index t = ![t.val % 4, t.val / 4 % 8] := (by decide +kernel : ∀ t : Fin grid0.N, _)
theorem idx2 : ∀ t : Fin cfg0.N, win0_2.index t = ![t.val / 4 % 8, t.val / 32, 0] := (by decide +kernel : ∀ t : Fin grid0.N, _)

/-- The row and the column of the result at place `p` of step `t`'s block, and the token at place `k` of its tile. -/
def row (t : Fin cfg0.N) (p : Fin 1024) : Fin 2048 := ⟨1024 * (t.val / 32) + p.val, by have := t.isLt; have := N_eq; omega⟩
def col (t : Fin cfg0.N) (q : Fin 1024) : Fin 8192 := ⟨1024 * (t.val / 4 % 8) + q.val, by omega⟩
def tok (t : Fin cfg0.N) (k : Fin 2048) : Fin 8192 := ⟨2048 * (t.val % 4) + k.val, by omega⟩

/-- The column of the whole matrix at place `q` of shard `s`. -/
def wide (s : Fin 8) (q : Fin 1024) : Fin 8192 := ⟨1024 * s.val + q.val, by omega⟩
/-- The shard of step `t`'s block. -/
def shard (t : Fin cfg0.N) : Fin 8 := ⟨t.val / 4 % 8, by omega⟩

/-- The products that make the result at row `i` and column `j`. -/
def term (A : FVec Ideal S8192x2048 .bf16) (B : FVec Ideal S8192x8192 .bf16) (i : Fin 2048) (j k : Fin 8192) : EReal :=
  A (ix2 k i) * B (ix2 k j)

/-- The result: at each row and column the sum over the tokens. -/
def out (A : FVec Ideal S8192x2048 .bf16) (B : FVec Ideal S8192x8192 .bf16) : FVec Ideal S8x2048x1024 .bf16 :=
  fun i => ∑ k, term A B (i 1) (wide (i 0) (i 2)) k

variable (m : (ℓ : Loc nD τ sig) → Buf (Elt Ideal) ℓ) (c : Dev nD)

/-- The two arguments. -/
abbrev m0 : FVec Ideal S8192x2048 .bf16 := m ((c : Thread nD τ).loc main_arg0)
abbrev m1 : FVec Ideal S8192x8192 .bf16 := m ((c : Thread nD τ).loc main_arg1)

theorem iblk0 (t : Fin cfg0.N) (k : Fin 2048) (p : Fin 1024) : iblk m c 0 t (ix2 k p) = m0 m c (ix2 (tok t k) (row t p)) := by
  blk_simp [iblk]
  refine congrArg (m0 m c) ?_
  blk_ext [idx0, tok, row]
theorem iblk1 (t : Fin cfg0.N) (k : Fin 2048) (q : Fin 1024) : iblk m c 1 t (ix2 k q) = m1 m c (ix2 (tok t k) (col t q)) := by
  blk_simp [iblk]
  refine congrArg (m1 m c) ?_
  blk_ext [idx1, tok, col]

/-- What the scratch buffer holds after step `t`: the sum over the tokens of the tiles so far. -/
theorem scratch_eq (p q : Fin 1024) : ∀ (n : ℕ) (h : n < cfg0.N), ¬n % 4 = 3 →
    (outsAt0 m c n h).2 (ix2 p q) = upto (term (m0 m c) (m1 m c) (row ⟨n, h⟩ p) (col ⟨n, h⟩ q)) (2048 * (n % 4) + 2048)
  | n, h, h3 => by
    by_cases h0 : n % 4 = 0
    · rw [outsAt0_A m c ⟨n, h⟩ h0 (by dsimp only; omega) h3]
      dsimp only
      rw [first_eq, pay2_apply, h0]
      refine upto_first _ _ _ (by omega) fun k => ?_
      rw [iblk0, iblk1]
      have e : tok ⟨n, h⟩ k = ⟨k.val, by omega⟩ := Fin.ext (by show 2048 * (n % 4) + k.val = k.val; omega)
      rw [e]; rfl
    · have hp : n - 1 < cfg0.N := by omega
      have ih := scratch_eq p q (n - 1) hp (by omega)
      have er : row ⟨n - 1, hp⟩ p = row ⟨n, h⟩ p := Fin.ext (by show 1024 * ((n - 1) / 32) + p.val = 1024 * (n / 32) + p.val; omega)
      have ec : col ⟨n - 1, hp⟩ q = col ⟨n, h⟩ q := Fin.ext (by show 1024 * ((n - 1) / 4 % 8) + q.val = 1024 * (n / 4 % 8) + q.val; omega)
      rw [er, ec, show 2048 * ((n - 1) % 4) + 2048 = 2048 * (n % 4) by omega] at ih
      rw [outsAt0_B m c ⟨n, h⟩ h0 (by dsimp only; omega) h3]
      dsimp only
      rw [mid_eq, pay3_apply, ih]
      refine upto_add _ _ _ _ rfl _ (by omega) fun k => ?_
      rw [iblk0, iblk1]
      rfl
  termination_by n => n

/-- The block a last tile leaves: the whole sum. -/
theorem point_eq (t : Fin cfg0.N) (h3 : t.val % 4 = 3) (p q : Fin 1024) :
    (outsAt0 m c t.val t.isLt).1 (ix3 0 p q) = ∑ k, term (m0 m c) (m1 m c) (row t p) (col t q) k := by
  have hp : t.val - 1 < cfg0.N := by have := t.isLt; omega
  have ih := scratch_eq m c p q (t.val - 1) hp (by omega)
  have er : row ⟨t.val - 1, hp⟩ p = row t p := Fin.ext (by show 1024 * ((t.val - 1) / 32) + p.val = 1024 * (t.val / 32) + p.val; omega)
  have ec : col ⟨t.val - 1, hp⟩ q = col t q := Fin.ext (by show 1024 * ((t.val - 1) / 4 % 8) + q.val = 1024 * (t.val / 4 % 8) + q.val; omega)
  rw [er, ec, show 2048 * ((t.val - 1) % 4) + 2048 = 2048 * (t.val % 4) by omega] at ih
  rw [outsAt0_C m c t (by omega) (by omega) h3]
  dsimp only
  rw [last_eq, pay4_apply, pay3_apply, ih, ← upto_all (term (m0 m c) (m1 m c) (row t p) (col t q)) (2048 * (t.val % 4) + 2048) (by rw [h3])]
  refine upto_add _ _ _ _ rfl _ (by omega) fun k => ?_
  rw [iblk0, iblk1]
  rfl

/-- The array the call leaves. -/
theorem arr_eq : (dats m 0 c).arrAt 2 cfg0.N = out (m0 m c) (m1 m c) := by
  refine (dats m 0 c).arrAt_eq_of_covers 2 _ (by decide +kernel) fun t hf y => ?_
  blk_simp
  rw [after0_2]
  have e : (win0_2.blk t).view.emb y = ix3 (shard t) (row t (y 1)) (y 2) := by blk_ext [idx2, row, shard]
  rw [e]
  have ey : y = ix3 0 (y 1) (y 2) := by blk_ext
  exact (congrArg _ ey).trans (point_eq m c t ((flush0_2 t).mp hf) (y 1) (y 2))

/-- The reference's value. -/
theorem ref_eq (A : FVec Ideal S8192x2048 .bf16) (B : FVec Ideal S8192x8192 .bf16) :
    (transpose S8x2048x1024 [1, 0, 2] (shapeCast _ (truncf .bf16 (transpose Cert.Reference5Ideal.S2048x8192 [1, 0]
      (Host.dotGeneral Cert.Reference5Ideal.dot_S8192x8192_S8192x2048_S8192x2048_0_0_1_1_n_n none
        (extf .f32 B Cert.Reference5Ideal.Facts₀.bitsLt_bf16_f32) (extf .f32 A Cert.Reference5Ideal.Facts₀.bitsLt_bf16_f32))
      Cert.Reference5Ideal.Facts₀.transposes_S8192x2048_S2048x8192_1_0) Cert.Reference5Ideal.Facts₀.bitsLt_bf16_f32)
      Cert.Reference5Ideal.Facts₀.shapeCasts_S2048x8192_S2048x8x1024) Cert.Reference5Ideal.Facts₀.transposes_S2048x8x1024_S8x2048x1024_1_0_2
      : FVec Ideal S8x2048x1024 .bf16) = out A B := by
  refine ext3 fun a b d => ?_
  pointwise [out, term, wide, mul_comm]

theorem frame_reference : Cert.quiescent_Reference5Ideal (hReference5Ideal := Cert.Reference5Ideal.Gen.facts) := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

theorem algebraic : Cert.algebraic_Kernel5Ideal_Reference5Ideal (hKernel5Ideal := Cert.Kernel5Ideal.Gen.facts)
    (hReference5Ideal := Cert.Reference5Ideal.Gen.facts) := fun m ρ m' ρ' _ hagree =>
  ⟨fun c => out (m0 m c) (m1 m c),
    (θ_run defs _ _).mono (fun _ h c => ⟨(h c).1.trans (arr_eq m c), (h c).2⟩) (run_blocks (F := Ideal) m ρ),
    (θ_run Cert.Reference5Ideal.defs _ _).mono (fun _ h c => by
      obtain ⟨h0, h1⟩ := hagree c
      beta_reduce
      rw [show m0 m c = _ from h0.symm, show m1 m c = _ from h1.symm]
      exact ⟨(h c).1.trans (ref_eq _ _), (h c).2⟩)
      (Cert.Reference5Ideal.Value.run (F := Ideal) m' ρ')⟩

end Cert.Kernel5Ideal.Mm
-- ==== Proof.Mm6.lean ====
/-
  The MLP's first product and its squared relu, the normalised tokens times the first weight, stored by column shards: 64
  grid steps, each a whole sum. The two arrays it leaves are the reference's.
-/
module

public import proofs.«01_k».proof.Defs
public import proofs.«01_k».proof.Proof.MmSum
public import proofs.«01_k».proof.Proof.Gen.Kernel6.Frame
public import proofs.«01_k».proof.Proof.Gen.Kernel6Ideal.Value
public import proofs.«01_k».proof.Proof.Gen.Reference6Ideal.Run
public import Idealize.ShloMosaic.Lib.Pipeline.ValueKit.Geometry

@[expose] public section
set_option maxRecDepth 16384
noncomputable section
namespace Cert.Kernel6Ideal.Mm

open Idealize.ShloMosaic Idealize.ShloMosaic.TcCoe Idealize.ShloMosaic.Tactic Idealize.SL.Sem
open Cert.Kernel6Ideal.Gen Cert.Kernel6Ideal.Value Cert.Mm

section step
variable (c : Dev nD) (i : grid0.Coords) (a3 : Memref sig .tc .vmem S1024x2048 .bf16) (h3 : a3.IsWhole)
  (a4 : Memref sig .tc .vmem S1x2048x1024 .bf16) (h4 : a4.IsWhole)
  (a5 : Memref sig .tc .vmem S1024x1024 .f32) (h5 : a5.IsWhole)
  (a6 : Memref sig .tc .vmem S1024x1024 .bf16) (h6 : a6.IsWhole)
  (a7 : Memref sig .tc .vmem S8x128 .f32) (h7 : a7.IsWhole)
  (x : Vec Ideal S1024x2048 .bf16) (y : Vec Ideal S1x2048x1024 .bf16)

/-- What a step leaves in its two blocks. -/
theorem stepU_eq : out0_A_2 c i a3 h3 a4 h4 a5 h5 a6 h6 a7 h7 x y = k0_pay1 x y := by
  unfold out0_A_2
  rw [View.read_writes_eq_canon _ _ _ (cover0_A_2 c i a3 h3 a4 h4 a5 h5 a6 h6 a7 h7 x y)]
  unfold kernelRun0_A
  dsimp only
  rw [View.canon_unit_zero zeros2]
  simp only [View.readAt_eq_ld, h3.read_unread, h4.read_unread, View.ld_unit_zero (S := S1024x2048) zeros2, View.ld_unit_zero (S := S1x2048x1024) zeros3]
theorem stepA_eq : out0_A_3 c i a3 h3 a4 h4 a5 h5 a6 h6 a7 h7 x y = k0_pay2 x y := by
  unfold out0_A_3
  rw [View.read_writes_eq_canon _ _ _ (cover0_A_3 c i a3 h3 a4 h4 a5 h5 a6 h6 a7 h7 x y)]
  unfold kernelRun0_A
  dsimp only
  rw [View.canon_unit_zero zeros2]
  simp only [View.readAt_eq_ld, h3.read_unread, h4.read_unread, View.ld_unit_zero (S := S1024x2048) zeros2, View.ld_unit_zero (S := S1x2048x1024) zeros3]

theorem pay1_apply (p q : Fin 1024) : k0_pay1 x y (ix2 p q) = ∑ k : Fin 2048, x (ix2 p k) * y (ix3 0 k q) := by
  pointwise [k0_pay1]
theorem pay2_apply (p q : Fin 1024) : k0_pay2 x y (ix2 p q) = max (k0_pay1 x y (ix2 p q)) 0 * max (k0_pay1 x y (ix2 p q)) 0 := by
  pointwise [k0_pay2]
end step

theorem N_eq : cfg0.N = 64 := N_0

theorem idx0 : ∀ t : Fin cfg0.N, win0_0.index t = ![t.val / 8, 0] := (by decide +kernel : ∀ t : Fin grid0.N, _)
theorem idx1 : ∀ t : Fin cfg0.N, win0_1.index t = ![t.val % 8, 0, 0] := (by decide +kernel : ∀ t : Fin grid0.N, _)
theorem idx2 : ∀ t : Fin cfg0.N, win0_2.index t = ![t.val / 8, t.val % 8] := (by decide +kernel : ∀ t : Fin grid0.N, _)
theorem idx3 : ∀ t : Fin cfg0.N, win0_3.index t = ![t.val / 8, t.val % 8] := (by decide +kernel : ∀ t : Fin grid0.N, _)

/-- The row and the column of the results at place `p` of step `t`'s block. -/
def row (t : Fin cfg0.N) (p : Fin 1024) : Fin 8192 := ⟨1024 * (t.val / 8) + p.val, by have := t.isLt; have := N_eq; omega⟩
def col (t : Fin cfg0.N) (q : Fin 1024) : Fin 8192 := ⟨1024 * (t.val % 8) + q.val, by omega⟩

/-- The hidden units by shard: unit `j` is place `j % 1024` of shard `j / 1024`. -/
def shard (j : Fin 8192) : Fin 8 := ⟨j.val / 1024, by omega⟩
def place (j : Fin 8192) : Fin 1024 := ⟨j.val % 1024, by omega⟩

/-- The results: at each row and column the sum over the model's columns, and the square of its positive part. -/
def outU (A : FVec Ideal S8192x2048 .bf16) (B : FVec Ideal S8x2048x1024 .bf16) : FVec Ideal S8192x8192 .f32 :=
  fun i => ∑ k : Fin 2048, A (ix2 (i 0) k) * B (ix3 (shard (i 1)) k (place (i 1)))
def outA (A : FVec Ideal S8192x2048 .bf16) (B : FVec Ideal S8x2048x1024 .bf16) : FVec Ideal S8192x8192 .bf16 :=
  fun i => max (outU A B i) 0 * max (outU A B i) 0

variable (m : (ℓ : Loc nD τ sig) → Buf (Elt Ideal) ℓ) (c : Dev nD)

/-- The two arguments. -/
abbrev m0 : FVec Ideal S8192x2048 .bf16 := m ((c : Thread nD τ).loc main_arg0)
abbrev m1 : FVec Ideal S8x2048x1024 .bf16 := m ((c : Thread nD τ).loc main_arg1)

theorem iblk0 (t : Fin cfg0.N) (p : Fin 1024) (k : Fin 2048) : iblk m c 0 t (ix2 p k) = m0 m c (ix2 (row t p) k) := by
  blk_simp [iblk]
  refine congrArg (m0 m c) ?_
  blk_ext [idx0, row]
theorem iblk1 (t : Fin cfg0.N) (k : Fin 2048) (q : Fin 1024) :
    iblk m c 1 t (ix3 0 k q) = m1 m c (ix3 (shard (col t q)) k (place (col t q))) := by
  blk_simp [iblk]
  refine congrArg (m1 m c) ?_
  blk_ext [idx1, col, shard, place]

theorem sum_eq (t : Fin cfg0.N) (p q : Fin 1024) :
    k0_pay1 (iblk m c 0 t) (iblk m c 1 t) (ix2 p q) = outU (m0 m c) (m1 m c) (ix2 (row t p) (col t q)) := by
  rw [pay1_apply]
  exact Finset.sum_congr rfl fun k _ => by rw [iblk0, iblk1]; rfl
theorem pointU_eq (t : Fin cfg0.N) (p q : Fin 1024) : (outsAt0 m c t).1 (ix2 p q) = outU (m0 m c) (m1 m c) (ix2 (row t p) (col t q)) := by
  unfold outsAt0
  dsimp only
  rw [stepU_eq, sum_eq]
theorem pointA_eq (t : Fin cfg0.N) (p q : Fin 1024) : (outsAt0 m c t).2 (ix2 p q) = outA (m0 m c) (m1 m c) (ix2 (row t p) (col t q)) := by
  unfold outsAt0
  dsimp only
  rw [stepA_eq, pay2_apply, sum_eq]
  rfl

/-- The arrays the call leaves. -/
theorem arrU_eq : (dats m 0 c).arrAt 2 cfg0.N = outU (m0 m c) (m1 m c) := by
  refine (dats m 0 c).arrAt_eq_of_covers 2 _ (by decide +kernel) fun t hf y => ?_
  blk_simp
  rw [after0_2]
  have e : (win0_2.blk t).view.emb y = ix2 (row t (y 0)) (col t (y 1)) := by blk_ext [idx2, row, col]
  rw [e]
  have ey : y = ix2 (y 0) (y 1) := by blk_ext
  exact (congrArg _ ey).trans (pointU_eq m c t (y 0) (y 1))
theorem arrA_eq : (dats m 0 c).arrAt 3 cfg0.N = outA (m0 m c) (m1 m c) := by
  refine (dats m 0 c).arrAt_eq_of_covers 3 _ (by decide +kernel) fun t hf y => ?_
  blk_simp
  rw [after0_3]
  have e : (win0_3.blk t).view.emb y = ix2 (row t (y 0)) (col t (y 1)) := by blk_ext [idx3, row, col]
  rw [e]
  have ey : y = ix2 (y 0) (y 1) := by blk_ext
  exact (congrArg _ ey).trans (pointA_eq m c t (y 0) (y 1))

/-- The reference's product. -/
abbrev prod (A : FVec Ideal S8192x2048 .bf16) (B : FVec Ideal S8x2048x1024 .bf16) : FVec Ideal S8192x8192 .f32 :=
  Host.dotGeneral Cert.Reference6Ideal.dot_S8192x2048_S2048x8192_S8192x8192_1_0_0_1_n_n none (extf .f32 A Cert.Reference6Ideal.Facts₀.bitsLt_bf16_f32)
    (shapeCast _ (transpose Cert.Reference6Ideal.S2048x8x1024 [1, 0, 2] (extf .f32 B Cert.Reference6Ideal.Facts₀.bitsLt_bf16_f32)
      Cert.Reference6Ideal.Facts₀.transposes_S8x2048x1024_S2048x8x1024_1_0_2) Cert.Reference6Ideal.Facts₀.shapeCasts_S2048x8x1024_S2048x8192)

/-- The reference's values. -/
theorem refU_eq (A : FVec Ideal S8192x2048 .bf16) (B : FVec Ideal S8x2048x1024 .bf16) : prod A B = outU A B := by
  refine ext2 fun a b => ?_
  pointwise [prod, outU, shard, place]
theorem refA_eq (A : FVec Ideal S8192x2048 .bf16) (B : FVec Ideal S8x2048x1024 .bf16) :
    (truncf .bf16 (mulf (maximumf (prod A B) (broadcastInDim S8192x8192 ![] Cert.Reference6Ideal.Facts₀.bcast_S_S8192x8192 (constant Cert.Reference6Ideal.S_ .f32 0x00000000#32)))
      (maximumf (prod A B) (broadcastInDim S8192x8192 ![] Cert.Reference6Ideal.Facts₀.bcast_S_S8192x8192 (constant Cert.Reference6Ideal.S_ .f32 0x00000000#32))))
      Cert.Reference6Ideal.Facts₀.bitsLt_bf16_f32 : FVec Ideal S8192x8192 .bf16) = outA A B := by
  rw [refU_eq]
  refine ext2 fun a b => ?_
  pointwise [outA]

theorem frame_reference : Cert.quiescent_Reference6Ideal (hReference6Ideal := Cert.Reference6Ideal.Gen.facts) := fun m ρ _ =>
  (θ_run Cert.Reference6Ideal.defs _ _).mono (fun r h => ⟨fun c => (h c).2.2, Idealize.ShloMosaic.sem_eq_zero_of_no_sems (by decide) r.2⟩)
    (Cert.Reference6Ideal.Value.run (F := Ideal) m ρ)

theorem algebraic : Cert.algebraic_Kernel6Ideal_Reference6Ideal (hKernel6Ideal := Cert.Kernel6Ideal.Gen.facts)
    (hReference6Ideal := Cert.Reference6Ideal.Gen.facts) := fun m ρ m' ρ' _ hagree =>
  ⟨fun c => outU (m0 m c) (m1 m c), fun c => outA (m0 m c) (m1 m c),
    (θ_run defs _ _).mono (fun _ h c => ⟨(h c).1.trans (arrU_eq m c), (h c).2.1.trans (arrA_eq m c), (h c).2.2⟩) (run_blocks (F := Ideal) m ρ),
    (θ_run Cert.Reference6Ideal.defs _ _).mono (fun _ h c => by
      obtain ⟨h0, h1⟩ := hagree c
      beta_reduce
      rw [show m0 m c = _ from h0.symm, show m1 m c = _ from h1.symm]
      exact ⟨(h c).1.trans (refU_eq _ _), (h c).2.1.trans (refA_eq _ _), (h c).2.2⟩)
      (Cert.Reference6Ideal.Value.run (F := Ideal) m' ρ')⟩

end Cert.Kernel6Ideal.Mm
-- ==== Proof.Mm7.lean ====
/-
  The MLP's second product with its residual, `act` times the weight plus `h`: 64 grid steps, four tiles of 2048 hidden
  units for each block, added up in a scratch buffer; the last adds `h`. The array it leaves is the reference's.
-/
module

public import proofs.«01_k».proof.Defs
public import proofs.«01_k».proof.Proof.MmSum
public import proofs.«01_k».proof.Proof.Gen.Kernel7.Frame
public import proofs.«01_k».proof.Proof.Gen.Kernel7Ideal.Value
public import proofs.«01_k».proof.Proof.Gen.Reference7Ideal.Run
public import Idealize.ShloMosaic.Lib.Pipeline.ValueKit.Geometry

@[expose] public section
set_option maxRecDepth 16384
noncomputable section
namespace Cert.Kernel7Ideal.Mm

open Idealize.ShloMosaic Idealize.ShloMosaic.TcCoe Idealize.ShloMosaic.Tactic Idealize.SL.Sem
open Cert.Kernel7Ideal.Gen Cert.Kernel7Ideal.Value Cert.Mm

section step
variable (c : Dev nD) (i : grid0.Coords) (a3 : Memref sig .tc .vmem S1024x2048 .bf16) (h3 : a3.IsWhole)
  (a4 : Memref sig .tc .vmem S2048x1024 .bf16) (h4 : a4.IsWhole) (a5 : Memref sig .tc .vmem S1024x1024 .f32) (h5 : a5.IsWhole)
  (a6 : Memref sig .tc .vmem S1024x1024 .f32) (h6 : a6.IsWhole) (a7 : Memref sig .tc .vmem S1024x1024 .f32) (h7 : a7.IsWhole)
  (x : Vec Ideal S1024x2048 .bf16) (y : Vec Ideal S2048x1024 .bf16) (z s : Vec Ideal S1024x1024 .f32)

/-- The first tile leaves its product. -/
theorem first_eq (hc0 : cond0_0 i) (hc1 : ¬cond0_1 i) (hc2 : ¬cond0_2 i) :
    sout0_A_0 c i a3 h3 a4 h4 a5 h5 a6 h6 a7 h7 hc0 hc1 hc2 x y z = k0_pay2 x y := by
  unfold sout0_A_0
  rw [View.read_writes_eq_canon _ _ _ (scover0_A_0 c i a3 h3 a4 h4 a5 h5 a6 h6 a7 h7 hc0 hc1 hc2 x y z)]
  unfold kernelRun0_A
  dsimp only
  rw [View.canon_unit_zero zeros2]
  simp only [View.readAt_eq_ld, h3.read_unread, h4.read_unread, View.ld_unit_zero (S := S1024x2048) zeros2, View.ld_unit_zero (S := S2048x1024) zeros2]

/-- A middle tile adds its product. -/
theorem mid_eq (hc0 : ¬cond0_0 i) (hc1 : cond0_1 i) (hc2 : ¬cond0_2 i) :
    sout0_B_0 c i a3 h3 a4 h4 a5 h5 a6 h6 a7 h7 hc0 hc1 hc2 x y z s = k0_pay3 x y s := by
  unfold sout0_B_0
  rw [View.read_writes_eq_canon _ _ _ (scover0_B_0 c i a3 h3 a4 h4 a5 h5 a6 h6 a7 h7 hc0 hc1 hc2 x y z s)]
  unfold kernelRun0_B
  dsimp only
  rw [View.canon_unit_zero zeros2]
  simp only [View.readAt_eq_ld, h3.read_unread, h4.read_unread, h5.read_unread, h7.read_unread, View.ld_unit_zero (S := S1024x2048) zeros2, View.ld_unit_zero (S := S2048x1024) zeros2, View.ld_unit_zero (S := S1024x1024) zeros2]

/-- The last tile adds its product and writes the sum to the block. -/
theorem last_eq (hc0 : ¬cond0_0 i) (hc1 : cond0_1 i) (hc2 : cond0_2 i) :
    out0_C_3 c i a3 h3 a4 h4 a5 h5 a6 h6 a7 h7 hc0 hc1 hc2 x y z s = k0_pay4 (k0_pay3 x y s) z := by
  unfold out0_C_3
  rw [View.read_writes_eq_canon _ _ _ (cover0_C_3 c i a3 h3 a4 h4 a5 h5 a6 h6 a7 h7 hc0 hc1 hc2 x y z s)]
  unfold kernelRun0_C
  dsimp only
  sl_unfold_words
  rw [View.canon_unit_zero zeros2, View.readCov_unit_zero (S := S1024x1024) _ zeros2]
  simp only [View.readAt_eq_ld, h3.read_unread, h4.read_unread, h5.read_unread, h7.read_unread, View.ld_unit_zero (S := S1024x2048) zeros2, View.ld_unit_zero (S := S2048x1024) zeros2, View.ld_unit_zero (S := S1024x1024) zeros2]

theorem pay2_apply (p q : Fin 1024) : k0_pay2 x y (ix2 p q) = ∑ k : Fin 2048, x (ix2 p k) * y (ix2 k q) := by
  pointwise [k0_pay2, k0_pay1]
theorem pay3_apply (p q : Fin 1024) : k0_pay3 x y s (ix2 p q) = s (ix2 p q) + ∑ k : Fin 2048, x (ix2 p k) * y (ix2 k q) := by
  pointwise [k0_pay3, k0_pay1]
theorem pay4_apply (p q : Fin 1024) : k0_pay4 s z (ix2 p q) = s (ix2 p q) + z (ix2 p q) := by
  pointwise [k0_pay4]
end step

theorem N_eq : cfg0.N = 64 := N_0

theorem idx0 : ∀ t : Fin cfg0.N, win0_0.index t = ![t.val / 8, t.val % 4] := (by decide +kernel : ∀ t : Fin grid0.N, _)
theorem idx1 : ∀ t : Fin cfg0.N, win0_1.index t = ![t.val % 4, t.val / 4 % 2] := (by decide +kernel : ∀ t : Fin grid0.N, _)
theorem idx2 : ∀ t : Fin cfg0.N, win0_2.index t = ![t.val / 8, t.val / 4 % 2] := (by decide +kernel : ∀ t : Fin grid0.N, _)
theorem idx3 : ∀ t : Fin cfg0.N, win0_3.index t = ![t.val / 8, t.val / 4 % 2] := (by decide +kernel : ∀ t : Fin grid0.N, _)

/-- The row and the column of the result at place `p` of step `t`'s block, and the hidden unit at place `k` of its tile. -/
def row (t : Fin cfg0.N) (p : Fin 1024) : Fin 8192 := ⟨1024 * (t.val / 8) + p.val, by have := t.isLt; have := N_eq; omega⟩
def col (t : Fin cfg0.N) (q : Fin 1024) : Fin 2048 := ⟨1024 * (t.val / 4 % 2) + q.val, by omega⟩
def tok (t : Fin cfg0.N) (k : Fin 2048) : Fin 8192 := ⟨2048 * (t.val % 4) + k.val, by omega⟩

/-- The products that make the result at row `i` and column `j`. -/
def term (A : FVec Ideal S8192x8192 .bf16) (B : FVec Ideal S8192x2048 .bf16) (i : Fin 8192) (j : Fin 2048) (k : Fin 8192) : EReal :=
  A (ix2 i k) * B (ix2 k j)

/-- The result: at each row and column the sum over the hidden units, and `h`. -/
def out (A : FVec Ideal S8192x8192 .bf16) (B : FVec Ideal S8192x2048 .bf16) (C : FVec Ideal S8192x2048 .f32) : FVec Ideal S8192x2048 .f32 :=
  fun i => (∑ k, term A B (i 0) (i 1) k) + C (ix2 (i 0) (i 1))

variable (m : (ℓ : Loc nD τ sig) → Buf (Elt Ideal) ℓ) (c : Dev nD)

/-- The three arguments. -/
abbrev m0 : FVec Ideal S8192x8192 .bf16 := m ((c : Thread nD τ).loc main_arg0)
abbrev m1 : FVec Ideal S8192x2048 .bf16 := m ((c : Thread nD τ).loc main_arg1)
abbrev m2 : FVec Ideal S8192x2048 .f32 := m ((c : Thread nD τ).loc main_arg2)

theorem iblk0 (t : Fin cfg0.N) (k : Fin 2048) (p : Fin 1024) : iblk m c 0 t (ix2 p k) = m0 m c (ix2 (row t p) (tok t k)) := by
  blk_simp [iblk]
  refine congrArg (m0 m c) ?_
  blk_ext [idx0, tok, row]
theorem iblk1 (t : Fin cfg0.N) (k : Fin 2048) (q : Fin 1024) : iblk m c 1 t (ix2 k q) = m1 m c (ix2 (tok t k) (col t q)) := by
  blk_simp [iblk]
  refine congrArg (m1 m c) ?_
  blk_ext [idx1, tok, col]
theorem iblk2 (t : Fin cfg0.N) (p q : Fin 1024) : iblk m c 2 t (ix2 p q) = m2 m c (ix2 (row t p) (col t q)) := by
  blk_simp [iblk]
  refine congrArg (m2 m c) ?_
  blk_ext [idx2, row, col]

/-- What the scratch buffer holds after step `t`: the sum over the hidden units of the tiles so far. -/
theorem scratch_eq (p q : Fin 1024) : ∀ (n : ℕ) (h : n < cfg0.N), ¬n % 4 = 3 →
    (outsAt0 m c n h).2 (ix2 p q) = upto (term (m0 m c) (m1 m c) (row ⟨n, h⟩ p) (col ⟨n, h⟩ q)) (2048 * (n % 4) + 2048)
  | n, h, h3 => by
    by_cases h0 : n % 4 = 0
    · rw [outsAt0_A m c ⟨n, h⟩ h0 (by dsimp only; omega) h3]
      dsimp only
      rw [first_eq, pay2_apply, h0]
      refine upto_first _ _ _ (by omega) fun k => ?_
      rw [iblk0, iblk1]
      have e : tok ⟨n, h⟩ k = ⟨k.val, by omega⟩ := Fin.ext (by show 2048 * (n % 4) + k.val = k.val; omega)
      rw [e]; rfl
    · have hp : n - 1 < cfg0.N := by omega
      have ih := scratch_eq p q (n - 1) hp (by omega)
      have er : row ⟨n - 1, hp⟩ p = row ⟨n, h⟩ p := Fin.ext (by show 1024 * ((n - 1) / 8) + p.val = 1024 * (n / 8) + p.val; omega)
      have ec : col ⟨n - 1, hp⟩ q = col ⟨n, h⟩ q := Fin.ext (by show 1024 * ((n - 1) / 4 % 2) + q.val = 1024 * (n / 4 % 2) + q.val; omega)
      rw [er, ec, show 2048 * ((n - 1) % 4) + 2048 = 2048 * (n % 4) by omega] at ih
      rw [outsAt0_B m c ⟨n, h⟩ h0 (by dsimp only; omega) h3]
      dsimp only
      rw [mid_eq, pay3_apply, ih]
      refine upto_add _ _ _ _ rfl _ (by omega) fun k => ?_
      rw [iblk0, iblk1]
      rfl
  termination_by n => n

/-- The block a last tile leaves: the whole sum. -/
theorem point_eq (t : Fin cfg0.N) (h3 : t.val % 4 = 3) (p q : Fin 1024) :
    (outsAt0 m c t.val t.isLt).1 (ix2 p q) = (∑ k, term (m0 m c) (m1 m c) (row t p) (col t q) k) + m2 m c (ix2 (row t p) (col t q)) := by
  have hp : t.val - 1 < cfg0.N := by have := t.isLt; omega
  have ih := scratch_eq m c p q (t.val - 1) hp (by omega)
  have er : row ⟨t.val - 1, hp⟩ p = row t p := Fin.ext (by show 1024 * ((t.val - 1) / 8) + p.val = 1024 * (t.val / 8) + p.val; omega)
  have ec : col ⟨t.val - 1, hp⟩ q = col t q := Fin.ext (by show 1024 * ((t.val - 1) / 4 % 2) + q.val = 1024 * (t.val / 4 % 2) + q.val; omega)
  rw [er, ec, show 2048 * ((t.val - 1) % 4) + 2048 = 2048 * (t.val % 4) by omega] at ih
  rw [outsAt0_C m c t (by omega) (by omega) h3]
  dsimp only
  rw [last_eq, pay4_apply, pay3_apply, ih, iblk2, ← upto_all (term (m0 m c) (m1 m c) (row t p) (col t q)) (2048 * (t.val % 4) + 2048) (by rw [h3])]
  refine congrArg (· + _) ?_
  refine upto_add _ _ _ _ rfl _ (by omega) fun k => ?_
  rw [iblk0, iblk1]
  rfl

/-- The array the call leaves. -/
theorem arr_eq : (dats m 0 c).arrAt 3 cfg0.N = out (m0 m c) (m1 m c) (m2 m c) := by
  refine (dats m 0 c).arrAt_eq_of_covers 3 _ (by decide +kernel) fun t hf y => ?_
  blk_simp
  rw [after0_3]
  have e : (win0_3.blk t).view.emb y = ix2 (row t (y 0)) (col t (y 1)) := by blk_ext [idx3, row, col]
  rw [e]
  have ey : y = ix2 (y 0) (y 1) := by blk_ext
  exact (congrArg _ ey).trans (point_eq m c t ((flush0_3 t).mp hf) (y 0) (y 1))

/-- The reference's value. -/
theorem ref_eq (A : FVec Ideal S8192x8192 .bf16) (B : FVec Ideal S8192x2048 .bf16) (C : FVec Ideal S8192x2048 .f32) :
    (addf C (Host.dotGeneral Cert.Reference7Ideal.dot_S8192x8192_S8192x2048_S8192x2048_1_0_0_1_n_n none
      (extf .f32 A Cert.Reference7Ideal.Facts₀.bitsLt_bf16_f32) (extf .f32 B Cert.Reference7Ideal.Facts₀.bitsLt_bf16_f32)) : FVec Ideal S8192x2048 .f32) = out A B C := by
  refine ext2 fun a b => ?_
  pointwise [out, term]
  exact add_comm _ _

theorem frame_reference : Cert.quiescent_Reference7Ideal (hReference7Ideal := Cert.Reference7Ideal.Gen.facts) := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

theorem algebraic : Cert.algebraic_Kernel7Ideal_Reference7Ideal (hKernel7Ideal := Cert.Kernel7Ideal.Gen.facts)
    (hReference7Ideal := Cert.Reference7Ideal.Gen.facts) := fun m ρ m' ρ' _ hagree =>
  ⟨fun c => out (m0 m c) (m1 m c) (m2 m c),
    (θ_run defs _ _).mono (fun _ h c => ⟨(h c).1.trans (arr_eq m c), (h c).2⟩) (run_blocks (F := Ideal) m ρ),
    (θ_run Cert.Reference7Ideal.defs _ _).mono (fun _ h c => by
      obtain ⟨h0, h1, h2⟩ := hagree c
      beta_reduce
      rw [show m0 m c = _ from h0.symm, show m1 m c = _ from h1.symm, show m2 m c = _ from h2.symm]
      exact ⟨(h c).1.trans (ref_eq _ _ _), (h c).2⟩)
      (Cert.Reference7Ideal.Value.run (F := Ideal) m' ρ')⟩

end Cert.Kernel7Ideal.Mm
-- ==== Proof.Mm8.lean ====
/-
  The gradient of the heads' outputs, `dh` times the output projection's weight transposed: 16 grid steps, each a whole
  sum. The array it leaves is the reference's.
-/
module

public import proofs.«01_k».proof.Defs
public import proofs.«01_k».proof.Proof.MmSum
public import proofs.«01_k».proof.Proof.Gen.Kernel8.Frame
public import proofs.«01_k».proof.Proof.Gen.Kernel8Ideal.Value
public import proofs.«01_k».proof.Proof.Gen.Reference8Ideal.Run
public import Idealize.ShloMosaic.Lib.Pipeline.ValueKit.Geometry

@[expose] public section
set_option maxRecDepth 16384
noncomputable section
namespace Cert.Kernel8Ideal.Mm

open Idealize.ShloMosaic Idealize.ShloMosaic.TcCoe Idealize.ShloMosaic.Tactic Idealize.SL.Sem
open Cert.Kernel8Ideal.Gen Cert.Kernel8Ideal.Value Cert.Mm

section step
variable (c : Dev nD) (i : grid0.Coords) (a3 : Memref sig .tc .vmem S1024x2048 .f32) (h3 : a3.IsWhole)
  (a4 : Memref sig .tc .vmem S1024x2048 .bf16) (h4 : a4.IsWhole)
  (a5 : Memref sig .tc .vmem S1024x1024 .f32) (h5 : a5.IsWhole)
  (a6 : Memref sig .tc .vmem S8x128 .f32) (h6 : a6.IsWhole)
  (x : Vec Ideal S1024x2048 .f32) (y : Vec Ideal S1024x2048 .bf16)

/-- What a step leaves in its block. -/
theorem step_eq : out0_A_2 c i a3 h3 a4 h4 a5 h5 a6 h6 x y = k0_pay1 x y := by
  unfold out0_A_2
  rw [View.read_writes_eq_canon _ _ _ (cover0_A_2 c i a3 h3 a4 h4 a5 h5 a6 h6 x y)]
  unfold kernelRun0_A
  dsimp only
  rw [View.canon_unit_zero zeros2]
  simp only [View.readAt_eq_ld, h3.read_unread, h4.read_unread, View.ld_unit_zero (S := S1024x2048) zeros2]

theorem pay1_apply (p q : Fin 1024) : k0_pay1 x y (ix2 p q) = ∑ k : Fin 2048, x (ix2 p k) * y (ix2 q k) := by
  pointwise [k0_pay1]
end step

theorem N_eq : cfg0.N = 16 := N_0

theorem idx0 : ∀ t : Fin cfg0.N, win0_0.index t = ![t.val / 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, t.val % 2] := (by decide +kernel : ∀ t : Fin grid0.N, _)

/-- The row and the column of the result at place `p` of step `t`'s block. -/
def row (t : Fin cfg0.N) (p : Fin 1024) : Fin 8192 := ⟨1024 * (t.val / 2) + p.val, by have := t.isLt; have := N_eq; omega⟩
def col (t : Fin cfg0.N) (q : Fin 1024) : Fin 2048 := ⟨1024 * (t.val % 2) + q.val, by omega⟩

/-- The result: at each row and column the sum over the columns of `dh`. -/
def out (A : FVec Ideal S8192x2048 .f32) (B : FVec Ideal S2048x2048 .bf16) : FVec Ideal S8192x2048 .f32 :=
  fun i => ∑ k : Fin 2048, A (ix2 (i 0) k) * B (ix2 (i 1) k)

variable (m : (ℓ : Loc nD τ sig) → Buf (Elt Ideal) ℓ) (c : Dev nD)

/-- The two arguments. -/
abbrev m0 : FVec Ideal S8192x2048 .f32 := m ((c : Thread nD τ).loc main_arg0)
abbrev m1 : FVec Ideal S2048x2048 .bf16 := m ((c : Thread nD τ).loc main_arg1)

theorem iblk0 (t : Fin cfg0.N) (p : Fin 1024) (k : Fin 2048) : iblk m c 0 t (ix2 p k) = m0 m c (ix2 (row t p) k) := by
  blk_simp [iblk]
  refine congrArg (m0 m c) ?_
  blk_ext [idx0, row]
theorem iblk1 (t : Fin cfg0.N) (q : Fin 1024) (k : Fin 2048) : iblk m c 1 t (ix2 q k) = m1 m c (ix2 (col t q) k) := by
  blk_simp [iblk]
  refine congrArg (m1 m c) ?_
  blk_ext [idx1, col]

theorem point_eq (t : Fin cfg0.N) (p q : Fin 1024) : outsAt0 m c t (ix2 p q) = out (m0 m c) (m1 m c) (ix2 (row t p) (col t q)) := by
  unfold outsAt0
  rw [step_eq, pay1_apply]
  exact Finset.sum_congr rfl fun k _ => by rw [iblk0, iblk1]; rfl

/-- The array the call leaves. -/
theorem arr_eq : (dats m 0 c).arrAt 2 cfg0.N = out (m0 m c) (m1 m c) := by
  refine (dats m 0 c).arrAt_eq_of_covers 2 _ (by decide +kernel) fun t hf y => ?_
  blk_simp
  rw [after0_2]
  have e : (win0_2.blk t).view.emb y = ix2 (row t (y 0)) (col t (y 1)) := by blk_ext [idx2, row, col]
  rw [e]
  have ey : y = ix2 (y 0) (y 1) := by blk_ext
  exact (congrArg _ ey).trans (point_eq m c t (y 0) (y 1))

/-- The reference's value. -/
theorem ref_eq (A : FVec Ideal S8192x2048 .f32) (B : FVec Ideal S2048x2048 .bf16) :
    (Host.dotGeneral Cert.Reference8Ideal.dot_S8192x2048_S2048x2048_S8192x2048_1_1_0_0_n_n none A
      (extf .f32 B Cert.Reference8Ideal.Facts₀.bitsLt_bf16_f32) : FVec Ideal S8192x2048 .f32) = out A B := by
  refine ext2 fun a b => ?_
  pointwise [out]

theorem frame_reference : Cert.quiescent_Reference8Ideal (hReference8Ideal := Cert.Reference8Ideal.Gen.facts) := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

theorem algebraic : Cert.algebraic_Kernel8Ideal_Reference8Ideal (hKernel8Ideal := Cert.Kernel8Ideal.Gen.facts)
    (hReference8Ideal := Cert.Reference8Ideal.Gen.facts) := fun m ρ m' ρ' _ hagree =>
  ⟨fun c => out (m0 m c) (m1 m c),
    (θ_run defs _ _).mono (fun _ h c => ⟨(h c).1.trans (arr_eq m c), (h c).2⟩) (run_blocks (F := Ideal) m ρ),
    (θ_run Cert.Reference8Ideal.defs _ _).mono (fun _ h c => by
      obtain ⟨h0, h1⟩ := hagree c
      beta_reduce
      rw [show m0 m c = _ from h0.symm, show m1 m c = _ from h1.symm]
      exact ⟨(h c).1.trans (ref_eq _ _), (h c).2⟩)
      (Cert.Reference8Ideal.Value.run (F := Ideal) m' ρ')⟩

end Cert.Kernel8Ideal.Mm
-- ==== Proof.Mm9.lean ====
/-
  The gradient of the output projection's weight, the heads' outputs transposed times `dh`: 16 grid steps, four tiles of
  2048 tokens for each block, added up in a scratch buffer. The array it leaves is the reference's.
-/
module

public import proofs.«01_k».proof.Defs
public import proofs.«01_k».proof.Proof.MmSum
public import proofs.«01_k».proof.Proof.Gen.Kernel9.Frame
public import proofs.«01_k».proof.Proof.Gen.Kernel9Ideal.Value
public import proofs.«01_k».proof.Proof.Gen.Reference9Ideal.Run
public import Idealize.ShloMosaic.Lib.Pipeline.ValueKit.Geometry

@[expose] public section
set_option maxRecDepth 16384
noncomputable section
namespace Cert.Kernel9Ideal.Mm

open Idealize.ShloMosaic Idealize.ShloMosaic.TcCoe Idealize.ShloMosaic.Tactic Idealize.SL.Sem
open Cert.Kernel9Ideal.Gen Cert.Kernel9Ideal.Value Cert.Mm

section step
variable (c : Dev nD) (i : grid0.Coords) (a3 : Memref sig .tc .vmem S2048x1024 .bf16) (h3 : a3.IsWhole)
  (a4 : Memref sig .tc .vmem S2048x1024 .f32) (h4 : a4.IsWhole) (a5 : Memref sig .tc .vmem S1024x1024 .bf16) (h5 : a5.IsWhole)
  (a6 : Memref sig .tc .vmem S1024x1024 .f32) (h6 : a6.IsWhole)
  (x : Vec Ideal S2048x1024 .bf16) (y : Vec Ideal S2048x1024 .f32) (s : Vec Ideal S1024x1024 .f32)

/-- The first tile leaves its product. -/
theorem first_eq (hc0 : cond0_0 i) (hc1 : ¬cond0_1 i) (hc2 : ¬cond0_2 i) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero zeros2]
  simp only [View.readAt_eq_ld, h3.read_unread, h4.read_unread, View.ld_unit_zero (S := S2048x1024) zeros2]

/-- A middle tile adds its product. -/
theorem mid_eq (hc0 : ¬cond0_0 i) (hc1 : cond0_1 i) (hc2 : ¬cond0_2 i) :
    sout0_B_0 c i a3 h3 a4 h4 a5 h5 a6 h6 hc0 hc1 hc2 x y s = k0_pay3 x y s := by
  unfold sout0_B_0
  rw [View.read_writes_eq_canon _ _ _ (scover0_B_0 c i a3 h3 a4 h4 a5 h5 a6 h6 hc0 hc1 hc2 x y s)]
  unfold kernelRun0_B
  dsimp only
  rw [View.canon_unit_zero zeros2]
  simp only [View.readAt_eq_ld, h3.read_unread, h4.read_unread, h6.read_unread, View.ld_unit_zero (S := S2048x1024) zeros2, View.ld_unit_zero (S := S1024x1024) zeros2]

/-- The last tile adds its product and writes the sum to the block. -/
theorem last_eq (hc0 : ¬cond0_0 i) (hc1 : cond0_1 i) (hc2 : cond0_2 i) :
    out0_C_2 c i a3 h3 a4 h4 a5 h5 a6 h6 hc0 hc1 hc2 x y s = k0_pay4 (k0_pay3 x y s) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero zeros2, View.readCov_unit_zero (S := S1024x1024) _ zeros2]
  simp only [View.readAt_eq_ld, h3.read_unread, h4.read_unread, h6.read_unread, View.ld_unit_zero (S := S2048x1024) zeros2, View.ld_unit_zero (S := S1024x1024) zeros2]

theorem pay2_apply (p q : Fin 1024) : k0_pay2 x y (ix2 p q) = ∑ k : Fin 2048, x (ix2 k p) * y (ix2 k q) := by
  pointwise [k0_pay2, k0_pay1]
theorem pay3_apply (p q : Fin 1024) : k0_pay3 x y s (ix2 p q) = s (ix2 p q) + ∑ k : Fin 2048, x (ix2 k p) * y (ix2 k q) := by
  pointwise [k0_pay3, k0_pay1]
theorem pay4_apply (p q : Fin 1024) : k0_pay4 s (ix2 p q) = s (ix2 p q) := by
  pointwise [k0_pay4]
end step

theorem N_eq : cfg0.N = 16 := N_0

theorem idx0 : ∀ t : Fin cfg0.N, win0_0.index t = ![t.val % 4, t.val / 8] := (by decide +kernel : ∀ t : Fin grid0.N, _)
theorem idx1 : ∀ t : Fin cfg0.N, win0_1.index t = ![t.val % 4, t.val / 4 % 2] := (by decide +kernel : ∀ t : Fin grid0.N, _)
theorem idx2 : ∀ t : Fin cfg0.N, win0_2.index t = ![t.val / 8, t.val / 4 % 2] := (by decide +kernel : ∀ t : Fin grid0.N, _)

/-- The row and the column of the result at place `p` of step `t`'s block, and the token at place `k` of its tile. -/
def row (t : Fin cfg0.N) (p : Fin 1024) : Fin 2048 := ⟨1024 * (t.val / 8) + p.val, by have := t.isLt; have := N_eq; omega⟩
def col (t : Fin cfg0.N) (q : Fin 1024) : Fin 2048 := ⟨1024 * (t.val / 4 % 2) + q.val, by omega⟩
def tok (t : Fin cfg0.N) (k : Fin 2048) : Fin 8192 := ⟨2048 * (t.val % 4) + k.val, by omega⟩

/-- The products that make the result at row `i` and column `j`. -/
def term (A : FVec Ideal S8192x2048 .bf16) (B : FVec Ideal S8192x2048 .f32) (i j : Fin 2048) (k : Fin 8192) : EReal :=
  A (ix2 k i) * B (ix2 k j)

/-- The result: at each row and column the sum over the tokens. -/
def out (A : FVec Ideal S8192x2048 .bf16) (B : FVec Ideal S8192x2048 .f32) : FVec Ideal S2048x2048 .bf16 :=
  fun i => ∑ k, term A B (i 0) (i 1) k

variable (m : (ℓ : Loc nD τ sig) → Buf (Elt Ideal) ℓ) (c : Dev nD)

/-- The two arguments. -/
abbrev m0 : FVec Ideal S8192x2048 .bf16 := m ((c : Thread nD τ).loc main_arg0)
abbrev m1 : FVec Ideal S8192x2048 .f32 := m ((c : Thread nD τ).loc main_arg1)

theorem iblk0 (t : Fin cfg0.N) (k : Fin 2048) (p : Fin 1024) : iblk m c 0 t (ix2 k p) = m0 m c (ix2 (tok t k) (row t p)) := by
  blk_simp [iblk]
  refine congrArg (m0 m c) ?_
  blk_ext [idx0, tok, row]
theorem iblk1 (t : Fin cfg0.N) (k : Fin 2048) (q : Fin 1024) : iblk m c 1 t (ix2 k q) = m1 m c (ix2 (tok t k) (col t q)) := by
  blk_simp [iblk]
  refine congrArg (m1 m c) ?_
  blk_ext [idx1, tok, col]

/-- What the scratch buffer holds after step `t`: the sum over the tokens of the tiles so far. -/
theorem scratch_eq (p q : Fin 1024) : ∀ (n : ℕ) (h : n < cfg0.N), ¬n % 4 = 3 →
    (outsAt0 m c n h).2 (ix2 p q) = upto (term (m0 m c) (m1 m c) (row ⟨n, h⟩ p) (col ⟨n, h⟩ q)) (2048 * (n % 4) + 2048)
  | n, h, h3 => by
    by_cases h0 : n % 4 = 0
    · rw [outsAt0_A m c ⟨n, h⟩ h0 (by dsimp only; omega) h3]
      dsimp only
      rw [first_eq, pay2_apply, h0]
      refine upto_first _ _ _ (by omega) fun k => ?_
      rw [iblk0, iblk1]
      have e : tok ⟨n, h⟩ k = ⟨k.val, by omega⟩ := Fin.ext (by show 2048 * (n % 4) + k.val = k.val; omega)
      rw [e]; rfl
    · have hp : n - 1 < cfg0.N := by omega
      have ih := scratch_eq p q (n - 1) hp (by omega)
      have er : row ⟨n - 1, hp⟩ p = row ⟨n, h⟩ p := Fin.ext (by show 1024 * ((n - 1) / 8) + p.val = 1024 * (n / 8) + p.val; omega)
      have ec : col ⟨n - 1, hp⟩ q = col ⟨n, h⟩ q := Fin.ext (by show 1024 * ((n - 1) / 4 % 2) + q.val = 1024 * (n / 4 % 2) + q.val; omega)
      rw [er, ec, show 2048 * ((n - 1) % 4) + 2048 = 2048 * (n % 4) by omega] at ih
      rw [outsAt0_B m c ⟨n, h⟩ h0 (by dsimp only; omega) h3]
      dsimp only
      rw [mid_eq, pay3_apply, ih]
      refine upto_add _ _ _ _ rfl _ (by omega) fun k => ?_
      rw [iblk0, iblk1]
      rfl
  termination_by n => n

/-- The block a last tile leaves: the whole sum. -/
theorem point_eq (t : Fin cfg0.N) (h3 : t.val % 4 = 3) (p q : Fin 1024) :
    (outsAt0 m c t.val t.isLt).1 (ix2 p q) = ∑ k, term (m0 m c) (m1 m c) (row t p) (col t q) k := by
  have hp : t.val - 1 < cfg0.N := by have := t.isLt; omega
  have ih := scratch_eq m c p q (t.val - 1) hp (by omega)
  have er : row ⟨t.val - 1, hp⟩ p = row t p := Fin.ext (by show 1024 * ((t.val - 1) / 8) + p.val = 1024 * (t.val / 8) + p.val; omega)
  have ec : col ⟨t.val - 1, hp⟩ q = col t q := Fin.ext (by show 1024 * ((t.val - 1) / 4 % 2) + q.val = 1024 * (t.val / 4 % 2) + q.val; omega)
  rw [er, ec, show 2048 * ((t.val - 1) % 4) + 2048 = 2048 * (t.val % 4) by omega] at ih
  rw [outsAt0_C m c t (by omega) (by omega) h3]
  dsimp only
  rw [last_eq, pay4_apply, pay3_apply, ih, ← upto_all (term (m0 m c) (m1 m c) (row t p) (col t q)) (2048 * (t.val % 4) + 2048) (by rw [h3])]
  refine upto_add _ _ _ _ rfl _ (by omega) fun k => ?_
  rw [iblk0, iblk1]
  rfl

/-- The array the call leaves. -/
theorem arr_eq : (dats m 0 c).arrAt 2 cfg0.N = out (m0 m c) (m1 m c) := by
  refine (dats m 0 c).arrAt_eq_of_covers 2 _ (by decide +kernel) fun t hf y => ?_
  blk_simp
  rw [after0_2]
  have e : (win0_2.blk t).view.emb y = ix2 (row t (y 0)) (col t (y 1)) := by blk_ext [idx2, row, col]
  rw [e]
  have ey : y = ix2 (y 0) (y 1) := by blk_ext
  exact (congrArg _ ey).trans (point_eq m c t ((flush0_2 t).mp hf) (y 0) (y 1))

/-- The reference's value. -/
theorem ref_eq (A : FVec Ideal S8192x2048 .bf16) (B : FVec Ideal S8192x2048 .f32) :
    (truncf .bf16 (transpose S2048x2048 [1, 0] (Host.dotGeneral Cert.Reference9Ideal.dot_S8192x2048_S8192x2048_S2048x2048_0_0_1_1_n_n none B
      (extf .f32 A Cert.Reference9Ideal.Facts₀.bitsLt_bf16_f32)) Cert.Reference9Ideal.Facts₀.transposes_S2048x2048_S2048x2048_1_0)
      Cert.Reference9Ideal.Facts₀.bitsLt_bf16_f32 : FVec Ideal S2048x2048 .bf16) = out A B := by
  refine ext2 fun a b => ?_
  pointwise [out, term, mul_comm]

theorem frame_reference : Cert.quiescent_Reference9Ideal (hReference9Ideal := Cert.Reference9Ideal.Gen.facts) := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

theorem algebraic : Cert.algebraic_Kernel9Ideal_Reference9Ideal (hKernel9Ideal := Cert.Kernel9Ideal.Gen.facts)
    (hReference9Ideal := Cert.Reference9Ideal.Gen.facts) := fun m ρ m' ρ' _ hagree =>
  ⟨fun c => out (m0 m c) (m1 m c),
    (θ_run defs _ _).mono (fun _ h c => ⟨(h c).1.trans (arr_eq m c), (h c).2⟩) (run_blocks (F := Ideal) m ρ),
    (θ_run Cert.Reference9Ideal.defs _ _).mono (fun _ h c => by
      obtain ⟨h0, h1⟩ := hagree c
      beta_reduce
      rw [show m0 m c = _ from h0.symm, show m1 m c = _ from h1.symm]
      exact ⟨(h c).1.trans (ref_eq _ _), (h c).2⟩)
      (Cert.Reference9Ideal.Value.run (F := Ideal) m' ρ')⟩

end Cert.Kernel9Ideal.Mm
-- ==== Proof.Mm10.lean ====
/-
  The output projection with its residual, the heads' outputs times the weight plus `h`: 16 grid steps, each a whole sum.
  The array it leaves is the reference's.
-/
module

public import proofs.«01_k».proof.Defs
public import proofs.«01_k».proof.Proof.MmSum
public import proofs.«01_k».proof.Proof.Gen.Kernel10.Frame
public import proofs.«01_k».proof.Proof.Gen.Kernel10Ideal.Value
public import proofs.«01_k».proof.Proof.Gen.Reference10Ideal.Run
public import Idealize.ShloMosaic.Lib.Pipeline.ValueKit.Geometry

@[expose] public section
set_option maxRecDepth 16384
noncomputable section
namespace Cert.Kernel10Ideal.Mm

open Idealize.ShloMosaic Idealize.ShloMosaic.TcCoe Idealize.ShloMosaic.Tactic Idealize.SL.Sem
open Cert.Kernel10Ideal.Gen Cert.Kernel10Ideal.Value Cert.Mm

section step
variable (c : Dev nD) (i : grid0.Coords) (a3 : Memref sig .tc .vmem S1024x2048 .bf16) (h3 : a3.IsWhole)
  (a4 : Memref sig .tc .vmem S2048x1024 .bf16) (h4 : a4.IsWhole)
  (a5 : Memref sig .tc .vmem S1024x1024 .f32) (h5 : a5.IsWhole)
  (a6 : Memref sig .tc .vmem S1024x1024 .f32) (h6 : a6.IsWhole)
  (a7 : Memref sig .tc .vmem S8x128 .f32) (h7 : a7.IsWhole)
  (x : Vec Ideal S1024x2048 .bf16) (y : Vec Ideal S2048x1024 .bf16) (z : Vec Ideal S1024x1024 .f32)

/-- What a step leaves in its block. -/
theorem step_eq : out0_A_3 c i a3 h3 a4 h4 a5 h5 a6 h6 a7 h7 x y z = k0_pay1 x y z := by
  unfold out0_A_3
  rw [View.read_writes_eq_canon _ _ _ (cover0_A_3 c i a3 h3 a4 h4 a5 h5 a6 h6 a7 h7 x y z)]
  unfold kernelRun0_A
  dsimp only
  rw [View.canon_unit_zero zeros2]
  simp only [View.readAt_eq_ld, h3.read_unread, h4.read_unread, h5.read_unread, View.ld_unit_zero (S := S1024x2048) zeros2, View.ld_unit_zero (S := S2048x1024) zeros2, View.ld_unit_zero (S := S1024x1024) zeros2]

theorem pay1_apply (p q : Fin 1024) : k0_pay1 x y z (ix2 p q) = (∑ k : Fin 2048, x (ix2 p k) * y (ix2 k q)) + z (ix2 p q) := by
  pointwise [k0_pay1]
end step

theorem N_eq : cfg0.N = 16 := N_0

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)
theorem idx3 : ∀ t : Fin cfg0.N, win0_3.index t = ![t.val / 2, t.val % 2] := (by decide +kernel : ∀ t : Fin grid0.N, _)

/-- The row and the column of the result at place `p` of step `t`'s block. -/
def row (t : Fin cfg0.N) (p : Fin 1024) : Fin 8192 := ⟨1024 * (t.val / 2) + p.val, by have := t.isLt; have := N_eq; omega⟩
def col (t : Fin cfg0.N) (q : Fin 1024) : Fin 2048 := ⟨1024 * (t.val % 2) + q.val, by omega⟩

/-- The result: at each row and column the sum over the heads' columns, and `h`. -/
def out (A : FVec Ideal S8192x2048 .bf16) (B : FVec Ideal S2048x2048 .bf16) (C : FVec Ideal S8192x2048 .f32) : FVec Ideal S8192x2048 .f32 :=
  fun i => (∑ k : Fin 2048, A (ix2 (i 0) k) * B (ix2 k (i 1))) + C (ix2 (i 0) (i 1))

variable (m : (ℓ : Loc nD τ sig) → Buf (Elt Ideal) ℓ) (c : Dev nD)

/-- The three arguments. -/
abbrev m0 : FVec Ideal S8192x2048 .bf16 := m ((c : Thread nD τ).loc main_arg0)
abbrev m1 : FVec Ideal S2048x2048 .bf16 := m ((c : Thread nD τ).loc main_arg1)
abbrev m2 : FVec Ideal S8192x2048 .f32 := m ((c : Thread nD τ).loc main_arg2)

theorem iblk0 (t : Fin cfg0.N) (p : Fin 1024) (k : Fin 2048) : iblk m c 0 t (ix2 p k) = m0 m c (ix2 (row t p) k) := by
  blk_simp [iblk]
  refine congrArg (m0 m c) ?_
  blk_ext [idx0, row]
theorem iblk1 (t : Fin cfg0.N) (q : Fin 1024) (k : Fin 2048) : iblk m c 1 t (ix2 k q) = m1 m c (ix2 k (col t q)) := by
  blk_simp [iblk]
  refine congrArg (m1 m c) ?_
  blk_ext [idx1, col]
theorem iblk2 (t : Fin cfg0.N) (p q : Fin 1024) : iblk m c 2 t (ix2 p q) = m2 m c (ix2 (row t p) (col t q)) := by
  blk_simp [iblk]
  refine congrArg (m2 m c) ?_
  blk_ext [idx2, row, col]

theorem point_eq (t : Fin cfg0.N) (p q : Fin 1024) : outsAt0 m c t (ix2 p q) = out (m0 m c) (m1 m c) (m2 m c) (ix2 (row t p) (col t q)) := by
  unfold outsAt0
  rw [step_eq, pay1_apply, iblk2]
  exact congrArg (· + _) (Finset.sum_congr rfl fun k _ => by rw [iblk0, iblk1]; rfl)

/-- The array the call leaves. -/
theorem arr_eq : (dats m 0 c).arrAt 3 cfg0.N = out (m0 m c) (m1 m c) (m2 m c) := by
  refine (dats m 0 c).arrAt_eq_of_covers 3 _ (by decide +kernel) fun t hf y => ?_
  blk_simp
  rw [after0_3]
  have e : (win0_3.blk t).view.emb y = ix2 (row t (y 0)) (col t (y 1)) := by blk_ext [idx3, row, col]
  rw [e]
  have ey : y = ix2 (y 0) (y 1) := by blk_ext
  exact (congrArg _ ey).trans (point_eq m c t (y 0) (y 1))

/-- The reference's value. -/
theorem ref_eq (A : FVec Ideal S8192x2048 .bf16) (B : FVec Ideal S2048x2048 .bf16) (C : FVec Ideal S8192x2048 .f32) :
    (addf C (Host.dotGeneral Cert.Reference10Ideal.dot_S8192x2048_S2048x2048_S8192x2048_1_0_0_1_n_n none
      (extf .f32 A Cert.Reference10Ideal.Facts₀.bitsLt_bf16_f32) (extf .f32 B Cert.Reference10Ideal.Facts₀.bitsLt_bf16_f32)) : FVec Ideal S8192x2048 .f32) = out A B C := by
  refine ext2 fun a b => ?_
  pointwise [out]
  exact add_comm _ _

theorem frame_reference : Cert.quiescent_Reference10Ideal (hReference10Ideal := Cert.Reference10Ideal.Gen.facts) := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

theorem algebraic : Cert.algebraic_Kernel10Ideal_Reference10Ideal (hKernel10Ideal := Cert.Kernel10Ideal.Gen.facts)
    (hReference10Ideal := Cert.Reference10Ideal.Gen.facts) := fun m ρ m' ρ' _ hagree =>
  ⟨fun c => out (m0 m c) (m1 m c) (m2 m c),
    (θ_run defs _ _).mono (fun _ h c => ⟨(h c).1.trans (arr_eq m c), (h c).2⟩) (run_blocks (F := Ideal) m ρ),
    (θ_run Cert.Reference10Ideal.defs _ _).mono (fun _ h c => by
      obtain ⟨h0, h1, h2⟩ := hagree c
      beta_reduce
      rw [show m0 m c = _ from h0.symm, show m1 m c = _ from h1.symm, show m2 m c = _ from h2.symm]
      exact ⟨(h c).1.trans (ref_eq _ _ _), (h c).2⟩)
      (Cert.Reference10Ideal.Value.run (F := Ideal) m' ρ')⟩

end Cert.Kernel10Ideal.Mm
-- ==== Proof.OptStep.lean ====
/-
  One step of the optimiser at one weight: the two new moments and the change of the weight, on the extended reals.
-/
module

public import Idealize.ShloMosaic.Lib.Pointwise

@[expose] public section
noncomputable section
namespace Cert.Opt

open Idealize.ShloMosaic

/-- The new first moment, from the old one and the gradient. -/
def first (m g : EReal) : EReal := Ideal.ofBits .f32 0x3F666666#32 * m + Ideal.ofBits .f32 0x3DCCCCCD#32 * g

/-- The new second moment, from the old one and the gradient. -/
def second (v g : EReal) : EReal := Ideal.ofBits .f32 0x3F7FBE77#32 * v + Ideal.ofBits .f32 0x3A83126F#32 * (g * g)

/-- The change of the weight, from the weight, its old moments and its gradient. -/
def change (w m v g : EReal) : EReal :=
  Ideal.ofBits .f32 0xBA83126F#32 * (Ideal.div (Ideal.div (first m g) (Ideal.ofBits .f32 0x3F26BD02#32))
    (Ideal.sqrt (Ideal.div (second v g) (Ideal.ofBits .f32 0x3C231ACC#32)) + Ideal.ofBits .f32 0x322BCC77#32)
    + Ideal.ofBits .f32 0x3C23D70A#32 * w)

end Cert.Opt
-- ==== Proof.Opt11.lean ====
/-
  The optimiser's step of the memory projection of keys and values, from the devices' parts of its gradient: one block. The four
  arrays it leaves are the reference's.
-/
module

public import proofs.«01_k».proof.Defs
public import proofs.«01_k».proof.Proof.MmSum
public import proofs.«01_k».proof.Proof.OptStep
public import proofs.«01_k».proof.Proof.Gen.Kernel11.Frame
public import proofs.«01_k».proof.Proof.Gen.Kernel11Ideal.Value
public import proofs.«01_k».proof.Proof.Gen.Reference11Ideal.Run
public import Idealize.ShloMosaic.Lib.Pipeline.ValueKit.Geometry

@[expose] public section
set_option maxRecDepth 16384
noncomputable section
namespace Cert.Kernel11Ideal.Opt

open Idealize.ShloMosaic Idealize.ShloMosaic.TcCoe Idealize.ShloMosaic.Tactic Idealize.SL.Sem
open Cert.Kernel11Ideal.Gen Cert.Kernel11Ideal.Value Cert.Mm Cert.Opt

section step
variable (x0 : Vec Ideal S8x256x1024 .bf16) (x1 x2 x3 : Vec Ideal S256x1024 .f32) (p : Fin 256) (q : Fin 1024)

/-- What a step leaves in its four blocks. -/
theorem step4 : out0_4 x0 x1 x2 x3 (ix2 p q) = (∑ k : Fin 8, x0 (ix3 k p q)) := by
  unfold out0_4
  rw [View.canon_unit_zero zeros2]
  rw [Fin.sum_univ_eight]
  pointwise [k0_pay1, k0_pay2, k0_pay3, k0_pay4, k0_pay5]
theorem step5 : out0_5 x0 x1 x2 x3 (ix2 p q) = change (x1 (ix2 p q)) (x2 (ix2 p q)) (x3 (ix2 p q)) (∑ k : Fin 8, x0 (ix3 k p q)) := by
  unfold out0_5
  rw [View.canon_unit_zero zeros2]
  simp only [View.ld_unit_zero (S := S256x1024) zeros2]
  rw [Fin.sum_univ_eight]
  pointwise [k0_pay1, k0_pay2, k0_pay3, k0_pay4, k0_pay5, change, first, second]
theorem step6 : out0_6 x0 x1 x2 x3 (ix2 p q) = first (x2 (ix2 p q)) (∑ k : Fin 8, x0 (ix3 k p q)) := by
  unfold out0_6
  rw [View.canon_unit_zero zeros2]
  simp only [View.ld_unit_zero (S := S256x1024) zeros2]
  rw [Fin.sum_univ_eight]
  pointwise [k0_pay1, k0_pay2, k0_pay3, k0_pay4, k0_pay5, first]
theorem step7 : out0_7 x0 x1 x2 x3 (ix2 p q) = second (x3 (ix2 p q)) (∑ k : Fin 8, x0 (ix3 k p q)) := by
  unfold out0_7
  rw [View.canon_unit_zero zeros2]
  simp only [View.ld_unit_zero (S := S256x1024) zeros2]
  rw [Fin.sum_univ_eight]
  pointwise [k0_pay1, k0_pay2, k0_pay3, k0_pay4, k0_pay5, second]
end step

theorem N_eq : cfg0.N = 1 := N_0

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

/-- The row of the arrays at place `p` of step `t`'s block. -/
def row (t : Fin cfg0.N) (p : Fin 256) : Fin 256 := ⟨256 * t.val + p.val, by have := t.isLt; have := N_eq; omega⟩

/-- The gradient from its parts, and the other results from the gradient, the weight and its moments. -/
abbrev Arr0 := FVec Ideal S8x256x1024 .bf16
abbrev Arr := FVec Ideal S256x1024 .f32
def outG (g : Arr0) : Arr := fun i => ∑ k : Fin 8, g (ix3 k (i 0) (i 1))
def outD (g : Arr0) (w m v : Arr) : Arr := fun i => change (w i) (m i) (v i) (outG g i)
def outM (g : Arr0) (m : Arr) : Arr := fun i => first (m i) (outG g i)
def outV (g : Arr0) (v : Arr) : Arr := fun i => second (v i) (outG g i)

variable (m : (ℓ : Loc nD τ sig) → Buf (Elt Ideal) ℓ) (c : Dev nD)

/-- The four arguments. -/
abbrev m0 : Arr0 := m ((c : Thread nD τ).loc main_arg0)
abbrev m1 : Arr := m ((c : Thread nD τ).loc main_arg1)
abbrev m2 : Arr := m ((c : Thread nD τ).loc main_arg2)
abbrev m3 : Arr := m ((c : Thread nD τ).loc main_arg3)

theorem iblk0 (t : Fin cfg0.N) (k : Fin 8) (p : Fin 256) (q : Fin 1024) : iblk m c 0 t (ix3 k p q) = m0 m c (ix3 k (row t p) q) := by
  blk_simp [iblk]
  refine congrArg (m0 m c) ?_
  blk_ext [idx0, row]
theorem iblk1 (t : Fin cfg0.N) (p : Fin 256) (q : Fin 1024) : iblk m c 1 t (ix2 p q) = m1 m c (ix2 (row t p) q) := by
  blk_simp [iblk]
  refine congrArg (m1 m c) ?_
  blk_ext [idx1, row]
theorem iblk2 (t : Fin cfg0.N) (p : Fin 256) (q : Fin 1024) : iblk m c 2 t (ix2 p q) = m2 m c (ix2 (row t p) q) := by
  blk_simp [iblk]
  refine congrArg (m2 m c) ?_
  blk_ext [idx2, row]
theorem iblk3 (t : Fin cfg0.N) (p : Fin 256) (q : Fin 1024) : iblk m c 3 t (ix2 p q) = m3 m c (ix2 (row t p) q) := by
  blk_simp [iblk]
  refine congrArg (m3 m c) ?_
  blk_ext [idx3, row]

/-- What a step leaves in its blocks is its part of the results. -/
theorem part4 (t : Fin cfg0.N) (p : Fin 256) (q : Fin 1024) : out0_4 (iblk m c 0 t) (iblk m c 1 t) (iblk m c 2 t) (iblk m c 3 t) (ix2 p q) = outG (m0 m c) (ix2 (row t p) q) := by
  refine (step4 _ _ _ _ _ _).trans ?_
  simp only [iblk0]
  rfl
theorem part5 (t : Fin cfg0.N) (p : Fin 256) (q : Fin 1024) : out0_5 (iblk m c 0 t) (iblk m c 1 t) (iblk m c 2 t) (iblk m c 3 t) (ix2 p q) = outD (m0 m c) (m1 m c) (m2 m c) (m3 m c) (ix2 (row t p) q) := by
  refine (step5 _ _ _ _ _ _).trans ?_
  simp only [iblk0, iblk1, iblk2, iblk3]
  rfl
theorem part6 (t : Fin cfg0.N) (p : Fin 256) (q : Fin 1024) : out0_6 (iblk m c 0 t) (iblk m c 1 t) (iblk m c 2 t) (iblk m c 3 t) (ix2 p q) = outM (m0 m c) (m2 m c) (ix2 (row t p) q) := by
  refine (step6 _ _ _ _ _ _).trans ?_
  simp only [iblk0, iblk2]
  rfl
theorem part7 (t : Fin cfg0.N) (p : Fin 256) (q : Fin 1024) : out0_7 (iblk m c 0 t) (iblk m c 1 t) (iblk m c 2 t) (iblk m c 3 t) (ix2 p q) = outV (m0 m c) (m3 m c) (ix2 (row t p) q) := by
  refine (step7 _ _ _ _ _ _).trans ?_
  simp only [iblk0, iblk3]
  rfl

/-- The arrays the call leaves. -/
theorem arr4 : (dats m 0 c).arrAt 4 cfg0.N = outG (m0 m c) := by
  refine (dats m 0 c).arrAt_eq_of_covers 4 _ (by decide +kernel) fun t hf y => ?_
  blk_simp
  rw [after0_4]
  have e : (win0_4.blk t).view.emb y = ix2 (row t (y 0)) (y 1) := by blk_ext [idx4, row]
  rw [e]
  have ey : y = ix2 (y 0) (y 1) := by blk_ext
  refine (congrArg (out0_4 (iblk m c 0 t) (iblk m c 1 t) (iblk m c 2 t) (iblk m c 3 t)) ey).trans ?_
  exact part4 m c t _ _
theorem arr5 : (dats m 0 c).arrAt 5 cfg0.N = outD (m0 m c) (m1 m c) (m2 m c) (m3 m c) := by
  refine (dats m 0 c).arrAt_eq_of_covers 5 _ (by decide +kernel) fun t hf y => ?_
  blk_simp
  rw [after0_5]
  have e : (win0_5.blk t).view.emb y = ix2 (row t (y 0)) (y 1) := by blk_ext [idx5, row]
  rw [e]
  have ey : y = ix2 (y 0) (y 1) := by blk_ext
  refine (congrArg (out0_5 (iblk m c 0 t) (iblk m c 1 t) (iblk m c 2 t) (iblk m c 3 t)) ey).trans ?_
  exact part5 m c t _ _
theorem arr6 : (dats m 0 c).arrAt 6 cfg0.N = outM (m0 m c) (m2 m c) := by
  refine (dats m 0 c).arrAt_eq_of_covers 6 _ (by decide +kernel) fun t hf y => ?_
  blk_simp
  rw [after0_6]
  have e : (win0_6.blk t).view.emb y = ix2 (row t (y 0)) (y 1) := by blk_ext [idx6, row]
  rw [e]
  have ey : y = ix2 (y 0) (y 1) := by blk_ext
  refine (congrArg (out0_6 (iblk m c 0 t) (iblk m c 1 t) (iblk m c 2 t) (iblk m c 3 t)) ey).trans ?_
  exact part6 m c t _ _
theorem arr7 : (dats m 0 c).arrAt 7 cfg0.N = outV (m0 m c) (m3 m c) := by
  refine (dats m 0 c).arrAt_eq_of_covers 7 _ (by decide +kernel) fun t hf y => ?_
  blk_simp
  rw [after0_7]
  have e : (win0_7.blk t).view.emb y = ix2 (row t (y 0)) (y 1) := by blk_ext [idx7, row]
  rw [e]
  have ey : y = ix2 (y 0) (y 1) := by blk_ext
  refine (congrArg (out0_7 (iblk m c 0 t) (iblk m c 1 t) (iblk m c 2 t) (iblk m c 3 t)) ey).trans ?_
  exact part7 m c t _ _

theorem frame_reference : Cert.quiescent_Reference11Ideal (hReference11Ideal := Cert.Reference11Ideal.Gen.facts) := fun m ρ _ =>
  (θ_run Cert.Reference11Ideal.defs _ _).mono (fun r h => ⟨fun c => (h c).2.2.2.2, Idealize.ShloMosaic.sem_eq_zero_of_no_sems (by decide) r.2⟩)
    (Cert.Reference11Ideal.Value.run (F := Ideal) m ρ)

theorem algebraic : Cert.algebraic_Kernel11Ideal_Reference11Ideal (hKernel11Ideal := Cert.Kernel11Ideal.Gen.facts)
    (hReference11Ideal := Cert.Reference11Ideal.Gen.facts) := fun m ρ m' ρ' _ hagree =>
  ⟨fun c => outG (m0 m c), fun c => outD (m0 m c) (m1 m c) (m2 m c) (m3 m c), fun c => outM (m0 m c) (m2 m c), fun c => outV (m0 m c) (m3 m c),
    (θ_run defs _ _).mono (fun _ h c => ⟨(h c).1.trans (arr4 m c), (h c).2.1.trans (arr5 m c), (h c).2.2.1.trans (arr6 m c),
      (h c).2.2.2.1.trans (arr7 m c), (h c).2.2.2.2⟩) (run_blocks (F := Ideal) m ρ),
    (θ_run Cert.Reference11Ideal.defs _ _).mono (fun _ h c => by
      obtain ⟨h0, h1, h2, h3⟩ := hagree c
      beta_reduce
      rw [show m0 m c = _ from h0.symm, show m1 m c = _ from h1.symm, show m2 m c = _ from h2.symm, show m3 m c = _ from h3.symm]
      refine ⟨(h c).1.trans ?_, (h c).2.1.trans ?_, (h c).2.2.1.trans ?_, (h c).2.2.2.1.trans ?_, (h c).2.2.2.2⟩
      · refine ext2 fun a b => ?_
        pointwise [outG]
      · refine ext2 fun a b => ?_
        pointwise [outD, outG, change, first, second]
      · refine ext2 fun a b => ?_
        pointwise [outM, outG, first]
      · refine ext2 fun a b => ?_
        pointwise [outV, outG, second])
      (Cert.Reference11Ideal.Value.run (F := Ideal) m' ρ')⟩

end Cert.Kernel11Ideal.Opt
-- ==== Proof.Opt12.lean ====
/-
  The optimiser's step of the gated delta layer's input projection, from the devices' parts of its gradient: eight blocks of
  256 rows. The four arrays it leaves are the reference's.
-/
module

public import proofs.«01_k».proof.Defs
public import proofs.«01_k».proof.Proof.MmSum
public import proofs.«01_k».proof.Proof.OptStep
public import proofs.«01_k».proof.Proof.Gen.Kernel12.Frame
public import proofs.«01_k».proof.Proof.Gen.Kernel12Ideal.Value
public import proofs.«01_k».proof.Proof.Gen.Reference12Ideal.Run
public import Idealize.ShloMosaic.Lib.Pipeline.ValueKit.Geometry

@[expose] public section
set_option maxRecDepth 16384
noncomputable section
namespace Cert.Kernel12Ideal.Opt

open Idealize.ShloMosaic Idealize.ShloMosaic.TcCoe Idealize.ShloMosaic.Tactic Idealize.SL.Sem
open Cert.Kernel12Ideal.Gen Cert.Kernel12Ideal.Value Cert.Mm Cert.Opt

section step
variable (x0 : Vec Ideal S8x256x835 .bf16) (x1 x2 x3 : Vec Ideal S1x256x835 .f32) (p : Fin 256) (q : Fin 835)

/-- What a step leaves in its four blocks. -/
theorem step4 : out0_4 x0 x1 x2 x3 (ix3 0 p q) = (∑ k : Fin 8, x0 (ix3 k p q)) := by
  unfold out0_4
  rw [View.canon_unit_zero zeros3]
  rw [Fin.sum_univ_eight]
  pointwise [k0_pay1, k0_pay2, k0_pay3, k0_pay4, k0_pay5, k0_pay6, k0_pay7, k0_pay8, k0_pay9, k0_pay10, k0_pay11]
theorem step5 : out0_5 x0 x1 x2 x3 (ix3 0 p q) = change (x1 (ix3 0 p q)) (x2 (ix3 0 p q)) (x3 (ix3 0 p q)) (∑ k : Fin 8, x0 (ix3 k p q)) := by
  unfold out0_5
  rw [View.canon_unit_zero zeros3]
  simp only [View.ld_unit_zero (S := S1x256x835) zeros3]
  rw [Fin.sum_univ_eight]
  pointwise [k0_pay1, k0_pay2, k0_pay3, k0_pay4, k0_pay5, k0_pay6, k0_pay7, k0_pay8, k0_pay9, k0_pay10, k0_pay11, change, first, second]
theorem step6 : out0_6 x0 x1 x2 x3 (ix3 0 p q) = first (x2 (ix3 0 p q)) (∑ k : Fin 8, x0 (ix3 k p q)) := by
  unfold out0_6
  rw [View.canon_unit_zero zeros3]
  simp only [View.ld_unit_zero (S := S1x256x835) zeros3]
  rw [Fin.sum_univ_eight]
  pointwise [k0_pay1, k0_pay2, k0_pay3, k0_pay4, k0_pay5, k0_pay6, k0_pay7, k0_pay8, k0_pay9, k0_pay10, k0_pay11, first]
theorem step7 : out0_7 x0 x1 x2 x3 (ix3 0 p q) = second (x3 (ix3 0 p q)) (∑ k : Fin 8, x0 (ix3 k p q)) := by
  unfold out0_7
  rw [View.canon_unit_zero zeros3]
  simp only [View.ld_unit_zero (S := S1x256x835) zeros3]
  rw [Fin.sum_univ_eight]
  pointwise [k0_pay1, k0_pay2, k0_pay3, k0_pay4, k0_pay5, k0_pay6, k0_pay7, k0_pay8, k0_pay9, k0_pay10, k0_pay11, second]
end step

theorem N_eq : cfg0.N = 8 := N_0

theorem idx0 : ∀ t : Fin cfg0.N, win0_0.index t = ![0, t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![0, t.val, 0] := (by decide +kernel : ∀ t : Fin grid0.N, _)
theorem idx3 : ∀ t : Fin cfg0.N, win0_3.index t = ![0, t.val, 0] := (by decide +kernel : ∀ t : Fin grid0.N, _)
theorem idx4 : ∀ t : Fin cfg0.N, win0_4.index t = ![0, t.val, 0] := (by decide +kernel : ∀ t : Fin grid0.N, _)
theorem idx5 : ∀ t : Fin cfg0.N, win0_5.index t = ![0, t.val, 0] := (by decide +kernel : ∀ t : Fin grid0.N, _)
theorem idx6 : ∀ t : Fin cfg0.N, win0_6.index t = ![0, t.val, 0] := (by decide +kernel : ∀ t : Fin grid0.N, _)
theorem idx7 : ∀ t : Fin cfg0.N, win0_7.index t = ![0, t.val, 0] := (by decide +kernel : ∀ t : Fin grid0.N, _)

/-- The row of the arrays at place `p` of step `t`'s block. -/
def row (t : Fin cfg0.N) (p : Fin 256) : Fin 2048 := ⟨256 * t.val + p.val, by have := t.isLt; have := N_eq; omega⟩

/-- The gradient from its parts, and the other results from the gradient, the weight and its moments. -/
abbrev Arr0 := FVec Ideal S8x2048x835 .bf16
abbrev Arr := FVec Ideal S1x2048x835 .f32
def outG (g : Arr0) : Arr := fun i => ∑ k : Fin 8, g (ix3 k (i 1) (i 2))
def outD (g : Arr0) (w m v : Arr) : Arr := fun i => change (w i) (m i) (v i) (outG g i)
def outM (g : Arr0) (m : Arr) : Arr := fun i => first (m i) (outG g i)
def outV (g : Arr0) (v : Arr) : Arr := fun i => second (v i) (outG g i)

variable (m : (ℓ : Loc nD τ sig) → Buf (Elt Ideal) ℓ) (c : Dev nD)

/-- The four arguments. -/
abbrev m0 : Arr0 := m ((c : Thread nD τ).loc main_arg0)
abbrev m1 : Arr := m ((c : Thread nD τ).loc main_arg1)
abbrev m2 : Arr := m ((c : Thread nD τ).loc main_arg2)
abbrev m3 : Arr := m ((c : Thread nD τ).loc main_arg3)

theorem iblk0 (t : Fin cfg0.N) (k : Fin 8) (p : Fin 256) (q : Fin 835) : iblk m c 0 t (ix3 k p q) = m0 m c (ix3 k (row t p) q) := by
  blk_simp [iblk]
  refine congrArg (m0 m c) ?_
  blk_ext [idx0, row]
theorem iblk1 (t : Fin cfg0.N) (p : Fin 256) (q : Fin 835) : iblk m c 1 t (ix3 0 p q) = m1 m c (ix3 0 (row t p) q) := by
  blk_simp [iblk]
  refine congrArg (m1 m c) ?_
  blk_ext [idx1, row]
theorem iblk2 (t : Fin cfg0.N) (p : Fin 256) (q : Fin 835) : iblk m c 2 t (ix3 0 p q) = m2 m c (ix3 0 (row t p) q) := by
  blk_simp [iblk]
  refine congrArg (m2 m c) ?_
  blk_ext [idx2, row]
theorem iblk3 (t : Fin cfg0.N) (p : Fin 256) (q : Fin 835) : iblk m c 3 t (ix3 0 p q) = m3 m c (ix3 0 (row t p) q) := by
  blk_simp [iblk]
  refine congrArg (m3 m c) ?_
  blk_ext [idx3, row]

/-- What a step leaves in its blocks is its part of the results. -/
theorem part4 (t : Fin cfg0.N) (p : Fin 256) (q : Fin 835) : out0_4 (iblk m c 0 t) (iblk m c 1 t) (iblk m c 2 t) (iblk m c 3 t) (ix3 0 p q) = outG (m0 m c) (ix3 0 (row t p) q) := by
  refine (step4 _ _ _ _ _ _).trans ?_
  simp only [iblk0]
  rfl
theorem part5 (t : Fin cfg0.N) (p : Fin 256) (q : Fin 835) : out0_5 (iblk m c 0 t) (iblk m c 1 t) (iblk m c 2 t) (iblk m c 3 t) (ix3 0 p q) = outD (m0 m c) (m1 m c) (m2 m c) (m3 m c) (ix3 0 (row t p) q) := by
  refine (step5 _ _ _ _ _ _).trans ?_
  simp only [iblk0, iblk1, iblk2, iblk3]
  rfl
theorem part6 (t : Fin cfg0.N) (p : Fin 256) (q : Fin 835) : out0_6 (iblk m c 0 t) (iblk m c 1 t) (iblk m c 2 t) (iblk m c 3 t) (ix3 0 p q) = outM (m0 m c) (m2 m c) (ix3 0 (row t p) q) := by
  refine (step6 _ _ _ _ _ _).trans ?_
  simp only [iblk0, iblk2]
  rfl
theorem part7 (t : Fin cfg0.N) (p : Fin 256) (q : Fin 835) : out0_7 (iblk m c 0 t) (iblk m c 1 t) (iblk m c 2 t) (iblk m c 3 t) (ix3 0 p q) = outV (m0 m c) (m3 m c) (ix3 0 (row t p) q) := by
  refine (step7 _ _ _ _ _ _).trans ?_
  simp only [iblk0, iblk3]
  rfl

/-- The arrays the call leaves. -/
theorem arr4 : (dats m 0 c).arrAt 4 cfg0.N = outG (m0 m c) := by
  refine (dats m 0 c).arrAt_eq_of_covers 4 _ (by decide +kernel) fun t hf y => ?_
  blk_simp
  rw [after0_4]
  have e : (win0_4.blk t).view.emb y = ix3 0 (row t (y 1)) (y 2) := by have h : (y 0).val < 1 := (y 0).isLt; blk_ext [idx4, row]
  rw [e]
  have ey : y = ix3 0 (y 1) (y 2) := by have h : (y 0).val < 1 := (y 0).isLt; blk_ext
  refine (congrArg (out0_4 (iblk m c 0 t) (iblk m c 1 t) (iblk m c 2 t) (iblk m c 3 t)) ey).trans ?_
  exact part4 m c t _ _
theorem arr5 : (dats m 0 c).arrAt 5 cfg0.N = outD (m0 m c) (m1 m c) (m2 m c) (m3 m c) := by
  refine (dats m 0 c).arrAt_eq_of_covers 5 _ (by decide +kernel) fun t hf y => ?_
  blk_simp
  rw [after0_5]
  have e : (win0_5.blk t).view.emb y = ix3 0 (row t (y 1)) (y 2) := by have h : (y 0).val < 1 := (y 0).isLt; blk_ext [idx5, row]
  rw [e]
  have ey : y = ix3 0 (y 1) (y 2) := by have h : (y 0).val < 1 := (y 0).isLt; blk_ext
  refine (congrArg (out0_5 (iblk m c 0 t) (iblk m c 1 t) (iblk m c 2 t) (iblk m c 3 t)) ey).trans ?_
  exact part5 m c t _ _
theorem arr6 : (dats m 0 c).arrAt 6 cfg0.N = outM (m0 m c) (m2 m c) := by
  refine (dats m 0 c).arrAt_eq_of_covers 6 _ (by decide +kernel) fun t hf y => ?_
  blk_simp
  rw [after0_6]
  have e : (win0_6.blk t).view.emb y = ix3 0 (row t (y 1)) (y 2) := by have h : (y 0).val < 1 := (y 0).isLt; blk_ext [idx6, row]
  rw [e]
  have ey : y = ix3 0 (y 1) (y 2) := by have h : (y 0).val < 1 := (y 0).isLt; blk_ext
  refine (congrArg (out0_6 (iblk m c 0 t) (iblk m c 1 t) (iblk m c 2 t) (iblk m c 3 t)) ey).trans ?_
  exact part6 m c t _ _
theorem arr7 : (dats m 0 c).arrAt 7 cfg0.N = outV (m0 m c) (m3 m c) := by
  refine (dats m 0 c).arrAt_eq_of_covers 7 _ (by decide +kernel) fun t hf y => ?_
  blk_simp
  rw [after0_7]
  have e : (win0_7.blk t).view.emb y = ix3 0 (row t (y 1)) (y 2) := by have h : (y 0).val < 1 := (y 0).isLt; blk_ext [idx7, row]
  rw [e]
  have ey : y = ix3 0 (y 1) (y 2) := by have h : (y 0).val < 1 := (y 0).isLt; blk_ext
  refine (congrArg (out0_7 (iblk m c 0 t) (iblk m c 1 t) (iblk m c 2 t) (iblk m c 3 t)) ey).trans ?_
  exact part7 m c t _ _

theorem frame_reference : Cert.quiescent_Reference12Ideal (hReference12Ideal := Cert.Reference12Ideal.Gen.facts) := fun m ρ _ =>
  (θ_run Cert.Reference12Ideal.defs _ _).mono (fun r h => ⟨fun c => (h c).2.2.2.2, Idealize.ShloMosaic.sem_eq_zero_of_no_sems (by decide) r.2⟩)
    (Cert.Reference12Ideal.Value.run (F := Ideal) m ρ)

theorem algebraic : Cert.algebraic_Kernel12Ideal_Reference12Ideal (hKernel12Ideal := Cert.Kernel12Ideal.Gen.facts)
    (hReference12Ideal := Cert.Reference12Ideal.Gen.facts) := fun m ρ m' ρ' _ hagree =>
  ⟨fun c => outG (m0 m c), fun c => outD (m0 m c) (m1 m c) (m2 m c) (m3 m c), fun c => outM (m0 m c) (m2 m c), fun c => outV (m0 m c) (m3 m c),
    (θ_run defs _ _).mono (fun _ h c => ⟨(h c).1.trans (arr4 m c), (h c).2.1.trans (arr5 m c), (h c).2.2.1.trans (arr6 m c),
      (h c).2.2.2.1.trans (arr7 m c), (h c).2.2.2.2⟩) (run_blocks (F := Ideal) m ρ),
    (θ_run Cert.Reference12Ideal.defs _ _).mono (fun _ h c => by
      obtain ⟨h0, h1, h2, h3⟩ := hagree c
      beta_reduce
      rw [show m0 m c = _ from h0.symm, show m1 m c = _ from h1.symm, show m2 m c = _ from h2.symm, show m3 m c = _ from h3.symm]
      refine ⟨(h c).1.trans ?_, (h c).2.1.trans ?_, (h c).2.2.1.trans ?_, (h c).2.2.2.1.trans ?_, (h c).2.2.2.2⟩
      · refine ext3 fun a b d => ?_
        pointwise [outG]
      · refine ext3 fun a b d => ?_
        pointwise [outD, outG, change, first, second]
      · refine ext3 fun a b d => ?_
        pointwise [outM, outG, first]
      · refine ext3 fun a b d => ?_
        pointwise [outV, outG, second])
      (Cert.Reference12Ideal.Value.run (F := Ideal) m' ρ')⟩

end Cert.Kernel12Ideal.Opt
-- ==== Proof.Opt13.lean ====
/-
  The optimiser's step of the forgetting attention's input projection, from its gradient summed over the devices: four blocks
  of 64 rows. The four arrays it leaves are the reference's.
-/
module

public import proofs.«01_k».proof.Defs
public import proofs.«01_k».proof.Proof.MmSum
public import proofs.«01_k».proof.Proof.OptStep
public import proofs.«01_k».proof.Proof.Gen.Kernel13.Frame
public import proofs.«01_k».proof.Proof.Gen.Kernel13Ideal.Value
public import proofs.«01_k».proof.Proof.Gen.Reference13Ideal.Run
public import Idealize.ShloMosaic.Lib.Pipeline.ValueKit.Geometry

@[expose] public section
set_option maxRecDepth 16384
noncomputable section
namespace Cert.Kernel13Ideal.Opt

open Idealize.ShloMosaic Idealize.ShloMosaic.TcCoe Idealize.ShloMosaic.Tactic Idealize.SL.Sem
open Cert.Kernel13Ideal.Gen Cert.Kernel13Ideal.Value Cert.Mm Cert.Opt

section step
variable (x0 : Vec Ideal S1x64x5132 .f32) (x1 x2 x3 : Vec Ideal S1x64x5132 .f32) (p : Fin 64) (q : Fin 5132)

/-- What a step leaves in its four blocks. -/
theorem step4 : out0_4 x0 x1 x2 x3 (ix3 0 p q) = x0 (ix3 0 p q) := by
  unfold out0_4
  rw [View.canon_unit_zero zeros3]
  simp only [View.ld_unit_zero (S := S1x64x5132) zeros3]
  pointwise [k0_pay1, k0_pay2, k0_pay3, k0_pay4, k0_pay5, k0_pay6, k0_pay7, k0_pay8, k0_pay9]
theorem step5 : out0_5 x0 x1 x2 x3 (ix3 0 p q) = change (x1 (ix3 0 p q)) (x2 (ix3 0 p q)) (x3 (ix3 0 p q)) (x0 (ix3 0 p q)) := by
  unfold out0_5
  rw [View.canon_unit_zero zeros3]
  simp only [View.ld_unit_zero (S := S1x64x5132) zeros3]
  pointwise [k0_pay1, k0_pay2, k0_pay3, k0_pay4, k0_pay5, k0_pay6, k0_pay7, k0_pay8, k0_pay9, change, first, second]
theorem step6 : out0_6 x0 x1 x2 x3 (ix3 0 p q) = first (x2 (ix3 0 p q)) (x0 (ix3 0 p q)) := by
  unfold out0_6
  rw [View.canon_unit_zero zeros3]
  simp only [View.ld_unit_zero (S := S1x64x5132) zeros3]
  pointwise [k0_pay1, k0_pay2, k0_pay3, k0_pay4, k0_pay5, k0_pay6, k0_pay7, k0_pay8, k0_pay9, first]
theorem step7 : out0_7 x0 x1 x2 x3 (ix3 0 p q) = second (x3 (ix3 0 p q)) (x0 (ix3 0 p q)) := by
  unfold out0_7
  rw [View.canon_unit_zero zeros3]
  simp only [View.ld_unit_zero (S := S1x64x5132) zeros3]
  pointwise [k0_pay1, k0_pay2, k0_pay3, k0_pay4, k0_pay5, k0_pay6, k0_pay7, k0_pay8, k0_pay9, second]
end step

theorem N_eq : cfg0.N = 4 := N_0

theorem idx0 : ∀ t : Fin cfg0.N, win0_0.index t = ![0, t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![0, t.val, 0] := (by decide +kernel : ∀ t : Fin grid0.N, _)
theorem idx3 : ∀ t : Fin cfg0.N, win0_3.index t = ![0, t.val, 0] := (by decide +kernel : ∀ t : Fin grid0.N, _)
theorem idx4 : ∀ t : Fin cfg0.N, win0_4.index t = ![0, t.val, 0] := (by decide +kernel : ∀ t : Fin grid0.N, _)
theorem idx5 : ∀ t : Fin cfg0.N, win0_5.index t = ![0, t.val, 0] := (by decide +kernel : ∀ t : Fin grid0.N, _)
theorem idx6 : ∀ t : Fin cfg0.N, win0_6.index t = ![0, t.val, 0] := (by decide +kernel : ∀ t : Fin grid0.N, _)
theorem idx7 : ∀ t : Fin cfg0.N, win0_7.index t = ![0, t.val, 0] := (by decide +kernel : ∀ t : Fin grid0.N, _)

/-- The row of the arrays at place `p` of step `t`'s block. -/
def row (t : Fin cfg0.N) (p : Fin 64) : Fin 256 := ⟨64 * t.val + p.val, by have := t.isLt; have := N_eq; omega⟩

/-- The four results, from the gradient, the weight and its moments. -/
abbrev Arr0 := FVec Ideal S1x256x5132 .f32
abbrev Arr := FVec Ideal S1x256x5132 .f32
def outG (g : Arr0) : Arr := g
def outD (g : Arr0) (w m v : Arr) : Arr := fun i => change (w i) (m i) (v i) (outG g i)
def outM (g : Arr0) (m : Arr) : Arr := fun i => first (m i) (outG g i)
def outV (g : Arr0) (v : Arr) : Arr := fun i => second (v i) (outG g i)

variable (m : (ℓ : Loc nD τ sig) → Buf (Elt Ideal) ℓ) (c : Dev nD)

/-- The four arguments. -/
abbrev m0 : Arr0 := m ((c : Thread nD τ).loc main_arg0)
abbrev m1 : Arr := m ((c : Thread nD τ).loc main_arg1)
abbrev m2 : Arr := m ((c : Thread nD τ).loc main_arg2)
abbrev m3 : Arr := m ((c : Thread nD τ).loc main_arg3)

theorem iblk0 (t : Fin cfg0.N) (p : Fin 64) (q : Fin 5132) : iblk m c 0 t (ix3 0 p q) = m0 m c (ix3 0 (row t p) q) := by
  blk_simp [iblk]
  refine congrArg (m0 m c) ?_
  blk_ext [idx0, row]
theorem iblk1 (t : Fin cfg0.N) (p : Fin 64) (q : Fin 5132) : iblk m c 1 t (ix3 0 p q) = m1 m c (ix3 0 (row t p) q) := by
  blk_simp [iblk]
  refine congrArg (m1 m c) ?_
  blk_ext [idx1, row]
theorem iblk2 (t : Fin cfg0.N) (p : Fin 64) (q : Fin 5132) : iblk m c 2 t (ix3 0 p q) = m2 m c (ix3 0 (row t p) q) := by
  blk_simp [iblk]
  refine congrArg (m2 m c) ?_
  blk_ext [idx2, row]
theorem iblk3 (t : Fin cfg0.N) (p : Fin 64) (q : Fin 5132) : iblk m c 3 t (ix3 0 p q) = m3 m c (ix3 0 (row t p) q) := by
  blk_simp [iblk]
  refine congrArg (m3 m c) ?_
  blk_ext [idx3, row]

/-- What a step leaves in its blocks is its part of the results. -/
theorem part4 (t : Fin cfg0.N) (p : Fin 64) (q : Fin 5132) : out0_4 (iblk m c 0 t) (iblk m c 1 t) (iblk m c 2 t) (iblk m c 3 t) (ix3 0 p q) = outG (m0 m c) (ix3 0 (row t p) q) := by
  refine (step4 _ _ _ _ _ _).trans ?_
  simp only [iblk0]
  rfl
theorem part5 (t : Fin cfg0.N) (p : Fin 64) (q : Fin 5132) : out0_5 (iblk m c 0 t) (iblk m c 1 t) (iblk m c 2 t) (iblk m c 3 t) (ix3 0 p q) = outD (m0 m c) (m1 m c) (m2 m c) (m3 m c) (ix3 0 (row t p) q) := by
  refine (step5 _ _ _ _ _ _).trans ?_
  simp only [iblk0, iblk1, iblk2, iblk3]
  rfl
theorem part6 (t : Fin cfg0.N) (p : Fin 64) (q : Fin 5132) : out0_6 (iblk m c 0 t) (iblk m c 1 t) (iblk m c 2 t) (iblk m c 3 t) (ix3 0 p q) = outM (m0 m c) (m2 m c) (ix3 0 (row t p) q) := by
  refine (step6 _ _ _ _ _ _).trans ?_
  simp only [iblk0, iblk2]
  rfl
theorem part7 (t : Fin cfg0.N) (p : Fin 64) (q : Fin 5132) : out0_7 (iblk m c 0 t) (iblk m c 1 t) (iblk m c 2 t) (iblk m c 3 t) (ix3 0 p q) = outV (m0 m c) (m3 m c) (ix3 0 (row t p) q) := by
  refine (step7 _ _ _ _ _ _).trans ?_
  simp only [iblk0, iblk3]
  rfl

/-- The arrays the call leaves. -/
theorem arr4 : (dats m 0 c).arrAt 4 cfg0.N = outG (m0 m c) := by
  refine (dats m 0 c).arrAt_eq_of_covers 4 _ (by decide +kernel) fun t hf y => ?_
  blk_simp
  rw [after0_4]
  have e : (win0_4.blk t).view.emb y = ix3 0 (row t (y 1)) (y 2) := by have h : (y 0).val < 1 := (y 0).isLt; blk_ext [idx4, row]
  rw [e]
  have ey : y = ix3 0 (y 1) (y 2) := by have h : (y 0).val < 1 := (y 0).isLt; blk_ext
  refine (congrArg (out0_4 (iblk m c 0 t) (iblk m c 1 t) (iblk m c 2 t) (iblk m c 3 t)) ey).trans ?_
  exact part4 m c t _ _
theorem arr5 : (dats m 0 c).arrAt 5 cfg0.N = outD (m0 m c) (m1 m c) (m2 m c) (m3 m c) := by
  refine (dats m 0 c).arrAt_eq_of_covers 5 _ (by decide +kernel) fun t hf y => ?_
  blk_simp
  rw [after0_5]
  have e : (win0_5.blk t).view.emb y = ix3 0 (row t (y 1)) (y 2) := by have h : (y 0).val < 1 := (y 0).isLt; blk_ext [idx5, row]
  rw [e]
  have ey : y = ix3 0 (y 1) (y 2) := by have h : (y 0).val < 1 := (y 0).isLt; blk_ext
  refine (congrArg (out0_5 (iblk m c 0 t) (iblk m c 1 t) (iblk m c 2 t) (iblk m c 3 t)) ey).trans ?_
  exact part5 m c t _ _
theorem arr6 : (dats m 0 c).arrAt 6 cfg0.N = outM (m0 m c) (m2 m c) := by
  refine (dats m 0 c).arrAt_eq_of_covers 6 _ (by decide +kernel) fun t hf y => ?_
  blk_simp
  rw [after0_6]
  have e : (win0_6.blk t).view.emb y = ix3 0 (row t (y 1)) (y 2) := by have h : (y 0).val < 1 := (y 0).isLt; blk_ext [idx6, row]
  rw [e]
  have ey : y = ix3 0 (y 1) (y 2) := by have h : (y 0).val < 1 := (y 0).isLt; blk_ext
  refine (congrArg (out0_6 (iblk m c 0 t) (iblk m c 1 t) (iblk m c 2 t) (iblk m c 3 t)) ey).trans ?_
  exact part6 m c t _ _
theorem arr7 : (dats m 0 c).arrAt 7 cfg0.N = outV (m0 m c) (m3 m c) := by
  refine (dats m 0 c).arrAt_eq_of_covers 7 _ (by decide +kernel) fun t hf y => ?_
  blk_simp
  rw [after0_7]
  have e : (win0_7.blk t).view.emb y = ix3 0 (row t (y 1)) (y 2) := by have h : (y 0).val < 1 := (y 0).isLt; blk_ext [idx7, row]
  rw [e]
  have ey : y = ix3 0 (y 1) (y 2) := by have h : (y 0).val < 1 := (y 0).isLt; blk_ext
  refine (congrArg (out0_7 (iblk m c 0 t) (iblk m c 1 t) (iblk m c 2 t) (iblk m c 3 t)) ey).trans ?_
  exact part7 m c t _ _

theorem frame_reference : Cert.quiescent_Reference13Ideal (hReference13Ideal := Cert.Reference13Ideal.Gen.facts) := fun m ρ _ =>
  (θ_run Cert.Reference13Ideal.defs _ _).mono (fun r h => ⟨fun c => (h c).2.2.2.2, Idealize.ShloMosaic.sem_eq_zero_of_no_sems (by decide) r.2⟩)
    (Cert.Reference13Ideal.Value.run (F := Ideal) m ρ)

theorem algebraic : Cert.algebraic_Kernel13Ideal_Reference13Ideal (hKernel13Ideal := Cert.Kernel13Ideal.Gen.facts)
    (hReference13Ideal := Cert.Reference13Ideal.Gen.facts) := fun m ρ m' ρ' _ hagree =>
  ⟨fun c => outG (m0 m c), fun c => outD (m0 m c) (m1 m c) (m2 m c) (m3 m c), fun c => outM (m0 m c) (m2 m c), fun c => outV (m0 m c) (m3 m c),
    (θ_run defs _ _).mono (fun _ h c => ⟨(h c).1.trans (arr4 m c), (h c).2.1.trans (arr5 m c), (h c).2.2.1.trans (arr6 m c),
      (h c).2.2.2.1.trans (arr7 m c), (h c).2.2.2.2⟩) (run_blocks (F := Ideal) m ρ),
    (θ_run Cert.Reference13Ideal.defs _ _).mono (fun _ h c => by
      obtain ⟨h0, h1, h2, h3⟩ := hagree c
      beta_reduce
      rw [show m0 m c = _ from h0.symm, show m1 m c = _ from h1.symm, show m2 m c = _ from h2.symm, show m3 m c = _ from h3.symm]
      refine ⟨(h c).1.trans ?_, (h c).2.1.trans ?_, (h c).2.2.1.trans ?_, (h c).2.2.2.1.trans ?_, (h c).2.2.2.2⟩
      · rfl
      · refine ext3 fun a b d => ?_
        pointwise [outD, outG, change, first, second]
      · refine ext3 fun a b d => ?_
        pointwise [outM, outG, first]
      · refine ext3 fun a b d => ?_
        pointwise [outV, outG, second])
      (Cert.Reference13Ideal.Value.run (F := Ideal) m' ρ')⟩

end Cert.Kernel13Ideal.Opt
-- ==== Proof.Opt14.lean ====
/-
  The optimiser's step of the small weights, packed into rows of 128, from their gradient summed over the devices: thirteen
  blocks of 512 rows. The four arrays it leaves are the reference's.
-/
module

public import proofs.«01_k».proof.Defs
public import proofs.«01_k».proof.Proof.MmSum
public import proofs.«01_k».proof.Proof.OptStep
public import proofs.«01_k».proof.Proof.Gen.Kernel14.Frame
public import proofs.«01_k».proof.Proof.Gen.Kernel14Ideal.Value
public import proofs.«01_k».proof.Proof.Gen.Reference14Ideal.Run
public import Idealize.ShloMosaic.Lib.Pipeline.ValueKit.Geometry

@[expose] public section
set_option maxRecDepth 16384
noncomputable section
namespace Cert.Kernel14Ideal.Opt

open Idealize.ShloMosaic Idealize.ShloMosaic.TcCoe Idealize.ShloMosaic.Tactic Idealize.SL.Sem
open Cert.Kernel14Ideal.Gen Cert.Kernel14Ideal.Value Cert.Mm Cert.Opt

section step
variable (x0 : Vec Ideal S1x512x128 .f32) (x1 x2 x3 : Vec Ideal S512x128 .f32) (p : Fin 512) (q : Fin 128)

/-- What a step leaves in its four blocks. -/
theorem step4 : out0_4 x0 x1 x2 x3 (ix2 p q) = x0 (ix3 0 p q) := by
  unfold out0_4
  rw [View.canon_unit_zero zeros2]
  simp only [View.ld_unit_zero (S := S512x128) zeros2, View.ld_unit_zero (S := S1x512x128) zeros3]
  pointwise [k0_pay1, k0_pay2, k0_pay3, k0_pay4]
theorem step5 : out0_5 x0 x1 x2 x3 (ix2 p q) = change (x1 (ix2 p q)) (x2 (ix2 p q)) (x3 (ix2 p q)) (x0 (ix3 0 p q)) := by
  unfold out0_5
  rw [View.canon_unit_zero zeros2]
  simp only [View.ld_unit_zero (S := S512x128) zeros2, View.ld_unit_zero (S := S1x512x128) zeros3]
  pointwise [k0_pay1, k0_pay2, k0_pay3, k0_pay4, change, first, second]
theorem step6 : out0_6 x0 x1 x2 x3 (ix2 p q) = first (x2 (ix2 p q)) (x0 (ix3 0 p q)) := by
  unfold out0_6
  rw [View.canon_unit_zero zeros2]
  simp only [View.ld_unit_zero (S := S512x128) zeros2, View.ld_unit_zero (S := S1x512x128) zeros3]
  pointwise [k0_pay1, k0_pay2, k0_pay3, k0_pay4, first]
theorem step7 : out0_7 x0 x1 x2 x3 (ix2 p q) = second (x3 (ix2 p q)) (x0 (ix3 0 p q)) := by
  unfold out0_7
  rw [View.canon_unit_zero zeros2]
  simp only [View.ld_unit_zero (S := S512x128) zeros2, View.ld_unit_zero (S := S1x512x128) zeros3]
  pointwise [k0_pay1, k0_pay2, k0_pay3, k0_pay4, second]
end step

theorem N_eq : cfg0.N = 13 := N_0

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

/-- The row of the arrays at place `p` of step `t`'s block. -/
def row (t : Fin cfg0.N) (p : Fin 512) : Fin 6656 := ⟨512 * t.val + p.val, by have := t.isLt; have := N_eq; omega⟩

/-- The gradient, and the other results from the gradient, the weight and its moments. -/
abbrev Arr0 := FVec Ideal S1x6656x128 .f32
abbrev Arr := FVec Ideal S6656x128 .f32
def outG (g : Arr0) : Arr := fun i => g (ix3 0 (i 0) (i 1))
def outD (g : Arr0) (w m v : Arr) : Arr := fun i => change (w i) (m i) (v i) (outG g i)
def outM (g : Arr0) (m : Arr) : Arr := fun i => first (m i) (outG g i)
def outV (g : Arr0) (v : Arr) : Arr := fun i => second (v i) (outG g i)

variable (m : (ℓ : Loc nD τ sig) → Buf (Elt Ideal) ℓ) (c : Dev nD)

/-- The four arguments. -/
abbrev m0 : Arr0 := m ((c : Thread nD τ).loc main_arg0)
abbrev m1 : Arr := m ((c : Thread nD τ).loc main_arg1)
abbrev m2 : Arr := m ((c : Thread nD τ).loc main_arg2)
abbrev m3 : Arr := m ((c : Thread nD τ).loc main_arg3)

theorem iblk0 (t : Fin cfg0.N) (p : Fin 512) (q : Fin 128) : iblk m c 0 t (ix3 0 p q) = m0 m c (ix3 0 (row t p) q) := by
  blk_simp [iblk]
  refine congrArg (m0 m c) ?_
  blk_ext [idx0, row]
theorem iblk1 (t : Fin cfg0.N) (p : Fin 512) (q : Fin 128) : iblk m c 1 t (ix2 p q) = m1 m c (ix2 (row t p) q) := by
  blk_simp [iblk]
  refine congrArg (m1 m c) ?_
  blk_ext [idx1, row]
theorem iblk2 (t : Fin cfg0.N) (p : Fin 512) (q : Fin 128) : iblk m c 2 t (ix2 p q) = m2 m c (ix2 (row t p) q) := by
  blk_simp [iblk]
  refine congrArg (m2 m c) ?_
  blk_ext [idx2, row]
theorem iblk3 (t : Fin cfg0.N) (p : Fin 512) (q : Fin 128) : iblk m c 3 t (ix2 p q) = m3 m c (ix2 (row t p) q) := by
  blk_simp [iblk]
  refine congrArg (m3 m c) ?_
  blk_ext [idx3, row]

/-- What a step leaves in its blocks is its part of the results. -/
theorem part4 (t : Fin cfg0.N) (p : Fin 512) (q : Fin 128) : out0_4 (iblk m c 0 t) (iblk m c 1 t) (iblk m c 2 t) (iblk m c 3 t) (ix2 p q) = outG (m0 m c) (ix2 (row t p) q) := by
  refine (step4 _ _ _ _ _ _).trans ?_
  simp only [iblk0]
  rfl
theorem part5 (t : Fin cfg0.N) (p : Fin 512) (q : Fin 128) : out0_5 (iblk m c 0 t) (iblk m c 1 t) (iblk m c 2 t) (iblk m c 3 t) (ix2 p q) = outD (m0 m c) (m1 m c) (m2 m c) (m3 m c) (ix2 (row t p) q) := by
  refine (step5 _ _ _ _ _ _).trans ?_
  simp only [iblk0, iblk1, iblk2, iblk3]
  rfl
theorem part6 (t : Fin cfg0.N) (p : Fin 512) (q : Fin 128) : out0_6 (iblk m c 0 t) (iblk m c 1 t) (iblk m c 2 t) (iblk m c 3 t) (ix2 p q) = outM (m0 m c) (m2 m c) (ix2 (row t p) q) := by
  refine (step6 _ _ _ _ _ _).trans ?_
  simp only [iblk0, iblk2]
  rfl
theorem part7 (t : Fin cfg0.N) (p : Fin 512) (q : Fin 128) : out0_7 (iblk m c 0 t) (iblk m c 1 t) (iblk m c 2 t) (iblk m c 3 t) (ix2 p q) = outV (m0 m c) (m3 m c) (ix2 (row t p) q) := by
  refine (step7 _ _ _ _ _ _).trans ?_
  simp only [iblk0, iblk3]
  rfl

/-- The arrays the call leaves. -/
theorem arr4 : (dats m 0 c).arrAt 4 cfg0.N = outG (m0 m c) := by
  refine (dats m 0 c).arrAt_eq_of_covers 4 _ (by decide +kernel) fun t hf y => ?_
  blk_simp
  rw [after0_4]
  have e : (win0_4.blk t).view.emb y = ix2 (row t (y 0)) (y 1) := by blk_ext [idx4, row]
  rw [e]
  have ey : y = ix2 (y 0) (y 1) := by blk_ext
  refine (congrArg (out0_4 (iblk m c 0 t) (iblk m c 1 t) (iblk m c 2 t) (iblk m c 3 t)) ey).trans ?_
  exact part4 m c t _ _
theorem arr5 : (dats m 0 c).arrAt 5 cfg0.N = outD (m0 m c) (m1 m c) (m2 m c) (m3 m c) := by
  refine (dats m 0 c).arrAt_eq_of_covers 5 _ (by decide +kernel) fun t hf y => ?_
  blk_simp
  rw [after0_5]
  have e : (win0_5.blk t).view.emb y = ix2 (row t (y 0)) (y 1) := by blk_ext [idx5, row]
  rw [e]
  have ey : y = ix2 (y 0) (y 1) := by blk_ext
  refine (congrArg (out0_5 (iblk m c 0 t) (iblk m c 1 t) (iblk m c 2 t) (iblk m c 3 t)) ey).trans ?_
  exact part5 m c t _ _
theorem arr6 : (dats m 0 c).arrAt 6 cfg0.N = outM (m0 m c) (m2 m c) := by
  refine (dats m 0 c).arrAt_eq_of_covers 6 _ (by decide +kernel) fun t hf y => ?_
  blk_simp
  rw [after0_6]
  have e : (win0_6.blk t).view.emb y = ix2 (row t (y 0)) (y 1) := by blk_ext [idx6, row]
  rw [e]
  have ey : y = ix2 (y 0) (y 1) := by blk_ext
  refine (congrArg (out0_6 (iblk m c 0 t) (iblk m c 1 t) (iblk m c 2 t) (iblk m c 3 t)) ey).trans ?_
  exact part6 m c t _ _
theorem arr7 : (dats m 0 c).arrAt 7 cfg0.N = outV (m0 m c) (m3 m c) := by
  refine (dats m 0 c).arrAt_eq_of_covers 7 _ (by decide +kernel) fun t hf y => ?_
  blk_simp
  rw [after0_7]
  have e : (win0_7.blk t).view.emb y = ix2 (row t (y 0)) (y 1) := by blk_ext [idx7, row]
  rw [e]
  have ey : y = ix2 (y 0) (y 1) := by blk_ext
  refine (congrArg (out0_7 (iblk m c 0 t) (iblk m c 1 t) (iblk m c 2 t) (iblk m c 3 t)) ey).trans ?_
  exact part7 m c t _ _

/-- The reference's gradient is the argument, read without its first axis. -/
theorem ref_g (x : Arr0) : (shapeCast Cert.Reference14Ideal.S6656x128 x Cert.Reference14Ideal.Gen.shapeCasts_S1x6656x128_S6656x128 : Arr) = outG x := by
  refine ext2 fun a b => ?_
  pointwise [outG]

theorem frame_reference : Cert.quiescent_Reference14Ideal (hReference14Ideal := Cert.Reference14Ideal.Gen.facts) := fun m ρ _ =>
  (θ_run Cert.Reference14Ideal.defs _ _).mono (fun r h => ⟨fun c => (h c).2.2.2.2, Idealize.ShloMosaic.sem_eq_zero_of_no_sems (by decide) r.2⟩)
    (Cert.Reference14Ideal.Value.run (F := Ideal) m ρ)

theorem algebraic : Cert.algebraic_Kernel14Ideal_Reference14Ideal (hKernel14Ideal := Cert.Kernel14Ideal.Gen.facts)
    (hReference14Ideal := Cert.Reference14Ideal.Gen.facts) := fun m ρ m' ρ' _ hagree =>
  ⟨fun c => outG (m0 m c), fun c => outD (m0 m c) (m1 m c) (m2 m c) (m3 m c), fun c => outM (m0 m c) (m2 m c), fun c => outV (m0 m c) (m3 m c),
    (θ_run defs _ _).mono (fun _ h c => ⟨(h c).1.trans (arr4 m c), (h c).2.1.trans (arr5 m c), (h c).2.2.1.trans (arr6 m c),
      (h c).2.2.2.1.trans (arr7 m c), (h c).2.2.2.2⟩) (run_blocks (F := Ideal) m ρ),
    (θ_run Cert.Reference14Ideal.defs _ _).mono (fun _ h c => by
      obtain ⟨h0, h1, h2, h3⟩ := hagree c
      beta_reduce
      rw [show m0 m c = _ from h0.symm, show m1 m c = _ from h1.symm, show m2 m c = _ from h2.symm, show m3 m c = _ from h3.symm]
      refine ⟨(h c).1.trans ?_, (h c).2.1.trans ?_, (h c).2.2.1.trans ?_, (h c).2.2.2.1.trans ?_, (h c).2.2.2.2⟩
      · exact ref_g _
      · erw [ref_g]
        refine ext2 fun a b => ?_
        pointwise [outD, change, first, second]
      · erw [ref_g]
        refine ext2 fun a b => ?_
        pointwise [outM, first]
      · erw [ref_g]
        refine ext2 fun a b => ?_
        pointwise [outV, second])
      (Cert.Reference14Ideal.Value.run (F := Ideal) m' ρ')⟩

end Cert.Kernel14Ideal.Opt
-- ==== Proof.Opt15.lean ====
/-
  The sum over the devices of the small weights' gradients, packed into rows of 128: 27 blocks of 256 rows. The array it leaves
  is the reference's.
-/
module

public import proofs.«01_k».proof.Defs
public import proofs.«01_k».proof.Proof.MmSum
public import proofs.«01_k».proof.Proof.Gen.Kernel15.Frame
public import proofs.«01_k».proof.Proof.Gen.Kernel15Ideal.Value
public import proofs.«01_k».proof.Proof.Gen.Reference15Ideal.Run
public import Idealize.ShloMosaic.Lib.Pipeline.ValueKit.Geometry

@[expose] public section
set_option maxRecDepth 16384
noncomputable section
namespace Cert.Kernel15Ideal.Opt

open Idealize.ShloMosaic Idealize.ShloMosaic.TcCoe Idealize.ShloMosaic.Tactic Idealize.SL.Sem
open Cert.Kernel15Ideal.Gen Cert.Kernel15Ideal.Value Cert.Mm

/-- What a step leaves in its block. -/
theorem step1 (x0 : Vec Ideal S8x256x128 .f32) (p : Fin 256) (q : Fin 128) : out0_1 x0 (ix2 p q) = ∑ k : Fin 8, x0 (ix3 k p q) := by
  unfold out0_1
  rw [View.canon_unit_zero zeros2]
  rw [Fin.sum_univ_eight]
  pointwise [k0_pay1]

theorem N_eq : cfg0.N = 27 := N_0

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)

/-- The row of the arrays at place `p` of step `t`'s block. -/
def row (t : Fin cfg0.N) (p : Fin 256) : Fin 6912 := ⟨256 * t.val + p.val, by have := t.isLt; have := N_eq; omega⟩

/-- The result, from the devices' parts. -/
abbrev Arr0 := FVec Ideal S8x6912x128 .f32
abbrev Arr := FVec Ideal S6912x128 .f32
def outG (g : Arr0) : Arr := fun i => ∑ k : Fin 8, g (ix3 k (i 0) (i 1))

variable (m : (ℓ : Loc nD τ sig) → Buf (Elt Ideal) ℓ) (c : Dev nD)

/-- The argument. -/
abbrev m0 : Arr0 := m ((c : Thread nD τ).loc main_arg0)

theorem iblk0 (t : Fin cfg0.N) (k : Fin 8) (p : Fin 256) (q : Fin 128) : iblk m c 0 t (ix3 k p q) = m0 m c (ix3 k (row t p) q) := by
  blk_simp [iblk]
  refine congrArg (m0 m c) ?_
  blk_ext [idx0, row]

/-- What a step leaves in its block is its part of the result. -/
theorem part1 (t : Fin cfg0.N) (p : Fin 256) (q : Fin 128) : out0_1 (iblk m c 0 t) (ix2 p q) = outG (m0 m c) (ix2 (row t p) q) := by
  refine (step1 _ _ _).trans ?_
  simp only [iblk0]
  rfl

/-- The array the call leaves. -/
theorem arr1 : (dats m 0 c).arrAt 1 cfg0.N = outG (m0 m c) := by
  refine (dats m 0 c).arrAt_eq_of_covers 1 _ (by decide +kernel) fun t hf y => ?_
  blk_simp
  rw [after0_1]
  have e : (win0_1.blk t).view.emb y = ix2 (row t (y 0)) (y 1) := by blk_ext [idx1, row]
  rw [e]
  have ey : y = ix2 (y 0) (y 1) := by blk_ext
  refine (congrArg (out0_1 (iblk m c 0 t)) ey).trans ?_
  exact part1 m c t _ _

theorem frame_reference : Cert.quiescent_Reference15Ideal (hReference15Ideal := Cert.Reference15Ideal.Gen.facts) := fun m ρ _ =>
  (θ_run Cert.Reference15Ideal.defs _ _).mono (fun r h => ⟨fun c => (h c).2, Idealize.ShloMosaic.sem_eq_zero_of_no_sems (by decide) r.2⟩)
    (Cert.Reference15Ideal.Value.run (F := Ideal) m ρ)

theorem algebraic : Cert.algebraic_Kernel15Ideal_Reference15Ideal (hKernel15Ideal := Cert.Kernel15Ideal.Gen.facts)
    (hReference15Ideal := Cert.Reference15Ideal.Gen.facts) := fun m ρ m' ρ' _ hagree =>
  ⟨fun c => outG (m0 m c),
    (θ_run defs _ _).mono (fun _ h c => ⟨(h c).1.trans (arr1 m c), (h c).2⟩) (run_blocks (F := Ideal) m ρ),
    (θ_run Cert.Reference15Ideal.defs _ _).mono (fun _ h c => by
      have h0 := hagree c
      beta_reduce
      rw [show m0 m c = _ from h0.symm]
      refine ⟨(h c).1.trans ?_, (h c).2⟩
      refine ext2 fun a b => ?_
      pointwise [outG])
      (Cert.Reference15Ideal.Value.run (F := Ideal) m' ρ')⟩

end Cert.Kernel15Ideal.Opt
-- ==== Proof.Opt16.lean ====
/-
  The optimiser's steps of the S5 layers' gate projection, two layers, from the devices' parts of each layer's gradient: one call per
  layer, three blocks of 64 rows each, the second writing its layer over what the first left. The four arrays they leave are
  the reference's.
-/
module

public import proofs.«01_k».proof.Defs
public import proofs.«01_k».proof.Proof.MmSum
public import proofs.«01_k».proof.Proof.OptStep
public import proofs.«01_k».proof.Proof.Gen.Kernel16.Frame
public import proofs.«01_k».proof.Proof.Gen.Kernel16Ideal.Frame
public import proofs.«01_k».proof.Proof.Gen.Reference16Ideal.Run
public import Idealize.ShloMosaic.Lib.Pipeline.ValueKit.Geometry
public import Idealize.ShloMosaic.Lib.Pipeline.ValueKit.Partial
public import Idealize.ShloMosaic.Lib.Pipeline.ValueKit.Acc

@[expose] public section
set_option maxRecDepth 16384
noncomputable section
namespace Cert.Kernel16Ideal.Opt

open Idealize.ShloMosaic Idealize.ShloMosaic.TcCoe Idealize.ShloMosaic.Tactic Idealize.SL.Sem
open Cert.Kernel16Ideal.Gen Cert.Mm Cert.Opt

section step
variable (x0 : Vec Ideal S8x64x1536 .bf16) (x1 x2 x3 : Vec Ideal S1x64x1536 .f32) (p : Fin 64) (q : Fin 1536)

/-- What a step of the first call leaves in its four blocks. -/
theorem step4 : out0_4 x0 x1 x2 x3 (ix3 0 p q) = (∑ k : Fin 8, x0 (ix3 k p q)) := by
  unfold out0_4
  rw [View.canon_unit_zero zeros3]
  rw [Fin.sum_univ_eight]
  pointwise [k0_pay1, k0_pay2, k0_pay3, k0_pay4, k0_pay5, k0_pay6, k0_pay7, k0_pay8, k0_pay9, k0_pay10, k0_pay11]
theorem step5 : out0_5 x0 x1 x2 x3 (ix3 0 p q) = change (x1 (ix3 0 p q)) (x2 (ix3 0 p q)) (x3 (ix3 0 p q)) (∑ k : Fin 8, x0 (ix3 k p q)) := by
  unfold out0_5
  rw [View.canon_unit_zero zeros3]
  simp only [View.ld_unit_zero (S := S1x64x1536) zeros3]
  rw [Fin.sum_univ_eight]
  pointwise [k0_pay1, k0_pay2, k0_pay3, k0_pay4, k0_pay5, k0_pay6, k0_pay7, k0_pay8, k0_pay9, k0_pay10, k0_pay11, change, first, second]
theorem step6 : out0_6 x0 x1 x2 x3 (ix3 0 p q) = first (x2 (ix3 0 p q)) (∑ k : Fin 8, x0 (ix3 k p q)) := by
  unfold out0_6
  rw [View.canon_unit_zero zeros3]
  simp only [View.ld_unit_zero (S := S1x64x1536) zeros3]
  rw [Fin.sum_univ_eight]
  pointwise [k0_pay1, k0_pay2, k0_pay3, k0_pay4, k0_pay5, k0_pay6, k0_pay7, k0_pay8, k0_pay9, k0_pay10, k0_pay11, first]
theorem step7 : out0_7 x0 x1 x2 x3 (ix3 0 p q) = second (x3 (ix3 0 p q)) (∑ k : Fin 8, x0 (ix3 k p q)) := by
  unfold out0_7
  rw [View.canon_unit_zero zeros3]
  simp only [View.ld_unit_zero (S := S1x64x1536) zeros3]
  rw [Fin.sum_univ_eight]
  pointwise [k0_pay1, k0_pay2, k0_pay3, k0_pay4, k0_pay5, k0_pay6, k0_pay7, k0_pay8, k0_pay9, k0_pay10, k0_pay11, second]
end step

/-! What a step of call 2 leaves in its four blocks. -/

section step
variable (V : (c : Dev nD) → (b : Ref sig .tc) → Buf (Elt Ideal) ((c : Thread nD τ).loc b)) (c : Dev nD) (t : Fin cfg1.N)
variable (a : Vec Ideal S8x64x1536 .bf16) (b d e : Vec Ideal S1x64x1536 .f32) (ha : iblk1 V c 0 t = a) (hb : iblk1 V c 1 t = b)
  (hd : iblk1 V c 2 t = d) (he : iblk1 V c 3 t = e) (p : Fin 64) (q : Fin 1536)

include ha hb hd he in
theorem next1_4 : (outsAt1 V c t).1 (ix3 0 p q) = (∑ k : Fin 8, a (ix3 k p q)) := by
  unfold outsAt1
  dsimp only
  rw [ha, hb, hd, he]
  frame_out
  rw [Fin.sum_univ_eight]
  pointwise [k1_pay1, k1_pay2, k1_pay3, k1_pay4, k1_pay5, k1_pay6, k1_pay7, k1_pay8, k1_pay9, k1_pay10]
include ha hb hd he in
theorem next1_5 : (outsAt1 V c t).2.1 (ix3 0 p q) = change (b (ix3 0 p q)) (d (ix3 0 p q)) (e (ix3 0 p q)) (∑ k : Fin 8, a (ix3 k p q)) := by
  unfold outsAt1
  dsimp only
  rw [ha, hb, hd, he]
  frame_out
  rw [Fin.sum_univ_eight]
  pointwise [k1_pay1, k1_pay2, k1_pay3, k1_pay4, k1_pay5, k1_pay6, k1_pay7, k1_pay8, k1_pay9, k1_pay10, change, first, second]
include ha hb hd he in
theorem next1_6 : (outsAt1 V c t).2.2.1 (ix3 0 p q) = first (d (ix3 0 p q)) (∑ k : Fin 8, a (ix3 k p q)) := by
  unfold outsAt1
  dsimp only
  rw [ha, hb, hd, he]
  frame_out
  rw [Fin.sum_univ_eight]
  pointwise [k1_pay1, k1_pay2, k1_pay3, k1_pay4, k1_pay5, k1_pay6, k1_pay7, k1_pay8, k1_pay9, k1_pay10, first]
include ha hb hd he in
theorem next1_7 : (outsAt1 V c t).2.2.2 (ix3 0 p q) = second (e (ix3 0 p q)) (∑ k : Fin 8, a (ix3 k p q)) := by
  unfold outsAt1
  dsimp only
  rw [ha, hb, hd, he]
  frame_out
  rw [Fin.sum_univ_eight]
  pointwise [k1_pay1, k1_pay2, k1_pay3, k1_pay4, k1_pay5, k1_pay6, k1_pay7, k1_pay8, k1_pay9, k1_pay10, second]
end step

theorem N0 : cfg0.N = 3 := N_0
theorem N1 : cfg1.N = 3 := N_1

theorem idx0_0 : ∀ t : Fin cfg0.N, win0_0.index t = ![0, t.val, 0] := (by decide +kernel : ∀ t : Fin grid0.N, _)
theorem idx0_1 : ∀ t : Fin cfg0.N, win0_1.index t = ![0, t.val, 0] := (by decide +kernel : ∀ t : Fin grid0.N, _)
theorem idx0_2 : ∀ t : Fin cfg0.N, win0_2.index t = ![0, t.val, 0] := (by decide +kernel : ∀ t : Fin grid0.N, _)
theorem idx0_3 : ∀ t : Fin cfg0.N, win0_3.index t = ![0, t.val, 0] := (by decide +kernel : ∀ t : Fin grid0.N, _)
theorem idx0_4 : ∀ t : Fin cfg0.N, win0_4.index t = ![0, t.val, 0] := (by decide +kernel : ∀ t : Fin grid0.N, _)
theorem idx0_5 : ∀ t : Fin cfg0.N, win0_5.index t = ![0, t.val, 0] := (by decide +kernel : ∀ t : Fin grid0.N, _)
theorem idx0_6 : ∀ t : Fin cfg0.N, win0_6.index t = ![0, t.val, 0] := (by decide +kernel : ∀ t : Fin grid0.N, _)
theorem idx0_7 : ∀ t : Fin cfg0.N, win0_7.index t = ![0, t.val, 0] := (by decide +kernel : ∀ t : Fin grid0.N, _)
theorem idx1_0 : ∀ t : Fin cfg1.N, win1_0.index t = ![0, t.val, 0] := (by decide +kernel : ∀ t : Fin grid1.N, _)
theorem idx1_1 : ∀ t : Fin cfg1.N, win1_1.index t = ![1, t.val, 0] := (by decide +kernel : ∀ t : Fin grid1.N, _)
theorem idx1_2 : ∀ t : Fin cfg1.N, win1_2.index t = ![1, t.val, 0] := (by decide +kernel : ∀ t : Fin grid1.N, _)
theorem idx1_3 : ∀ t : Fin cfg1.N, win1_3.index t = ![1, t.val, 0] := (by decide +kernel : ∀ t : Fin grid1.N, _)
theorem idx1_4 : ∀ t : Fin cfg1.N, win1_4.index t = ![1, t.val, 0] := (by decide +kernel : ∀ t : Fin grid1.N, _)
theorem idx1_5 : ∀ t : Fin cfg1.N, win1_5.index t = ![1, t.val, 0] := (by decide +kernel : ∀ t : Fin grid1.N, _)
theorem idx1_6 : ∀ t : Fin cfg1.N, win1_6.index t = ![1, t.val, 0] := (by decide +kernel : ∀ t : Fin grid1.N, _)
theorem idx1_7 : ∀ t : Fin cfg1.N, win1_7.index t = ![1, t.val, 0] := (by decide +kernel : ∀ t : Fin grid1.N, _)

/-- The row of the arrays at place `p` of step `t`'s block, in each call. -/
def row0 (t : Fin cfg0.N) (p : Fin 64) : Fin 192 := ⟨64 * t.val + p.val, by have := t.isLt; have := N0; omega⟩
def row1 (t : Fin cfg1.N) (p : Fin 64) : Fin 192 := ⟨64 * t.val + p.val, by have := t.isLt; have := N1; omega⟩

/-- The gradient from its parts, layer by layer, and the other results from the gradient, the weight and its moments. -/
abbrev Arr0 := FVec Ideal S8x192x1536 .bf16
abbrev Arr := FVec Ideal S2x192x1536 .f32
def outG (g0 g1 : Arr0) : Arr := fun i =>
  if (i 0).val < 1 then ∑ k : Fin 8, g0 (ix3 k (i 1) (i 2))
  else ∑ k : Fin 8, g1 (ix3 k (i 1) (i 2))
def outD (g0 g1 : Arr0) (w m v : Arr) : Arr := fun i => change (w i) (m i) (v i) (outG g0 g1 i)
def outM (g0 g1 : Arr0) (m : Arr) : Arr := fun i => first (m i) (outG g0 g1 i)
def outV (g0 g1 : Arr0) (v : Arr) : Arr := fun i => second (v i) (outG g0 g1 i)

variable (m : (ℓ : Loc nD τ sig) → Buf (Elt Ideal) ℓ) (ρ : Dev nD → PrngReg) (c : Dev nD)

/-- The five arguments. -/
abbrev m0 : Arr0 := m ((c : Thread nD τ).loc main_arg0)
abbrev m1 : Arr0 := m ((c : Thread nD τ).loc main_arg1)
abbrev m2 : Arr := m ((c : Thread nD τ).loc main_arg2)
abbrev m3 : Arr := m ((c : Thread nD τ).loc main_arg3)
abbrev m4 : Arr := m ((c : Thread nD τ).loc main_arg4)

/-- The blocks a call reads are those of the arguments. -/
theorem blk0_0 (t : Fin cfg0.N) (k : Fin 8) (p : Fin 64) (q : Fin 1536) : iblk0 (V0 m ρ) c 0 t (ix3 k p q) = m0 m c (ix3 k (row0 t p) q) := by
  blk_simp [iblk0]
  refine congrArg (m0 m c) ?_
  blk_ext [idx0_0, row0]
theorem blk0_1 (t : Fin cfg0.N) (p : Fin 64) (q : Fin 1536) : iblk0 (V0 m ρ) c 1 t (ix3 0 p q) = m2 m c (ix3 0 (row0 t p) q) := by
  blk_simp [iblk0]
  refine congrArg (m2 m c) ?_
  blk_ext [idx0_1, row0]
theorem blk0_2 (t : Fin cfg0.N) (p : Fin 64) (q : Fin 1536) : iblk0 (V0 m ρ) c 2 t (ix3 0 p q) = m3 m c (ix3 0 (row0 t p) q) := by
  blk_simp [iblk0]
  refine congrArg (m3 m c) ?_
  blk_ext [idx0_2, row0]
theorem blk0_3 (t : Fin cfg0.N) (p : Fin 64) (q : Fin 1536) : iblk0 (V0 m ρ) c 3 t (ix3 0 p q) = m4 m c (ix3 0 (row0 t p) q) := by
  blk_simp [iblk0]
  refine congrArg (m4 m c) ?_
  blk_ext [idx0_3, row0]
theorem blk1_0 (t : Fin cfg1.N) (k : Fin 8) (p : Fin 64) (q : Fin 1536) : iblk1 (V2 m ρ) c 0 t (ix3 k p q) = m1 m c (ix3 k (row1 t p) q) := by
  blk_simp [iblk1]
  refine (congrFun (W2_args m ρ c main_arg1 (by decide)) _).trans ?_
  refine congrArg (m1 m c) ?_
  blk_ext [idx1_0, row1]
theorem blk1_1 (t : Fin cfg1.N) (p : Fin 64) (q : Fin 1536) : iblk1 (V2 m ρ) c 1 t (ix3 0 p q) = m2 m c (ix3 1 (row1 t p) q) := by
  blk_simp [iblk1]
  refine (congrFun (W2_args m ρ c main_arg2 (by decide)) _).trans ?_
  refine congrArg (m2 m c) ?_
  blk_ext [idx1_1, row1]
theorem blk1_2 (t : Fin cfg1.N) (p : Fin 64) (q : Fin 1536) : iblk1 (V2 m ρ) c 2 t (ix3 0 p q) = m3 m c (ix3 1 (row1 t p) q) := by
  blk_simp [iblk1]
  refine (congrFun (W2_args m ρ c main_arg3 (by decide)) _).trans ?_
  refine congrArg (m3 m c) ?_
  blk_ext [idx1_2, row1]
theorem blk1_3 (t : Fin cfg1.N) (p : Fin 64) (q : Fin 1536) : iblk1 (V2 m ρ) c 3 t (ix3 0 p q) = m4 m c (ix3 1 (row1 t p) q) := by
  blk_simp [iblk1]
  refine (congrFun (W2_args m ρ c main_arg4 (by decide)) _).trans ?_
  refine congrArg (m4 m c) ?_
  blk_ext [idx1_3, row1]

/-- What a step leaves in its blocks is its part of the results. -/
theorem part0_4 (t : Fin cfg0.N) (p : Fin 64) (q : Fin 1536) : out0_4 (iblk0 (V0 m ρ) c 0 t) (iblk0 (V0 m ρ) c 1 t) (iblk0 (V0 m ρ) c 2 t) (iblk0 (V0 m ρ) c 3 t) (ix3 0 p q) = outG (m0 m c) (m1 m c) (ix3 0 (row0 t p) q) := by
  refine (step4 _ _ _ _ _ _).trans ?_
  simp only [blk0_0]
  rfl
theorem part0_5 (t : Fin cfg0.N) (p : Fin 64) (q : Fin 1536) : out0_5 (iblk0 (V0 m ρ) c 0 t) (iblk0 (V0 m ρ) c 1 t) (iblk0 (V0 m ρ) c 2 t) (iblk0 (V0 m ρ) c 3 t) (ix3 0 p q) = outD (m0 m c) (m1 m c) (m2 m c) (m3 m c) (m4 m c) (ix3 0 (row0 t p) q) := by
  refine (step5 _ _ _ _ _ _).trans ?_
  simp only [blk0_0, blk0_1, blk0_2, blk0_3]
  rfl
theorem part0_6 (t : Fin cfg0.N) (p : Fin 64) (q : Fin 1536) : out0_6 (iblk0 (V0 m ρ) c 0 t) (iblk0 (V0 m ρ) c 1 t) (iblk0 (V0 m ρ) c 2 t) (iblk0 (V0 m ρ) c 3 t) (ix3 0 p q) = outM (m0 m c) (m1 m c) (m3 m c) (ix3 0 (row0 t p) q) := by
  refine (step6 _ _ _ _ _ _).trans ?_
  simp only [blk0_0, blk0_2]
  rfl
theorem part0_7 (t : Fin cfg0.N) (p : Fin 64) (q : Fin 1536) : out0_7 (iblk0 (V0 m ρ) c 0 t) (iblk0 (V0 m ρ) c 1 t) (iblk0 (V0 m ρ) c 2 t) (iblk0 (V0 m ρ) c 3 t) (ix3 0 p q) = outV (m0 m c) (m1 m c) (m4 m c) (ix3 0 (row0 t p) q) := by
  refine (step7 _ _ _ _ _ _).trans ?_
  simp only [blk0_0, blk0_3]
  rfl
theorem part1_4 (t : Fin cfg1.N) (p : Fin 64) (q : Fin 1536) : (outsAt1 (V2 m ρ) c t).1 (ix3 0 p q) = outG (m0 m c) (m1 m c) (ix3 1 (row1 t p) q) := by
  refine (next1_4 (V2 m ρ) c t _ _ _ _ rfl rfl rfl rfl p q).trans ?_
  simp only [blk1_0]
  rfl
theorem part1_5 (t : Fin cfg1.N) (p : Fin 64) (q : Fin 1536) : (outsAt1 (V2 m ρ) c t).2.1 (ix3 0 p q) = outD (m0 m c) (m1 m c) (m2 m c) (m3 m c) (m4 m c) (ix3 1 (row1 t p) q) := by
  refine (next1_5 (V2 m ρ) c t _ _ _ _ rfl rfl rfl rfl p q).trans ?_
  simp only [blk1_0, blk1_1, blk1_2, blk1_3]
  rfl
theorem part1_6 (t : Fin cfg1.N) (p : Fin 64) (q : Fin 1536) : (outsAt1 (V2 m ρ) c t).2.2.1 (ix3 0 p q) = outM (m0 m c) (m1 m c) (m3 m c) (ix3 1 (row1 t p) q) := by
  refine (next1_6 (V2 m ρ) c t _ _ _ _ rfl rfl rfl rfl p q).trans ?_
  simp only [blk1_0, blk1_2]
  rfl
theorem part1_7 (t : Fin cfg1.N) (p : Fin 64) (q : Fin 1536) : (outsAt1 (V2 m ρ) c t).2.2.2 (ix3 0 p q) = outV (m0 m c) (m1 m c) (m4 m c) (ix3 1 (row1 t p) q) := by
  refine (next1_7 (V2 m ρ) c t _ _ _ _ rfl rfl rfl rfl p q).trans ?_
  simp only [blk1_0, blk1_3]
  rfl

/-- The arrays call 1 leaves: the results, up to its layer. -/
theorem low0_4 (i : S2x192x1536.Idx) (hi : (i 0).val < 1) : (dat0 (V0 m ρ) c).arrAt 4 cfg0.N i = outG (m0 m c) (m1 m c) i := by
  refine ((dat0 (V0 m ρ) c).arrAt_apply_of_coversWhere 4 (outG (m0 m c) (m1 m c)) (P := fun i => (i (0 : Fin 3)).val = 0) (fun β => β (0 : Fin 3) = 0) (by decide +kernel)
    (fun t hf y => ?_) (fun j => by blk_simp [Pipeline.Window.cell_apply]; omega) i).trans ?_
  · blk_simp
    rw [after0_4]
    have e : (win0_4.blk t).view.emb y = ix3 0 (row0 t (y 1)) (y 2) := by have h : (y 0).val < 1 := (y 0).isLt; blk_ext [idx0_4, row0]
    rw [e]
    have ey : y = ix3 0 (y 1) (y 2) := by have h : (y 0).val < 1 := (y 0).isLt; blk_ext
    refine (congrArg (out0_4 (iblk0 (V0 m ρ) c 0 t) (iblk0 (V0 m ρ) c 1 t) (iblk0 (V0 m ρ) c 2 t) (iblk0 (V0 m ρ) c 3 t)) ey).trans ?_
    exact part0_4 m ρ c t _ _
  · exact if_pos (by omega)
theorem low0_5 (i : S2x192x1536.Idx) (hi : (i 0).val < 1) : (dat0 (V0 m ρ) c).arrAt 5 cfg0.N i = outD (m0 m c) (m1 m c) (m2 m c) (m3 m c) (m4 m c) i := by
  refine ((dat0 (V0 m ρ) c).arrAt_apply_of_coversWhere 5 (outD (m0 m c) (m1 m c) (m2 m c) (m3 m c) (m4 m c)) (P := fun i => (i (0 : Fin 3)).val = 0) (fun β => β (0 : Fin 3) = 0) (by decide +kernel)
    (fun t hf y => ?_) (fun j => by blk_simp [Pipeline.Window.cell_apply]; omega) i).trans ?_
  · blk_simp
    rw [after0_5]
    have e : (win0_5.blk t).view.emb y = ix3 0 (row0 t (y 1)) (y 2) := by have h : (y 0).val < 1 := (y 0).isLt; blk_ext [idx0_5, row0]
    rw [e]
    have ey : y = ix3 0 (y 1) (y 2) := by have h : (y 0).val < 1 := (y 0).isLt; blk_ext
    refine (congrArg (out0_5 (iblk0 (V0 m ρ) c 0 t) (iblk0 (V0 m ρ) c 1 t) (iblk0 (V0 m ρ) c 2 t) (iblk0 (V0 m ρ) c 3 t)) ey).trans ?_
    exact part0_5 m ρ c t _ _
  · exact if_pos (by omega)
theorem low0_6 (i : S2x192x1536.Idx) (hi : (i 0).val < 1) : (dat0 (V0 m ρ) c).arrAt 6 cfg0.N i = outM (m0 m c) (m1 m c) (m3 m c) i := by
  refine ((dat0 (V0 m ρ) c).arrAt_apply_of_coversWhere 6 (outM (m0 m c) (m1 m c) (m3 m c)) (P := fun i => (i (0 : Fin 3)).val = 0) (fun β => β (0 : Fin 3) = 0) (by decide +kernel)
    (fun t hf y => ?_) (fun j => by blk_simp [Pipeline.Window.cell_apply]; omega) i).trans ?_
  · blk_simp
    rw [after0_6]
    have e : (win0_6.blk t).view.emb y = ix3 0 (row0 t (y 1)) (y 2) := by have h : (y 0).val < 1 := (y 0).isLt; blk_ext [idx0_6, row0]
    rw [e]
    have ey : y = ix3 0 (y 1) (y 2) := by have h : (y 0).val < 1 := (y 0).isLt; blk_ext
    refine (congrArg (out0_6 (iblk0 (V0 m ρ) c 0 t) (iblk0 (V0 m ρ) c 1 t) (iblk0 (V0 m ρ) c 2 t) (iblk0 (V0 m ρ) c 3 t)) ey).trans ?_
    exact part0_6 m ρ c t _ _
  · exact if_pos (by omega)
theorem low0_7 (i : S2x192x1536.Idx) (hi : (i 0).val < 1) : (dat0 (V0 m ρ) c).arrAt 7 cfg0.N i = outV (m0 m c) (m1 m c) (m4 m c) i := by
  refine ((dat0 (V0 m ρ) c).arrAt_apply_of_coversWhere 7 (outV (m0 m c) (m1 m c) (m4 m c)) (P := fun i => (i (0 : Fin 3)).val = 0) (fun β => β (0 : Fin 3) = 0) (by decide +kernel)
    (fun t hf y => ?_) (fun j => by blk_simp [Pipeline.Window.cell_apply]; omega) i).trans ?_
  · blk_simp
    rw [after0_7]
    have e : (win0_7.blk t).view.emb y = ix3 0 (row0 t (y 1)) (y 2) := by have h : (y 0).val < 1 := (y 0).isLt; blk_ext [idx0_7, row0]
    rw [e]
    have ey : y = ix3 0 (y 1) (y 2) := by have h : (y 0).val < 1 := (y 0).isLt; blk_ext
    refine (congrArg (out0_7 (iblk0 (V0 m ρ) c 0 t) (iblk0 (V0 m ρ) c 1 t) (iblk0 (V0 m ρ) c 2 t) (iblk0 (V0 m ρ) c 3 t)) ey).trans ?_
    exact part0_7 m ρ c t _ _
  · exact if_pos (by omega)

/-- Call 2 finds what the one before left. -/
theorem mid1_4 : W2 m ρ c (Proc.devRef .tc main_v1_0) = (dat0 (V0 m ρ) c).arrAt 4 cfg0.N := by
  refine Eq.trans ?_ (W1_arr m ρ c 4)
  unfold W2 hostOps1
  after_results_simp
  rfl
theorem mid1_5 : W2 m ρ c (Proc.devRef .tc main_v1_1) = (dat0 (V0 m ρ) c).arrAt 5 cfg0.N := by
  refine Eq.trans ?_ (W1_arr m ρ c 5)
  unfold W2 hostOps1
  after_results_simp
  rfl
theorem mid1_6 : W2 m ρ c (Proc.devRef .tc main_v1_2) = (dat0 (V0 m ρ) c).arrAt 6 cfg0.N := by
  refine Eq.trans ?_ (W1_arr m ρ c 6)
  unfold W2 hostOps1
  after_results_simp
  rfl
theorem mid1_7 : W2 m ρ c (Proc.devRef .tc main_v1_3) = (dat0 (V0 m ρ) c).arrAt 7 cfg0.N := by
  refine Eq.trans ?_ (W1_arr m ρ c 7)
  unfold W2 hostOps1
  after_results_simp
  rfl

/-- The arrays call 2 leaves: the results, up to its layer. -/
theorem low1_4 (i : S2x192x1536.Idx) (hi : (i 0).val < 2) : (dat1 (V2 m ρ) c).arrAt 4 cfg1.N i = outG (m0 m c) (m1 m c) i := by
  refine ((dat1 (V2 m ρ) c).arrAt_apply_of_coversWhere 4 (outG (m0 m c) (m1 m c)) (P := fun i => (i (0 : Fin 3)).val = 1) (fun β => β (0 : Fin 3) = 1) (by decide +kernel)
    (fun t hf y => ?_) (fun j => by blk_simp [Pipeline.Window.cell_apply]; omega) i).trans ?_
  · blk_simp
    rw [after1_4]
    have e : (win1_4.blk t).view.emb y = ix3 1 (row1 t (y 1)) (y 2) := by have h : (y 0).val < 1 := (y 0).isLt; blk_ext [idx1_4, row1]
    rw [e]
    have ey : y = ix3 0 (y 1) (y 2) := by have h : (y 0).val < 1 := (y 0).isLt; blk_ext
    refine (congrArg ((outsAt1 (V2 m ρ) c t).1) ey).trans ?_
    exact part1_4 m ρ c t _ _
  · by_cases h : (i 0).val = 1
    · exact if_pos h
    · refine (if_neg h).trans ?_
      rw [A_eq1]
      exact (congrFun (mid1_4 m ρ c) i).trans (low0_4 m ρ c i (by omega))
theorem low1_5 (i : S2x192x1536.Idx) (hi : (i 0).val < 2) : (dat1 (V2 m ρ) c).arrAt 5 cfg1.N i = outD (m0 m c) (m1 m c) (m2 m c) (m3 m c) (m4 m c) i := by
  refine ((dat1 (V2 m ρ) c).arrAt_apply_of_coversWhere 5 (outD (m0 m c) (m1 m c) (m2 m c) (m3 m c) (m4 m c)) (P := fun i => (i (0 : Fin 3)).val = 1) (fun β => β (0 : Fin 3) = 1) (by decide +kernel)
    (fun t hf y => ?_) (fun j => by blk_simp [Pipeline.Window.cell_apply]; omega) i).trans ?_
  · blk_simp
    rw [after1_5]
    have e : (win1_5.blk t).view.emb y = ix3 1 (row1 t (y 1)) (y 2) := by have h : (y 0).val < 1 := (y 0).isLt; blk_ext [idx1_5, row1]
    rw [e]
    have ey : y = ix3 0 (y 1) (y 2) := by have h : (y 0).val < 1 := (y 0).isLt; blk_ext
    refine (congrArg ((outsAt1 (V2 m ρ) c t).2.1) ey).trans ?_
    exact part1_5 m ρ c t _ _
  · by_cases h : (i 0).val = 1
    · exact if_pos h
    · refine (if_neg h).trans ?_
      rw [A_eq1]
      exact (congrFun (mid1_5 m ρ c) i).trans (low0_5 m ρ c i (by omega))
theorem low1_6 (i : S2x192x1536.Idx) (hi : (i 0).val < 2) : (dat1 (V2 m ρ) c).arrAt 6 cfg1.N i = outM (m0 m c) (m1 m c) (m3 m c) i := by
  refine ((dat1 (V2 m ρ) c).arrAt_apply_of_coversWhere 6 (outM (m0 m c) (m1 m c) (m3 m c)) (P := fun i => (i (0 : Fin 3)).val = 1) (fun β => β (0 : Fin 3) = 1) (by decide +kernel)
    (fun t hf y => ?_) (fun j => by blk_simp [Pipeline.Window.cell_apply]; omega) i).trans ?_
  · blk_simp
    rw [after1_6]
    have e : (win1_6.blk t).view.emb y = ix3 1 (row1 t (y 1)) (y 2) := by have h : (y 0).val < 1 := (y 0).isLt; blk_ext [idx1_6, row1]
    rw [e]
    have ey : y = ix3 0 (y 1) (y 2) := by have h : (y 0).val < 1 := (y 0).isLt; blk_ext
    refine (congrArg ((outsAt1 (V2 m ρ) c t).2.2.1) ey).trans ?_
    exact part1_6 m ρ c t _ _
  · by_cases h : (i 0).val = 1
    · exact if_pos h
    · refine (if_neg h).trans ?_
      rw [A_eq1]
      exact (congrFun (mid1_6 m ρ c) i).trans (low0_6 m ρ c i (by omega))
theorem low1_7 (i : S2x192x1536.Idx) (hi : (i 0).val < 2) : (dat1 (V2 m ρ) c).arrAt 7 cfg1.N i = outV (m0 m c) (m1 m c) (m4 m c) i := by
  refine ((dat1 (V2 m ρ) c).arrAt_apply_of_coversWhere 7 (outV (m0 m c) (m1 m c) (m4 m c)) (P := fun i => (i (0 : Fin 3)).val = 1) (fun β => β (0 : Fin 3) = 1) (by decide +kernel)
    (fun t hf y => ?_) (fun j => by blk_simp [Pipeline.Window.cell_apply]; omega) i).trans ?_
  · blk_simp
    rw [after1_7]
    have e : (win1_7.blk t).view.emb y = ix3 1 (row1 t (y 1)) (y 2) := by have h : (y 0).val < 1 := (y 0).isLt; blk_ext [idx1_7, row1]
    rw [e]
    have ey : y = ix3 0 (y 1) (y 2) := by have h : (y 0).val < 1 := (y 0).isLt; blk_ext
    refine (congrArg ((outsAt1 (V2 m ρ) c t).2.2.2) ey).trans ?_
    exact part1_7 m ρ c t _ _
  · by_cases h : (i 0).val = 1
    · exact if_pos h
    · refine (if_neg h).trans ?_
      rw [A_eq1]
      exact (congrFun (mid1_7 m ρ c) i).trans (low0_7 m ρ c i (by omega))

section launch
open Idealize.SL Idealize.SL.RA Idealize.SL.BI
open scoped Idealize.SL.BI
open Idealize.SL.BI.BIBase Idealize.SL.BI.Laws Idealize.SL.ProofMode
open Idealize.ShloMosaic.Rounds
local notation "𝕄" => MT nD τ sig Unit (Elt Ideal) ℕ (UR sig nD τ) ℕ

set_option backward.isDefEq.respectTransparency.types false in
/-- The run: the arguments stay as they were and the results are what the last call leaves. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (G := fun _ => iprop(emp)) (T₀ := fun c => iprop(StableHlo.held (c : Thread nD τ) (Pipeline.ucRefs τ sig) (W0 m ρ c) ∗ R c))
    (Tₙ := Tₙ m ρ) (u₀ := initOf (Pipeline.cells cfgs cellOf_inj) (Pipeline.launchToks cfgs cellOf_inj))
    (QY := fun c s => ∀ b ∈ Pipeline.ucRefs τ sig, s.mem (((c : Thread nD τ)).1, b) = W3 m ρ c b)
    (hL := fun _ _ => rfl)
    (hch := ⟨fun _ => .rfl, fun _ => .rfl, fun _ => .rfl, fun _ => .rfl⟩)
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by rw [BI.bigSep_emp_const])
        iempintro)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howed, -, Hreg, -⟩, -⟩
      imodintro
      isplitl [Hbufs]
      · iexact Hbufs
      · isplitl [Hreg]
        · iexists _
          iexact Hreg
        · iexists ∅
          iexact Howed)
    (hfin := fun c s => by
      iintro ⟨⟨Hbufs, -⟩, Hstate⟩
      unfold StableHlo.held
      imodintro
      iapply (pointsTo_read_all (Pipeline.ucRefs τ sig) (fun b => (((c : Thread nD τ)).1, b)) (W3 m ρ c) s)
      isplitl [Hbufs] <;> iassumption)
    (hQ := fun _ h _ => h)
end launch

theorem frame_reference : Cert.quiescent_Reference16Ideal (hReference16Ideal := Cert.Reference16Ideal.Gen.facts) := fun m ρ _ =>
  (θ_run Cert.Reference16Ideal.defs _ _).mono (fun r h => ⟨fun c => (h c).2.2.2.2, Idealize.ShloMosaic.sem_eq_zero_of_no_sems (by decide) r.2⟩)
    (Cert.Reference16Ideal.Value.run (F := Ideal) m ρ)

theorem algebraic : Cert.algebraic_Kernel16Ideal_Reference16Ideal (hKernel16Ideal := Cert.Kernel16Ideal.Gen.facts)
    (hReference16Ideal := Cert.Reference16Ideal.Gen.facts) := fun m ρ m' ρ' _ hagree =>
  ⟨fun c => outG (m0 m c) (m1 m c), fun c => outD (m0 m c) (m1 m c) (m2 m c) (m3 m c) (m4 m c),
    fun c => outM (m0 m c) (m1 m c) (m3 m c), fun c => outV (m0 m c) (m1 m c) (m4 m c),
    (θ_run defs _ _).mono (fun _ h c =>
      ⟨(h c _ (mem_uc main_v1_0 (by decide))).trans ((W3_arr m ρ c 4).trans (funext fun i => low1_4 m ρ c i (i 0).isLt)),
       (h c _ (mem_uc main_v1_1 (by decide))).trans ((W3_arr m ρ c 5).trans (funext fun i => low1_5 m ρ c i (i 0).isLt)),
       (h c _ (mem_uc main_v1_2 (by decide))).trans ((W3_arr m ρ c 6).trans (funext fun i => low1_6 m ρ c i (i 0).isLt)),
       (h c _ (mem_uc main_v1_3 (by decide))).trans ((W3_arr m ρ c 7).trans (funext fun i => low1_7 m ρ c i (i 0).isLt)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩) (run m ρ),
    (θ_run Cert.Reference16Ideal.defs _ _).mono (fun _ h c => by
      obtain ⟨h0, h1, h2, h3, h4⟩ := hagree c
      beta_reduce
      rw [show m0 m c = _ from h0.symm, show m1 m c = _ from h1.symm, show m2 m c = _ from h2.symm, show m3 m c = _ from h3.symm, show m4 m c = _ from h4.symm]
      refine ⟨(h c).1.trans ?_, (h c).2.1.trans ?_, (h c).2.2.1.trans ?_, (h c).2.2.2.1.trans ?_, (h c).2.2.2.2⟩
      · refine ext3 fun a b d => ?_
        pointwise [outG]
        simp only [dite_eq_ite]
      · refine ext3 fun a b d => ?_
        pointwise [outD, outG, change, first, second]
        simp only [dite_eq_ite]
      · refine ext3 fun a b d => ?_
        pointwise [outM, outG, first]
        simp only [dite_eq_ite]
      · refine ext3 fun a b d => ?_
        pointwise [outV, outG, second]
        simp only [dite_eq_ite])
      (Cert.Reference16Ideal.Value.run (F := Ideal) m' ρ')⟩

end Cert.Kernel16Ideal.Opt
-- ==== Proof.Opt17.lean ====
/-
  The optimiser's steps of the S5 layers' input projection, two layers, from the devices' parts of each layer's gradient: one call per
  layer, two blocks of 128 rows each, the second writing its layer over what the first left. The four arrays they leave are
  the reference's.
-/
module

public import proofs.«01_k».proof.Defs
public import proofs.«01_k».proof.Proof.MmSum
public import proofs.«01_k».proof.Proof.OptStep
public import proofs.«01_k».proof.Proof.Gen.Kernel17.Frame
public import proofs.«01_k».proof.Proof.Gen.Kernel17Ideal.Frame
public import proofs.«01_k».proof.Proof.Gen.Reference17Ideal.Run
public import Idealize.ShloMosaic.Lib.Pipeline.ValueKit.Geometry
public import Idealize.ShloMosaic.Lib.Pipeline.ValueKit.Partial
public import Idealize.ShloMosaic.Lib.Pipeline.ValueKit.Acc

@[expose] public section
set_option maxRecDepth 16384
noncomputable section
namespace Cert.Kernel17Ideal.Opt

open Idealize.ShloMosaic Idealize.ShloMosaic.TcCoe Idealize.ShloMosaic.Tactic Idealize.SL.Sem
open Cert.Kernel17Ideal.Gen Cert.Mm Cert.Opt

section step
variable (x0 : Vec Ideal S8x128x2048 .bf16) (x1 x2 x3 : Vec Ideal S1x128x2048 .f32) (p : Fin 128) (q : Fin 2048)

/-- What a step of the first call leaves in its four blocks. -/
theorem step4 : out0_4 x0 x1 x2 x3 (ix3 0 p q) = (∑ k : Fin 8, x0 (ix3 k p q)) := by
  unfold out0_4
  rw [View.canon_unit_zero zeros3]
  rw [Fin.sum_univ_eight]
  pointwise [k0_pay1, k0_pay2, k0_pay3, k0_pay4, k0_pay5, k0_pay6, k0_pay7, k0_pay8, k0_pay9, k0_pay10, k0_pay11]
theorem step5 : out0_5 x0 x1 x2 x3 (ix3 0 p q) = change (x1 (ix3 0 p q)) (x2 (ix3 0 p q)) (x3 (ix3 0 p q)) (∑ k : Fin 8, x0 (ix3 k p q)) := by
  unfold out0_5
  rw [View.canon_unit_zero zeros3]
  simp only [View.ld_unit_zero (S := S1x128x2048) zeros3]
  rw [Fin.sum_univ_eight]
  pointwise [k0_pay1, k0_pay2, k0_pay3, k0_pay4, k0_pay5, k0_pay6, k0_pay7, k0_pay8, k0_pay9, k0_pay10, k0_pay11, change, first, second]
theorem step6 : out0_6 x0 x1 x2 x3 (ix3 0 p q) = first (x2 (ix3 0 p q)) (∑ k : Fin 8, x0 (ix3 k p q)) := by
  unfold out0_6
  rw [View.canon_unit_zero zeros3]
  simp only [View.ld_unit_zero (S := S1x128x2048) zeros3]
  rw [Fin.sum_univ_eight]
  pointwise [k0_pay1, k0_pay2, k0_pay3, k0_pay4, k0_pay5, k0_pay6, k0_pay7, k0_pay8, k0_pay9, k0_pay10, k0_pay11, first]
theorem step7 : out0_7 x0 x1 x2 x3 (ix3 0 p q) = second (x3 (ix3 0 p q)) (∑ k : Fin 8, x0 (ix3 k p q)) := by
  unfold out0_7
  rw [View.canon_unit_zero zeros3]
  simp only [View.ld_unit_zero (S := S1x128x2048) zeros3]
  rw [Fin.sum_univ_eight]
  pointwise [k0_pay1, k0_pay2, k0_pay3, k0_pay4, k0_pay5, k0_pay6, k0_pay7, k0_pay8, k0_pay9, k0_pay10, k0_pay11, second]
end step

/-! What a step of call 2 leaves in its four blocks. -/

section step
variable (V : (c : Dev nD) → (b : Ref sig .tc) → Buf (Elt Ideal) ((c : Thread nD τ).loc b)) (c : Dev nD) (t : Fin cfg1.N)
variable (a : Vec Ideal S8x128x2048 .bf16) (b d e : Vec Ideal S1x128x2048 .f32) (ha : iblk1 V c 0 t = a) (hb : iblk1 V c 1 t = b)
  (hd : iblk1 V c 2 t = d) (he : iblk1 V c 3 t = e) (p : Fin 128) (q : Fin 2048)

include ha hb hd he in
theorem next1_4 : (outsAt1 V c t).1 (ix3 0 p q) = (∑ k : Fin 8, a (ix3 k p q)) := by
  unfold outsAt1
  dsimp only
  rw [ha, hb, hd, he]
  frame_out
  rw [Fin.sum_univ_eight]
  pointwise [k1_pay1, k1_pay2, k1_pay3, k1_pay4, k1_pay5, k1_pay6, k1_pay7, k1_pay8, k1_pay9, k1_pay10]
include ha hb hd he in
theorem next1_5 : (outsAt1 V c t).2.1 (ix3 0 p q) = change (b (ix3 0 p q)) (d (ix3 0 p q)) (e (ix3 0 p q)) (∑ k : Fin 8, a (ix3 k p q)) := by
  unfold outsAt1
  dsimp only
  rw [ha, hb, hd, he]
  frame_out
  rw [Fin.sum_univ_eight]
  pointwise [k1_pay1, k1_pay2, k1_pay3, k1_pay4, k1_pay5, k1_pay6, k1_pay7, k1_pay8, k1_pay9, k1_pay10, change, first, second]
include ha hb hd he in
theorem next1_6 : (outsAt1 V c t).2.2.1 (ix3 0 p q) = first (d (ix3 0 p q)) (∑ k : Fin 8, a (ix3 k p q)) := by
  unfold outsAt1
  dsimp only
  rw [ha, hb, hd, he]
  frame_out
  rw [Fin.sum_univ_eight]
  pointwise [k1_pay1, k1_pay2, k1_pay3, k1_pay4, k1_pay5, k1_pay6, k1_pay7, k1_pay8, k1_pay9, k1_pay10, first]
include ha hb hd he in
theorem next1_7 : (outsAt1 V c t).2.2.2 (ix3 0 p q) = second (e (ix3 0 p q)) (∑ k : Fin 8, a (ix3 k p q)) := by
  unfold outsAt1
  dsimp only
  rw [ha, hb, hd, he]
  frame_out
  rw [Fin.sum_univ_eight]
  pointwise [k1_pay1, k1_pay2, k1_pay3, k1_pay4, k1_pay5, k1_pay6, k1_pay7, k1_pay8, k1_pay9, k1_pay10, second]
end step

theorem N0 : cfg0.N = 2 := N_0
theorem N1 : cfg1.N = 2 := N_1

theorem idx0_0 : ∀ t : Fin cfg0.N, win0_0.index t = ![0, t.val, 0] := (by decide +kernel : ∀ t : Fin grid0.N, _)
theorem idx0_1 : ∀ t : Fin cfg0.N, win0_1.index t = ![0, t.val, 0] := (by decide +kernel : ∀ t : Fin grid0.N, _)
theorem idx0_2 : ∀ t : Fin cfg0.N, win0_2.index t = ![0, t.val, 0] := (by decide +kernel : ∀ t : Fin grid0.N, _)
theorem idx0_3 : ∀ t : Fin cfg0.N, win0_3.index t = ![0, t.val, 0] := (by decide +kernel : ∀ t : Fin grid0.N, _)
theorem idx0_4 : ∀ t : Fin cfg0.N, win0_4.index t = ![0, t.val, 0] := (by decide +kernel : ∀ t : Fin grid0.N, _)
theorem idx0_5 : ∀ t : Fin cfg0.N, win0_5.index t = ![0, t.val, 0] := (by decide +kernel : ∀ t : Fin grid0.N, _)
theorem idx0_6 : ∀ t : Fin cfg0.N, win0_6.index t = ![0, t.val, 0] := (by decide +kernel : ∀ t : Fin grid0.N, _)
theorem idx0_7 : ∀ t : Fin cfg0.N, win0_7.index t = ![0, t.val, 0] := (by decide +kernel : ∀ t : Fin grid0.N, _)
theorem idx1_0 : ∀ t : Fin cfg1.N, win1_0.index t = ![0, t.val, 0] := (by decide +kernel : ∀ t : Fin grid1.N, _)
theorem idx1_1 : ∀ t : Fin cfg1.N, win1_1.index t = ![1, t.val, 0] := (by decide +kernel : ∀ t : Fin grid1.N, _)
theorem idx1_2 : ∀ t : Fin cfg1.N, win1_2.index t = ![1, t.val, 0] := (by decide +kernel : ∀ t : Fin grid1.N, _)
theorem idx1_3 : ∀ t : Fin cfg1.N, win1_3.index t = ![1, t.val, 0] := (by decide +kernel : ∀ t : Fin grid1.N, _)
theorem idx1_4 : ∀ t : Fin cfg1.N, win1_4.index t = ![1, t.val, 0] := (by decide +kernel : ∀ t : Fin grid1.N, _)
theorem idx1_5 : ∀ t : Fin cfg1.N, win1_5.index t = ![1, t.val, 0] := (by decide +kernel : ∀ t : Fin grid1.N, _)
theorem idx1_6 : ∀ t : Fin cfg1.N, win1_6.index t = ![1, t.val, 0] := (by decide +kernel : ∀ t : Fin grid1.N, _)
theorem idx1_7 : ∀ t : Fin cfg1.N, win1_7.index t = ![1, t.val, 0] := (by decide +kernel : ∀ t : Fin grid1.N, _)

/-- The row of the arrays at place `p` of step `t`'s block, in each call. -/
def row0 (t : Fin cfg0.N) (p : Fin 128) : Fin 256 := ⟨128 * t.val + p.val, by have := t.isLt; have := N0; omega⟩
def row1 (t : Fin cfg1.N) (p : Fin 128) : Fin 256 := ⟨128 * t.val + p.val, by have := t.isLt; have := N1; omega⟩

/-- The gradient from its parts, layer by layer, and the other results from the gradient, the weight and its moments. -/
abbrev Arr0 := FVec Ideal S8x256x2048 .bf16
abbrev Arr := FVec Ideal S2x256x2048 .f32
def outG (g0 g1 : Arr0) : Arr := fun i =>
  if (i 0).val < 1 then ∑ k : Fin 8, g0 (ix3 k (i 1) (i 2))
  else ∑ k : Fin 8, g1 (ix3 k (i 1) (i 2))
def outD (g0 g1 : Arr0) (w m v : Arr) : Arr := fun i => change (w i) (m i) (v i) (outG g0 g1 i)
def outM (g0 g1 : Arr0) (m : Arr) : Arr := fun i => first (m i) (outG g0 g1 i)
def outV (g0 g1 : Arr0) (v : Arr) : Arr := fun i => second (v i) (outG g0 g1 i)

variable (m : (ℓ : Loc nD τ sig) → Buf (Elt Ideal) ℓ) (ρ : Dev nD → PrngReg) (c : Dev nD)

/-- The five arguments. -/
abbrev m0 : Arr0 := m ((c : Thread nD τ).loc main_arg0)
abbrev m1 : Arr0 := m ((c : Thread nD τ).loc main_arg1)
abbrev m2 : Arr := m ((c : Thread nD τ).loc main_arg2)
abbrev m3 : Arr := m ((c : Thread nD τ).loc main_arg3)
abbrev m4 : Arr := m ((c : Thread nD τ).loc main_arg4)

/-- The blocks a call reads are those of the arguments. -/
theorem blk0_0 (t : Fin cfg0.N) (k : Fin 8) (p : Fin 128) (q : Fin 2048) : iblk0 (V0 m ρ) c 0 t (ix3 k p q) = m0 m c (ix3 k (row0 t p) q) := by
  blk_simp [iblk0]
  refine congrArg (m0 m c) ?_
  blk_ext [idx0_0, row0]
theorem blk0_1 (t : Fin cfg0.N) (p : Fin 128) (q : Fin 2048) : iblk0 (V0 m ρ) c 1 t (ix3 0 p q) = m2 m c (ix3 0 (row0 t p) q) := by
  blk_simp [iblk0]
  refine congrArg (m2 m c) ?_
  blk_ext [idx0_1, row0]
theorem blk0_2 (t : Fin cfg0.N) (p : Fin 128) (q : Fin 2048) : iblk0 (V0 m ρ) c 2 t (ix3 0 p q) = m3 m c (ix3 0 (row0 t p) q) := by
  blk_simp [iblk0]
  refine congrArg (m3 m c) ?_
  blk_ext [idx0_2, row0]
theorem blk0_3 (t : Fin cfg0.N) (p : Fin 128) (q : Fin 2048) : iblk0 (V0 m ρ) c 3 t (ix3 0 p q) = m4 m c (ix3 0 (row0 t p) q) := by
  blk_simp [iblk0]
  refine congrArg (m4 m c) ?_
  blk_ext [idx0_3, row0]
theorem blk1_0 (t : Fin cfg1.N) (k : Fin 8) (p : Fin 128) (q : Fin 2048) : iblk1 (V2 m ρ) c 0 t (ix3 k p q) = m1 m c (ix3 k (row1 t p) q) := by
  blk_simp [iblk1]
  refine (congrFun (W2_args m ρ c main_arg1 (by decide)) _).trans ?_
  refine congrArg (m1 m c) ?_
  blk_ext [idx1_0, row1]
theorem blk1_1 (t : Fin cfg1.N) (p : Fin 128) (q : Fin 2048) : iblk1 (V2 m ρ) c 1 t (ix3 0 p q) = m2 m c (ix3 1 (row1 t p) q) := by
  blk_simp [iblk1]
  refine (congrFun (W2_args m ρ c main_arg2 (by decide)) _).trans ?_
  refine congrArg (m2 m c) ?_
  blk_ext [idx1_1, row1]
theorem blk1_2 (t : Fin cfg1.N) (p : Fin 128) (q : Fin 2048) : iblk1 (V2 m ρ) c 2 t (ix3 0 p q) = m3 m c (ix3 1 (row1 t p) q) := by
  blk_simp [iblk1]
  refine (congrFun (W2_args m ρ c main_arg3 (by decide)) _).trans ?_
  refine congrArg (m3 m c) ?_
  blk_ext [idx1_2, row1]
theorem blk1_3 (t : Fin cfg1.N) (p : Fin 128) (q : Fin 2048) : iblk1 (V2 m ρ) c 3 t (ix3 0 p q) = m4 m c (ix3 1 (row1 t p) q) := by
  blk_simp [iblk1]
  refine (congrFun (W2_args m ρ c main_arg4 (by decide)) _).trans ?_
  refine congrArg (m4 m c) ?_
  blk_ext [idx1_3, row1]

/-- What a step leaves in its blocks is its part of the results. -/
theorem part0_4 (t : Fin cfg0.N) (p : Fin 128) (q : Fin 2048) : out0_4 (iblk0 (V0 m ρ) c 0 t) (iblk0 (V0 m ρ) c 1 t) (iblk0 (V0 m ρ) c 2 t) (iblk0 (V0 m ρ) c 3 t) (ix3 0 p q) = outG (m0 m c) (m1 m c) (ix3 0 (row0 t p) q) := by
  refine (step4 _ _ _ _ _ _).trans ?_
  simp only [blk0_0]
  rfl
theorem part0_5 (t : Fin cfg0.N) (p : Fin 128) (q : Fin 2048) : out0_5 (iblk0 (V0 m ρ) c 0 t) (iblk0 (V0 m ρ) c 1 t) (iblk0 (V0 m ρ) c 2 t) (iblk0 (V0 m ρ) c 3 t) (ix3 0 p q) = outD (m0 m c) (m1 m c) (m2 m c) (m3 m c) (m4 m c) (ix3 0 (row0 t p) q) := by
  refine (step5 _ _ _ _ _ _).trans ?_
  simp only [blk0_0, blk0_1, blk0_2, blk0_3]
  rfl
theorem part0_6 (t : Fin cfg0.N) (p : Fin 128) (q : Fin 2048) : out0_6 (iblk0 (V0 m ρ) c 0 t) (iblk0 (V0 m ρ) c 1 t) (iblk0 (V0 m ρ) c 2 t) (iblk0 (V0 m ρ) c 3 t) (ix3 0 p q) = outM (m0 m c) (m1 m c) (m3 m c) (ix3 0 (row0 t p) q) := by
  refine (step6 _ _ _ _ _ _).trans ?_
  simp only [blk0_0, blk0_2]
  rfl
theorem part0_7 (t : Fin cfg0.N) (p : Fin 128) (q : Fin 2048) : out0_7 (iblk0 (V0 m ρ) c 0 t) (iblk0 (V0 m ρ) c 1 t) (iblk0 (V0 m ρ) c 2 t) (iblk0 (V0 m ρ) c 3 t) (ix3 0 p q) = outV (m0 m c) (m1 m c) (m4 m c) (ix3 0 (row0 t p) q) := by
  refine (step7 _ _ _ _ _ _).trans ?_
  simp only [blk0_0, blk0_3]
  rfl
theorem part1_4 (t : Fin cfg1.N) (p : Fin 128) (q : Fin 2048) : (outsAt1 (V2 m ρ) c t).1 (ix3 0 p q) = outG (m0 m c) (m1 m c) (ix3 1 (row1 t p) q) := by
  refine (next1_4 (V2 m ρ) c t _ _ _ _ rfl rfl rfl rfl p q).trans ?_
  simp only [blk1_0]
  rfl
theorem part1_5 (t : Fin cfg1.N) (p : Fin 128) (q : Fin 2048) : (outsAt1 (V2 m ρ) c t).2.1 (ix3 0 p q) = outD (m0 m c) (m1 m c) (m2 m c) (m3 m c) (m4 m c) (ix3 1 (row1 t p) q) := by
  refine (next1_5 (V2 m ρ) c t _ _ _ _ rfl rfl rfl rfl p q).trans ?_
  simp only [blk1_0, blk1_1, blk1_2, blk1_3]
  rfl
theorem part1_6 (t : Fin cfg1.N) (p : Fin 128) (q : Fin 2048) : (outsAt1 (V2 m ρ) c t).2.2.1 (ix3 0 p q) = outM (m0 m c) (m1 m c) (m3 m c) (ix3 1 (row1 t p) q) := by
  refine (next1_6 (V2 m ρ) c t _ _ _ _ rfl rfl rfl rfl p q).trans ?_
  simp only [blk1_0, blk1_2]
  rfl
theorem part1_7 (t : Fin cfg1.N) (p : Fin 128) (q : Fin 2048) : (outsAt1 (V2 m ρ) c t).2.2.2 (ix3 0 p q) = outV (m0 m c) (m1 m c) (m4 m c) (ix3 1 (row1 t p) q) := by
  refine (next1_7 (V2 m ρ) c t _ _ _ _ rfl rfl rfl rfl p q).trans ?_
  simp only [blk1_0, blk1_3]
  rfl

/-- The arrays call 1 leaves: the results, up to its layer. -/
theorem low0_4 (i : S2x256x2048.Idx) (hi : (i 0).val < 1) : (dat0 (V0 m ρ) c).arrAt 4 cfg0.N i = outG (m0 m c) (m1 m c) i := by
  refine ((dat0 (V0 m ρ) c).arrAt_apply_of_coversWhere 4 (outG (m0 m c) (m1 m c)) (P := fun i => (i (0 : Fin 3)).val = 0) (fun β => β (0 : Fin 3) = 0) (by decide +kernel)
    (fun t hf y => ?_) (fun j => by blk_simp [Pipeline.Window.cell_apply]; omega) i).trans ?_
  · blk_simp
    rw [after0_4]
    have e : (win0_4.blk t).view.emb y = ix3 0 (row0 t (y 1)) (y 2) := by have h : (y 0).val < 1 := (y 0).isLt; blk_ext [idx0_4, row0]
    rw [e]
    have ey : y = ix3 0 (y 1) (y 2) := by have h : (y 0).val < 1 := (y 0).isLt; blk_ext
    refine (congrArg (out0_4 (iblk0 (V0 m ρ) c 0 t) (iblk0 (V0 m ρ) c 1 t) (iblk0 (V0 m ρ) c 2 t) (iblk0 (V0 m ρ) c 3 t)) ey).trans ?_
    exact part0_4 m ρ c t _ _
  · exact if_pos (by omega)
theorem low0_5 (i : S2x256x2048.Idx) (hi : (i 0).val < 1) : (dat0 (V0 m ρ) c).arrAt 5 cfg0.N i = outD (m0 m c) (m1 m c) (m2 m c) (m3 m c) (m4 m c) i := by
  refine ((dat0 (V0 m ρ) c).arrAt_apply_of_coversWhere 5 (outD (m0 m c) (m1 m c) (m2 m c) (m3 m c) (m4 m c)) (P := fun i => (i (0 : Fin 3)).val = 0) (fun β => β (0 : Fin 3) = 0) (by decide +kernel)
    (fun t hf y => ?_) (fun j => by blk_simp [Pipeline.Window.cell_apply]; omega) i).trans ?_
  · blk_simp
    rw [after0_5]
    have e : (win0_5.blk t).view.emb y = ix3 0 (row0 t (y 1)) (y 2) := by have h : (y 0).val < 1 := (y 0).isLt; blk_ext [idx0_5, row0]
    rw [e]
    have ey : y = ix3 0 (y 1) (y 2) := by have h : (y 0).val < 1 := (y 0).isLt; blk_ext
    refine (congrArg (out0_5 (iblk0 (V0 m ρ) c 0 t) (iblk0 (V0 m ρ) c 1 t) (iblk0 (V0 m ρ) c 2 t) (iblk0 (V0 m ρ) c 3 t)) ey).trans ?_
    exact part0_5 m ρ c t _ _
  · exact if_pos (by omega)
theorem low0_6 (i : S2x256x2048.Idx) (hi : (i 0).val < 1) : (dat0 (V0 m ρ) c).arrAt 6 cfg0.N i = outM (m0 m c) (m1 m c) (m3 m c) i := by
  refine ((dat0 (V0 m ρ) c).arrAt_apply_of_coversWhere 6 (outM (m0 m c) (m1 m c) (m3 m c)) (P := fun i => (i (0 : Fin 3)).val = 0) (fun β => β (0 : Fin 3) = 0) (by decide +kernel)
    (fun t hf y => ?_) (fun j => by blk_simp [Pipeline.Window.cell_apply]; omega) i).trans ?_
  · blk_simp
    rw [after0_6]
    have e : (win0_6.blk t).view.emb y = ix3 0 (row0 t (y 1)) (y 2) := by have h : (y 0).val < 1 := (y 0).isLt; blk_ext [idx0_6, row0]
    rw [e]
    have ey : y = ix3 0 (y 1) (y 2) := by have h : (y 0).val < 1 := (y 0).isLt; blk_ext
    refine (congrArg (out0_6 (iblk0 (V0 m ρ) c 0 t) (iblk0 (V0 m ρ) c 1 t) (iblk0 (V0 m ρ) c 2 t) (iblk0 (V0 m ρ) c 3 t)) ey).trans ?_
    exact part0_6 m ρ c t _ _
  · exact if_pos (by omega)
theorem low0_7 (i : S2x256x2048.Idx) (hi : (i 0).val < 1) : (dat0 (V0 m ρ) c).arrAt 7 cfg0.N i = outV (m0 m c) (m1 m c) (m4 m c) i := by
  refine ((dat0 (V0 m ρ) c).arrAt_apply_of_coversWhere 7 (outV (m0 m c) (m1 m c) (m4 m c)) (P := fun i => (i (0 : Fin 3)).val = 0) (fun β => β (0 : Fin 3) = 0) (by decide +kernel)
    (fun t hf y => ?_) (fun j => by blk_simp [Pipeline.Window.cell_apply]; omega) i).trans ?_
  · blk_simp
    rw [after0_7]
    have e : (win0_7.blk t).view.emb y = ix3 0 (row0 t (y 1)) (y 2) := by have h : (y 0).val < 1 := (y 0).isLt; blk_ext [idx0_7, row0]
    rw [e]
    have ey : y = ix3 0 (y 1) (y 2) := by have h : (y 0).val < 1 := (y 0).isLt; blk_ext
    refine (congrArg (out0_7 (iblk0 (V0 m ρ) c 0 t) (iblk0 (V0 m ρ) c 1 t) (iblk0 (V0 m ρ) c 2 t) (iblk0 (V0 m ρ) c 3 t)) ey).trans ?_
    exact part0_7 m ρ c t _ _
  · exact if_pos (by omega)

/-- Call 2 finds what the one before left. -/
theorem mid1_4 : W2 m ρ c (Proc.devRef .tc main_v1_0) = (dat0 (V0 m ρ) c).arrAt 4 cfg0.N := by
  refine Eq.trans ?_ (W1_arr m ρ c 4)
  unfold W2 hostOps1
  after_results_simp
  rfl
theorem mid1_5 : W2 m ρ c (Proc.devRef .tc main_v1_1) = (dat0 (V0 m ρ) c).arrAt 5 cfg0.N := by
  refine Eq.trans ?_ (W1_arr m ρ c 5)
  unfold W2 hostOps1
  after_results_simp
  rfl
theorem mid1_6 : W2 m ρ c (Proc.devRef .tc main_v1_2) = (dat0 (V0 m ρ) c).arrAt 6 cfg0.N := by
  refine Eq.trans ?_ (W1_arr m ρ c 6)
  unfold W2 hostOps1
  after_results_simp
  rfl
theorem mid1_7 : W2 m ρ c (Proc.devRef .tc main_v1_3) = (dat0 (V0 m ρ) c).arrAt 7 cfg0.N := by
  refine Eq.trans ?_ (W1_arr m ρ c 7)
  unfold W2 hostOps1
  after_results_simp
  rfl

/-- The arrays call 2 leaves: the results, up to its layer. -/
theorem low1_4 (i : S2x256x2048.Idx) (hi : (i 0).val < 2) : (dat1 (V2 m ρ) c).arrAt 4 cfg1.N i = outG (m0 m c) (m1 m c) i := by
  refine ((dat1 (V2 m ρ) c).arrAt_apply_of_coversWhere 4 (outG (m0 m c) (m1 m c)) (P := fun i => (i (0 : Fin 3)).val = 1) (fun β => β (0 : Fin 3) = 1) (by decide +kernel)
    (fun t hf y => ?_) (fun j => by blk_simp [Pipeline.Window.cell_apply]; omega) i).trans ?_
  · blk_simp
    rw [after1_4]
    have e : (win1_4.blk t).view.emb y = ix3 1 (row1 t (y 1)) (y 2) := by have h : (y 0).val < 1 := (y 0).isLt; blk_ext [idx1_4, row1]
    rw [e]
    have ey : y = ix3 0 (y 1) (y 2) := by have h : (y 0).val < 1 := (y 0).isLt; blk_ext
    refine (congrArg ((outsAt1 (V2 m ρ) c t).1) ey).trans ?_
    exact part1_4 m ρ c t _ _
  · by_cases h : (i 0).val = 1
    · exact if_pos h
    · refine (if_neg h).trans ?_
      rw [A_eq1]
      exact (congrFun (mid1_4 m ρ c) i).trans (low0_4 m ρ c i (by omega))
theorem low1_5 (i : S2x256x2048.Idx) (hi : (i 0).val < 2) : (dat1 (V2 m ρ) c).arrAt 5 cfg1.N i = outD (m0 m c) (m1 m c) (m2 m c) (m3 m c) (m4 m c) i := by
  refine ((dat1 (V2 m ρ) c).arrAt_apply_of_coversWhere 5 (outD (m0 m c) (m1 m c) (m2 m c) (m3 m c) (m4 m c)) (P := fun i => (i (0 : Fin 3)).val = 1) (fun β => β (0 : Fin 3) = 1) (by decide +kernel)
    (fun t hf y => ?_) (fun j => by blk_simp [Pipeline.Window.cell_apply]; omega) i).trans ?_
  · blk_simp
    rw [after1_5]
    have e : (win1_5.blk t).view.emb y = ix3 1 (row1 t (y 1)) (y 2) := by have h : (y 0).val < 1 := (y 0).isLt; blk_ext [idx1_5, row1]
    rw [e]
    have ey : y = ix3 0 (y 1) (y 2) := by have h : (y 0).val < 1 := (y 0).isLt; blk_ext
    refine (congrArg ((outsAt1 (V2 m ρ) c t).2.1) ey).trans ?_
    exact part1_5 m ρ c t _ _
  · by_cases h : (i 0).val = 1
    · exact if_pos h
    · refine (if_neg h).trans ?_
      rw [A_eq1]
      exact (congrFun (mid1_5 m ρ c) i).trans (low0_5 m ρ c i (by omega))
theorem low1_6 (i : S2x256x2048.Idx) (hi : (i 0).val < 2) : (dat1 (V2 m ρ) c).arrAt 6 cfg1.N i = outM (m0 m c) (m1 m c) (m3 m c) i := by
  refine ((dat1 (V2 m ρ) c).arrAt_apply_of_coversWhere 6 (outM (m0 m c) (m1 m c) (m3 m c)) (P := fun i => (i (0 : Fin 3)).val = 1) (fun β => β (0 : Fin 3) = 1) (by decide +kernel)
    (fun t hf y => ?_) (fun j => by blk_simp [Pipeline.Window.cell_apply]; omega) i).trans ?_
  · blk_simp
    rw [after1_6]
    have e : (win1_6.blk t).view.emb y = ix3 1 (row1 t (y 1)) (y 2) := by have h : (y 0).val < 1 := (y 0).isLt; blk_ext [idx1_6, row1]
    rw [e]
    have ey : y = ix3 0 (y 1) (y 2) := by have h : (y 0).val < 1 := (y 0).isLt; blk_ext
    refine (congrArg ((outsAt1 (V2 m ρ) c t).2.2.1) ey).trans ?_
    exact part1_6 m ρ c t _ _
  · by_cases h : (i 0).val = 1
    · exact if_pos h
    · refine (if_neg h).trans ?_
      rw [A_eq1]
      exact (congrFun (mid1_6 m ρ c) i).trans (low0_6 m ρ c i (by omega))
theorem low1_7 (i : S2x256x2048.Idx) (hi : (i 0).val < 2) : (dat1 (V2 m ρ) c).arrAt 7 cfg1.N i = outV (m0 m c) (m1 m c) (m4 m c) i := by
  refine ((dat1 (V2 m ρ) c).arrAt_apply_of_coversWhere 7 (outV (m0 m c) (m1 m c) (m4 m c)) (P := fun i => (i (0 : Fin 3)).val = 1) (fun β => β (0 : Fin 3) = 1) (by decide +kernel)
    (fun t hf y => ?_) (fun j => by blk_simp [Pipeline.Window.cell_apply]; omega) i).trans ?_
  · blk_simp
    rw [after1_7]
    have e : (win1_7.blk t).view.emb y = ix3 1 (row1 t (y 1)) (y 2) := by have h : (y 0).val < 1 := (y 0).isLt; blk_ext [idx1_7, row1]
    rw [e]
    have ey : y = ix3 0 (y 1) (y 2) := by have h : (y 0).val < 1 := (y 0).isLt; blk_ext
    refine (congrArg ((outsAt1 (V2 m ρ) c t).2.2.2) ey).trans ?_
    exact part1_7 m ρ c t _ _
  · by_cases h : (i 0).val = 1
    · exact if_pos h
    · refine (if_neg h).trans ?_
      rw [A_eq1]
      exact (congrFun (mid1_7 m ρ c) i).trans (low0_7 m ρ c i (by omega))

section launch
open Idealize.SL Idealize.SL.RA Idealize.SL.BI
open scoped Idealize.SL.BI
open Idealize.SL.BI.BIBase Idealize.SL.BI.Laws Idealize.SL.ProofMode
open Idealize.ShloMosaic.Rounds
local notation "𝕄" => MT nD τ sig Unit (Elt Ideal) ℕ (UR sig nD τ) ℕ

set_option backward.isDefEq.respectTransparency.types false in
/-- The run: the arguments stay as they were and the results are what the last call leaves. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (G := fun _ => iprop(emp)) (T₀ := fun c => iprop(StableHlo.held (c : Thread nD τ) (Pipeline.ucRefs τ sig) (W0 m ρ c) ∗ R c))
    (Tₙ := Tₙ m ρ) (u₀ := initOf (Pipeline.cells cfgs cellOf_inj) (Pipeline.launchToks cfgs cellOf_inj))
    (QY := fun c s => ∀ b ∈ Pipeline.ucRefs τ sig, s.mem (((c : Thread nD τ)).1, b) = W3 m ρ c b)
    (hL := fun _ _ => rfl)
    (hch := ⟨fun _ => .rfl, fun _ => .rfl, fun _ => .rfl, fun _ => .rfl⟩)
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by rw [BI.bigSep_emp_const])
        iempintro)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howed, -, Hreg, -⟩, -⟩
      imodintro
      isplitl [Hbufs]
      · iexact Hbufs
      · isplitl [Hreg]
        · iexists _
          iexact Hreg
        · iexists ∅
          iexact Howed)
    (hfin := fun c s => by
      iintro ⟨⟨Hbufs, -⟩, Hstate⟩
      unfold StableHlo.held
      imodintro
      iapply (pointsTo_read_all (Pipeline.ucRefs τ sig) (fun b => (((c : Thread nD τ)).1, b)) (W3 m ρ c) s)
      isplitl [Hbufs] <;> iassumption)
    (hQ := fun _ h _ => h)
end launch

theorem frame_reference : Cert.quiescent_Reference17Ideal (hReference17Ideal := Cert.Reference17Ideal.Gen.facts) := fun m ρ _ =>
  (θ_run Cert.Reference17Ideal.defs _ _).mono (fun r h => ⟨fun c => (h c).2.2.2.2, Idealize.ShloMosaic.sem_eq_zero_of_no_sems (by decide) r.2⟩)
    (Cert.Reference17Ideal.Value.run (F := Ideal) m ρ)

theorem algebraic : Cert.algebraic_Kernel17Ideal_Reference17Ideal (hKernel17Ideal := Cert.Kernel17Ideal.Gen.facts)
    (hReference17Ideal := Cert.Reference17Ideal.Gen.facts) := fun m ρ m' ρ' _ hagree =>
  ⟨fun c => outG (m0 m c) (m1 m c), fun c => outD (m0 m c) (m1 m c) (m2 m c) (m3 m c) (m4 m c),
    fun c => outM (m0 m c) (m1 m c) (m3 m c), fun c => outV (m0 m c) (m1 m c) (m4 m c),
    (θ_run defs _ _).mono (fun _ h c =>
      ⟨(h c _ (mem_uc main_v1_0 (by decide))).trans ((W3_arr m ρ c 4).trans (funext fun i => low1_4 m ρ c i (i 0).isLt)),
       (h c _ (mem_uc main_v1_1 (by decide))).trans ((W3_arr m ρ c 5).trans (funext fun i => low1_5 m ρ c i (i 0).isLt)),
       (h c _ (mem_uc main_v1_2 (by decide))).trans ((W3_arr m ρ c 6).trans (funext fun i => low1_6 m ρ c i (i 0).isLt)),
       (h c _ (mem_uc main_v1_3 (by decide))).trans ((W3_arr m ρ c 7).trans (funext fun i => low1_7 m ρ c i (i 0).isLt)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩) (run m ρ),
    (θ_run Cert.Reference17Ideal.defs _ _).mono (fun _ h c => by
      obtain ⟨h0, h1, h2, h3, h4⟩ := hagree c
      beta_reduce
      rw [show m0 m c = _ from h0.symm, show m1 m c = _ from h1.symm, show m2 m c = _ from h2.symm, show m3 m c = _ from h3.symm, show m4 m c = _ from h4.symm]
      refine ⟨(h c).1.trans ?_, (h c).2.1.trans ?_, (h c).2.2.1.trans ?_, (h c).2.2.2.1.trans ?_, (h c).2.2.2.2⟩
      · refine ext3 fun a b d => ?_
        pointwise [outG]
        simp only [dite_eq_ite]
      · refine ext3 fun a b d => ?_
        pointwise [outD, outG, change, first, second]
        simp only [dite_eq_ite]
      · refine ext3 fun a b d => ?_
        pointwise [outM, outG, first]
        simp only [dite_eq_ite]
      · refine ext3 fun a b d => ?_
        pointwise [outV, outG, second]
        simp only [dite_eq_ite])
      (Cert.Reference17Ideal.Value.run (F := Ideal) m' ρ')⟩

end Cert.Kernel17Ideal.Opt
-- ==== Proof.Opt18.lean ====
/-
  The optimiser's steps of the output projection, four layers, from the devices' parts of each layer's gradient: one call per
  layer, two blocks of 128 rows each, each writing its layer over what the one before left. The four arrays they leave are
  the reference's.
-/
module

public import proofs.«01_k».proof.Defs
public import proofs.«01_k».proof.Proof.MmSum
public import proofs.«01_k».proof.Proof.OptStep
public import proofs.«01_k».proof.Proof.Gen.Kernel18.Frame
public import proofs.«01_k».proof.Proof.Gen.Kernel18Ideal.Frame
public import proofs.«01_k».proof.Proof.Gen.Reference18Ideal.Run
public import Idealize.ShloMosaic.Lib.Pipeline.ValueKit.Geometry
public import Idealize.ShloMosaic.Lib.Pipeline.ValueKit.Partial
public import Idealize.ShloMosaic.Lib.Pipeline.ValueKit.Acc

@[expose] public section
set_option maxRecDepth 16384
noncomputable section
namespace Cert.Kernel18Ideal.Opt

open Idealize.ShloMosaic Idealize.ShloMosaic.TcCoe Idealize.ShloMosaic.Tactic Idealize.SL.Sem
open Cert.Kernel18Ideal.Gen Cert.Mm Cert.Opt

section step
variable (x0 : Vec Ideal S8x128x2048 .bf16) (x1 x2 x3 : Vec Ideal S1x128x2048 .f32) (p : Fin 128) (q : Fin 2048)

/-- What a step of the first call leaves in its four blocks. -/
theorem step4 : out0_4 x0 x1 x2 x3 (ix3 0 p q) = (∑ k : Fin 8, x0 (ix3 k p q)) := by
  unfold out0_4
  rw [View.canon_unit_zero zeros3]
  rw [Fin.sum_univ_eight]
  pointwise [k0_pay1, k0_pay2, k0_pay3, k0_pay4, k0_pay5, k0_pay6, k0_pay7, k0_pay8, k0_pay9, k0_pay10, k0_pay11]
theorem step5 : out0_5 x0 x1 x2 x3 (ix3 0 p q) = change (x1 (ix3 0 p q)) (x2 (ix3 0 p q)) (x3 (ix3 0 p q)) (∑ k : Fin 8, x0 (ix3 k p q)) := by
  unfold out0_5
  rw [View.canon_unit_zero zeros3]
  simp only [View.ld_unit_zero (S := S1x128x2048) zeros3]
  rw [Fin.sum_univ_eight]
  pointwise [k0_pay1, k0_pay2, k0_pay3, k0_pay4, k0_pay5, k0_pay6, k0_pay7, k0_pay8, k0_pay9, k0_pay10, k0_pay11, change, first, second]
theorem step6 : out0_6 x0 x1 x2 x3 (ix3 0 p q) = first (x2 (ix3 0 p q)) (∑ k : Fin 8, x0 (ix3 k p q)) := by
  unfold out0_6
  rw [View.canon_unit_zero zeros3]
  simp only [View.ld_unit_zero (S := S1x128x2048) zeros3]
  rw [Fin.sum_univ_eight]
  pointwise [k0_pay1, k0_pay2, k0_pay3, k0_pay4, k0_pay5, k0_pay6, k0_pay7, k0_pay8, k0_pay9, k0_pay10, k0_pay11, first]
theorem step7 : out0_7 x0 x1 x2 x3 (ix3 0 p q) = second (x3 (ix3 0 p q)) (∑ k : Fin 8, x0 (ix3 k p q)) := by
  unfold out0_7
  rw [View.canon_unit_zero zeros3]
  simp only [View.ld_unit_zero (S := S1x128x2048) zeros3]
  rw [Fin.sum_univ_eight]
  pointwise [k0_pay1, k0_pay2, k0_pay3, k0_pay4, k0_pay5, k0_pay6, k0_pay7, k0_pay8, k0_pay9, k0_pay10, k0_pay11, second]
end step

/-! What a step of call 2 leaves in its four blocks. -/

section step
variable (V : (c : Dev nD) → (b : Ref sig .tc) → Buf (Elt Ideal) ((c : Thread nD τ).loc b)) (c : Dev nD) (t : Fin cfg1.N)
variable (a : Vec Ideal S8x128x2048 .bf16) (b d e : Vec Ideal S1x128x2048 .f32) (ha : iblk1 V c 0 t = a) (hb : iblk1 V c 1 t = b)
  (hd : iblk1 V c 2 t = d) (he : iblk1 V c 3 t = e) (p : Fin 128) (q : Fin 2048)

include ha hb hd he in
theorem next1_4 : (outsAt1 V c t).1 (ix3 0 p q) = (∑ k : Fin 8, a (ix3 k p q)) := by
  unfold outsAt1
  dsimp only
  rw [ha, hb, hd, he]
  frame_out
  rw [Fin.sum_univ_eight]
  pointwise [k1_pay1, k1_pay2, k1_pay3, k1_pay4, k1_pay5, k1_pay6, k1_pay7, k1_pay8, k1_pay9, k1_pay10]
include ha hb hd he in
theorem next1_5 : (outsAt1 V c t).2.1 (ix3 0 p q) = change (b (ix3 0 p q)) (d (ix3 0 p q)) (e (ix3 0 p q)) (∑ k : Fin 8, a (ix3 k p q)) := by
  unfold outsAt1
  dsimp only
  rw [ha, hb, hd, he]
  frame_out
  rw [Fin.sum_univ_eight]
  pointwise [k1_pay1, k1_pay2, k1_pay3, k1_pay4, k1_pay5, k1_pay6, k1_pay7, k1_pay8, k1_pay9, k1_pay10, change, first, second]
include ha hb hd he in
theorem next1_6 : (outsAt1 V c t).2.2.1 (ix3 0 p q) = first (d (ix3 0 p q)) (∑ k : Fin 8, a (ix3 k p q)) := by
  unfold outsAt1
  dsimp only
  rw [ha, hb, hd, he]
  frame_out
  rw [Fin.sum_univ_eight]
  pointwise [k1_pay1, k1_pay2, k1_pay3, k1_pay4, k1_pay5, k1_pay6, k1_pay7, k1_pay8, k1_pay9, k1_pay10, first]
include ha hb hd he in
theorem next1_7 : (outsAt1 V c t).2.2.2 (ix3 0 p q) = second (e (ix3 0 p q)) (∑ k : Fin 8, a (ix3 k p q)) := by
  unfold outsAt1
  dsimp only
  rw [ha, hb, hd, he]
  frame_out
  rw [Fin.sum_univ_eight]
  pointwise [k1_pay1, k1_pay2, k1_pay3, k1_pay4, k1_pay5, k1_pay6, k1_pay7, k1_pay8, k1_pay9, k1_pay10, second]
end step

/-! What a step of call 3 leaves in its four blocks. -/

section step
variable (V : (c : Dev nD) → (b : Ref sig .tc) → Buf (Elt Ideal) ((c : Thread nD τ).loc b)) (c : Dev nD) (t : Fin cfg2.N)
variable (a : Vec Ideal S8x128x2048 .bf16) (b d e : Vec Ideal S1x128x2048 .f32) (ha : iblk2 V c 0 t = a) (hb : iblk2 V c 1 t = b)
  (hd : iblk2 V c 2 t = d) (he : iblk2 V c 3 t = e) (p : Fin 128) (q : Fin 2048)

include ha hb hd he in
theorem next2_4 : (outsAt2 V c t).1 (ix3 0 p q) = (∑ k : Fin 8, a (ix3 k p q)) := by
  unfold outsAt2
  dsimp only
  rw [ha, hb, hd, he]
  frame_out
  rw [Fin.sum_univ_eight]
  pointwise [k2_pay1, k2_pay2, k2_pay3, k2_pay4, k2_pay5, k2_pay6, k2_pay7, k2_pay8, k2_pay9, k2_pay10]
include ha hb hd he in
theorem next2_5 : (outsAt2 V c t).2.1 (ix3 0 p q) = change (b (ix3 0 p q)) (d (ix3 0 p q)) (e (ix3 0 p q)) (∑ k : Fin 8, a (ix3 k p q)) := by
  unfold outsAt2
  dsimp only
  rw [ha, hb, hd, he]
  frame_out
  rw [Fin.sum_univ_eight]
  pointwise [k2_pay1, k2_pay2, k2_pay3, k2_pay4, k2_pay5, k2_pay6, k2_pay7, k2_pay8, k2_pay9, k2_pay10, change, first, second]
include ha hb hd he in
theorem next2_6 : (outsAt2 V c t).2.2.1 (ix3 0 p q) = first (d (ix3 0 p q)) (∑ k : Fin 8, a (ix3 k p q)) := by
  unfold outsAt2
  dsimp only
  rw [ha, hb, hd, he]
  frame_out
  rw [Fin.sum_univ_eight]
  pointwise [k2_pay1, k2_pay2, k2_pay3, k2_pay4, k2_pay5, k2_pay6, k2_pay7, k2_pay8, k2_pay9, k2_pay10, first]
include ha hb hd he in
theorem next2_7 : (outsAt2 V c t).2.2.2 (ix3 0 p q) = second (e (ix3 0 p q)) (∑ k : Fin 8, a (ix3 k p q)) := by
  unfold outsAt2
  dsimp only
  rw [ha, hb, hd, he]
  frame_out
  rw [Fin.sum_univ_eight]
  pointwise [k2_pay1, k2_pay2, k2_pay3, k2_pay4, k2_pay5, k2_pay6, k2_pay7, k2_pay8, k2_pay9, k2_pay10, second]
end step

/-! What a step of call 4 leaves in its four blocks. -/

section step
variable (V : (c : Dev nD) → (b : Ref sig .tc) → Buf (Elt Ideal) ((c : Thread nD τ).loc b)) (c : Dev nD) (t : Fin cfg3.N)
variable (a : Vec Ideal S8x128x2048 .bf16) (b d e : Vec Ideal S1x128x2048 .f32) (ha : iblk3 V c 0 t = a) (hb : iblk3 V c 1 t = b)
  (hd : iblk3 V c 2 t = d) (he : iblk3 V c 3 t = e) (p : Fin 128) (q : Fin 2048)

include ha hb hd he in
theorem next3_4 : (outsAt3 V c t).1 (ix3 0 p q) = (∑ k : Fin 8, a (ix3 k p q)) := by
  unfold outsAt3
  dsimp only
  rw [ha, hb, hd, he]
  frame_out
  rw [Fin.sum_univ_eight]
  pointwise [k3_pay1, k3_pay2, k3_pay3, k3_pay4, k3_pay5, k3_pay6, k3_pay7, k3_pay8, k3_pay9, k3_pay10]
include ha hb hd he in
theorem next3_5 : (outsAt3 V c t).2.1 (ix3 0 p q) = change (b (ix3 0 p q)) (d (ix3 0 p q)) (e (ix3 0 p q)) (∑ k : Fin 8, a (ix3 k p q)) := by
  unfold outsAt3
  dsimp only
  rw [ha, hb, hd, he]
  frame_out
  rw [Fin.sum_univ_eight]
  pointwise [k3_pay1, k3_pay2, k3_pay3, k3_pay4, k3_pay5, k3_pay6, k3_pay7, k3_pay8, k3_pay9, k3_pay10, change, first, second]
include ha hb hd he in
theorem next3_6 : (outsAt3 V c t).2.2.1 (ix3 0 p q) = first (d (ix3 0 p q)) (∑ k : Fin 8, a (ix3 k p q)) := by
  unfold outsAt3
  dsimp only
  rw [ha, hb, hd, he]
  frame_out
  rw [Fin.sum_univ_eight]
  pointwise [k3_pay1, k3_pay2, k3_pay3, k3_pay4, k3_pay5, k3_pay6, k3_pay7, k3_pay8, k3_pay9, k3_pay10, first]
include ha hb hd he in
theorem next3_7 : (outsAt3 V c t).2.2.2 (ix3 0 p q) = second (e (ix3 0 p q)) (∑ k : Fin 8, a (ix3 k p q)) := by
  unfold outsAt3
  dsimp only
  rw [ha, hb, hd, he]
  frame_out
  rw [Fin.sum_univ_eight]
  pointwise [k3_pay1, k3_pay2, k3_pay3, k3_pay4, k3_pay5, k3_pay6, k3_pay7, k3_pay8, k3_pay9, k3_pay10, second]
end step

theorem N0 : cfg0.N = 2 := N_0
theorem N1 : cfg1.N = 2 := N_1
theorem N2 : cfg2.N = 2 := N_2
theorem N3 : cfg3.N = 2 := N_3

theorem idx0_0 : ∀ t : Fin cfg0.N, win0_0.index t = ![0, t.val, 0] := (by decide +kernel : ∀ t : Fin grid0.N, _)
theorem idx0_1 : ∀ t : Fin cfg0.N, win0_1.index t = ![0, t.val, 0] := (by decide +kernel : ∀ t : Fin grid0.N, _)
theorem idx0_2 : ∀ t : Fin cfg0.N, win0_2.index t = ![0, t.val, 0] := (by decide +kernel : ∀ t : Fin grid0.N, _)
theorem idx0_3 : ∀ t : Fin cfg0.N, win0_3.index t = ![0, t.val, 0] := (by decide +kernel : ∀ t : Fin grid0.N, _)
theorem idx0_4 : ∀ t : Fin cfg0.N, win0_4.index t = ![0, t.val, 0] := (by decide +kernel : ∀ t : Fin grid0.N, _)
theorem idx0_5 : ∀ t : Fin cfg0.N, win0_5.index t = ![0, t.val, 0] := (by decide +kernel : ∀ t : Fin grid0.N, _)
theorem idx0_6 : ∀ t : Fin cfg0.N, win0_6.index t = ![0, t.val, 0] := (by decide +kernel : ∀ t : Fin grid0.N, _)
theorem idx0_7 : ∀ t : Fin cfg0.N, win0_7.index t = ![0, t.val, 0] := (by decide +kernel : ∀ t : Fin grid0.N, _)
theorem idx1_0 : ∀ t : Fin cfg1.N, win1_0.index t = ![0, t.val, 0] := (by decide +kernel : ∀ t : Fin grid1.N, _)
theorem idx1_1 : ∀ t : Fin cfg1.N, win1_1.index t = ![1, t.val, 0] := (by decide +kernel : ∀ t : Fin grid1.N, _)
theorem idx1_2 : ∀ t : Fin cfg1.N, win1_2.index t = ![1, t.val, 0] := (by decide +kernel : ∀ t : Fin grid1.N, _)
theorem idx1_3 : ∀ t : Fin cfg1.N, win1_3.index t = ![1, t.val, 0] := (by decide +kernel : ∀ t : Fin grid1.N, _)
theorem idx1_4 : ∀ t : Fin cfg1.N, win1_4.index t = ![1, t.val, 0] := (by decide +kernel : ∀ t : Fin grid1.N, _)
theorem idx1_5 : ∀ t : Fin cfg1.N, win1_5.index t = ![1, t.val, 0] := (by decide +kernel : ∀ t : Fin grid1.N, _)
theorem idx1_6 : ∀ t : Fin cfg1.N, win1_6.index t = ![1, t.val, 0] := (by decide +kernel : ∀ t : Fin grid1.N, _)
theorem idx1_7 : ∀ t : Fin cfg1.N, win1_7.index t = ![1, t.val, 0] := (by decide +kernel : ∀ t : Fin grid1.N, _)
theorem idx2_0 : ∀ t : Fin cfg2.N, win2_0.index t = ![0, t.val, 0] := (by decide +kernel : ∀ t : Fin grid2.N, _)
theorem idx2_1 : ∀ t : Fin cfg2.N, win2_1.index t = ![2, t.val, 0] := (by decide +kernel : ∀ t : Fin grid2.N, _)
theorem idx2_2 : ∀ t : Fin cfg2.N, win2_2.index t = ![2, t.val, 0] := (by decide +kernel : ∀ t : Fin grid2.N, _)
theorem idx2_3 : ∀ t : Fin cfg2.N, win2_3.index t = ![2, t.val, 0] := (by decide +kernel : ∀ t : Fin grid2.N, _)
theorem idx2_4 : ∀ t : Fin cfg2.N, win2_4.index t = ![2, t.val, 0] := (by decide +kernel : ∀ t : Fin grid2.N, _)
theorem idx2_5 : ∀ t : Fin cfg2.N, win2_5.index t = ![2, t.val, 0] := (by decide +kernel : ∀ t : Fin grid2.N, _)
theorem idx2_6 : ∀ t : Fin cfg2.N, win2_6.index t = ![2, t.val, 0] := (by decide +kernel : ∀ t : Fin grid2.N, _)
theorem idx2_7 : ∀ t : Fin cfg2.N, win2_7.index t = ![2, t.val, 0] := (by decide +kernel : ∀ t : Fin grid2.N, _)
theorem idx3_0 : ∀ t : Fin cfg3.N, win3_0.index t = ![0, t.val, 0] := (by decide +kernel : ∀ t : Fin grid3.N, _)
theorem idx3_1 : ∀ t : Fin cfg3.N, win3_1.index t = ![3, t.val, 0] := (by decide +kernel : ∀ t : Fin grid3.N, _)
theorem idx3_2 : ∀ t : Fin cfg3.N, win3_2.index t = ![3, t.val, 0] := (by decide +kernel : ∀ t : Fin grid3.N, _)
theorem idx3_3 : ∀ t : Fin cfg3.N, win3_3.index t = ![3, t.val, 0] := (by decide +kernel : ∀ t : Fin grid3.N, _)
theorem idx3_4 : ∀ t : Fin cfg3.N, win3_4.index t = ![3, t.val, 0] := (by decide +kernel : ∀ t : Fin grid3.N, _)
theorem idx3_5 : ∀ t : Fin cfg3.N, win3_5.index t = ![3, t.val, 0] := (by decide +kernel : ∀ t : Fin grid3.N, _)
theorem idx3_6 : ∀ t : Fin cfg3.N, win3_6.index t = ![3, t.val, 0] := (by decide +kernel : ∀ t : Fin grid3.N, _)
theorem idx3_7 : ∀ t : Fin cfg3.N, win3_7.index t = ![3, t.val, 0] := (by decide +kernel : ∀ t : Fin grid3.N, _)

/-- The row of the arrays at place `p` of step `t`'s block, in each call. -/
def row0 (t : Fin cfg0.N) (p : Fin 128) : Fin 256 := ⟨128 * t.val + p.val, by have := t.isLt; have := N0; omega⟩
def row1 (t : Fin cfg1.N) (p : Fin 128) : Fin 256 := ⟨128 * t.val + p.val, by have := t.isLt; have := N1; omega⟩
def row2 (t : Fin cfg2.N) (p : Fin 128) : Fin 256 := ⟨128 * t.val + p.val, by have := t.isLt; have := N2; omega⟩
def row3 (t : Fin cfg3.N) (p : Fin 128) : Fin 256 := ⟨128 * t.val + p.val, by have := t.isLt; have := N3; omega⟩

/-- The gradient from its parts, layer by layer, and the other results from the gradient, the weight and its moments. -/
abbrev Arr0 := FVec Ideal S8x256x2048 .bf16
abbrev Arr := FVec Ideal S4x256x2048 .f32
def outG (g0 g1 g2 g3 : Arr0) : Arr := fun i =>
  if (i 0).val < 1 then ∑ k : Fin 8, g0 (ix3 k (i 1) (i 2))
  else if (i 0).val - 1 < 1 then ∑ k : Fin 8, g1 (ix3 k (i 1) (i 2))
  else if (i 0).val - 1 - 1 < 1 then ∑ k : Fin 8, g2 (ix3 k (i 1) (i 2))
  else ∑ k : Fin 8, g3 (ix3 k (i 1) (i 2))
def outD (g0 g1 g2 g3 : Arr0) (w m v : Arr) : Arr := fun i => change (w i) (m i) (v i) (outG g0 g1 g2 g3 i)
def outM (g0 g1 g2 g3 : Arr0) (m : Arr) : Arr := fun i => first (m i) (outG g0 g1 g2 g3 i)
def outV (g0 g1 g2 g3 : Arr0) (v : Arr) : Arr := fun i => second (v i) (outG g0 g1 g2 g3 i)

variable (m : (ℓ : Loc nD τ sig) → Buf (Elt Ideal) ℓ) (ρ : Dev nD → PrngReg) (c : Dev nD)

/-- The seven arguments. -/
abbrev m0 : Arr0 := m ((c : Thread nD τ).loc main_arg0)
abbrev m1 : Arr0 := m ((c : Thread nD τ).loc main_arg1)
abbrev m2 : Arr0 := m ((c : Thread nD τ).loc main_arg2)
abbrev m3 : Arr0 := m ((c : Thread nD τ).loc main_arg3)
abbrev m4 : Arr := m ((c : Thread nD τ).loc main_arg4)
abbrev m5 : Arr := m ((c : Thread nD τ).loc main_arg5)
abbrev m6 : Arr := m ((c : Thread nD τ).loc main_arg6)

/-- The blocks a call reads are those of the arguments. -/
theorem blk0_0 (t : Fin cfg0.N) (k : Fin 8) (p : Fin 128) (q : Fin 2048) : iblk0 (V0 m ρ) c 0 t (ix3 k p q) = m0 m c (ix3 k (row0 t p) q) := by
  blk_simp [iblk0]
  refine congrArg (m0 m c) ?_
  blk_ext [idx0_0, row0]
theorem blk0_1 (t : Fin cfg0.N) (p : Fin 128) (q : Fin 2048) : iblk0 (V0 m ρ) c 1 t (ix3 0 p q) = m4 m c (ix3 0 (row0 t p) q) := by
  blk_simp [iblk0]
  refine congrArg (m4 m c) ?_
  blk_ext [idx0_1, row0]
theorem blk0_2 (t : Fin cfg0.N) (p : Fin 128) (q : Fin 2048) : iblk0 (V0 m ρ) c 2 t (ix3 0 p q) = m5 m c (ix3 0 (row0 t p) q) := by
  blk_simp [iblk0]
  refine congrArg (m5 m c) ?_
  blk_ext [idx0_2, row0]
theorem blk0_3 (t : Fin cfg0.N) (p : Fin 128) (q : Fin 2048) : iblk0 (V0 m ρ) c 3 t (ix3 0 p q) = m6 m c (ix3 0 (row0 t p) q) := by
  blk_simp [iblk0]
  refine congrArg (m6 m c) ?_
  blk_ext [idx0_3, row0]
theorem blk1_0 (t : Fin cfg1.N) (k : Fin 8) (p : Fin 128) (q : Fin 2048) : iblk1 (V2 m ρ) c 0 t (ix3 k p q) = m1 m c (ix3 k (row1 t p) q) := by
  blk_simp [iblk1]
  refine (congrFun (W2_args m ρ c main_arg1 (by decide)) _).trans ?_
  refine congrArg (m1 m c) ?_
  blk_ext [idx1_0, row1]
theorem blk1_1 (t : Fin cfg1.N) (p : Fin 128) (q : Fin 2048) : iblk1 (V2 m ρ) c 1 t (ix3 0 p q) = m4 m c (ix3 1 (row1 t p) q) := by
  blk_simp [iblk1]
  refine (congrFun (W2_args m ρ c main_arg4 (by decide)) _).trans ?_
  refine congrArg (m4 m c) ?_
  blk_ext [idx1_1, row1]
theorem blk1_2 (t : Fin cfg1.N) (p : Fin 128) (q : Fin 2048) : iblk1 (V2 m ρ) c 2 t (ix3 0 p q) = m5 m c (ix3 1 (row1 t p) q) := by
  blk_simp [iblk1]
  refine (congrFun (W2_args m ρ c main_arg5 (by decide)) _).trans ?_
  refine congrArg (m5 m c) ?_
  blk_ext [idx1_2, row1]
theorem blk1_3 (t : Fin cfg1.N) (p : Fin 128) (q : Fin 2048) : iblk1 (V2 m ρ) c 3 t (ix3 0 p q) = m6 m c (ix3 1 (row1 t p) q) := by
  blk_simp [iblk1]
  refine (congrFun (W2_args m ρ c main_arg6 (by decide)) _).trans ?_
  refine congrArg (m6 m c) ?_
  blk_ext [idx1_3, row1]
theorem blk2_0 (t : Fin cfg2.N) (k : Fin 8) (p : Fin 128) (q : Fin 2048) : iblk2 (V4 m ρ) c 0 t (ix3 k p q) = m2 m c (ix3 k (row2 t p) q) := by
  blk_simp [iblk2]
  refine (congrFun (W4_args m ρ c main_arg2 (by decide)) _).trans ?_
  refine congrArg (m2 m c) ?_
  blk_ext [idx2_0, row2]
theorem blk2_1 (t : Fin cfg2.N) (p : Fin 128) (q : Fin 2048) : iblk2 (V4 m ρ) c 1 t (ix3 0 p q) = m4 m c (ix3 2 (row2 t p) q) := by
  blk_simp [iblk2]
  refine (congrFun (W4_args m ρ c main_arg4 (by decide)) _).trans ?_
  refine congrArg (m4 m c) ?_
  blk_ext [idx2_1, row2]
theorem blk2_2 (t : Fin cfg2.N) (p : Fin 128) (q : Fin 2048) : iblk2 (V4 m ρ) c 2 t (ix3 0 p q) = m5 m c (ix3 2 (row2 t p) q) := by
  blk_simp [iblk2]
  refine (congrFun (W4_args m ρ c main_arg5 (by decide)) _).trans ?_
  refine congrArg (m5 m c) ?_
  blk_ext [idx2_2, row2]
theorem blk2_3 (t : Fin cfg2.N) (p : Fin 128) (q : Fin 2048) : iblk2 (V4 m ρ) c 3 t (ix3 0 p q) = m6 m c (ix3 2 (row2 t p) q) := by
  blk_simp [iblk2]
  refine (congrFun (W4_args m ρ c main_arg6 (by decide)) _).trans ?_
  refine congrArg (m6 m c) ?_
  blk_ext [idx2_3, row2]
theorem blk3_0 (t : Fin cfg3.N) (k : Fin 8) (p : Fin 128) (q : Fin 2048) : iblk3 (V6 m ρ) c 0 t (ix3 k p q) = m3 m c (ix3 k (row3 t p) q) := by
  blk_simp [iblk3]
  refine (congrFun (W6_args m ρ c main_arg3 (by decide)) _).trans ?_
  refine congrArg (m3 m c) ?_
  blk_ext [idx3_0, row3]
theorem blk3_1 (t : Fin cfg3.N) (p : Fin 128) (q : Fin 2048) : iblk3 (V6 m ρ) c 1 t (ix3 0 p q) = m4 m c (ix3 3 (row3 t p) q) := by
  blk_simp [iblk3]
  refine (congrFun (W6_args m ρ c main_arg4 (by decide)) _).trans ?_
  refine congrArg (m4 m c) ?_
  blk_ext [idx3_1, row3]
theorem blk3_2 (t : Fin cfg3.N) (p : Fin 128) (q : Fin 2048) : iblk3 (V6 m ρ) c 2 t (ix3 0 p q) = m5 m c (ix3 3 (row3 t p) q) := by
  blk_simp [iblk3]
  refine (congrFun (W6_args m ρ c main_arg5 (by decide)) _).trans ?_
  refine congrArg (m5 m c) ?_
  blk_ext [idx3_2, row3]
theorem blk3_3 (t : Fin cfg3.N) (p : Fin 128) (q : Fin 2048) : iblk3 (V6 m ρ) c 3 t (ix3 0 p q) = m6 m c (ix3 3 (row3 t p) q) := by
  blk_simp [iblk3]
  refine (congrFun (W6_args m ρ c main_arg6 (by decide)) _).trans ?_
  refine congrArg (m6 m c) ?_
  blk_ext [idx3_3, row3]

/-- What a step leaves in its blocks is its part of the results. -/
theorem part0_4 (t : Fin cfg0.N) (p : Fin 128) (q : Fin 2048) : out0_4 (iblk0 (V0 m ρ) c 0 t) (iblk0 (V0 m ρ) c 1 t) (iblk0 (V0 m ρ) c 2 t) (iblk0 (V0 m ρ) c 3 t) (ix3 0 p q) = outG (m0 m c) (m1 m c) (m2 m c) (m3 m c) (ix3 0 (row0 t p) q) := by
  refine (step4 _ _ _ _ _ _).trans ?_
  simp only [blk0_0]
  rfl
theorem part0_5 (t : Fin cfg0.N) (p : Fin 128) (q : Fin 2048) : out0_5 (iblk0 (V0 m ρ) c 0 t) (iblk0 (V0 m ρ) c 1 t) (iblk0 (V0 m ρ) c 2 t) (iblk0 (V0 m ρ) c 3 t) (ix3 0 p q) = outD (m0 m c) (m1 m c) (m2 m c) (m3 m c) (m4 m c) (m5 m c) (m6 m c) (ix3 0 (row0 t p) q) := by
  refine (step5 _ _ _ _ _ _).trans ?_
  simp only [blk0_0, blk0_1, blk0_2, blk0_3]
  rfl
theorem part0_6 (t : Fin cfg0.N) (p : Fin 128) (q : Fin 2048) : out0_6 (iblk0 (V0 m ρ) c 0 t) (iblk0 (V0 m ρ) c 1 t) (iblk0 (V0 m ρ) c 2 t) (iblk0 (V0 m ρ) c 3 t) (ix3 0 p q) = outM (m0 m c) (m1 m c) (m2 m c) (m3 m c) (m5 m c) (ix3 0 (row0 t p) q) := by
  refine (step6 _ _ _ _ _ _).trans ?_
  simp only [blk0_0, blk0_2]
  rfl
theorem part0_7 (t : Fin cfg0.N) (p : Fin 128) (q : Fin 2048) : out0_7 (iblk0 (V0 m ρ) c 0 t) (iblk0 (V0 m ρ) c 1 t) (iblk0 (V0 m ρ) c 2 t) (iblk0 (V0 m ρ) c 3 t) (ix3 0 p q) = outV (m0 m c) (m1 m c) (m2 m c) (m3 m c) (m6 m c) (ix3 0 (row0 t p) q) := by
  refine (step7 _ _ _ _ _ _).trans ?_
  simp only [blk0_0, blk0_3]
  rfl
theorem part1_4 (t : Fin cfg1.N) (p : Fin 128) (q : Fin 2048) : (outsAt1 (V2 m ρ) c t).1 (ix3 0 p q) = outG (m0 m c) (m1 m c) (m2 m c) (m3 m c) (ix3 1 (row1 t p) q) := by
  refine (next1_4 (V2 m ρ) c t _ _ _ _ rfl rfl rfl rfl p q).trans ?_
  simp only [blk1_0]
  rfl
theorem part1_5 (t : Fin cfg1.N) (p : Fin 128) (q : Fin 2048) : (outsAt1 (V2 m ρ) c t).2.1 (ix3 0 p q) = outD (m0 m c) (m1 m c) (m2 m c) (m3 m c) (m4 m c) (m5 m c) (m6 m c) (ix3 1 (row1 t p) q) := by
  refine (next1_5 (V2 m ρ) c t _ _ _ _ rfl rfl rfl rfl p q).trans ?_
  simp only [blk1_0, blk1_1, blk1_2, blk1_3]
  rfl
theorem part1_6 (t : Fin cfg1.N) (p : Fin 128) (q : Fin 2048) : (outsAt1 (V2 m ρ) c t).2.2.1 (ix3 0 p q) = outM (m0 m c) (m1 m c) (m2 m c) (m3 m c) (m5 m c) (ix3 1 (row1 t p) q) := by
  refine (next1_6 (V2 m ρ) c t _ _ _ _ rfl rfl rfl rfl p q).trans ?_
  simp only [blk1_0, blk1_2]
  rfl
theorem part1_7 (t : Fin cfg1.N) (p : Fin 128) (q : Fin 2048) : (outsAt1 (V2 m ρ) c t).2.2.2 (ix3 0 p q) = outV (m0 m c) (m1 m c) (m2 m c) (m3 m c) (m6 m c) (ix3 1 (row1 t p) q) := by
  refine (next1_7 (V2 m ρ) c t _ _ _ _ rfl rfl rfl rfl p q).trans ?_
  simp only [blk1_0, blk1_3]
  rfl
theorem part2_4 (t : Fin cfg2.N) (p : Fin 128) (q : Fin 2048) : (outsAt2 (V4 m ρ) c t).1 (ix3 0 p q) = outG (m0 m c) (m1 m c) (m2 m c) (m3 m c) (ix3 2 (row2 t p) q) := by
  refine (next2_4 (V4 m ρ) c t _ _ _ _ rfl rfl rfl rfl p q).trans ?_
  simp only [blk2_0]
  rfl
theorem part2_5 (t : Fin cfg2.N) (p : Fin 128) (q : Fin 2048) : (outsAt2 (V4 m ρ) c t).2.1 (ix3 0 p q) = outD (m0 m c) (m1 m c) (m2 m c) (m3 m c) (m4 m c) (m5 m c) (m6 m c) (ix3 2 (row2 t p) q) := by
  refine (next2_5 (V4 m ρ) c t _ _ _ _ rfl rfl rfl rfl p q).trans ?_
  simp only [blk2_0, blk2_1, blk2_2, blk2_3]
  rfl
theorem part2_6 (t : Fin cfg2.N) (p : Fin 128) (q : Fin 2048) : (outsAt2 (V4 m ρ) c t).2.2.1 (ix3 0 p q) = outM (m0 m c) (m1 m c) (m2 m c) (m3 m c) (m5 m c) (ix3 2 (row2 t p) q) := by
  refine (next2_6 (V4 m ρ) c t _ _ _ _ rfl rfl rfl rfl p q).trans ?_
  simp only [blk2_0, blk2_2]
  rfl
theorem part2_7 (t : Fin cfg2.N) (p : Fin 128) (q : Fin 2048) : (outsAt2 (V4 m ρ) c t).2.2.2 (ix3 0 p q) = outV (m0 m c) (m1 m c) (m2 m c) (m3 m c) (m6 m c) (ix3 2 (row2 t p) q) := by
  refine (next2_7 (V4 m ρ) c t _ _ _ _ rfl rfl rfl rfl p q).trans ?_
  simp only [blk2_0, blk2_3]
  rfl
theorem part3_4 (t : Fin cfg3.N) (p : Fin 128) (q : Fin 2048) : (outsAt3 (V6 m ρ) c t).1 (ix3 0 p q) = outG (m0 m c) (m1 m c) (m2 m c) (m3 m c) (ix3 3 (row3 t p) q) := by
  refine (next3_4 (V6 m ρ) c t _ _ _ _ rfl rfl rfl rfl p q).trans ?_
  simp only [blk3_0]
  rfl
theorem part3_5 (t : Fin cfg3.N) (p : Fin 128) (q : Fin 2048) : (outsAt3 (V6 m ρ) c t).2.1 (ix3 0 p q) = outD (m0 m c) (m1 m c) (m2 m c) (m3 m c) (m4 m c) (m5 m c) (m6 m c) (ix3 3 (row3 t p) q) := by
  refine (next3_5 (V6 m ρ) c t _ _ _ _ rfl rfl rfl rfl p q).trans ?_
  simp only [blk3_0, blk3_1, blk3_2, blk3_3]
  rfl
theorem part3_6 (t : Fin cfg3.N) (p : Fin 128) (q : Fin 2048) : (outsAt3 (V6 m ρ) c t).2.2.1 (ix3 0 p q) = outM (m0 m c) (m1 m c) (m2 m c) (m3 m c) (m5 m c) (ix3 3 (row3 t p) q) := by
  refine (next3_6 (V6 m ρ) c t _ _ _ _ rfl rfl rfl rfl p q).trans ?_
  simp only [blk3_0, blk3_2]
  rfl
theorem part3_7 (t : Fin cfg3.N) (p : Fin 128) (q : Fin 2048) : (outsAt3 (V6 m ρ) c t).2.2.2 (ix3 0 p q) = outV (m0 m c) (m1 m c) (m2 m c) (m3 m c) (m6 m c) (ix3 3 (row3 t p) q) := by
  refine (next3_7 (V6 m ρ) c t _ _ _ _ rfl rfl rfl rfl p q).trans ?_
  simp only [blk3_0, blk3_3]
  rfl

/-- The arrays call 1 leaves: the results, up to its layer. -/
theorem low0_4 (i : S4x256x2048.Idx) (hi : (i 0).val < 1) : (dat0 (V0 m ρ) c).arrAt 4 cfg0.N i = outG (m0 m c) (m1 m c) (m2 m c) (m3 m c) i := by
  refine ((dat0 (V0 m ρ) c).arrAt_apply_of_coversWhere 4 (outG (m0 m c) (m1 m c) (m2 m c) (m3 m c)) (P := fun i => (i (0 : Fin 3)).val = 0) (fun β => β (0 : Fin 3) = 0) (by decide +kernel)
    (fun t hf y => ?_) (fun j => by blk_simp [Pipeline.Window.cell_apply]; omega) i).trans ?_
  · blk_simp
    rw [after0_4]
    have e : (win0_4.blk t).view.emb y = ix3 0 (row0 t (y 1)) (y 2) := by have h : (y 0).val < 1 := (y 0).isLt; blk_ext [idx0_4, row0]
    rw [e]
    have ey : y = ix3 0 (y 1) (y 2) := by have h : (y 0).val < 1 := (y 0).isLt; blk_ext
    refine (congrArg (out0_4 (iblk0 (V0 m ρ) c 0 t) (iblk0 (V0 m ρ) c 1 t) (iblk0 (V0 m ρ) c 2 t) (iblk0 (V0 m ρ) c 3 t)) ey).trans ?_
    exact part0_4 m ρ c t _ _
  · exact if_pos (by omega)
theorem low0_5 (i : S4x256x2048.Idx) (hi : (i 0).val < 1) : (dat0 (V0 m ρ) c).arrAt 5 cfg0.N i = outD (m0 m c) (m1 m c) (m2 m c) (m3 m c) (m4 m c) (m5 m c) (m6 m c) i := by
  refine ((dat0 (V0 m ρ) c).arrAt_apply_of_coversWhere 5 (outD (m0 m c) (m1 m c) (m2 m c) (m3 m c) (m4 m c) (m5 m c) (m6 m c)) (P := fun i => (i (0 : Fin 3)).val = 0) (fun β => β (0 : Fin 3) = 0) (by decide +kernel)
    (fun t hf y => ?_) (fun j => by blk_simp [Pipeline.Window.cell_apply]; omega) i).trans ?_
  · blk_simp
    rw [after0_5]
    have e : (win0_5.blk t).view.emb y = ix3 0 (row0 t (y 1)) (y 2) := by have h : (y 0).val < 1 := (y 0).isLt; blk_ext [idx0_5, row0]
    rw [e]
    have ey : y = ix3 0 (y 1) (y 2) := by have h : (y 0).val < 1 := (y 0).isLt; blk_ext
    refine (congrArg (out0_5 (iblk0 (V0 m ρ) c 0 t) (iblk0 (V0 m ρ) c 1 t) (iblk0 (V0 m ρ) c 2 t) (iblk0 (V0 m ρ) c 3 t)) ey).trans ?_
    exact part0_5 m ρ c t _ _
  · exact if_pos (by omega)
theorem low0_6 (i : S4x256x2048.Idx) (hi : (i 0).val < 1) : (dat0 (V0 m ρ) c).arrAt 6 cfg0.N i = outM (m0 m c) (m1 m c) (m2 m c) (m3 m c) (m5 m c) i := by
  refine ((dat0 (V0 m ρ) c).arrAt_apply_of_coversWhere 6 (outM (m0 m c) (m1 m c) (m2 m c) (m3 m c) (m5 m c)) (P := fun i => (i (0 : Fin 3)).val = 0) (fun β => β (0 : Fin 3) = 0) (by decide +kernel)
    (fun t hf y => ?_) (fun j => by blk_simp [Pipeline.Window.cell_apply]; omega) i).trans ?_
  · blk_simp
    rw [after0_6]
    have e : (win0_6.blk t).view.emb y = ix3 0 (row0 t (y 1)) (y 2) := by have h : (y 0).val < 1 := (y 0).isLt; blk_ext [idx0_6, row0]
    rw [e]
    have ey : y = ix3 0 (y 1) (y 2) := by have h : (y 0).val < 1 := (y 0).isLt; blk_ext
    refine (congrArg (out0_6 (iblk0 (V0 m ρ) c 0 t) (iblk0 (V0 m ρ) c 1 t) (iblk0 (V0 m ρ) c 2 t) (iblk0 (V0 m ρ) c 3 t)) ey).trans ?_
    exact part0_6 m ρ c t _ _
  · exact if_pos (by omega)
theorem low0_7 (i : S4x256x2048.Idx) (hi : (i 0).val < 1) : (dat0 (V0 m ρ) c).arrAt 7 cfg0.N i = outV (m0 m c) (m1 m c) (m2 m c) (m3 m c) (m6 m c) i := by
  refine ((dat0 (V0 m ρ) c).arrAt_apply_of_coversWhere 7 (outV (m0 m c) (m1 m c) (m2 m c) (m3 m c) (m6 m c)) (P := fun i => (i (0 : Fin 3)).val = 0) (fun β => β (0 : Fin 3) = 0) (by decide +kernel)
    (fun t hf y => ?_) (fun j => by blk_simp [Pipeline.Window.cell_apply]; omega) i).trans ?_
  · blk_simp
    rw [after0_7]
    have e : (win0_7.blk t).view.emb y = ix3 0 (row0 t (y 1)) (y 2) := by have h : (y 0).val < 1 := (y 0).isLt; blk_ext [idx0_7, row0]
    rw [e]
    have ey : y = ix3 0 (y 1) (y 2) := by have h : (y 0).val < 1 := (y 0).isLt; blk_ext
    refine (congrArg (out0_7 (iblk0 (V0 m ρ) c 0 t) (iblk0 (V0 m ρ) c 1 t) (iblk0 (V0 m ρ) c 2 t) (iblk0 (V0 m ρ) c 3 t)) ey).trans ?_
    exact part0_7 m ρ c t _ _
  · exact if_pos (by omega)

/-- Call 2 finds what the one before left. -/
theorem mid1_4 : W2 m ρ c (Proc.devRef .tc main_v1_0) = (dat0 (V0 m ρ) c).arrAt 4 cfg0.N := by
  refine Eq.trans ?_ (W1_arr m ρ c 4)
  unfold W2 hostOps1
  after_results_simp
  rfl
theorem mid1_5 : W2 m ρ c (Proc.devRef .tc main_v1_1) = (dat0 (V0 m ρ) c).arrAt 5 cfg0.N := by
  refine Eq.trans ?_ (W1_arr m ρ c 5)
  unfold W2 hostOps1
  after_results_simp
  rfl
theorem mid1_6 : W2 m ρ c (Proc.devRef .tc main_v1_2) = (dat0 (V0 m ρ) c).arrAt 6 cfg0.N := by
  refine Eq.trans ?_ (W1_arr m ρ c 6)
  unfold W2 hostOps1
  after_results_simp
  rfl
theorem mid1_7 : W2 m ρ c (Proc.devRef .tc main_v1_3) = (dat0 (V0 m ρ) c).arrAt 7 cfg0.N := by
  refine Eq.trans ?_ (W1_arr m ρ c 7)
  unfold W2 hostOps1
  after_results_simp
  rfl

/-- The arrays call 2 leaves: the results, up to its layer. -/
theorem low1_4 (i : S4x256x2048.Idx) (hi : (i 0).val < 2) : (dat1 (V2 m ρ) c).arrAt 4 cfg1.N i = outG (m0 m c) (m1 m c) (m2 m c) (m3 m c) i := by
  refine ((dat1 (V2 m ρ) c).arrAt_apply_of_coversWhere 4 (outG (m0 m c) (m1 m c) (m2 m c) (m3 m c)) (P := fun i => (i (0 : Fin 3)).val = 1) (fun β => β (0 : Fin 3) = 1) (by decide +kernel)
    (fun t hf y => ?_) (fun j => by blk_simp [Pipeline.Window.cell_apply]; omega) i).trans ?_
  · blk_simp
    rw [after1_4]
    have e : (win1_4.blk t).view.emb y = ix3 1 (row1 t (y 1)) (y 2) := by have h : (y 0).val < 1 := (y 0).isLt; blk_ext [idx1_4, row1]
    rw [e]
    have ey : y = ix3 0 (y 1) (y 2) := by have h : (y 0).val < 1 := (y 0).isLt; blk_ext
    refine (congrArg ((outsAt1 (V2 m ρ) c t).1) ey).trans ?_
    exact part1_4 m ρ c t _ _
  · by_cases h : (i 0).val = 1
    · exact if_pos h
    · refine (if_neg h).trans ?_
      rw [A_eq1]
      exact (congrFun (mid1_4 m ρ c) i).trans (low0_4 m ρ c i (by omega))
theorem low1_5 (i : S4x256x2048.Idx) (hi : (i 0).val < 2) : (dat1 (V2 m ρ) c).arrAt 5 cfg1.N i = outD (m0 m c) (m1 m c) (m2 m c) (m3 m c) (m4 m c) (m5 m c) (m6 m c) i := by
  refine ((dat1 (V2 m ρ) c).arrAt_apply_of_coversWhere 5 (outD (m0 m c) (m1 m c) (m2 m c) (m3 m c) (m4 m c) (m5 m c) (m6 m c)) (P := fun i => (i (0 : Fin 3)).val = 1) (fun β => β (0 : Fin 3) = 1) (by decide +kernel)
    (fun t hf y => ?_) (fun j => by blk_simp [Pipeline.Window.cell_apply]; omega) i).trans ?_
  · blk_simp
    rw [after1_5]
    have e : (win1_5.blk t).view.emb y = ix3 1 (row1 t (y 1)) (y 2) := by have h : (y 0).val < 1 := (y 0).isLt; blk_ext [idx1_5, row1]
    rw [e]
    have ey : y = ix3 0 (y 1) (y 2) := by have h : (y 0).val < 1 := (y 0).isLt; blk_ext
    refine (congrArg ((outsAt1 (V2 m ρ) c t).2.1) ey).trans ?_
    exact part1_5 m ρ c t _ _
  · by_cases h : (i 0).val = 1
    · exact if_pos h
    · refine (if_neg h).trans ?_
      rw [A_eq1]
      exact (congrFun (mid1_5 m ρ c) i).trans (low0_5 m ρ c i (by omega))
theorem low1_6 (i : S4x256x2048.Idx) (hi : (i 0).val < 2) : (dat1 (V2 m ρ) c).arrAt 6 cfg1.N i = outM (m0 m c) (m1 m c) (m2 m c) (m3 m c) (m5 m c) i := by
  refine ((dat1 (V2 m ρ) c).arrAt_apply_of_coversWhere 6 (outM (m0 m c) (m1 m c) (m2 m c) (m3 m c) (m5 m c)) (P := fun i => (i (0 : Fin 3)).val = 1) (fun β => β (0 : Fin 3) = 1) (by decide +kernel)
    (fun t hf y => ?_) (fun j => by blk_simp [Pipeline.Window.cell_apply]; omega) i).trans ?_
  · blk_simp
    rw [after1_6]
    have e : (win1_6.blk t).view.emb y = ix3 1 (row1 t (y 1)) (y 2) := by have h : (y 0).val < 1 := (y 0).isLt; blk_ext [idx1_6, row1]
    rw [e]
    have ey : y = ix3 0 (y 1) (y 2) := by have h : (y 0).val < 1 := (y 0).isLt; blk_ext
    refine (congrArg ((outsAt1 (V2 m ρ) c t).2.2.1) ey).trans ?_
    exact part1_6 m ρ c t _ _
  · by_cases h : (i 0).val = 1
    · exact if_pos h
    · refine (if_neg h).trans ?_
      rw [A_eq1]
      exact (congrFun (mid1_6 m ρ c) i).trans (low0_6 m ρ c i (by omega))
theorem low1_7 (i : S4x256x2048.Idx) (hi : (i 0).val < 2) : (dat1 (V2 m ρ) c).arrAt 7 cfg1.N i = outV (m0 m c) (m1 m c) (m2 m c) (m3 m c) (m6 m c) i := by
  refine ((dat1 (V2 m ρ) c).arrAt_apply_of_coversWhere 7 (outV (m0 m c) (m1 m c) (m2 m c) (m3 m c) (m6 m c)) (P := fun i => (i (0 : Fin 3)).val = 1) (fun β => β (0 : Fin 3) = 1) (by decide +kernel)
    (fun t hf y => ?_) (fun j => by blk_simp [Pipeline.Window.cell_apply]; omega) i).trans ?_
  · blk_simp
    rw [after1_7]
    have e : (win1_7.blk t).view.emb y = ix3 1 (row1 t (y 1)) (y 2) := by have h : (y 0).val < 1 := (y 0).isLt; blk_ext [idx1_7, row1]
    rw [e]
    have ey : y = ix3 0 (y 1) (y 2) := by have h : (y 0).val < 1 := (y 0).isLt; blk_ext
    refine (congrArg ((outsAt1 (V2 m ρ) c t).2.2.2) ey).trans ?_
    exact part1_7 m ρ c t _ _
  · by_cases h : (i 0).val = 1
    · exact if_pos h
    · refine (if_neg h).trans ?_
      rw [A_eq1]
      exact (congrFun (mid1_7 m ρ c) i).trans (low0_7 m ρ c i (by omega))

/-- Call 3 finds what the one before left. -/
theorem mid2_4 : W4 m ρ c (Proc.devRef .tc main_v2_0) = (dat1 (V2 m ρ) c).arrAt 4 cfg1.N := by
  refine Eq.trans ?_ (W3_arr m ρ c 4)
  unfold W4 hostOps2
  after_results_simp
  rfl
theorem mid2_5 : W4 m ρ c (Proc.devRef .tc main_v2_1) = (dat1 (V2 m ρ) c).arrAt 5 cfg1.N := by
  refine Eq.trans ?_ (W3_arr m ρ c 5)
  unfold W4 hostOps2
  after_results_simp
  rfl
theorem mid2_6 : W4 m ρ c (Proc.devRef .tc main_v2_2) = (dat1 (V2 m ρ) c).arrAt 6 cfg1.N := by
  refine Eq.trans ?_ (W3_arr m ρ c 6)
  unfold W4 hostOps2
  after_results_simp
  rfl
theorem mid2_7 : W4 m ρ c (Proc.devRef .tc main_v2_3) = (dat1 (V2 m ρ) c).arrAt 7 cfg1.N := by
  refine Eq.trans ?_ (W3_arr m ρ c 7)
  unfold W4 hostOps2
  after_results_simp
  rfl

/-- The arrays call 3 leaves: the results, up to its layer. -/
theorem low2_4 (i : S4x256x2048.Idx) (hi : (i 0).val < 3) : (dat2 (V4 m ρ) c).arrAt 4 cfg2.N i = outG (m0 m c) (m1 m c) (m2 m c) (m3 m c) i := by
  refine ((dat2 (V4 m ρ) c).arrAt_apply_of_coversWhere 4 (outG (m0 m c) (m1 m c) (m2 m c) (m3 m c)) (P := fun i => (i (0 : Fin 3)).val = 2) (fun β => β (0 : Fin 3) = 2) (by decide +kernel)
    (fun t hf y => ?_) (fun j => by blk_simp [Pipeline.Window.cell_apply]; omega) i).trans ?_
  · blk_simp
    rw [after2_4]
    have e : (win2_4.blk t).view.emb y = ix3 2 (row2 t (y 1)) (y 2) := by have h : (y 0).val < 1 := (y 0).isLt; blk_ext [idx2_4, row2]
    rw [e]
    have ey : y = ix3 0 (y 1) (y 2) := by have h : (y 0).val < 1 := (y 0).isLt; blk_ext
    refine (congrArg ((outsAt2 (V4 m ρ) c t).1) ey).trans ?_
    exact part2_4 m ρ c t _ _
  · by_cases h : (i 0).val = 2
    · exact if_pos h
    · refine (if_neg h).trans ?_
      rw [A_eq2]
      exact (congrFun (mid2_4 m ρ c) i).trans (low1_4 m ρ c i (by omega))
theorem low2_5 (i : S4x256x2048.Idx) (hi : (i 0).val < 3) : (dat2 (V4 m ρ) c).arrAt 5 cfg2.N i = outD (m0 m c) (m1 m c) (m2 m c) (m3 m c) (m4 m c) (m5 m c) (m6 m c) i := by
  refine ((dat2 (V4 m ρ) c).arrAt_apply_of_coversWhere 5 (outD (m0 m c) (m1 m c) (m2 m c) (m3 m c) (m4 m c) (m5 m c) (m6 m c)) (P := fun i => (i (0 : Fin 3)).val = 2) (fun β => β (0 : Fin 3) = 2) (by decide +kernel)
    (fun t hf y => ?_) (fun j => by blk_simp [Pipeline.Window.cell_apply]; omega) i).trans ?_
  · blk_simp
    rw [after2_5]
    have e : (win2_5.blk t).view.emb y = ix3 2 (row2 t (y 1)) (y 2) := by have h : (y 0).val < 1 := (y 0).isLt; blk_ext [idx2_5, row2]
    rw [e]
    have ey : y = ix3 0 (y 1) (y 2) := by have h : (y 0).val < 1 := (y 0).isLt; blk_ext
    refine (congrArg ((outsAt2 (V4 m ρ) c t).2.1) ey).trans ?_
    exact part2_5 m ρ c t _ _
  · by_cases h : (i 0).val = 2
    · exact if_pos h
    · refine (if_neg h).trans ?_
      rw [A_eq2]
      exact (congrFun (mid2_5 m ρ c) i).trans (low1_5 m ρ c i (by omega))
theorem low2_6 (i : S4x256x2048.Idx) (hi : (i 0).val < 3) : (dat2 (V4 m ρ) c).arrAt 6 cfg2.N i = outM (m0 m c) (m1 m c) (m2 m c) (m3 m c) (m5 m c) i := by
  refine ((dat2 (V4 m ρ) c).arrAt_apply_of_coversWhere 6 (outM (m0 m c) (m1 m c) (m2 m c) (m3 m c) (m5 m c)) (P := fun i => (i (0 : Fin 3)).val = 2) (fun β => β (0 : Fin 3) = 2) (by decide +kernel)
    (fun t hf y => ?_) (fun j => by blk_simp [Pipeline.Window.cell_apply]; omega) i).trans ?_
  · blk_simp
    rw [after2_6]
    have e : (win2_6.blk t).view.emb y = ix3 2 (row2 t (y 1)) (y 2) := by have h : (y 0).val < 1 := (y 0).isLt; blk_ext [idx2_6, row2]
    rw [e]
    have ey : y = ix3 0 (y 1) (y 2) := by have h : (y 0).val < 1 := (y 0).isLt; blk_ext
    refine (congrArg ((outsAt2 (V4 m ρ) c t).2.2.1) ey).trans ?_
    exact part2_6 m ρ c t _ _
  · by_cases h : (i 0).val = 2
    · exact if_pos h
    · refine (if_neg h).trans ?_
      rw [A_eq2]
      exact (congrFun (mid2_6 m ρ c) i).trans (low1_6 m ρ c i (by omega))
theorem low2_7 (i : S4x256x2048.Idx) (hi : (i 0).val < 3) : (dat2 (V4 m ρ) c).arrAt 7 cfg2.N i = outV (m0 m c) (m1 m c) (m2 m c) (m3 m c) (m6 m c) i := by
  refine ((dat2 (V4 m ρ) c).arrAt_apply_of_coversWhere 7 (outV (m0 m c) (m1 m c) (m2 m c) (m3 m c) (m6 m c)) (P := fun i => (i (0 : Fin 3)).val = 2) (fun β => β (0 : Fin 3) = 2) (by decide +kernel)
    (fun t hf y => ?_) (fun j => by blk_simp [Pipeline.Window.cell_apply]; omega) i).trans ?_
  · blk_simp
    rw [after2_7]
    have e : (win2_7.blk t).view.emb y = ix3 2 (row2 t (y 1)) (y 2) := by have h : (y 0).val < 1 := (y 0).isLt; blk_ext [idx2_7, row2]
    rw [e]
    have ey : y = ix3 0 (y 1) (y 2) := by have h : (y 0).val < 1 := (y 0).isLt; blk_ext
    refine (congrArg ((outsAt2 (V4 m ρ) c t).2.2.2) ey).trans ?_
    exact part2_7 m ρ c t _ _
  · by_cases h : (i 0).val = 2
    · exact if_pos h
    · refine (if_neg h).trans ?_
      rw [A_eq2]
      exact (congrFun (mid2_7 m ρ c) i).trans (low1_7 m ρ c i (by omega))

/-- Call 4 finds what the one before left. -/
theorem mid3_4 : W6 m ρ c (Proc.devRef .tc main_v3_0) = (dat2 (V4 m ρ) c).arrAt 4 cfg2.N := by
  refine Eq.trans ?_ (W5_arr m ρ c 4)
  unfold W6 hostOps3
  after_results_simp
  rfl
theorem mid3_5 : W6 m ρ c (Proc.devRef .tc main_v3_1) = (dat2 (V4 m ρ) c).arrAt 5 cfg2.N := by
  refine Eq.trans ?_ (W5_arr m ρ c 5)
  unfold W6 hostOps3
  after_results_simp
  rfl
theorem mid3_6 : W6 m ρ c (Proc.devRef .tc main_v3_2) = (dat2 (V4 m ρ) c).arrAt 6 cfg2.N := by
  refine Eq.trans ?_ (W5_arr m ρ c 6)
  unfold W6 hostOps3
  after_results_simp
  rfl
theorem mid3_7 : W6 m ρ c (Proc.devRef .tc main_v3_3) = (dat2 (V4 m ρ) c).arrAt 7 cfg2.N := by
  refine Eq.trans ?_ (W5_arr m ρ c 7)
  unfold W6 hostOps3
  after_results_simp
  rfl

/-- The arrays call 4 leaves: the results, up to its layer. -/
theorem low3_4 (i : S4x256x2048.Idx) (hi : (i 0).val < 4) : (dat3 (V6 m ρ) c).arrAt 4 cfg3.N i = outG (m0 m c) (m1 m c) (m2 m c) (m3 m c) i := by
  refine ((dat3 (V6 m ρ) c).arrAt_apply_of_coversWhere 4 (outG (m0 m c) (m1 m c) (m2 m c) (m3 m c)) (P := fun i => (i (0 : Fin 3)).val = 3) (fun β => β (0 : Fin 3) = 3) (by decide +kernel)
    (fun t hf y => ?_) (fun j => by blk_simp [Pipeline.Window.cell_apply]; omega) i).trans ?_
  · blk_simp
    rw [after3_4]
    have e : (win3_4.blk t).view.emb y = ix3 3 (row3 t (y 1)) (y 2) := by have h : (y 0).val < 1 := (y 0).isLt; blk_ext [idx3_4, row3]
    rw [e]
    have ey : y = ix3 0 (y 1) (y 2) := by have h : (y 0).val < 1 := (y 0).isLt; blk_ext
    refine (congrArg ((outsAt3 (V6 m ρ) c t).1) ey).trans ?_
    exact part3_4 m ρ c t _ _
  · by_cases h : (i 0).val = 3
    · exact if_pos h
    · refine (if_neg h).trans ?_
      rw [A_eq3]
      exact (congrFun (mid3_4 m ρ c) i).trans (low2_4 m ρ c i (by omega))
theorem low3_5 (i : S4x256x2048.Idx) (hi : (i 0).val < 4) : (dat3 (V6 m ρ) c).arrAt 5 cfg3.N i = outD (m0 m c) (m1 m c) (m2 m c) (m3 m c) (m4 m c) (m5 m c) (m6 m c) i := by
  refine ((dat3 (V6 m ρ) c).arrAt_apply_of_coversWhere 5 (outD (m0 m c) (m1 m c) (m2 m c) (m3 m c) (m4 m c) (m5 m c) (m6 m c)) (P := fun i => (i (0 : Fin 3)).val = 3) (fun β => β (0 : Fin 3) = 3) (by decide +kernel)
    (fun t hf y => ?_) (fun j => by blk_simp [Pipeline.Window.cell_apply]; omega) i).trans ?_
  · blk_simp
    rw [after3_5]
    have e : (win3_5.blk t).view.emb y = ix3 3 (row3 t (y 1)) (y 2) := by have h : (y 0).val < 1 := (y 0).isLt; blk_ext [idx3_5, row3]
    rw [e]
    have ey : y = ix3 0 (y 1) (y 2) := by have h : (y 0).val < 1 := (y 0).isLt; blk_ext
    refine (congrArg ((outsAt3 (V6 m ρ) c t).2.1) ey).trans ?_
    exact part3_5 m ρ c t _ _
  · by_cases h : (i 0).val = 3
    · exact if_pos h
    · refine (if_neg h).trans ?_
      rw [A_eq3]
      exact (congrFun (mid3_5 m ρ c) i).trans (low2_5 m ρ c i (by omega))
theorem low3_6 (i : S4x256x2048.Idx) (hi : (i 0).val < 4) : (dat3 (V6 m ρ) c).arrAt 6 cfg3.N i = outM (m0 m c) (m1 m c) (m2 m c) (m3 m c) (m5 m c) i := by
  refine ((dat3 (V6 m ρ) c).arrAt_apply_of_coversWhere 6 (outM (m0 m c) (m1 m c) (m2 m c) (m3 m c) (m5 m c)) (P := fun i => (i (0 : Fin 3)).val = 3) (fun β => β (0 : Fin 3) = 3) (by decide +kernel)
    (fun t hf y => ?_) (fun j => by blk_simp [Pipeline.Window.cell_apply]; omega) i).trans ?_
  · blk_simp
    rw [after3_6]
    have e : (win3_6.blk t).view.emb y = ix3 3 (row3 t (y 1)) (y 2) := by have h : (y 0).val < 1 := (y 0).isLt; blk_ext [idx3_6, row3]
    rw [e]
    have ey : y = ix3 0 (y 1) (y 2) := by have h : (y 0).val < 1 := (y 0).isLt; blk_ext
    refine (congrArg ((outsAt3 (V6 m ρ) c t).2.2.1) ey).trans ?_
    exact part3_6 m ρ c t _ _
  · by_cases h : (i 0).val = 3
    · exact if_pos h
    · refine (if_neg h).trans ?_
      rw [A_eq3]
      exact (congrFun (mid3_6 m ρ c) i).trans (low2_6 m ρ c i (by omega))
theorem low3_7 (i : S4x256x2048.Idx) (hi : (i 0).val < 4) : (dat3 (V6 m ρ) c).arrAt 7 cfg3.N i = outV (m0 m c) (m1 m c) (m2 m c) (m3 m c) (m6 m c) i := by
  refine ((dat3 (V6 m ρ) c).arrAt_apply_of_coversWhere 7 (outV (m0 m c) (m1 m c) (m2 m c) (m3 m c) (m6 m c)) (P := fun i => (i (0 : Fin 3)).val = 3) (fun β => β (0 : Fin 3) = 3) (by decide +kernel)
    (fun t hf y => ?_) (fun j => by blk_simp [Pipeline.Window.cell_apply]; omega) i).trans ?_
  · blk_simp
    rw [after3_7]
    have e : (win3_7.blk t).view.emb y = ix3 3 (row3 t (y 1)) (y 2) := by have h : (y 0).val < 1 := (y 0).isLt; blk_ext [idx3_7, row3]
    rw [e]
    have ey : y = ix3 0 (y 1) (y 2) := by have h : (y 0).val < 1 := (y 0).isLt; blk_ext
    refine (congrArg ((outsAt3 (V6 m ρ) c t).2.2.2) ey).trans ?_
    exact part3_7 m ρ c t _ _
  · by_cases h : (i 0).val = 3
    · exact if_pos h
    · refine (if_neg h).trans ?_
      rw [A_eq3]
      exact (congrFun (mid3_7 m ρ c) i).trans (low2_7 m ρ c i (by omega))

section launch
open Idealize.SL Idealize.SL.RA Idealize.SL.BI
open scoped Idealize.SL.BI
open Idealize.SL.BI.BIBase Idealize.SL.BI.Laws Idealize.SL.ProofMode
open Idealize.ShloMosaic.Rounds
local notation "𝕄" => MT nD τ sig Unit (Elt Ideal) ℕ (UR sig nD τ) ℕ

set_option backward.isDefEq.respectTransparency.types false in
/-- The run: the arguments stay as they were and the results are what the last call leaves. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (G := fun _ => iprop(emp)) (T₀ := fun c => iprop(StableHlo.held (c : Thread nD τ) (Pipeline.ucRefs τ sig) (W0 m ρ c) ∗ R c))
    (Tₙ := Tₙ m ρ) (u₀ := initOf (Pipeline.cells cfgs cellOf_inj) (Pipeline.launchToks cfgs cellOf_inj))
    (QY := fun c s => ∀ b ∈ Pipeline.ucRefs τ sig, s.mem (((c : Thread nD τ)).1, b) = W7 m ρ c b)
    (hL := fun _ _ => rfl)
    (hch := ⟨fun _ => .rfl, fun _ => .rfl, fun _ => .rfl, fun _ => .rfl, fun _ => .rfl, fun _ => .rfl, fun _ => .rfl, fun _ => .rfl⟩)
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by rw [BI.bigSep_emp_const])
        iempintro)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howed, -, Hreg, -⟩, -⟩
      imodintro
      isplitl [Hbufs]
      · iexact Hbufs
      · isplitl [Hreg]
        · iexists _
          iexact Hreg
        · iexists ∅
          iexact Howed)
    (hfin := fun c s => by
      iintro ⟨⟨Hbufs, -⟩, Hstate⟩
      unfold StableHlo.held
      imodintro
      iapply (pointsTo_read_all (Pipeline.ucRefs τ sig) (fun b => (((c : Thread nD τ)).1, b)) (W7 m ρ c) s)
      isplitl [Hbufs] <;> iassumption)
    (hQ := fun _ h _ => h)
end launch

theorem frame_reference : Cert.quiescent_Reference18Ideal (hReference18Ideal := Cert.Reference18Ideal.Gen.facts) := fun m ρ _ =>
  (θ_run Cert.Reference18Ideal.defs _ _).mono (fun r h => ⟨fun c => (h c).2.2.2.2, Idealize.ShloMosaic.sem_eq_zero_of_no_sems (by decide) r.2⟩)
    (Cert.Reference18Ideal.Value.run (F := Ideal) m ρ)

theorem algebraic : Cert.algebraic_Kernel18Ideal_Reference18Ideal (hKernel18Ideal := Cert.Kernel18Ideal.Gen.facts)
    (hReference18Ideal := Cert.Reference18Ideal.Gen.facts) := fun m ρ m' ρ' _ hagree =>
  ⟨fun c => outG (m0 m c) (m1 m c) (m2 m c) (m3 m c), fun c => outD (m0 m c) (m1 m c) (m2 m c) (m3 m c) (m4 m c) (m5 m c) (m6 m c),
    fun c => outM (m0 m c) (m1 m c) (m2 m c) (m3 m c) (m5 m c), fun c => outV (m0 m c) (m1 m c) (m2 m c) (m3 m c) (m6 m c),
    (θ_run defs _ _).mono (fun _ h c =>
      ⟨(h c _ (mem_uc main_v3_0 (by decide))).trans ((W7_arr m ρ c 4).trans (funext fun i => low3_4 m ρ c i (i 0).isLt)),
       (h c _ (mem_uc main_v3_1 (by decide))).trans ((W7_arr m ρ c 5).trans (funext fun i => low3_5 m ρ c i (i 0).isLt)),
       (h c _ (mem_uc main_v3_2 (by decide))).trans ((W7_arr m ρ c 6).trans (funext fun i => low3_6 m ρ c i (i 0).isLt)),
       (h c _ (mem_uc main_v3_3 (by decide))).trans ((W7_arr m ρ c 7).trans (funext fun i => low3_7 m ρ c i (i 0).isLt)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩) (run m ρ),
    (θ_run Cert.Reference18Ideal.defs _ _).mono (fun _ h c => by
      obtain ⟨h0, h1, h2, h3, h4, h5, h6⟩ := hagree c
      beta_reduce
      rw [show m0 m c = _ from h0.symm, show m1 m c = _ from h1.symm, show m2 m c = _ from h2.symm, show m3 m c = _ from h3.symm, show m4 m c = _ from h4.symm, show m5 m c = _ from h5.symm, show m6 m c = _ from h6.symm]
      refine ⟨(h c).1.trans ?_, (h c).2.1.trans ?_, (h c).2.2.1.trans ?_, (h c).2.2.2.1.trans ?_, (h c).2.2.2.2⟩
      · refine ext3 fun a b d => ?_
        pointwise [outG]
        simp only [dite_eq_ite]
      · refine ext3 fun a b d => ?_
        pointwise [Cert.Reference18Ideal.Value.res_main_v36, outD, outG, change, first, second]
        simp only [dite_eq_ite]
      · refine ext3 fun a b d => ?_
        pointwise [outM, outG, first]
        simp only [dite_eq_ite]
      · refine ext3 fun a b d => ?_
        pointwise [outV, outG, second]
        simp only [dite_eq_ite])
      (Cert.Reference18Ideal.Value.run (F := Ideal) m' ρ')⟩

end Cert.Kernel18Ideal.Opt
-- ==== Proof.Opt19.lean ====
/-
  The optimiser's steps of the MLP's first weight, four layers, from the devices' parts of each layer's gradient: one call per
  layer, eight blocks of 256 rows each, each writing its layer over what the one before left. The four arrays they leave are
  the reference's.
-/
module

public import proofs.«01_k».proof.Defs
public import proofs.«01_k».proof.Proof.MmSum
public import proofs.«01_k».proof.Proof.OptStep
public import proofs.«01_k».proof.Proof.Gen.Kernel19.Frame
public import proofs.«01_k».proof.Proof.Gen.Kernel19Ideal.Frame
public import proofs.«01_k».proof.Proof.Gen.Reference19Ideal.Run
public import Idealize.ShloMosaic.Lib.Pipeline.ValueKit.Geometry
public import Idealize.ShloMosaic.Lib.Pipeline.ValueKit.Partial
public import Idealize.ShloMosaic.Lib.Pipeline.ValueKit.Acc

@[expose] public section
set_option maxRecDepth 16384
noncomputable section
namespace Cert.Kernel19Ideal.Opt

open Idealize.ShloMosaic Idealize.ShloMosaic.TcCoe Idealize.ShloMosaic.Tactic Idealize.SL.Sem
open Cert.Kernel19Ideal.Gen Cert.Mm Cert.Opt

section step
variable (x0 : Vec Ideal S8x256x1024 .bf16) (x1 x2 x3 : Vec Ideal S1x256x1024 .f32) (p : Fin 256) (q : Fin 1024)

/-- What a step of the first call leaves in its four blocks. -/
theorem step4 : out0_4 x0 x1 x2 x3 (ix3 0 p q) = (∑ k : Fin 8, x0 (ix3 k p q)) := by
  unfold out0_4
  rw [View.canon_unit_zero zeros3]
  rw [Fin.sum_univ_eight]
  pointwise [k0_pay1, k0_pay2, k0_pay3, k0_pay4, k0_pay5, k0_pay6, k0_pay7, k0_pay8, k0_pay9, k0_pay10, k0_pay11]
theorem step5 : out0_5 x0 x1 x2 x3 (ix3 0 p q) = change (x1 (ix3 0 p q)) (x2 (ix3 0 p q)) (x3 (ix3 0 p q)) (∑ k : Fin 8, x0 (ix3 k p q)) := by
  unfold out0_5
  rw [View.canon_unit_zero zeros3]
  simp only [View.ld_unit_zero (S := S1x256x1024) zeros3]
  rw [Fin.sum_univ_eight]
  pointwise [k0_pay1, k0_pay2, k0_pay3, k0_pay4, k0_pay5, k0_pay6, k0_pay7, k0_pay8, k0_pay9, k0_pay10, k0_pay11, change, first, second]
theorem step6 : out0_6 x0 x1 x2 x3 (ix3 0 p q) = first (x2 (ix3 0 p q)) (∑ k : Fin 8, x0 (ix3 k p q)) := by
  unfold out0_6
  rw [View.canon_unit_zero zeros3]
  simp only [View.ld_unit_zero (S := S1x256x1024) zeros3]
  rw [Fin.sum_univ_eight]
  pointwise [k0_pay1, k0_pay2, k0_pay3, k0_pay4, k0_pay5, k0_pay6, k0_pay7, k0_pay8, k0_pay9, k0_pay10, k0_pay11, first]
theorem step7 : out0_7 x0 x1 x2 x3 (ix3 0 p q) = second (x3 (ix3 0 p q)) (∑ k : Fin 8, x0 (ix3 k p q)) := by
  unfold out0_7
  rw [View.canon_unit_zero zeros3]
  simp only [View.ld_unit_zero (S := S1x256x1024) zeros3]
  rw [Fin.sum_univ_eight]
  pointwise [k0_pay1, k0_pay2, k0_pay3, k0_pay4, k0_pay5, k0_pay6, k0_pay7, k0_pay8, k0_pay9, k0_pay10, k0_pay11, second]
end step

/-! What a step of call 2 leaves in its four blocks. -/

section step
variable (V : (c : Dev nD) → (b : Ref sig .tc) → Buf (Elt Ideal) ((c : Thread nD τ).loc b)) (c : Dev nD) (t : Fin cfg1.N)
variable (a : Vec Ideal S8x256x1024 .bf16) (b d e : Vec Ideal S1x256x1024 .f32) (ha : iblk1 V c 0 t = a) (hb : iblk1 V c 1 t = b)
  (hd : iblk1 V c 2 t = d) (he : iblk1 V c 3 t = e) (p : Fin 256) (q : Fin 1024)

include ha hb hd he in
theorem next1_4 : (outsAt1 V c t).1 (ix3 0 p q) = (∑ k : Fin 8, a (ix3 k p q)) := by
  unfold outsAt1
  dsimp only
  rw [ha, hb, hd, he]
  frame_out
  rw [Fin.sum_univ_eight]
  pointwise [k1_pay1, k1_pay2, k1_pay3, k1_pay4, k1_pay5, k1_pay6, k1_pay7, k1_pay8, k1_pay9, k1_pay10]
include ha hb hd he in
theorem next1_5 : (outsAt1 V c t).2.1 (ix3 0 p q) = change (b (ix3 0 p q)) (d (ix3 0 p q)) (e (ix3 0 p q)) (∑ k : Fin 8, a (ix3 k p q)) := by
  unfold outsAt1
  dsimp only
  rw [ha, hb, hd, he]
  frame_out
  rw [Fin.sum_univ_eight]
  pointwise [k1_pay1, k1_pay2, k1_pay3, k1_pay4, k1_pay5, k1_pay6, k1_pay7, k1_pay8, k1_pay9, k1_pay10, change, first, second]
include ha hb hd he in
theorem next1_6 : (outsAt1 V c t).2.2.1 (ix3 0 p q) = first (d (ix3 0 p q)) (∑ k : Fin 8, a (ix3 k p q)) := by
  unfold outsAt1
  dsimp only
  rw [ha, hb, hd, he]
  frame_out
  rw [Fin.sum_univ_eight]
  pointwise [k1_pay1, k1_pay2, k1_pay3, k1_pay4, k1_pay5, k1_pay6, k1_pay7, k1_pay8, k1_pay9, k1_pay10, first]
include ha hb hd he in
theorem next1_7 : (outsAt1 V c t).2.2.2 (ix3 0 p q) = second (e (ix3 0 p q)) (∑ k : Fin 8, a (ix3 k p q)) := by
  unfold outsAt1
  dsimp only
  rw [ha, hb, hd, he]
  frame_out
  rw [Fin.sum_univ_eight]
  pointwise [k1_pay1, k1_pay2, k1_pay3, k1_pay4, k1_pay5, k1_pay6, k1_pay7, k1_pay8, k1_pay9, k1_pay10, second]
end step

/-! What a step of call 3 leaves in its four blocks. -/

section step
variable (V : (c : Dev nD) → (b : Ref sig .tc) → Buf (Elt Ideal) ((c : Thread nD τ).loc b)) (c : Dev nD) (t : Fin cfg2.N)
variable (a : Vec Ideal S8x256x1024 .bf16) (b d e : Vec Ideal S1x256x1024 .f32) (ha : iblk2 V c 0 t = a) (hb : iblk2 V c 1 t = b)
  (hd : iblk2 V c 2 t = d) (he : iblk2 V c 3 t = e) (p : Fin 256) (q : Fin 1024)

include ha hb hd he in
theorem next2_4 : (outsAt2 V c t).1 (ix3 0 p q) = (∑ k : Fin 8, a (ix3 k p q)) := by
  unfold outsAt2
  dsimp only
  rw [ha, hb, hd, he]
  frame_out
  rw [Fin.sum_univ_eight]
  pointwise [k2_pay1, k2_pay2, k2_pay3, k2_pay4, k2_pay5, k2_pay6, k2_pay7, k2_pay8, k2_pay9, k2_pay10]
include ha hb hd he in
theorem next2_5 : (outsAt2 V c t).2.1 (ix3 0 p q) = change (b (ix3 0 p q)) (d (ix3 0 p q)) (e (ix3 0 p q)) (∑ k : Fin 8, a (ix3 k p q)) := by
  unfold outsAt2
  dsimp only
  rw [ha, hb, hd, he]
  frame_out
  rw [Fin.sum_univ_eight]
  pointwise [k2_pay1, k2_pay2, k2_pay3, k2_pay4, k2_pay5, k2_pay6, k2_pay7, k2_pay8, k2_pay9, k2_pay10, change, first, second]
include ha hb hd he in
theorem next2_6 : (outsAt2 V c t).2.2.1 (ix3 0 p q) = first (d (ix3 0 p q)) (∑ k : Fin 8, a (ix3 k p q)) := by
  unfold outsAt2
  dsimp only
  rw [ha, hb, hd, he]
  frame_out
  rw [Fin.sum_univ_eight]
  pointwise [k2_pay1, k2_pay2, k2_pay3, k2_pay4, k2_pay5, k2_pay6, k2_pay7, k2_pay8, k2_pay9, k2_pay10, first]
include ha hb hd he in
theorem next2_7 : (outsAt2 V c t).2.2.2 (ix3 0 p q) = second (e (ix3 0 p q)) (∑ k : Fin 8, a (ix3 k p q)) := by
  unfold outsAt2
  dsimp only
  rw [ha, hb, hd, he]
  frame_out
  rw [Fin.sum_univ_eight]
  pointwise [k2_pay1, k2_pay2, k2_pay3, k2_pay4, k2_pay5, k2_pay6, k2_pay7, k2_pay8, k2_pay9, k2_pay10, second]
end step

/-! What a step of call 4 leaves in its four blocks. -/

section step
variable (V : (c : Dev nD) → (b : Ref sig .tc) → Buf (Elt Ideal) ((c : Thread nD τ).loc b)) (c : Dev nD) (t : Fin cfg3.N)
variable (a : Vec Ideal S8x256x1024 .bf16) (b d e : Vec Ideal S1x256x1024 .f32) (ha : iblk3 V c 0 t = a) (hb : iblk3 V c 1 t = b)
  (hd : iblk3 V c 2 t = d) (he : iblk3 V c 3 t = e) (p : Fin 256) (q : Fin 1024)

include ha hb hd he in
theorem next3_4 : (outsAt3 V c t).1 (ix3 0 p q) = (∑ k : Fin 8, a (ix3 k p q)) := by
  unfold outsAt3
  dsimp only
  rw [ha, hb, hd, he]
  frame_out
  rw [Fin.sum_univ_eight]
  pointwise [k3_pay1, k3_pay2, k3_pay3, k3_pay4, k3_pay5, k3_pay6, k3_pay7, k3_pay8, k3_pay9, k3_pay10]
include ha hb hd he in
theorem next3_5 : (outsAt3 V c t).2.1 (ix3 0 p q) = change (b (ix3 0 p q)) (d (ix3 0 p q)) (e (ix3 0 p q)) (∑ k : Fin 8, a (ix3 k p q)) := by
  unfold outsAt3
  dsimp only
  rw [ha, hb, hd, he]
  frame_out
  rw [Fin.sum_univ_eight]
  pointwise [k3_pay1, k3_pay2, k3_pay3, k3_pay4, k3_pay5, k3_pay6, k3_pay7, k3_pay8, k3_pay9, k3_pay10, change, first, second]
include ha hb hd he in
theorem next3_6 : (outsAt3 V c t).2.2.1 (ix3 0 p q) = first (d (ix3 0 p q)) (∑ k : Fin 8, a (ix3 k p q)) := by
  unfold outsAt3
  dsimp only
  rw [ha, hb, hd, he]
  frame_out
  rw [Fin.sum_univ_eight]
  pointwise [k3_pay1, k3_pay2, k3_pay3, k3_pay4, k3_pay5, k3_pay6, k3_pay7, k3_pay8, k3_pay9, k3_pay10, first]
include ha hb hd he in
theorem next3_7 : (outsAt3 V c t).2.2.2 (ix3 0 p q) = second (e (ix3 0 p q)) (∑ k : Fin 8, a (ix3 k p q)) := by
  unfold outsAt3
  dsimp only
  rw [ha, hb, hd, he]
  frame_out
  rw [Fin.sum_univ_eight]
  pointwise [k3_pay1, k3_pay2, k3_pay3, k3_pay4, k3_pay5, k3_pay6, k3_pay7, k3_pay8, k3_pay9, k3_pay10, second]
end step

theorem N0 : cfg0.N = 8 := N_0
theorem N1 : cfg1.N = 8 := N_1
theorem N2 : cfg2.N = 8 := N_2
theorem N3 : cfg3.N = 8 := N_3

theorem idx0_0 : ∀ t : Fin cfg0.N, win0_0.index t = ![0, t.val, 0] := (by decide +kernel : ∀ t : Fin grid0.N, _)
theorem idx0_1 : ∀ t : Fin cfg0.N, win0_1.index t = ![0, t.val, 0] := (by decide +kernel : ∀ t : Fin grid0.N, _)
theorem idx0_2 : ∀ t : Fin cfg0.N, win0_2.index t = ![0, t.val, 0] := (by decide +kernel : ∀ t : Fin grid0.N, _)
theorem idx0_3 : ∀ t : Fin cfg0.N, win0_3.index t = ![0, t.val, 0] := (by decide +kernel : ∀ t : Fin grid0.N, _)
theorem idx0_4 : ∀ t : Fin cfg0.N, win0_4.index t = ![0, t.val, 0] := (by decide +kernel : ∀ t : Fin grid0.N, _)
theorem idx0_5 : ∀ t : Fin cfg0.N, win0_5.index t = ![0, t.val, 0] := (by decide +kernel : ∀ t : Fin grid0.N, _)
theorem idx0_6 : ∀ t : Fin cfg0.N, win0_6.index t = ![0, t.val, 0] := (by decide +kernel : ∀ t : Fin grid0.N, _)
theorem idx0_7 : ∀ t : Fin cfg0.N, win0_7.index t = ![0, t.val, 0] := (by decide +kernel : ∀ t : Fin grid0.N, _)
theorem idx1_0 : ∀ t : Fin cfg1.N, win1_0.index t = ![0, t.val, 0] := (by decide +kernel : ∀ t : Fin grid1.N, _)
theorem idx1_1 : ∀ t : Fin cfg1.N, win1_1.index t = ![1, t.val, 0] := (by decide +kernel : ∀ t : Fin grid1.N, _)
theorem idx1_2 : ∀ t : Fin cfg1.N, win1_2.index t = ![1, t.val, 0] := (by decide +kernel : ∀ t : Fin grid1.N, _)
theorem idx1_3 : ∀ t : Fin cfg1.N, win1_3.index t = ![1, t.val, 0] := (by decide +kernel : ∀ t : Fin grid1.N, _)
theorem idx1_4 : ∀ t : Fin cfg1.N, win1_4.index t = ![1, t.val, 0] := (by decide +kernel : ∀ t : Fin grid1.N, _)
theorem idx1_5 : ∀ t : Fin cfg1.N, win1_5.index t = ![1, t.val, 0] := (by decide +kernel : ∀ t : Fin grid1.N, _)
theorem idx1_6 : ∀ t : Fin cfg1.N, win1_6.index t = ![1, t.val, 0] := (by decide +kernel : ∀ t : Fin grid1.N, _)
theorem idx1_7 : ∀ t : Fin cfg1.N, win1_7.index t = ![1, t.val, 0] := (by decide +kernel : ∀ t : Fin grid1.N, _)
theorem idx2_0 : ∀ t : Fin cfg2.N, win2_0.index t = ![0, t.val, 0] := (by decide +kernel : ∀ t : Fin grid2.N, _)
theorem idx2_1 : ∀ t : Fin cfg2.N, win2_1.index t = ![2, t.val, 0] := (by decide +kernel : ∀ t : Fin grid2.N, _)
theorem idx2_2 : ∀ t : Fin cfg2.N, win2_2.index t = ![2, t.val, 0] := (by decide +kernel : ∀ t : Fin grid2.N, _)
theorem idx2_3 : ∀ t : Fin cfg2.N, win2_3.index t = ![2, t.val, 0] := (by decide +kernel : ∀ t : Fin grid2.N, _)
theorem idx2_4 : ∀ t : Fin cfg2.N, win2_4.index t = ![2, t.val, 0] := (by decide +kernel : ∀ t : Fin grid2.N, _)
theorem idx2_5 : ∀ t : Fin cfg2.N, win2_5.index t = ![2, t.val, 0] := (by decide +kernel : ∀ t : Fin grid2.N, _)
theorem idx2_6 : ∀ t : Fin cfg2.N, win2_6.index t = ![2, t.val, 0] := (by decide +kernel : ∀ t : Fin grid2.N, _)
theorem idx2_7 : ∀ t : Fin cfg2.N, win2_7.index t = ![2, t.val, 0] := (by decide +kernel : ∀ t : Fin grid2.N, _)
theorem idx3_0 : ∀ t : Fin cfg3.N, win3_0.index t = ![0, t.val, 0] := (by decide +kernel : ∀ t : Fin grid3.N, _)
theorem idx3_1 : ∀ t : Fin cfg3.N, win3_1.index t = ![3, t.val, 0] := (by decide +kernel : ∀ t : Fin grid3.N, _)
theorem idx3_2 : ∀ t : Fin cfg3.N, win3_2.index t = ![3, t.val, 0] := (by decide +kernel : ∀ t : Fin grid3.N, _)
theorem idx3_3 : ∀ t : Fin cfg3.N, win3_3.index t = ![3, t.val, 0] := (by decide +kernel : ∀ t : Fin grid3.N, _)
theorem idx3_4 : ∀ t : Fin cfg3.N, win3_4.index t = ![3, t.val, 0] := (by decide +kernel : ∀ t : Fin grid3.N, _)
theorem idx3_5 : ∀ t : Fin cfg3.N, win3_5.index t = ![3, t.val, 0] := (by decide +kernel : ∀ t : Fin grid3.N, _)
theorem idx3_6 : ∀ t : Fin cfg3.N, win3_6.index t = ![3, t.val, 0] := (by decide +kernel : ∀ t : Fin grid3.N, _)
theorem idx3_7 : ∀ t : Fin cfg3.N, win3_7.index t = ![3, t.val, 0] := (by decide +kernel : ∀ t : Fin grid3.N, _)

/-- The row of the arrays at place `p` of step `t`'s block, in each call. -/
def row0 (t : Fin cfg0.N) (p : Fin 256) : Fin 2048 := ⟨256 * t.val + p.val, by have := t.isLt; have := N0; omega⟩
def row1 (t : Fin cfg1.N) (p : Fin 256) : Fin 2048 := ⟨256 * t.val + p.val, by have := t.isLt; have := N1; omega⟩
def row2 (t : Fin cfg2.N) (p : Fin 256) : Fin 2048 := ⟨256 * t.val + p.val, by have := t.isLt; have := N2; omega⟩
def row3 (t : Fin cfg3.N) (p : Fin 256) : Fin 2048 := ⟨256 * t.val + p.val, by have := t.isLt; have := N3; omega⟩

/-- The gradient from its parts, layer by layer, and the other results from the gradient, the weight and its moments. -/
abbrev Arr0 := FVec Ideal S8x2048x1024 .bf16
abbrev Arr := FVec Ideal S4x2048x1024 .f32
def outG (g0 g1 g2 g3 : Arr0) : Arr := fun i =>
  if (i 0).val < 1 then ∑ k : Fin 8, g0 (ix3 k (i 1) (i 2))
  else if (i 0).val - 1 < 1 then ∑ k : Fin 8, g1 (ix3 k (i 1) (i 2))
  else if (i 0).val - 1 - 1 < 1 then ∑ k : Fin 8, g2 (ix3 k (i 1) (i 2))
  else ∑ k : Fin 8, g3 (ix3 k (i 1) (i 2))
def outD (g0 g1 g2 g3 : Arr0) (w m v : Arr) : Arr := fun i => change (w i) (m i) (v i) (outG g0 g1 g2 g3 i)
def outM (g0 g1 g2 g3 : Arr0) (m : Arr) : Arr := fun i => first (m i) (outG g0 g1 g2 g3 i)
def outV (g0 g1 g2 g3 : Arr0) (v : Arr) : Arr := fun i => second (v i) (outG g0 g1 g2 g3 i)

variable (m : (ℓ : Loc nD τ sig) → Buf (Elt Ideal) ℓ) (ρ : Dev nD → PrngReg) (c : Dev nD)

/-- The seven arguments. -/
abbrev m0 : Arr0 := m ((c : Thread nD τ).loc main_arg0)
abbrev m1 : Arr0 := m ((c : Thread nD τ).loc main_arg1)
abbrev m2 : Arr0 := m ((c : Thread nD τ).loc main_arg2)
abbrev m3 : Arr0 := m ((c : Thread nD τ).loc main_arg3)
abbrev m4 : Arr := m ((c : Thread nD τ).loc main_arg4)
abbrev m5 : Arr := m ((c : Thread nD τ).loc main_arg5)
abbrev m6 : Arr := m ((c : Thread nD τ).loc main_arg6)

/-- The blocks a call reads are those of the arguments. -/
theorem blk0_0 (t : Fin cfg0.N) (k : Fin 8) (p : Fin 256) (q : Fin 1024) : iblk0 (V0 m ρ) c 0 t (ix3 k p q) = m0 m c (ix3 k (row0 t p) q) := by
  blk_simp [iblk0]
  refine congrArg (m0 m c) ?_
  blk_ext [idx0_0, row0]
theorem blk0_1 (t : Fin cfg0.N) (p : Fin 256) (q : Fin 1024) : iblk0 (V0 m ρ) c 1 t (ix3 0 p q) = m4 m c (ix3 0 (row0 t p) q) := by
  blk_simp [iblk0]
  refine congrArg (m4 m c) ?_
  blk_ext [idx0_1, row0]
theorem blk0_2 (t : Fin cfg0.N) (p : Fin 256) (q : Fin 1024) : iblk0 (V0 m ρ) c 2 t (ix3 0 p q) = m5 m c (ix3 0 (row0 t p) q) := by
  blk_simp [iblk0]
  refine congrArg (m5 m c) ?_
  blk_ext [idx0_2, row0]
theorem blk0_3 (t : Fin cfg0.N) (p : Fin 256) (q : Fin 1024) : iblk0 (V0 m ρ) c 3 t (ix3 0 p q) = m6 m c (ix3 0 (row0 t p) q) := by
  blk_simp [iblk0]
  refine congrArg (m6 m c) ?_
  blk_ext [idx0_3, row0]
theorem blk1_0 (t : Fin cfg1.N) (k : Fin 8) (p : Fin 256) (q : Fin 1024) : iblk1 (V2 m ρ) c 0 t (ix3 k p q) = m1 m c (ix3 k (row1 t p) q) := by
  blk_simp [iblk1]
  refine (congrFun (W2_args m ρ c main_arg1 (by decide)) _).trans ?_
  refine congrArg (m1 m c) ?_
  blk_ext [idx1_0, row1]
theorem blk1_1 (t : Fin cfg1.N) (p : Fin 256) (q : Fin 1024) : iblk1 (V2 m ρ) c 1 t (ix3 0 p q) = m4 m c (ix3 1 (row1 t p) q) := by
  blk_simp [iblk1]
  refine (congrFun (W2_args m ρ c main_arg4 (by decide)) _).trans ?_
  refine congrArg (m4 m c) ?_
  blk_ext [idx1_1, row1]
theorem blk1_2 (t : Fin cfg1.N) (p : Fin 256) (q : Fin 1024) : iblk1 (V2 m ρ) c 2 t (ix3 0 p q) = m5 m c (ix3 1 (row1 t p) q) := by
  blk_simp [iblk1]
  refine (congrFun (W2_args m ρ c main_arg5 (by decide)) _).trans ?_
  refine congrArg (m5 m c) ?_
  blk_ext [idx1_2, row1]
theorem blk1_3 (t : Fin cfg1.N) (p : Fin 256) (q : Fin 1024) : iblk1 (V2 m ρ) c 3 t (ix3 0 p q) = m6 m c (ix3 1 (row1 t p) q) := by
  blk_simp [iblk1]
  refine (congrFun (W2_args m ρ c main_arg6 (by decide)) _).trans ?_
  refine congrArg (m6 m c) ?_
  blk_ext [idx1_3, row1]
theorem blk2_0 (t : Fin cfg2.N) (k : Fin 8) (p : Fin 256) (q : Fin 1024) : iblk2 (V4 m ρ) c 0 t (ix3 k p q) = m2 m c (ix3 k (row2 t p) q) := by
  blk_simp [iblk2]
  refine (congrFun (W4_args m ρ c main_arg2 (by decide)) _).trans ?_
  refine congrArg (m2 m c) ?_
  blk_ext [idx2_0, row2]
theorem blk2_1 (t : Fin cfg2.N) (p : Fin 256) (q : Fin 1024) : iblk2 (V4 m ρ) c 1 t (ix3 0 p q) = m4 m c (ix3 2 (row2 t p) q) := by
  blk_simp [iblk2]
  refine (congrFun (W4_args m ρ c main_arg4 (by decide)) _).trans ?_
  refine congrArg (m4 m c) ?_
  blk_ext [idx2_1, row2]
theorem blk2_2 (t : Fin cfg2.N) (p : Fin 256) (q : Fin 1024) : iblk2 (V4 m ρ) c 2 t (ix3 0 p q) = m5 m c (ix3 2 (row2 t p) q) := by
  blk_simp [iblk2]
  refine (congrFun (W4_args m ρ c main_arg5 (by decide)) _).trans ?_
  refine congrArg (m5 m c) ?_
  blk_ext [idx2_2, row2]
theorem blk2_3 (t : Fin cfg2.N) (p : Fin 256) (q : Fin 1024) : iblk2 (V4 m ρ) c 3 t (ix3 0 p q) = m6 m c (ix3 2 (row2 t p) q) := by
  blk_simp [iblk2]
  refine (congrFun (W4_args m ρ c main_arg6 (by decide)) _).trans ?_
  refine congrArg (m6 m c) ?_
  blk_ext [idx2_3, row2]
theorem blk3_0 (t : Fin cfg3.N) (k : Fin 8) (p : Fin 256) (q : Fin 1024) : iblk3 (V6 m ρ) c 0 t (ix3 k p q) = m3 m c (ix3 k (row3 t p) q) := by
  blk_simp [iblk3]
  refine (congrFun (W6_args m ρ c main_arg3 (by decide)) _).trans ?_
  refine congrArg (m3 m c) ?_
  blk_ext [idx3_0, row3]
theorem blk3_1 (t : Fin cfg3.N) (p : Fin 256) (q : Fin 1024) : iblk3 (V6 m ρ) c 1 t (ix3 0 p q) = m4 m c (ix3 3 (row3 t p) q) := by
  blk_simp [iblk3]
  refine (congrFun (W6_args m ρ c main_arg4 (by decide)) _).trans ?_
  refine congrArg (m4 m c) ?_
  blk_ext [idx3_1, row3]
theorem blk3_2 (t : Fin cfg3.N) (p : Fin 256) (q : Fin 1024) : iblk3 (V6 m ρ) c 2 t (ix3 0 p q) = m5 m c (ix3 3 (row3 t p) q) := by
  blk_simp [iblk3]
  refine (congrFun (W6_args m ρ c main_arg5 (by decide)) _).trans ?_
  refine congrArg (m5 m c) ?_
  blk_ext [idx3_2, row3]
theorem blk3_3 (t : Fin cfg3.N) (p : Fin 256) (q : Fin 1024) : iblk3 (V6 m ρ) c 3 t (ix3 0 p q) = m6 m c (ix3 3 (row3 t p) q) := by
  blk_simp [iblk3]
  refine (congrFun (W6_args m ρ c main_arg6 (by decide)) _).trans ?_
  refine congrArg (m6 m c) ?_
  blk_ext [idx3_3, row3]

/-- What a step leaves in its blocks is its part of the results. -/
theorem part0_4 (t : Fin cfg0.N) (p : Fin 256) (q : Fin 1024) : out0_4 (iblk0 (V0 m ρ) c 0 t) (iblk0 (V0 m ρ) c 1 t) (iblk0 (V0 m ρ) c 2 t) (iblk0 (V0 m ρ) c 3 t) (ix3 0 p q) = outG (m0 m c) (m1 m c) (m2 m c) (m3 m c) (ix3 0 (row0 t p) q) := by
  refine (step4 _ _ _ _ _ _).trans ?_
  simp only [blk0_0]
  rfl
theorem part0_5 (t : Fin cfg0.N) (p : Fin 256) (q : Fin 1024) : out0_5 (iblk0 (V0 m ρ) c 0 t) (iblk0 (V0 m ρ) c 1 t) (iblk0 (V0 m ρ) c 2 t) (iblk0 (V0 m ρ) c 3 t) (ix3 0 p q) = outD (m0 m c) (m1 m c) (m2 m c) (m3 m c) (m4 m c) (m5 m c) (m6 m c) (ix3 0 (row0 t p) q) := by
  refine (step5 _ _ _ _ _ _).trans ?_
  simp only [blk0_0, blk0_1, blk0_2, blk0_3]
  rfl
theorem part0_6 (t : Fin cfg0.N) (p : Fin 256) (q : Fin 1024) : out0_6 (iblk0 (V0 m ρ) c 0 t) (iblk0 (V0 m ρ) c 1 t) (iblk0 (V0 m ρ) c 2 t) (iblk0 (V0 m ρ) c 3 t) (ix3 0 p q) = outM (m0 m c) (m1 m c) (m2 m c) (m3 m c) (m5 m c) (ix3 0 (row0 t p) q) := by
  refine (step6 _ _ _ _ _ _).trans ?_
  simp only [blk0_0, blk0_2]
  rfl
theorem part0_7 (t : Fin cfg0.N) (p : Fin 256) (q : Fin 1024) : out0_7 (iblk0 (V0 m ρ) c 0 t) (iblk0 (V0 m ρ) c 1 t) (iblk0 (V0 m ρ) c 2 t) (iblk0 (V0 m ρ) c 3 t) (ix3 0 p q) = outV (m0 m c) (m1 m c) (m2 m c) (m3 m c) (m6 m c) (ix3 0 (row0 t p) q) := by
  refine (step7 _ _ _ _ _ _).trans ?_
  simp only [blk0_0, blk0_3]
  rfl
theorem part1_4 (t : Fin cfg1.N) (p : Fin 256) (q : Fin 1024) : (outsAt1 (V2 m ρ) c t).1 (ix3 0 p q) = outG (m0 m c) (m1 m c) (m2 m c) (m3 m c) (ix3 1 (row1 t p) q) := by
  refine (next1_4 (V2 m ρ) c t _ _ _ _ rfl rfl rfl rfl p q).trans ?_
  simp only [blk1_0]
  rfl
theorem part1_5 (t : Fin cfg1.N) (p : Fin 256) (q : Fin 1024) : (outsAt1 (V2 m ρ) c t).2.1 (ix3 0 p q) = outD (m0 m c) (m1 m c) (m2 m c) (m3 m c) (m4 m c) (m5 m c) (m6 m c) (ix3 1 (row1 t p) q) := by
  refine (next1_5 (V2 m ρ) c t _ _ _ _ rfl rfl rfl rfl p q).trans ?_
  simp only [blk1_0, blk1_1, blk1_2, blk1_3]
  rfl
theorem part1_6 (t : Fin cfg1.N) (p : Fin 256) (q : Fin 1024) : (outsAt1 (V2 m ρ) c t).2.2.1 (ix3 0 p q) = outM (m0 m c) (m1 m c) (m2 m c) (m3 m c) (m5 m c) (ix3 1 (row1 t p) q) := by
  refine (next1_6 (V2 m ρ) c t _ _ _ _ rfl rfl rfl rfl p q).trans ?_
  simp only [blk1_0, blk1_2]
  rfl
theorem part1_7 (t : Fin cfg1.N) (p : Fin 256) (q : Fin 1024) : (outsAt1 (V2 m ρ) c t).2.2.2 (ix3 0 p q) = outV (m0 m c) (m1 m c) (m2 m c) (m3 m c) (m6 m c) (ix3 1 (row1 t p) q) := by
  refine (next1_7 (V2 m ρ) c t _ _ _ _ rfl rfl rfl rfl p q).trans ?_
  simp only [blk1_0, blk1_3]
  rfl
theorem part2_4 (t : Fin cfg2.N) (p : Fin 256) (q : Fin 1024) : (outsAt2 (V4 m ρ) c t).1 (ix3 0 p q) = outG (m0 m c) (m1 m c) (m2 m c) (m3 m c) (ix3 2 (row2 t p) q) := by
  refine (next2_4 (V4 m ρ) c t _ _ _ _ rfl rfl rfl rfl p q).trans ?_
  simp only [blk2_0]
  rfl
theorem part2_5 (t : Fin cfg2.N) (p : Fin 256) (q : Fin 1024) : (outsAt2 (V4 m ρ) c t).2.1 (ix3 0 p q) = outD (m0 m c) (m1 m c) (m2 m c) (m3 m c) (m4 m c) (m5 m c) (m6 m c) (ix3 2 (row2 t p) q) := by
  refine (next2_5 (V4 m ρ) c t _ _ _ _ rfl rfl rfl rfl p q).trans ?_
  simp only [blk2_0, blk2_1, blk2_2, blk2_3]
  rfl
theorem part2_6 (t : Fin cfg2.N) (p : Fin 256) (q : Fin 1024) : (outsAt2 (V4 m ρ) c t).2.2.1 (ix3 0 p q) = outM (m0 m c) (m1 m c) (m2 m c) (m3 m c) (m5 m c) (ix3 2 (row2 t p) q) := by
  refine (next2_6 (V4 m ρ) c t _ _ _ _ rfl rfl rfl rfl p q).trans ?_
  simp only [blk2_0, blk2_2]
  rfl
theorem part2_7 (t : Fin cfg2.N) (p : Fin 256) (q : Fin 1024) : (outsAt2 (V4 m ρ) c t).2.2.2 (ix3 0 p q) = outV (m0 m c) (m1 m c) (m2 m c) (m3 m c) (m6 m c) (ix3 2 (row2 t p) q) := by
  refine (next2_7 (V4 m ρ) c t _ _ _ _ rfl rfl rfl rfl p q).trans ?_
  simp only [blk2_0, blk2_3]
  rfl
theorem part3_4 (t : Fin cfg3.N) (p : Fin 256) (q : Fin 1024) : (outsAt3 (V6 m ρ) c t).1 (ix3 0 p q) = outG (m0 m c) (m1 m c) (m2 m c) (m3 m c) (ix3 3 (row3 t p) q) := by
  refine (next3_4 (V6 m ρ) c t _ _ _ _ rfl rfl rfl rfl p q).trans ?_
  simp only [blk3_0]
  rfl
theorem part3_5 (t : Fin cfg3.N) (p : Fin 256) (q : Fin 1024) : (outsAt3 (V6 m ρ) c t).2.1 (ix3 0 p q) = outD (m0 m c) (m1 m c) (m2 m c) (m3 m c) (m4 m c) (m5 m c) (m6 m c) (ix3 3 (row3 t p) q) := by
  refine (next3_5 (V6 m ρ) c t _ _ _ _ rfl rfl rfl rfl p q).trans ?_
  simp only [blk3_0, blk3_1, blk3_2, blk3_3]
  rfl
theorem part3_6 (t : Fin cfg3.N) (p : Fin 256) (q : Fin 1024) : (outsAt3 (V6 m ρ) c t).2.2.1 (ix3 0 p q) = outM (m0 m c) (m1 m c) (m2 m c) (m3 m c) (m5 m c) (ix3 3 (row3 t p) q) := by
  refine (next3_6 (V6 m ρ) c t _ _ _ _ rfl rfl rfl rfl p q).trans ?_
  simp only [blk3_0, blk3_2]
  rfl
theorem part3_7 (t : Fin cfg3.N) (p : Fin 256) (q : Fin 1024) : (outsAt3 (V6 m ρ) c t).2.2.2 (ix3 0 p q) = outV (m0 m c) (m1 m c) (m2 m c) (m3 m c) (m6 m c) (ix3 3 (row3 t p) q) := by
  refine (next3_7 (V6 m ρ) c t _ _ _ _ rfl rfl rfl rfl p q).trans ?_
  simp only [blk3_0, blk3_3]
  rfl

/-- The arrays call 1 leaves: the results, up to its layer. -/
theorem low0_4 (i : S4x2048x1024.Idx) (hi : (i 0).val < 1) : (dat0 (V0 m ρ) c).arrAt 4 cfg0.N i = outG (m0 m c) (m1 m c) (m2 m c) (m3 m c) i := by
  refine ((dat0 (V0 m ρ) c).arrAt_apply_of_coversWhere 4 (outG (m0 m c) (m1 m c) (m2 m c) (m3 m c)) (P := fun i => (i (0 : Fin 3)).val = 0) (fun β => β (0 : Fin 3) = 0) (by decide +kernel)
    (fun t hf y => ?_) (fun j => by blk_simp [Pipeline.Window.cell_apply]; omega) i).trans ?_
  · blk_simp
    rw [after0_4]
    have e : (win0_4.blk t).view.emb y = ix3 0 (row0 t (y 1)) (y 2) := by have h : (y 0).val < 1 := (y 0).isLt; blk_ext [idx0_4, row0]
    rw [e]
    have ey : y = ix3 0 (y 1) (y 2) := by have h : (y 0).val < 1 := (y 0).isLt; blk_ext
    refine (congrArg (out0_4 (iblk0 (V0 m ρ) c 0 t) (iblk0 (V0 m ρ) c 1 t) (iblk0 (V0 m ρ) c 2 t) (iblk0 (V0 m ρ) c 3 t)) ey).trans ?_
    exact part0_4 m ρ c t _ _
  · exact if_pos (by omega)
theorem low0_5 (i : S4x2048x1024.Idx) (hi : (i 0).val < 1) : (dat0 (V0 m ρ) c).arrAt 5 cfg0.N i = outD (m0 m c) (m1 m c) (m2 m c) (m3 m c) (m4 m c) (m5 m c) (m6 m c) i := by
  refine ((dat0 (V0 m ρ) c).arrAt_apply_of_coversWhere 5 (outD (m0 m c) (m1 m c) (m2 m c) (m3 m c) (m4 m c) (m5 m c) (m6 m c)) (P := fun i => (i (0 : Fin 3)).val = 0) (fun β => β (0 : Fin 3) = 0) (by decide +kernel)
    (fun t hf y => ?_) (fun j => by blk_simp [Pipeline.Window.cell_apply]; omega) i).trans ?_
  · blk_simp
    rw [after0_5]
    have e : (win0_5.blk t).view.emb y = ix3 0 (row0 t (y 1)) (y 2) := by have h : (y 0).val < 1 := (y 0).isLt; blk_ext [idx0_5, row0]
    rw [e]
    have ey : y = ix3 0 (y 1) (y 2) := by have h : (y 0).val < 1 := (y 0).isLt; blk_ext
    refine (congrArg (out0_5 (iblk0 (V0 m ρ) c 0 t) (iblk0 (V0 m ρ) c 1 t) (iblk0 (V0 m ρ) c 2 t) (iblk0 (V0 m ρ) c 3 t)) ey).trans ?_
    exact part0_5 m ρ c t _ _
  · exact if_pos (by omega)
theorem low0_6 (i : S4x2048x1024.Idx) (hi : (i 0).val < 1) : (dat0 (V0 m ρ) c).arrAt 6 cfg0.N i = outM (m0 m c) (m1 m c) (m2 m c) (m3 m c) (m5 m c) i := by
  refine ((dat0 (V0 m ρ) c).arrAt_apply_of_coversWhere 6 (outM (m0 m c) (m1 m c) (m2 m c) (m3 m c) (m5 m c)) (P := fun i => (i (0 : Fin 3)).val = 0) (fun β => β (0 : Fin 3) = 0) (by decide +kernel)
    (fun t hf y => ?_) (fun j => by blk_simp [Pipeline.Window.cell_apply]; omega) i).trans ?_
  · blk_simp
    rw [after0_6]
    have e : (win0_6.blk t).view.emb y = ix3 0 (row0 t (y 1)) (y 2) := by have h : (y 0).val < 1 := (y 0).isLt; blk_ext [idx0_6, row0]
    rw [e]
    have ey : y = ix3 0 (y 1) (y 2) := by have h : (y 0).val < 1 := (y 0).isLt; blk_ext
    refine (congrArg (out0_6 (iblk0 (V0 m ρ) c 0 t) (iblk0 (V0 m ρ) c 1 t) (iblk0 (V0 m ρ) c 2 t) (iblk0 (V0 m ρ) c 3 t)) ey).trans ?_
    exact part0_6 m ρ c t _ _
  · exact if_pos (by omega)
theorem low0_7 (i : S4x2048x1024.Idx) (hi : (i 0).val < 1) : (dat0 (V0 m ρ) c).arrAt 7 cfg0.N i = outV (m0 m c) (m1 m c) (m2 m c) (m3 m c) (m6 m c) i := by
  refine ((dat0 (V0 m ρ) c).arrAt_apply_of_coversWhere 7 (outV (m0 m c) (m1 m c) (m2 m c) (m3 m c) (m6 m c)) (P := fun i => (i (0 : Fin 3)).val = 0) (fun β => β (0 : Fin 3) = 0) (by decide +kernel)
    (fun t hf y => ?_) (fun j => by blk_simp [Pipeline.Window.cell_apply]; omega) i).trans ?_
  · blk_simp
    rw [after0_7]
    have e : (win0_7.blk t).view.emb y = ix3 0 (row0 t (y 1)) (y 2) := by have h : (y 0).val < 1 := (y 0).isLt; blk_ext [idx0_7, row0]
    rw [e]
    have ey : y = ix3 0 (y 1) (y 2) := by have h : (y 0).val < 1 := (y 0).isLt; blk_ext
    refine (congrArg (out0_7 (iblk0 (V0 m ρ) c 0 t) (iblk0 (V0 m ρ) c 1 t) (iblk0 (V0 m ρ) c 2 t) (iblk0 (V0 m ρ) c 3 t)) ey).trans ?_
    exact part0_7 m ρ c t _ _
  · exact if_pos (by omega)

/-- Call 2 finds what the one before left. -/
theorem mid1_4 : W2 m ρ c (Proc.devRef .tc main_v1_0) = (dat0 (V0 m ρ) c).arrAt 4 cfg0.N := by
  refine Eq.trans ?_ (W1_arr m ρ c 4)
  unfold W2 hostOps1
  after_results_simp
  rfl
theorem mid1_5 : W2 m ρ c (Proc.devRef .tc main_v1_1) = (dat0 (V0 m ρ) c).arrAt 5 cfg0.N := by
  refine Eq.trans ?_ (W1_arr m ρ c 5)
  unfold W2 hostOps1
  after_results_simp
  rfl
theorem mid1_6 : W2 m ρ c (Proc.devRef .tc main_v1_2) = (dat0 (V0 m ρ) c).arrAt 6 cfg0.N := by
  refine Eq.trans ?_ (W1_arr m ρ c 6)
  unfold W2 hostOps1
  after_results_simp
  rfl
theorem mid1_7 : W2 m ρ c (Proc.devRef .tc main_v1_3) = (dat0 (V0 m ρ) c).arrAt 7 cfg0.N := by
  refine Eq.trans ?_ (W1_arr m ρ c 7)
  unfold W2 hostOps1
  after_results_simp
  rfl

/-- The arrays call 2 leaves: the results, up to its layer. -/
theorem low1_4 (i : S4x2048x1024.Idx) (hi : (i 0).val < 2) : (dat1 (V2 m ρ) c).arrAt 4 cfg1.N i = outG (m0 m c) (m1 m c) (m2 m c) (m3 m c) i := by
  refine ((dat1 (V2 m ρ) c).arrAt_apply_of_coversWhere 4 (outG (m0 m c) (m1 m c) (m2 m c) (m3 m c)) (P := fun i => (i (0 : Fin 3)).val = 1) (fun β => β (0 : Fin 3) = 1) (by decide +kernel)
    (fun t hf y => ?_) (fun j => by blk_simp [Pipeline.Window.cell_apply]; omega) i).trans ?_
  · blk_simp
    rw [after1_4]
    have e : (win1_4.blk t).view.emb y = ix3 1 (row1 t (y 1)) (y 2) := by have h : (y 0).val < 1 := (y 0).isLt; blk_ext [idx1_4, row1]
    rw [e]
    have ey : y = ix3 0 (y 1) (y 2) := by have h : (y 0).val < 1 := (y 0).isLt; blk_ext
    refine (congrArg ((outsAt1 (V2 m ρ) c t).1) ey).trans ?_
    exact part1_4 m ρ c t _ _
  · by_cases h : (i 0).val = 1
    · exact if_pos h
    · refine (if_neg h).trans ?_
      rw [A_eq1]
      exact (congrFun (mid1_4 m ρ c) i).trans (low0_4 m ρ c i (by omega))
theorem low1_5 (i : S4x2048x1024.Idx) (hi : (i 0).val < 2) : (dat1 (V2 m ρ) c).arrAt 5 cfg1.N i = outD (m0 m c) (m1 m c) (m2 m c) (m3 m c) (m4 m c) (m5 m c) (m6 m c) i := by
  refine ((dat1 (V2 m ρ) c).arrAt_apply_of_coversWhere 5 (outD (m0 m c) (m1 m c) (m2 m c) (m3 m c) (m4 m c) (m5 m c) (m6 m c)) (P := fun i => (i (0 : Fin 3)).val = 1) (fun β => β (0 : Fin 3) = 1) (by decide +kernel)
    (fun t hf y => ?_) (fun j => by blk_simp [Pipeline.Window.cell_apply]; omega) i).trans ?_
  · blk_simp
    rw [after1_5]
    have e : (win1_5.blk t).view.emb y = ix3 1 (row1 t (y 1)) (y 2) := by have h : (y 0).val < 1 := (y 0).isLt; blk_ext [idx1_5, row1]
    rw [e]
    have ey : y = ix3 0 (y 1) (y 2) := by have h : (y 0).val < 1 := (y 0).isLt; blk_ext
    refine (congrArg ((outsAt1 (V2 m ρ) c t).2.1) ey).trans ?_
    exact part1_5 m ρ c t _ _
  · by_cases h : (i 0).val = 1
    · exact if_pos h
    · refine (if_neg h).trans ?_
      rw [A_eq1]
      exact (congrFun (mid1_5 m ρ c) i).trans (low0_5 m ρ c i (by omega))
theorem low1_6 (i : S4x2048x1024.Idx) (hi : (i 0).val < 2) : (dat1 (V2 m ρ) c).arrAt 6 cfg1.N i = outM (m0 m c) (m1 m c) (m2 m c) (m3 m c) (m5 m c) i := by
  refine ((dat1 (V2 m ρ) c).arrAt_apply_of_coversWhere 6 (outM (m0 m c) (m1 m c) (m2 m c) (m3 m c) (m5 m c)) (P := fun i => (i (0 : Fin 3)).val = 1) (fun β => β (0 : Fin 3) = 1) (by decide +kernel)
    (fun t hf y => ?_) (fun j => by blk_simp [Pipeline.Window.cell_apply]; omega) i).trans ?_
  · blk_simp
    rw [after1_6]
    have e : (win1_6.blk t).view.emb y = ix3 1 (row1 t (y 1)) (y 2) := by have h : (y 0).val < 1 := (y 0).isLt; blk_ext [idx1_6, row1]
    rw [e]
    have ey : y = ix3 0 (y 1) (y 2) := by have h : (y 0).val < 1 := (y 0).isLt; blk_ext
    refine (congrArg ((outsAt1 (V2 m ρ) c t).2.2.1) ey).trans ?_
    exact part1_6 m ρ c t _ _
  · by_cases h : (i 0).val = 1
    · exact if_pos h
    · refine (if_neg h).trans ?_
      rw [A_eq1]
      exact (congrFun (mid1_6 m ρ c) i).trans (low0_6 m ρ c i (by omega))
theorem low1_7 (i : S4x2048x1024.Idx) (hi : (i 0).val < 2) : (dat1 (V2 m ρ) c).arrAt 7 cfg1.N i = outV (m0 m c) (m1 m c) (m2 m c) (m3 m c) (m6 m c) i := by
  refine ((dat1 (V2 m ρ) c).arrAt_apply_of_coversWhere 7 (outV (m0 m c) (m1 m c) (m2 m c) (m3 m c) (m6 m c)) (P := fun i => (i (0 : Fin 3)).val = 1) (fun β => β (0 : Fin 3) = 1) (by decide +kernel)
    (fun t hf y => ?_) (fun j => by blk_simp [Pipeline.Window.cell_apply]; omega) i).trans ?_
  · blk_simp
    rw [after1_7]
    have e : (win1_7.blk t).view.emb y = ix3 1 (row1 t (y 1)) (y 2) := by have h : (y 0).val < 1 := (y 0).isLt; blk_ext [idx1_7, row1]
    rw [e]
    have ey : y = ix3 0 (y 1) (y 2) := by have h : (y 0).val < 1 := (y 0).isLt; blk_ext
    refine (congrArg ((outsAt1 (V2 m ρ) c t).2.2.2) ey).trans ?_
    exact part1_7 m ρ c t _ _
  · by_cases h : (i 0).val = 1
    · exact if_pos h
    · refine (if_neg h).trans ?_
      rw [A_eq1]
      exact (congrFun (mid1_7 m ρ c) i).trans (low0_7 m ρ c i (by omega))

/-- Call 3 finds what the one before left. -/
theorem mid2_4 : W4 m ρ c (Proc.devRef .tc main_v2_0) = (dat1 (V2 m ρ) c).arrAt 4 cfg1.N := by
  refine Eq.trans ?_ (W3_arr m ρ c 4)
  unfold W4 hostOps2
  after_results_simp
  rfl
theorem mid2_5 : W4 m ρ c (Proc.devRef .tc main_v2_1) = (dat1 (V2 m ρ) c).arrAt 5 cfg1.N := by
  refine Eq.trans ?_ (W3_arr m ρ c 5)
  unfold W4 hostOps2
  after_results_simp
  rfl
theorem mid2_6 : W4 m ρ c (Proc.devRef .tc main_v2_2) = (dat1 (V2 m ρ) c).arrAt 6 cfg1.N := by
  refine Eq.trans ?_ (W3_arr m ρ c 6)
  unfold W4 hostOps2
  after_results_simp
  rfl
theorem mid2_7 : W4 m ρ c (Proc.devRef .tc main_v2_3) = (dat1 (V2 m ρ) c).arrAt 7 cfg1.N := by
  refine Eq.trans ?_ (W3_arr m ρ c 7)
  unfold W4 hostOps2
  after_results_simp
  rfl

/-- The arrays call 3 leaves: the results, up to its layer. -/
theorem low2_4 (i : S4x2048x1024.Idx) (hi : (i 0).val < 3) : (dat2 (V4 m ρ) c).arrAt 4 cfg2.N i = outG (m0 m c) (m1 m c) (m2 m c) (m3 m c) i := by
  refine ((dat2 (V4 m ρ) c).arrAt_apply_of_coversWhere 4 (outG (m0 m c) (m1 m c) (m2 m c) (m3 m c)) (P := fun i => (i (0 : Fin 3)).val = 2) (fun β => β (0 : Fin 3) = 2) (by decide +kernel)
    (fun t hf y => ?_) (fun j => by blk_simp [Pipeline.Window.cell_apply]; omega) i).trans ?_
  · blk_simp
    rw [after2_4]
    have e : (win2_4.blk t).view.emb y = ix3 2 (row2 t (y 1)) (y 2) := by have h : (y 0).val < 1 := (y 0).isLt; blk_ext [idx2_4, row2]
    rw [e]
    have ey : y = ix3 0 (y 1) (y 2) := by have h : (y 0).val < 1 := (y 0).isLt; blk_ext
    refine (congrArg ((outsAt2 (V4 m ρ) c t).1) ey).trans ?_
    exact part2_4 m ρ c t _ _
  · by_cases h : (i 0).val = 2
    · exact if_pos h
    · refine (if_neg h).trans ?_
      rw [A_eq2]
      exact (congrFun (mid2_4 m ρ c) i).trans (low1_4 m ρ c i (by omega))
theorem low2_5 (i : S4x2048x1024.Idx) (hi : (i 0).val < 3) : (dat2 (V4 m ρ) c).arrAt 5 cfg2.N i = outD (m0 m c) (m1 m c) (m2 m c) (m3 m c) (m4 m c) (m5 m c) (m6 m c) i := by
  refine ((dat2 (V4 m ρ) c).arrAt_apply_of_coversWhere 5 (outD (m0 m c) (m1 m c) (m2 m c) (m3 m c) (m4 m c) (m5 m c) (m6 m c)) (P := fun i => (i (0 : Fin 3)).val = 2) (fun β => β (0 : Fin 3) = 2) (by decide +kernel)
    (fun t hf y => ?_) (fun j => by blk_simp [Pipeline.Window.cell_apply]; omega) i).trans ?_
  · blk_simp
    rw [after2_5]
    have e : (win2_5.blk t).view.emb y = ix3 2 (row2 t (y 1)) (y 2) := by have h : (y 0).val < 1 := (y 0).isLt; blk_ext [idx2_5, row2]
    rw [e]
    have ey : y = ix3 0 (y 1) (y 2) := by have h : (y 0).val < 1 := (y 0).isLt; blk_ext
    refine (congrArg ((outsAt2 (V4 m ρ) c t).2.1) ey).trans ?_
    exact part2_5 m ρ c t _ _
  · by_cases h : (i 0).val = 2
    · exact if_pos h
    · refine (if_neg h).trans ?_
      rw [A_eq2]
      exact (congrFun (mid2_5 m ρ c) i).trans (low1_5 m ρ c i (by omega))
theorem low2_6 (i : S4x2048x1024.Idx) (hi : (i 0).val < 3) : (dat2 (V4 m ρ) c).arrAt 6 cfg2.N i = outM (m0 m c) (m1 m c) (m2 m c) (m3 m c) (m5 m c) i := by
  refine ((dat2 (V4 m ρ) c).arrAt_apply_of_coversWhere 6 (outM (m0 m c) (m1 m c) (m2 m c) (m3 m c) (m5 m c)) (P := fun i => (i (0 : Fin 3)).val = 2) (fun β => β (0 : Fin 3) = 2) (by decide +kernel)
    (fun t hf y => ?_) (fun j => by blk_simp [Pipeline.Window.cell_apply]; omega) i).trans ?_
  · blk_simp
    rw [after2_6]
    have e : (win2_6.blk t).view.emb y = ix3 2 (row2 t (y 1)) (y 2) := by have h : (y 0).val < 1 := (y 0).isLt; blk_ext [idx2_6, row2]
    rw [e]
    have ey : y = ix3 0 (y 1) (y 2) := by have h : (y 0).val < 1 := (y 0).isLt; blk_ext
    refine (congrArg ((outsAt2 (V4 m ρ) c t).2.2.1) ey).trans ?_
    exact part2_6 m ρ c t _ _
  · by_cases h : (i 0).val = 2
    · exact if_pos h
    · refine (if_neg h).trans ?_
      rw [A_eq2]
      exact (congrFun (mid2_6 m ρ c) i).trans (low1_6 m ρ c i (by omega))
theorem low2_7 (i : S4x2048x1024.Idx) (hi : (i 0).val < 3) : (dat2 (V4 m ρ) c).arrAt 7 cfg2.N i = outV (m0 m c) (m1 m c) (m2 m c) (m3 m c) (m6 m c) i := by
  refine ((dat2 (V4 m ρ) c).arrAt_apply_of_coversWhere 7 (outV (m0 m c) (m1 m c) (m2 m c) (m3 m c) (m6 m c)) (P := fun i => (i (0 : Fin 3)).val = 2) (fun β => β (0 : Fin 3) = 2) (by decide +kernel)
    (fun t hf y => ?_) (fun j => by blk_simp [Pipeline.Window.cell_apply]; omega) i).trans ?_
  · blk_simp
    rw [after2_7]
    have e : (win2_7.blk t).view.emb y = ix3 2 (row2 t (y 1)) (y 2) := by have h : (y 0).val < 1 := (y 0).isLt; blk_ext [idx2_7, row2]
    rw [e]
    have ey : y = ix3 0 (y 1) (y 2) := by have h : (y 0).val < 1 := (y 0).isLt; blk_ext
    refine (congrArg ((outsAt2 (V4 m ρ) c t).2.2.2) ey).trans ?_
    exact part2_7 m ρ c t _ _
  · by_cases h : (i 0).val = 2
    · exact if_pos h
    · refine (if_neg h).trans ?_
      rw [A_eq2]
      exact (congrFun (mid2_7 m ρ c) i).trans (low1_7 m ρ c i (by omega))

/-- Call 4 finds what the one before left. -/
theorem mid3_4 : W6 m ρ c (Proc.devRef .tc main_v3_0) = (dat2 (V4 m ρ) c).arrAt 4 cfg2.N := by
  refine Eq.trans ?_ (W5_arr m ρ c 4)
  unfold W6 hostOps3
  after_results_simp
  rfl
theorem mid3_5 : W6 m ρ c (Proc.devRef .tc main_v3_1) = (dat2 (V4 m ρ) c).arrAt 5 cfg2.N := by
  refine Eq.trans ?_ (W5_arr m ρ c 5)
  unfold W6 hostOps3
  after_results_simp
  rfl
theorem mid3_6 : W6 m ρ c (Proc.devRef .tc main_v3_2) = (dat2 (V4 m ρ) c).arrAt 6 cfg2.N := by
  refine Eq.trans ?_ (W5_arr m ρ c 6)
  unfold W6 hostOps3
  after_results_simp
  rfl
theorem mid3_7 : W6 m ρ c (Proc.devRef .tc main_v3_3) = (dat2 (V4 m ρ) c).arrAt 7 cfg2.N := by
  refine Eq.trans ?_ (W5_arr m ρ c 7)
  unfold W6 hostOps3
  after_results_simp
  rfl

/-- The arrays call 4 leaves: the results, up to its layer. -/
theorem low3_4 (i : S4x2048x1024.Idx) (hi : (i 0).val < 4) : (dat3 (V6 m ρ) c).arrAt 4 cfg3.N i = outG (m0 m c) (m1 m c) (m2 m c) (m3 m c) i := by
  refine ((dat3 (V6 m ρ) c).arrAt_apply_of_coversWhere 4 (outG (m0 m c) (m1 m c) (m2 m c) (m3 m c)) (P := fun i => (i (0 : Fin 3)).val = 3) (fun β => β (0 : Fin 3) = 3) (by decide +kernel)
    (fun t hf y => ?_) (fun j => by blk_simp [Pipeline.Window.cell_apply]; omega) i).trans ?_
  · blk_simp
    rw [after3_4]
    have e : (win3_4.blk t).view.emb y = ix3 3 (row3 t (y 1)) (y 2) := by have h : (y 0).val < 1 := (y 0).isLt; blk_ext [idx3_4, row3]
    rw [e]
    have ey : y = ix3 0 (y 1) (y 2) := by have h : (y 0).val < 1 := (y 0).isLt; blk_ext
    refine (congrArg ((outsAt3 (V6 m ρ) c t).1) ey).trans ?_
    exact part3_4 m ρ c t _ _
  · by_cases h : (i 0).val = 3
    · exact if_pos h
    · refine (if_neg h).trans ?_
      rw [A_eq3]
      exact (congrFun (mid3_4 m ρ c) i).trans (low2_4 m ρ c i (by omega))
theorem low3_5 (i : S4x2048x1024.Idx) (hi : (i 0).val < 4) : (dat3 (V6 m ρ) c).arrAt 5 cfg3.N i = outD (m0 m c) (m1 m c) (m2 m c) (m3 m c) (m4 m c) (m5 m c) (m6 m c) i := by
  refine ((dat3 (V6 m ρ) c).arrAt_apply_of_coversWhere 5 (outD (m0 m c) (m1 m c) (m2 m c) (m3 m c) (m4 m c) (m5 m c) (m6 m c)) (P := fun i => (i (0 : Fin 3)).val = 3) (fun β => β (0 : Fin 3) = 3) (by decide +kernel)
    (fun t hf y => ?_) (fun j => by blk_simp [Pipeline.Window.cell_apply]; omega) i).trans ?_
  · blk_simp
    rw [after3_5]
    have e : (win3_5.blk t).view.emb y = ix3 3 (row3 t (y 1)) (y 2) := by have h : (y 0).val < 1 := (y 0).isLt; blk_ext [idx3_5, row3]
    rw [e]
    have ey : y = ix3 0 (y 1) (y 2) := by have h : (y 0).val < 1 := (y 0).isLt; blk_ext
    refine (congrArg ((outsAt3 (V6 m ρ) c t).2.1) ey).trans ?_
    exact part3_5 m ρ c t _ _
  · by_cases h : (i 0).val = 3
    · exact if_pos h
    · refine (if_neg h).trans ?_
      rw [A_eq3]
      exact (congrFun (mid3_5 m ρ c) i).trans (low2_5 m ρ c i (by omega))
theorem low3_6 (i : S4x2048x1024.Idx) (hi : (i 0).val < 4) : (dat3 (V6 m ρ) c).arrAt 6 cfg3.N i = outM (m0 m c) (m1 m c) (m2 m c) (m3 m c) (m5 m c) i := by
  refine ((dat3 (V6 m ρ) c).arrAt_apply_of_coversWhere 6 (outM (m0 m c) (m1 m c) (m2 m c) (m3 m c) (m5 m c)) (P := fun i => (i (0 : Fin 3)).val = 3) (fun β => β (0 : Fin 3) = 3) (by decide +kernel)
    (fun t hf y => ?_) (fun j => by blk_simp [Pipeline.Window.cell_apply]; omega) i).trans ?_
  · blk_simp
    rw [after3_6]
    have e : (win3_6.blk t).view.emb y = ix3 3 (row3 t (y 1)) (y 2) := by have h : (y 0).val < 1 := (y 0).isLt; blk_ext [idx3_6, row3]
    rw [e]
    have ey : y = ix3 0 (y 1) (y 2) := by have h : (y 0).val < 1 := (y 0).isLt; blk_ext
    refine (congrArg ((outsAt3 (V6 m ρ) c t).2.2.1) ey).trans ?_
    exact part3_6 m ρ c t _ _
  · by_cases h : (i 0).val = 3
    · exact if_pos h
    · refine (if_neg h).trans ?_
      rw [A_eq3]
      exact (congrFun (mid3_6 m ρ c) i).trans (low2_6 m ρ c i (by omega))
theorem low3_7 (i : S4x2048x1024.Idx) (hi : (i 0).val < 4) : (dat3 (V6 m ρ) c).arrAt 7 cfg3.N i = outV (m0 m c) (m1 m c) (m2 m c) (m3 m c) (m6 m c) i := by
  refine ((dat3 (V6 m ρ) c).arrAt_apply_of_coversWhere 7 (outV (m0 m c) (m1 m c) (m2 m c) (m3 m c) (m6 m c)) (P := fun i => (i (0 : Fin 3)).val = 3) (fun β => β (0 : Fin 3) = 3) (by decide +kernel)
    (fun t hf y => ?_) (fun j => by blk_simp [Pipeline.Window.cell_apply]; omega) i).trans ?_
  · blk_simp
    rw [after3_7]
    have e : (win3_7.blk t).view.emb y = ix3 3 (row3 t (y 1)) (y 2) := by have h : (y 0).val < 1 := (y 0).isLt; blk_ext [idx3_7, row3]
    rw [e]
    have ey : y = ix3 0 (y 1) (y 2) := by have h : (y 0).val < 1 := (y 0).isLt; blk_ext
    refine (congrArg ((outsAt3 (V6 m ρ) c t).2.2.2) ey).trans ?_
    exact part3_7 m ρ c t _ _
  · by_cases h : (i 0).val = 3
    · exact if_pos h
    · refine (if_neg h).trans ?_
      rw [A_eq3]
      exact (congrFun (mid3_7 m ρ c) i).trans (low2_7 m ρ c i (by omega))

section launch
open Idealize.SL Idealize.SL.RA Idealize.SL.BI
open scoped Idealize.SL.BI
open Idealize.SL.BI.BIBase Idealize.SL.BI.Laws Idealize.SL.ProofMode
open Idealize.ShloMosaic.Rounds
local notation "𝕄" => MT nD τ sig Unit (Elt Ideal) ℕ (UR sig nD τ) ℕ

set_option backward.isDefEq.respectTransparency.types false in
/-- The run: the arguments stay as they were and the results are what the last call leaves. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (G := fun _ => iprop(emp)) (T₀ := fun c => iprop(StableHlo.held (c : Thread nD τ) (Pipeline.ucRefs τ sig) (W0 m ρ c) ∗ R c))
    (Tₙ := Tₙ m ρ) (u₀ := initOf (Pipeline.cells cfgs cellOf_inj) (Pipeline.launchToks cfgs cellOf_inj))
    (QY := fun c s => ∀ b ∈ Pipeline.ucRefs τ sig, s.mem (((c : Thread nD τ)).1, b) = W7 m ρ c b)
    (hL := fun _ _ => rfl)
    (hch := ⟨fun _ => .rfl, fun _ => .rfl, fun _ => .rfl, fun _ => .rfl, fun _ => .rfl, fun _ => .rfl, fun _ => .rfl, fun _ => .rfl⟩)
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by rw [BI.bigSep_emp_const])
        iempintro)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howed, -, Hreg, -⟩, -⟩
      imodintro
      isplitl [Hbufs]
      · iexact Hbufs
      · isplitl [Hreg]
        · iexists _
          iexact Hreg
        · iexists ∅
          iexact Howed)
    (hfin := fun c s => by
      iintro ⟨⟨Hbufs, -⟩, Hstate⟩
      unfold StableHlo.held
      imodintro
      iapply (pointsTo_read_all (Pipeline.ucRefs τ sig) (fun b => (((c : Thread nD τ)).1, b)) (W7 m ρ c) s)
      isplitl [Hbufs] <;> iassumption)
    (hQ := fun _ h _ => h)
end launch

theorem frame_reference : Cert.quiescent_Reference19Ideal (hReference19Ideal := Cert.Reference19Ideal.Gen.facts) := fun m ρ _ =>
  (θ_run Cert.Reference19Ideal.defs _ _).mono (fun r h => ⟨fun c => (h c).2.2.2.2, Idealize.ShloMosaic.sem_eq_zero_of_no_sems (by decide) r.2⟩)
    (Cert.Reference19Ideal.Value.run (F := Ideal) m ρ)

theorem algebraic : Cert.algebraic_Kernel19Ideal_Reference19Ideal (hKernel19Ideal := Cert.Kernel19Ideal.Gen.facts)
    (hReference19Ideal := Cert.Reference19Ideal.Gen.facts) := fun m ρ m' ρ' _ hagree =>
  ⟨fun c => outG (m0 m c) (m1 m c) (m2 m c) (m3 m c), fun c => outD (m0 m c) (m1 m c) (m2 m c) (m3 m c) (m4 m c) (m5 m c) (m6 m c),
    fun c => outM (m0 m c) (m1 m c) (m2 m c) (m3 m c) (m5 m c), fun c => outV (m0 m c) (m1 m c) (m2 m c) (m3 m c) (m6 m c),
    (θ_run defs _ _).mono (fun _ h c =>
      ⟨(h c _ (mem_uc main_v3_0 (by decide))).trans ((W7_arr m ρ c 4).trans (funext fun i => low3_4 m ρ c i (i 0).isLt)),
       (h c _ (mem_uc main_v3_1 (by decide))).trans ((W7_arr m ρ c 5).trans (funext fun i => low3_5 m ρ c i (i 0).isLt)),
       (h c _ (mem_uc main_v3_2 (by decide))).trans ((W7_arr m ρ c 6).trans (funext fun i => low3_6 m ρ c i (i 0).isLt)),
       (h c _ (mem_uc main_v3_3 (by decide))).trans ((W7_arr m ρ c 7).trans (funext fun i => low3_7 m ρ c i (i 0).isLt)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩) (run m ρ),
    (θ_run Cert.Reference19Ideal.defs _ _).mono (fun _ h c => by
      obtain ⟨h0, h1, h2, h3, h4, h5, h6⟩ := hagree c
      beta_reduce
      rw [show m0 m c = _ from h0.symm, show m1 m c = _ from h1.symm, show m2 m c = _ from h2.symm, show m3 m c = _ from h3.symm, show m4 m c = _ from h4.symm, show m5 m c = _ from h5.symm, show m6 m c = _ from h6.symm]
      refine ⟨(h c).1.trans ?_, (h c).2.1.trans ?_, (h c).2.2.1.trans ?_, (h c).2.2.2.1.trans ?_, (h c).2.2.2.2⟩
      · refine ext3 fun a b d => ?_
        pointwise [outG]
        simp only [dite_eq_ite]
      · refine ext3 fun a b d => ?_
        pointwise [Cert.Reference19Ideal.Value.res_main_v36, outD, outG, change, first, second]
        simp only [dite_eq_ite]
      · refine ext3 fun a b d => ?_
        pointwise [outM, outG, first]
        simp only [dite_eq_ite]
      · refine ext3 fun a b d => ?_
        pointwise [outV, outG, second]
        simp only [dite_eq_ite])
      (Cert.Reference19Ideal.Value.run (F := Ideal) m' ρ')⟩

end Cert.Kernel19Ideal.Opt
-- ==== Proof.Opt20.lean ====
/-
  The optimiser's steps of the MLP's second weight, four layers, from the devices' parts of each layer's gradient: one call per
  layer, eight blocks of 128 rows each, each writing its layer over what the one before left. The four arrays they leave are
  the reference's.
-/
module

public import proofs.«01_k».proof.Defs
public import proofs.«01_k».proof.Proof.MmSum
public import proofs.«01_k».proof.Proof.OptStep
public import proofs.«01_k».proof.Proof.Gen.Kernel20.Frame
public import proofs.«01_k».proof.Proof.Gen.Kernel20Ideal.Frame
public import proofs.«01_k».proof.Proof.Gen.Reference20Ideal.Run
public import Idealize.ShloMosaic.Lib.Pipeline.ValueKit.Geometry
public import Idealize.ShloMosaic.Lib.Pipeline.ValueKit.Partial
public import Idealize.ShloMosaic.Lib.Pipeline.ValueKit.Acc

@[expose] public section
set_option maxRecDepth 16384
noncomputable section
namespace Cert.Kernel20Ideal.Opt

open Idealize.ShloMosaic Idealize.ShloMosaic.TcCoe Idealize.ShloMosaic.Tactic Idealize.SL.Sem
open Cert.Kernel20Ideal.Gen Cert.Mm Cert.Opt

section step
variable (x0 : Vec Ideal S8x128x2048 .bf16) (x1 x2 x3 : Vec Ideal S1x128x2048 .f32) (p : Fin 128) (q : Fin 2048)

/-- What a step of the first call leaves in its four blocks. -/
theorem step4 : out0_4 x0 x1 x2 x3 (ix3 0 p q) = (∑ k : Fin 8, x0 (ix3 k p q)) := by
  unfold out0_4
  rw [View.canon_unit_zero zeros3]
  rw [Fin.sum_univ_eight]
  pointwise [k0_pay1, k0_pay2, k0_pay3, k0_pay4, k0_pay5, k0_pay6, k0_pay7, k0_pay8, k0_pay9, k0_pay10, k0_pay11]
theorem step5 : out0_5 x0 x1 x2 x3 (ix3 0 p q) = change (x1 (ix3 0 p q)) (x2 (ix3 0 p q)) (x3 (ix3 0 p q)) (∑ k : Fin 8, x0 (ix3 k p q)) := by
  unfold out0_5
  rw [View.canon_unit_zero zeros3]
  simp only [View.ld_unit_zero (S := S1x128x2048) zeros3]
  rw [Fin.sum_univ_eight]
  pointwise [k0_pay1, k0_pay2, k0_pay3, k0_pay4, k0_pay5, k0_pay6, k0_pay7, k0_pay8, k0_pay9, k0_pay10, k0_pay11, change, first, second]
theorem step6 : out0_6 x0 x1 x2 x3 (ix3 0 p q) = first (x2 (ix3 0 p q)) (∑ k : Fin 8, x0 (ix3 k p q)) := by
  unfold out0_6
  rw [View.canon_unit_zero zeros3]
  simp only [View.ld_unit_zero (S := S1x128x2048) zeros3]
  rw [Fin.sum_univ_eight]
  pointwise [k0_pay1, k0_pay2, k0_pay3, k0_pay4, k0_pay5, k0_pay6, k0_pay7, k0_pay8, k0_pay9, k0_pay10, k0_pay11, first]
theorem step7 : out0_7 x0 x1 x2 x3 (ix3 0 p q) = second (x3 (ix3 0 p q)) (∑ k : Fin 8, x0 (ix3 k p q)) := by
  unfold out0_7
  rw [View.canon_unit_zero zeros3]
  simp only [View.ld_unit_zero (S := S1x128x2048) zeros3]
  rw [Fin.sum_univ_eight]
  pointwise [k0_pay1, k0_pay2, k0_pay3, k0_pay4, k0_pay5, k0_pay6, k0_pay7, k0_pay8, k0_pay9, k0_pay10, k0_pay11, second]
end step

/-! What a step of call 2 leaves in its four blocks. -/

section step
variable (V : (c : Dev nD) → (b : Ref sig .tc) → Buf (Elt Ideal) ((c : Thread nD τ).loc b)) (c : Dev nD) (t : Fin cfg1.N)
variable (a : Vec Ideal S8x128x2048 .bf16) (b d e : Vec Ideal S1x128x2048 .f32) (ha : iblk1 V c 0 t = a) (hb : iblk1 V c 1 t = b)
  (hd : iblk1 V c 2 t = d) (he : iblk1 V c 3 t = e) (p : Fin 128) (q : Fin 2048)

include ha hb hd he in
theorem next1_4 : (outsAt1 V c t).1 (ix3 0 p q) = (∑ k : Fin 8, a (ix3 k p q)) := by
  unfold outsAt1
  dsimp only
  rw [ha, hb, hd, he]
  frame_out
  rw [Fin.sum_univ_eight]
  pointwise [k1_pay1, k1_pay2, k1_pay3, k1_pay4, k1_pay5, k1_pay6, k1_pay7, k1_pay8, k1_pay9, k1_pay10]
include ha hb hd he in
theorem next1_5 : (outsAt1 V c t).2.1 (ix3 0 p q) = change (b (ix3 0 p q)) (d (ix3 0 p q)) (e (ix3 0 p q)) (∑ k : Fin 8, a (ix3 k p q)) := by
  unfold outsAt1
  dsimp only
  rw [ha, hb, hd, he]
  frame_out
  rw [Fin.sum_univ_eight]
  pointwise [k1_pay1, k1_pay2, k1_pay3, k1_pay4, k1_pay5, k1_pay6, k1_pay7, k1_pay8, k1_pay9, k1_pay10, change, first, second]
include ha hb hd he in
theorem next1_6 : (outsAt1 V c t).2.2.1 (ix3 0 p q) = first (d (ix3 0 p q)) (∑ k : Fin 8, a (ix3 k p q)) := by
  unfold outsAt1
  dsimp only
  rw [ha, hb, hd, he]
  frame_out
  rw [Fin.sum_univ_eight]
  pointwise [k1_pay1, k1_pay2, k1_pay3, k1_pay4, k1_pay5, k1_pay6, k1_pay7, k1_pay8, k1_pay9, k1_pay10, first]
include ha hb hd he in
theorem next1_7 : (outsAt1 V c t).2.2.2 (ix3 0 p q) = second (e (ix3 0 p q)) (∑ k : Fin 8, a (ix3 k p q)) := by
  unfold outsAt1
  dsimp only
  rw [ha, hb, hd, he]
  frame_out
  rw [Fin.sum_univ_eight]
  pointwise [k1_pay1, k1_pay2, k1_pay3, k1_pay4, k1_pay5, k1_pay6, k1_pay7, k1_pay8, k1_pay9, k1_pay10, second]
end step

/-! What a step of call 3 leaves in its four blocks. -/

section step
variable (V : (c : Dev nD) → (b : Ref sig .tc) → Buf (Elt Ideal) ((c : Thread nD τ).loc b)) (c : Dev nD) (t : Fin cfg2.N)
variable (a : Vec Ideal S8x128x2048 .bf16) (b d e : Vec Ideal S1x128x2048 .f32) (ha : iblk2 V c 0 t = a) (hb : iblk2 V c 1 t = b)
  (hd : iblk2 V c 2 t = d) (he : iblk2 V c 3 t = e) (p : Fin 128) (q : Fin 2048)

include ha hb hd he in
theorem next2_4 : (outsAt2 V c t).1 (ix3 0 p q) = (∑ k : Fin 8, a (ix3 k p q)) := by
  unfold outsAt2
  dsimp only
  rw [ha, hb, hd, he]
  frame_out
  rw [Fin.sum_univ_eight]
  pointwise [k2_pay1, k2_pay2, k2_pay3, k2_pay4, k2_pay5, k2_pay6, k2_pay7, k2_pay8, k2_pay9, k2_pay10]
include ha hb hd he in
theorem next2_5 : (outsAt2 V c t).2.1 (ix3 0 p q) = change (b (ix3 0 p q)) (d (ix3 0 p q)) (e (ix3 0 p q)) (∑ k : Fin 8, a (ix3 k p q)) := by
  unfold outsAt2
  dsimp only
  rw [ha, hb, hd, he]
  frame_out
  rw [Fin.sum_univ_eight]
  pointwise [k2_pay1, k2_pay2, k2_pay3, k2_pay4, k2_pay5, k2_pay6, k2_pay7, k2_pay8, k2_pay9, k2_pay10, change, first, second]
include ha hb hd he in
theorem next2_6 : (outsAt2 V c t).2.2.1 (ix3 0 p q) = first (d (ix3 0 p q)) (∑ k : Fin 8, a (ix3 k p q)) := by
  unfold outsAt2
  dsimp only
  rw [ha, hb, hd, he]
  frame_out
  rw [Fin.sum_univ_eight]
  pointwise [k2_pay1, k2_pay2, k2_pay3, k2_pay4, k2_pay5, k2_pay6, k2_pay7, k2_pay8, k2_pay9, k2_pay10, first]
include ha hb hd he in
theorem next2_7 : (outsAt2 V c t).2.2.2 (ix3 0 p q) = second (e (ix3 0 p q)) (∑ k : Fin 8, a (ix3 k p q)) := by
  unfold outsAt2
  dsimp only
  rw [ha, hb, hd, he]
  frame_out
  rw [Fin.sum_univ_eight]
  pointwise [k2_pay1, k2_pay2, k2_pay3, k2_pay4, k2_pay5, k2_pay6, k2_pay7, k2_pay8, k2_pay9, k2_pay10, second]
end step

/-! What a step of call 4 leaves in its four blocks. -/

section step
variable (V : (c : Dev nD) → (b : Ref sig .tc) → Buf (Elt Ideal) ((c : Thread nD τ).loc b)) (c : Dev nD) (t : Fin cfg3.N)
variable (a : Vec Ideal S8x128x2048 .bf16) (b d e : Vec Ideal S1x128x2048 .f32) (ha : iblk3 V c 0 t = a) (hb : iblk3 V c 1 t = b)
  (hd : iblk3 V c 2 t = d) (he : iblk3 V c 3 t = e) (p : Fin 128) (q : Fin 2048)

include ha hb hd he in
theorem next3_4 : (outsAt3 V c t).1 (ix3 0 p q) = (∑ k : Fin 8, a (ix3 k p q)) := by
  unfold outsAt3
  dsimp only
  rw [ha, hb, hd, he]
  frame_out
  rw [Fin.sum_univ_eight]
  pointwise [k3_pay1, k3_pay2, k3_pay3, k3_pay4, k3_pay5, k3_pay6, k3_pay7, k3_pay8, k3_pay9, k3_pay10]
include ha hb hd he in
theorem next3_5 : (outsAt3 V c t).2.1 (ix3 0 p q) = change (b (ix3 0 p q)) (d (ix3 0 p q)) (e (ix3 0 p q)) (∑ k : Fin 8, a (ix3 k p q)) := by
  unfold outsAt3
  dsimp only
  rw [ha, hb, hd, he]
  frame_out
  rw [Fin.sum_univ_eight]
  pointwise [k3_pay1, k3_pay2, k3_pay3, k3_pay4, k3_pay5, k3_pay6, k3_pay7, k3_pay8, k3_pay9, k3_pay10, change, first, second]
include ha hb hd he in
theorem next3_6 : (outsAt3 V c t).2.2.1 (ix3 0 p q) = first (d (ix3 0 p q)) (∑ k : Fin 8, a (ix3 k p q)) := by
  unfold outsAt3
  dsimp only
  rw [ha, hb, hd, he]
  frame_out
  rw [Fin.sum_univ_eight]
  pointwise [k3_pay1, k3_pay2, k3_pay3, k3_pay4, k3_pay5, k3_pay6, k3_pay7, k3_pay8, k3_pay9, k3_pay10, first]
include ha hb hd he in
theorem next3_7 : (outsAt3 V c t).2.2.2 (ix3 0 p q) = second (e (ix3 0 p q)) (∑ k : Fin 8, a (ix3 k p q)) := by
  unfold outsAt3
  dsimp only
  rw [ha, hb, hd, he]
  frame_out
  rw [Fin.sum_univ_eight]
  pointwise [k3_pay1, k3_pay2, k3_pay3, k3_pay4, k3_pay5, k3_pay6, k3_pay7, k3_pay8, k3_pay9, k3_pay10, second]
end step

theorem N0 : cfg0.N = 8 := N_0
theorem N1 : cfg1.N = 8 := N_1
theorem N2 : cfg2.N = 8 := N_2
theorem N3 : cfg3.N = 8 := N_3

theorem idx0_0 : ∀ t : Fin cfg0.N, win0_0.index t = ![0, t.val, 0] := (by decide +kernel : ∀ t : Fin grid0.N, _)
theorem idx0_1 : ∀ t : Fin cfg0.N, win0_1.index t = ![0, t.val, 0] := (by decide +kernel : ∀ t : Fin grid0.N, _)
theorem idx0_2 : ∀ t : Fin cfg0.N, win0_2.index t = ![0, t.val, 0] := (by decide +kernel : ∀ t : Fin grid0.N, _)
theorem idx0_3 : ∀ t : Fin cfg0.N, win0_3.index t = ![0, t.val, 0] := (by decide +kernel : ∀ t : Fin grid0.N, _)
theorem idx0_4 : ∀ t : Fin cfg0.N, win0_4.index t = ![0, t.val, 0] := (by decide +kernel : ∀ t : Fin grid0.N, _)
theorem idx0_5 : ∀ t : Fin cfg0.N, win0_5.index t = ![0, t.val, 0] := (by decide +kernel : ∀ t : Fin grid0.N, _)
theorem idx0_6 : ∀ t : Fin cfg0.N, win0_6.index t = ![0, t.val, 0] := (by decide +kernel : ∀ t : Fin grid0.N, _)
theorem idx0_7 : ∀ t : Fin cfg0.N, win0_7.index t = ![0, t.val, 0] := (by decide +kernel : ∀ t : Fin grid0.N, _)
theorem idx1_0 : ∀ t : Fin cfg1.N, win1_0.index t = ![0, t.val, 0] := (by decide +kernel : ∀ t : Fin grid1.N, _)
theorem idx1_1 : ∀ t : Fin cfg1.N, win1_1.index t = ![1, t.val, 0] := (by decide +kernel : ∀ t : Fin grid1.N, _)
theorem idx1_2 : ∀ t : Fin cfg1.N, win1_2.index t = ![1, t.val, 0] := (by decide +kernel : ∀ t : Fin grid1.N, _)
theorem idx1_3 : ∀ t : Fin cfg1.N, win1_3.index t = ![1, t.val, 0] := (by decide +kernel : ∀ t : Fin grid1.N, _)
theorem idx1_4 : ∀ t : Fin cfg1.N, win1_4.index t = ![1, t.val, 0] := (by decide +kernel : ∀ t : Fin grid1.N, _)
theorem idx1_5 : ∀ t : Fin cfg1.N, win1_5.index t = ![1, t.val, 0] := (by decide +kernel : ∀ t : Fin grid1.N, _)
theorem idx1_6 : ∀ t : Fin cfg1.N, win1_6.index t = ![1, t.val, 0] := (by decide +kernel : ∀ t : Fin grid1.N, _)
theorem idx1_7 : ∀ t : Fin cfg1.N, win1_7.index t = ![1, t.val, 0] := (by decide +kernel : ∀ t : Fin grid1.N, _)
theorem idx2_0 : ∀ t : Fin cfg2.N, win2_0.index t = ![0, t.val, 0] := (by decide +kernel : ∀ t : Fin grid2.N, _)
theorem idx2_1 : ∀ t : Fin cfg2.N, win2_1.index t = ![2, t.val, 0] := (by decide +kernel : ∀ t : Fin grid2.N, _)
theorem idx2_2 : ∀ t : Fin cfg2.N, win2_2.index t = ![2, t.val, 0] := (by decide +kernel : ∀ t : Fin grid2.N, _)
theorem idx2_3 : ∀ t : Fin cfg2.N, win2_3.index t = ![2, t.val, 0] := (by decide +kernel : ∀ t : Fin grid2.N, _)
theorem idx2_4 : ∀ t : Fin cfg2.N, win2_4.index t = ![2, t.val, 0] := (by decide +kernel : ∀ t : Fin grid2.N, _)
theorem idx2_5 : ∀ t : Fin cfg2.N, win2_5.index t = ![2, t.val, 0] := (by decide +kernel : ∀ t : Fin grid2.N, _)
theorem idx2_6 : ∀ t : Fin cfg2.N, win2_6.index t = ![2, t.val, 0] := (by decide +kernel : ∀ t : Fin grid2.N, _)
theorem idx2_7 : ∀ t : Fin cfg2.N, win2_7.index t = ![2, t.val, 0] := (by decide +kernel : ∀ t : Fin grid2.N, _)
theorem idx3_0 : ∀ t : Fin cfg3.N, win3_0.index t = ![0, t.val, 0] := (by decide +kernel : ∀ t : Fin grid3.N, _)
theorem idx3_1 : ∀ t : Fin cfg3.N, win3_1.index t = ![3, t.val, 0] := (by decide +kernel : ∀ t : Fin grid3.N, _)
theorem idx3_2 : ∀ t : Fin cfg3.N, win3_2.index t = ![3, t.val, 0] := (by decide +kernel : ∀ t : Fin grid3.N, _)
theorem idx3_3 : ∀ t : Fin cfg3.N, win3_3.index t = ![3, t.val, 0] := (by decide +kernel : ∀ t : Fin grid3.N, _)
theorem idx3_4 : ∀ t : Fin cfg3.N, win3_4.index t = ![3, t.val, 0] := (by decide +kernel : ∀ t : Fin grid3.N, _)
theorem idx3_5 : ∀ t : Fin cfg3.N, win3_5.index t = ![3, t.val, 0] := (by decide +kernel : ∀ t : Fin grid3.N, _)
theorem idx3_6 : ∀ t : Fin cfg3.N, win3_6.index t = ![3, t.val, 0] := (by decide +kernel : ∀ t : Fin grid3.N, _)
theorem idx3_7 : ∀ t : Fin cfg3.N, win3_7.index t = ![3, t.val, 0] := (by decide +kernel : ∀ t : Fin grid3.N, _)

/-- The row of the arrays at place `p` of step `t`'s block, in each call. -/
def row0 (t : Fin cfg0.N) (p : Fin 128) : Fin 1024 := ⟨128 * t.val + p.val, by have := t.isLt; have := N0; omega⟩
def row1 (t : Fin cfg1.N) (p : Fin 128) : Fin 1024 := ⟨128 * t.val + p.val, by have := t.isLt; have := N1; omega⟩
def row2 (t : Fin cfg2.N) (p : Fin 128) : Fin 1024 := ⟨128 * t.val + p.val, by have := t.isLt; have := N2; omega⟩
def row3 (t : Fin cfg3.N) (p : Fin 128) : Fin 1024 := ⟨128 * t.val + p.val, by have := t.isLt; have := N3; omega⟩

/-- The gradient from its parts, layer by layer, and the other results from the gradient, the weight and its moments. -/
abbrev Arr0 := FVec Ideal S8x1024x2048 .bf16
abbrev Arr := FVec Ideal S4x1024x2048 .f32
def outG (g0 g1 g2 g3 : Arr0) : Arr := fun i =>
  if (i 0).val < 1 then ∑ k : Fin 8, g0 (ix3 k (i 1) (i 2))
  else if (i 0).val - 1 < 1 then ∑ k : Fin 8, g1 (ix3 k (i 1) (i 2))
  else if (i 0).val - 1 - 1 < 1 then ∑ k : Fin 8, g2 (ix3 k (i 1) (i 2))
  else ∑ k : Fin 8, g3 (ix3 k (i 1) (i 2))
def outD (g0 g1 g2 g3 : Arr0) (w m v : Arr) : Arr := fun i => change (w i) (m i) (v i) (outG g0 g1 g2 g3 i)
def outM (g0 g1 g2 g3 : Arr0) (m : Arr) : Arr := fun i => first (m i) (outG g0 g1 g2 g3 i)
def outV (g0 g1 g2 g3 : Arr0) (v : Arr) : Arr := fun i => second (v i) (outG g0 g1 g2 g3 i)

variable (m : (ℓ : Loc nD τ sig) → Buf (Elt Ideal) ℓ) (ρ : Dev nD → PrngReg) (c : Dev nD)

/-- The seven arguments. -/
abbrev m0 : Arr0 := m ((c : Thread nD τ).loc main_arg0)
abbrev m1 : Arr0 := m ((c : Thread nD τ).loc main_arg1)
abbrev m2 : Arr0 := m ((c : Thread nD τ).loc main_arg2)
abbrev m3 : Arr0 := m ((c : Thread nD τ).loc main_arg3)
abbrev m4 : Arr := m ((c : Thread nD τ).loc main_arg4)
abbrev m5 : Arr := m ((c : Thread nD τ).loc main_arg5)
abbrev m6 : Arr := m ((c : Thread nD τ).loc main_arg6)

/-- The blocks a call reads are those of the arguments. -/
theorem blk0_0 (t : Fin cfg0.N) (k : Fin 8) (p : Fin 128) (q : Fin 2048) : iblk0 (V0 m ρ) c 0 t (ix3 k p q) = m0 m c (ix3 k (row0 t p) q) := by
  blk_simp [iblk0]
  refine congrArg (m0 m c) ?_
  blk_ext [idx0_0, row0]
theorem blk0_1 (t : Fin cfg0.N) (p : Fin 128) (q : Fin 2048) : iblk0 (V0 m ρ) c 1 t (ix3 0 p q) = m4 m c (ix3 0 (row0 t p) q) := by
  blk_simp [iblk0]
  refine congrArg (m4 m c) ?_
  blk_ext [idx0_1, row0]
theorem blk0_2 (t : Fin cfg0.N) (p : Fin 128) (q : Fin 2048) : iblk0 (V0 m ρ) c 2 t (ix3 0 p q) = m5 m c (ix3 0 (row0 t p) q) := by
  blk_simp [iblk0]
  refine congrArg (m5 m c) ?_
  blk_ext [idx0_2, row0]
theorem blk0_3 (t : Fin cfg0.N) (p : Fin 128) (q : Fin 2048) : iblk0 (V0 m ρ) c 3 t (ix3 0 p q) = m6 m c (ix3 0 (row0 t p) q) := by
  blk_simp [iblk0]
  refine congrArg (m6 m c) ?_
  blk_ext [idx0_3, row0]
theorem blk1_0 (t : Fin cfg1.N) (k : Fin 8) (p : Fin 128) (q : Fin 2048) : iblk1 (V2 m ρ) c 0 t (ix3 k p q) = m1 m c (ix3 k (row1 t p) q) := by
  blk_simp [iblk1]
  refine (congrFun (W2_args m ρ c main_arg1 (by decide)) _).trans ?_
  refine congrArg (m1 m c) ?_
  blk_ext [idx1_0, row1]
theorem blk1_1 (t : Fin cfg1.N) (p : Fin 128) (q : Fin 2048) : iblk1 (V2 m ρ) c 1 t (ix3 0 p q) = m4 m c (ix3 1 (row1 t p) q) := by
  blk_simp [iblk1]
  refine (congrFun (W2_args m ρ c main_arg4 (by decide)) _).trans ?_
  refine congrArg (m4 m c) ?_
  blk_ext [idx1_1, row1]
theorem blk1_2 (t : Fin cfg1.N) (p : Fin 128) (q : Fin 2048) : iblk1 (V2 m ρ) c 2 t (ix3 0 p q) = m5 m c (ix3 1 (row1 t p) q) := by
  blk_simp [iblk1]
  refine (congrFun (W2_args m ρ c main_arg5 (by decide)) _).trans ?_
  refine congrArg (m5 m c) ?_
  blk_ext [idx1_2, row1]
theorem blk1_3 (t : Fin cfg1.N) (p : Fin 128) (q : Fin 2048) : iblk1 (V2 m ρ) c 3 t (ix3 0 p q) = m6 m c (ix3 1 (row1 t p) q) := by
  blk_simp [iblk1]
  refine (congrFun (W2_args m ρ c main_arg6 (by decide)) _).trans ?_
  refine congrArg (m6 m c) ?_
  blk_ext [idx1_3, row1]
theorem blk2_0 (t : Fin cfg2.N) (k : Fin 8) (p : Fin 128) (q : Fin 2048) : iblk2 (V4 m ρ) c 0 t (ix3 k p q) = m2 m c (ix3 k (row2 t p) q) := by
  blk_simp [iblk2]
  refine (congrFun (W4_args m ρ c main_arg2 (by decide)) _).trans ?_
  refine congrArg (m2 m c) ?_
  blk_ext [idx2_0, row2]
theorem blk2_1 (t : Fin cfg2.N) (p : Fin 128) (q : Fin 2048) : iblk2 (V4 m ρ) c 1 t (ix3 0 p q) = m4 m c (ix3 2 (row2 t p) q) := by
  blk_simp [iblk2]
  refine (congrFun (W4_args m ρ c main_arg4 (by decide)) _).trans ?_
  refine congrArg (m4 m c) ?_
  blk_ext [idx2_1, row2]
theorem blk2_2 (t : Fin cfg2.N) (p : Fin 128) (q : Fin 2048) : iblk2 (V4 m ρ) c 2 t (ix3 0 p q) = m5 m c (ix3 2 (row2 t p) q) := by
  blk_simp [iblk2]
  refine (congrFun (W4_args m ρ c main_arg5 (by decide)) _).trans ?_
  refine congrArg (m5 m c) ?_
  blk_ext [idx2_2, row2]
theorem blk2_3 (t : Fin cfg2.N) (p : Fin 128) (q : Fin 2048) : iblk2 (V4 m ρ) c 3 t (ix3 0 p q) = m6 m c (ix3 2 (row2 t p) q) := by
  blk_simp [iblk2]
  refine (congrFun (W4_args m ρ c main_arg6 (by decide)) _).trans ?_
  refine congrArg (m6 m c) ?_
  blk_ext [idx2_3, row2]
theorem blk3_0 (t : Fin cfg3.N) (k : Fin 8) (p : Fin 128) (q : Fin 2048) : iblk3 (V6 m ρ) c 0 t (ix3 k p q) = m3 m c (ix3 k (row3 t p) q) := by
  blk_simp [iblk3]
  refine (congrFun (W6_args m ρ c main_arg3 (by decide)) _).trans ?_
  refine congrArg (m3 m c) ?_
  blk_ext [idx3_0, row3]
theorem blk3_1 (t : Fin cfg3.N) (p : Fin 128) (q : Fin 2048) : iblk3 (V6 m ρ) c 1 t (ix3 0 p q) = m4 m c (ix3 3 (row3 t p) q) := by
  blk_simp [iblk3]
  refine (congrFun (W6_args m ρ c main_arg4 (by decide)) _).trans ?_
  refine congrArg (m4 m c) ?_
  blk_ext [idx3_1, row3]
theorem blk3_2 (t : Fin cfg3.N) (p : Fin 128) (q : Fin 2048) : iblk3 (V6 m ρ) c 2 t (ix3 0 p q) = m5 m c (ix3 3 (row3 t p) q) := by
  blk_simp [iblk3]
  refine (congrFun (W6_args m ρ c main_arg5 (by decide)) _).trans ?_
  refine congrArg (m5 m c) ?_
  blk_ext [idx3_2, row3]
theorem blk3_3 (t : Fin cfg3.N) (p : Fin 128) (q : Fin 2048) : iblk3 (V6 m ρ) c 3 t (ix3 0 p q) = m6 m c (ix3 3 (row3 t p) q) := by
  blk_simp [iblk3]
  refine (congrFun (W6_args m ρ c main_arg6 (by decide)) _).trans ?_
  refine congrArg (m6 m c) ?_
  blk_ext [idx3_3, row3]

/-- What a step leaves in its blocks is its part of the results. -/
theorem part0_4 (t : Fin cfg0.N) (p : Fin 128) (q : Fin 2048) : out0_4 (iblk0 (V0 m ρ) c 0 t) (iblk0 (V0 m ρ) c 1 t) (iblk0 (V0 m ρ) c 2 t) (iblk0 (V0 m ρ) c 3 t) (ix3 0 p q) = outG (m0 m c) (m1 m c) (m2 m c) (m3 m c) (ix3 0 (row0 t p) q) := by
  refine (step4 _ _ _ _ _ _).trans ?_
  simp only [blk0_0]
  rfl
theorem part0_5 (t : Fin cfg0.N) (p : Fin 128) (q : Fin 2048) : out0_5 (iblk0 (V0 m ρ) c 0 t) (iblk0 (V0 m ρ) c 1 t) (iblk0 (V0 m ρ) c 2 t) (iblk0 (V0 m ρ) c 3 t) (ix3 0 p q) = outD (m0 m c) (m1 m c) (m2 m c) (m3 m c) (m4 m c) (m5 m c) (m6 m c) (ix3 0 (row0 t p) q) := by
  refine (step5 _ _ _ _ _ _).trans ?_
  simp only [blk0_0, blk0_1, blk0_2, blk0_3]
  rfl
theorem part0_6 (t : Fin cfg0.N) (p : Fin 128) (q : Fin 2048) : out0_6 (iblk0 (V0 m ρ) c 0 t) (iblk0 (V0 m ρ) c 1 t) (iblk0 (V0 m ρ) c 2 t) (iblk0 (V0 m ρ) c 3 t) (ix3 0 p q) = outM (m0 m c) (m1 m c) (m2 m c) (m3 m c) (m5 m c) (ix3 0 (row0 t p) q) := by
  refine (step6 _ _ _ _ _ _).trans ?_
  simp only [blk0_0, blk0_2]
  rfl
theorem part0_7 (t : Fin cfg0.N) (p : Fin 128) (q : Fin 2048) : out0_7 (iblk0 (V0 m ρ) c 0 t) (iblk0 (V0 m ρ) c 1 t) (iblk0 (V0 m ρ) c 2 t) (iblk0 (V0 m ρ) c 3 t) (ix3 0 p q) = outV (m0 m c) (m1 m c) (m2 m c) (m3 m c) (m6 m c) (ix3 0 (row0 t p) q) := by
  refine (step7 _ _ _ _ _ _).trans ?_
  simp only [blk0_0, blk0_3]
  rfl
theorem part1_4 (t : Fin cfg1.N) (p : Fin 128) (q : Fin 2048) : (outsAt1 (V2 m ρ) c t).1 (ix3 0 p q) = outG (m0 m c) (m1 m c) (m2 m c) (m3 m c) (ix3 1 (row1 t p) q) := by
  refine (next1_4 (V2 m ρ) c t _ _ _ _ rfl rfl rfl rfl p q).trans ?_
  simp only [blk1_0]
  rfl
theorem part1_5 (t : Fin cfg1.N) (p : Fin 128) (q : Fin 2048) : (outsAt1 (V2 m ρ) c t).2.1 (ix3 0 p q) = outD (m0 m c) (m1 m c) (m2 m c) (m3 m c) (m4 m c) (m5 m c) (m6 m c) (ix3 1 (row1 t p) q) := by
  refine (next1_5 (V2 m ρ) c t _ _ _ _ rfl rfl rfl rfl p q).trans ?_
  simp only [blk1_0, blk1_1, blk1_2, blk1_3]
  rfl
theorem part1_6 (t : Fin cfg1.N) (p : Fin 128) (q : Fin 2048) : (outsAt1 (V2 m ρ) c t).2.2.1 (ix3 0 p q) = outM (m0 m c) (m1 m c) (m2 m c) (m3 m c) (m5 m c) (ix3 1 (row1 t p) q) := by
  refine (next1_6 (V2 m ρ) c t _ _ _ _ rfl rfl rfl rfl p q).trans ?_
  simp only [blk1_0, blk1_2]
  rfl
theorem part1_7 (t : Fin cfg1.N) (p : Fin 128) (q : Fin 2048) : (outsAt1 (V2 m ρ) c t).2.2.2 (ix3 0 p q) = outV (m0 m c) (m1 m c) (m2 m c) (m3 m c) (m6 m c) (ix3 1 (row1 t p) q) := by
  refine (next1_7 (V2 m ρ) c t _ _ _ _ rfl rfl rfl rfl p q).trans ?_
  simp only [blk1_0, blk1_3]
  rfl
theorem part2_4 (t : Fin cfg2.N) (p : Fin 128) (q : Fin 2048) : (outsAt2 (V4 m ρ) c t).1 (ix3 0 p q) = outG (m0 m c) (m1 m c) (m2 m c) (m3 m c) (ix3 2 (row2 t p) q) := by
  refine (next2_4 (V4 m ρ) c t _ _ _ _ rfl rfl rfl rfl p q).trans ?_
  simp only [blk2_0]
  rfl
theorem part2_5 (t : Fin cfg2.N) (p : Fin 128) (q : Fin 2048) : (outsAt2 (V4 m ρ) c t).2.1 (ix3 0 p q) = outD (m0 m c) (m1 m c) (m2 m c) (m3 m c) (m4 m c) (m5 m c) (m6 m c) (ix3 2 (row2 t p) q) := by
  refine (next2_5 (V4 m ρ) c t _ _ _ _ rfl rfl rfl rfl p q).trans ?_
  simp only [blk2_0, blk2_1, blk2_2, blk2_3]
  rfl
theorem part2_6 (t : Fin cfg2.N) (p : Fin 128) (q : Fin 2048) : (outsAt2 (V4 m ρ) c t).2.2.1 (ix3 0 p q) = outM (m0 m c) (m1 m c) (m2 m c) (m3 m c) (m5 m c) (ix3 2 (row2 t p) q) := by
  refine (next2_6 (V4 m ρ) c t _ _ _ _ rfl rfl rfl rfl p q).trans ?_
  simp only [blk2_0, blk2_2]
  rfl
theorem part2_7 (t : Fin cfg2.N) (p : Fin 128) (q : Fin 2048) : (outsAt2 (V4 m ρ) c t).2.2.2 (ix3 0 p q) = outV (m0 m c) (m1 m c) (m2 m c) (m3 m c) (m6 m c) (ix3 2 (row2 t p) q) := by
  refine (next2_7 (V4 m ρ) c t _ _ _ _ rfl rfl rfl rfl p q).trans ?_
  simp only [blk2_0, blk2_3]
  rfl
theorem part3_4 (t : Fin cfg3.N) (p : Fin 128) (q : Fin 2048) : (outsAt3 (V6 m ρ) c t).1 (ix3 0 p q) = outG (m0 m c) (m1 m c) (m2 m c) (m3 m c) (ix3 3 (row3 t p) q) := by
  refine (next3_4 (V6 m ρ) c t _ _ _ _ rfl rfl rfl rfl p q).trans ?_
  simp only [blk3_0]
  rfl
theorem part3_5 (t : Fin cfg3.N) (p : Fin 128) (q : Fin 2048) : (outsAt3 (V6 m ρ) c t).2.1 (ix3 0 p q) = outD (m0 m c) (m1 m c) (m2 m c) (m3 m c) (m4 m c) (m5 m c) (m6 m c) (ix3 3 (row3 t p) q) := by
  refine (next3_5 (V6 m ρ) c t _ _ _ _ rfl rfl rfl rfl p q).trans ?_
  simp only [blk3_0, blk3_1, blk3_2, blk3_3]
  rfl
theorem part3_6 (t : Fin cfg3.N) (p : Fin 128) (q : Fin 2048) : (outsAt3 (V6 m ρ) c t).2.2.1 (ix3 0 p q) = outM (m0 m c) (m1 m c) (m2 m c) (m3 m c) (m5 m c) (ix3 3 (row3 t p) q) := by
  refine (next3_6 (V6 m ρ) c t _ _ _ _ rfl rfl rfl rfl p q).trans ?_
  simp only [blk3_0, blk3_2]
  rfl
theorem part3_7 (t : Fin cfg3.N) (p : Fin 128) (q : Fin 2048) : (outsAt3 (V6 m ρ) c t).2.2.2 (ix3 0 p q) = outV (m0 m c) (m1 m c) (m2 m c) (m3 m c) (m6 m c) (ix3 3 (row3 t p) q) := by
  refine (next3_7 (V6 m ρ) c t _ _ _ _ rfl rfl rfl rfl p q).trans ?_
  simp only [blk3_0, blk3_3]
  rfl

/-- The arrays call 1 leaves: the results, up to its layer. -/
theorem low0_4 (i : S4x1024x2048.Idx) (hi : (i 0).val < 1) : (dat0 (V0 m ρ) c).arrAt 4 cfg0.N i = outG (m0 m c) (m1 m c) (m2 m c) (m3 m c) i := by
  refine ((dat0 (V0 m ρ) c).arrAt_apply_of_coversWhere 4 (outG (m0 m c) (m1 m c) (m2 m c) (m3 m c)) (P := fun i => (i (0 : Fin 3)).val = 0) (fun β => β (0 : Fin 3) = 0) (by decide +kernel)
    (fun t hf y => ?_) (fun j => by blk_simp [Pipeline.Window.cell_apply]; omega) i).trans ?_
  · blk_simp
    rw [after0_4]
    have e : (win0_4.blk t).view.emb y = ix3 0 (row0 t (y 1)) (y 2) := by have h : (y 0).val < 1 := (y 0).isLt; blk_ext [idx0_4, row0]
    rw [e]
    have ey : y = ix3 0 (y 1) (y 2) := by have h : (y 0).val < 1 := (y 0).isLt; blk_ext
    refine (congrArg (out0_4 (iblk0 (V0 m ρ) c 0 t) (iblk0 (V0 m ρ) c 1 t) (iblk0 (V0 m ρ) c 2 t) (iblk0 (V0 m ρ) c 3 t)) ey).trans ?_
    exact part0_4 m ρ c t _ _
  · exact if_pos (by omega)
theorem low0_5 (i : S4x1024x2048.Idx) (hi : (i 0).val < 1) : (dat0 (V0 m ρ) c).arrAt 5 cfg0.N i = outD (m0 m c) (m1 m c) (m2 m c) (m3 m c) (m4 m c) (m5 m c) (m6 m c) i := by
  refine ((dat0 (V0 m ρ) c).arrAt_apply_of_coversWhere 5 (outD (m0 m c) (m1 m c) (m2 m c) (m3 m c) (m4 m c) (m5 m c) (m6 m c)) (P := fun i => (i (0 : Fin 3)).val = 0) (fun β => β (0 : Fin 3) = 0) (by decide +kernel)
    (fun t hf y => ?_) (fun j => by blk_simp [Pipeline.Window.cell_apply]; omega) i).trans ?_
  · blk_simp
    rw [after0_5]
    have e : (win0_5.blk t).view.emb y = ix3 0 (row0 t (y 1)) (y 2) := by have h : (y 0).val < 1 := (y 0).isLt; blk_ext [idx0_5, row0]
    rw [e]
    have ey : y = ix3 0 (y 1) (y 2) := by have h : (y 0).val < 1 := (y 0).isLt; blk_ext
    refine (congrArg (out0_5 (iblk0 (V0 m ρ) c 0 t) (iblk0 (V0 m ρ) c 1 t) (iblk0 (V0 m ρ) c 2 t) (iblk0 (V0 m ρ) c 3 t)) ey).trans ?_
    exact part0_5 m ρ c t _ _
  · exact if_pos (by omega)
theorem low0_6 (i : S4x1024x2048.Idx) (hi : (i 0).val < 1) : (dat0 (V0 m ρ) c).arrAt 6 cfg0.N i = outM (m0 m c) (m1 m c) (m2 m c) (m3 m c) (m5 m c) i := by
  refine ((dat0 (V0 m ρ) c).arrAt_apply_of_coversWhere 6 (outM (m0 m c) (m1 m c) (m2 m c) (m3 m c) (m5 m c)) (P := fun i => (i (0 : Fin 3)).val = 0) (fun β => β (0 : Fin 3) = 0) (by decide +kernel)
    (fun t hf y => ?_) (fun j => by blk_simp [Pipeline.Window.cell_apply]; omega) i).trans ?_
  · blk_simp
    rw [after0_6]
    have e : (win0_6.blk t).view.emb y = ix3 0 (row0 t (y 1)) (y 2) := by have h : (y 0).val < 1 := (y 0).isLt; blk_ext [idx0_6, row0]
    rw [e]
    have ey : y = ix3 0 (y 1) (y 2) := by have h : (y 0).val < 1 := (y 0).isLt; blk_ext
    refine (congrArg (out0_6 (iblk0 (V0 m ρ) c 0 t) (iblk0 (V0 m ρ) c 1 t) (iblk0 (V0 m ρ) c 2 t) (iblk0 (V0 m ρ) c 3 t)) ey).trans ?_
    exact part0_6 m ρ c t _ _
  · exact if_pos (by omega)
theorem low0_7 (i : S4x1024x2048.Idx) (hi : (i 0).val < 1) : (dat0 (V0 m ρ) c).arrAt 7 cfg0.N i = outV (m0 m c) (m1 m c) (m2 m c) (m3 m c) (m6 m c) i := by
  refine ((dat0 (V0 m ρ) c).arrAt_apply_of_coversWhere 7 (outV (m0 m c) (m1 m c) (m2 m c) (m3 m c) (m6 m c)) (P := fun i => (i (0 : Fin 3)).val = 0) (fun β => β (0 : Fin 3) = 0) (by decide +kernel)
    (fun t hf y => ?_) (fun j => by blk_simp [Pipeline.Window.cell_apply]; omega) i).trans ?_
  · blk_simp
    rw [after0_7]
    have e : (win0_7.blk t).view.emb y = ix3 0 (row0 t (y 1)) (y 2) := by have h : (y 0).val < 1 := (y 0).isLt; blk_ext [idx0_7, row0]
    rw [e]
    have ey : y = ix3 0 (y 1) (y 2) := by have h : (y 0).val < 1 := (y 0).isLt; blk_ext
    refine (congrArg (out0_7 (iblk0 (V0 m ρ) c 0 t) (iblk0 (V0 m ρ) c 1 t) (iblk0 (V0 m ρ) c 2 t) (iblk0 (V0 m ρ) c 3 t)) ey).trans ?_
    exact part0_7 m ρ c t _ _
  · exact if_pos (by omega)

/-- Call 2 finds what the one before left. -/
theorem mid1_4 : W2 m ρ c (Proc.devRef .tc main_v1_0) = (dat0 (V0 m ρ) c).arrAt 4 cfg0.N := by
  refine Eq.trans ?_ (W1_arr m ρ c 4)
  unfold W2 hostOps1
  after_results_simp
  rfl
theorem mid1_5 : W2 m ρ c (Proc.devRef .tc main_v1_1) = (dat0 (V0 m ρ) c).arrAt 5 cfg0.N := by
  refine Eq.trans ?_ (W1_arr m ρ c 5)
  unfold W2 hostOps1
  after_results_simp
  rfl
theorem mid1_6 : W2 m ρ c (Proc.devRef .tc main_v1_2) = (dat0 (V0 m ρ) c).arrAt 6 cfg0.N := by
  refine Eq.trans ?_ (W1_arr m ρ c 6)
  unfold W2 hostOps1
  after_results_simp
  rfl
theorem mid1_7 : W2 m ρ c (Proc.devRef .tc main_v1_3) = (dat0 (V0 m ρ) c).arrAt 7 cfg0.N := by
  refine Eq.trans ?_ (W1_arr m ρ c 7)
  unfold W2 hostOps1
  after_results_simp
  rfl

/-- The arrays call 2 leaves: the results, up to its layer. -/
theorem low1_4 (i : S4x1024x2048.Idx) (hi : (i 0).val < 2) : (dat1 (V2 m ρ) c).arrAt 4 cfg1.N i = outG (m0 m c) (m1 m c) (m2 m c) (m3 m c) i := by
  refine ((dat1 (V2 m ρ) c).arrAt_apply_of_coversWhere 4 (outG (m0 m c) (m1 m c) (m2 m c) (m3 m c)) (P := fun i => (i (0 : Fin 3)).val = 1) (fun β => β (0 : Fin 3) = 1) (by decide +kernel)
    (fun t hf y => ?_) (fun j => by blk_simp [Pipeline.Window.cell_apply]; omega) i).trans ?_
  · blk_simp
    rw [after1_4]
    have e : (win1_4.blk t).view.emb y = ix3 1 (row1 t (y 1)) (y 2) := by have h : (y 0).val < 1 := (y 0).isLt; blk_ext [idx1_4, row1]
    rw [e]
    have ey : y = ix3 0 (y 1) (y 2) := by have h : (y 0).val < 1 := (y 0).isLt; blk_ext
    refine (congrArg ((outsAt1 (V2 m ρ) c t).1) ey).trans ?_
    exact part1_4 m ρ c t _ _
  · by_cases h : (i 0).val = 1
    · exact if_pos h
    · refine (if_neg h).trans ?_
      rw [A_eq1]
      exact (congrFun (mid1_4 m ρ c) i).trans (low0_4 m ρ c i (by omega))
theorem low1_5 (i : S4x1024x2048.Idx) (hi : (i 0).val < 2) : (dat1 (V2 m ρ) c).arrAt 5 cfg1.N i = outD (m0 m c) (m1 m c) (m2 m c) (m3 m c) (m4 m c) (m5 m c) (m6 m c) i := by
  refine ((dat1 (V2 m ρ) c).arrAt_apply_of_coversWhere 5 (outD (m0 m c) (m1 m c) (m2 m c) (m3 m c) (m4 m c) (m5 m c) (m6 m c)) (P := fun i => (i (0 : Fin 3)).val = 1) (fun β => β (0 : Fin 3) = 1) (by decide +kernel)
    (fun t hf y => ?_) (fun j => by blk_simp [Pipeline.Window.cell_apply]; omega) i).trans ?_
  · blk_simp
    rw [after1_5]
    have e : (win1_5.blk t).view.emb y = ix3 1 (row1 t (y 1)) (y 2) := by have h : (y 0).val < 1 := (y 0).isLt; blk_ext [idx1_5, row1]
    rw [e]
    have ey : y = ix3 0 (y 1) (y 2) := by have h : (y 0).val < 1 := (y 0).isLt; blk_ext
    refine (congrArg ((outsAt1 (V2 m ρ) c t).2.1) ey).trans ?_
    exact part1_5 m ρ c t _ _
  · by_cases h : (i 0).val = 1
    · exact if_pos h
    · refine (if_neg h).trans ?_
      rw [A_eq1]
      exact (congrFun (mid1_5 m ρ c) i).trans (low0_5 m ρ c i (by omega))
theorem low1_6 (i : S4x1024x2048.Idx) (hi : (i 0).val < 2) : (dat1 (V2 m ρ) c).arrAt 6 cfg1.N i = outM (m0 m c) (m1 m c) (m2 m c) (m3 m c) (m5 m c) i := by
  refine ((dat1 (V2 m ρ) c).arrAt_apply_of_coversWhere 6 (outM (m0 m c) (m1 m c) (m2 m c) (m3 m c) (m5 m c)) (P := fun i => (i (0 : Fin 3)).val = 1) (fun β => β (0 : Fin 3) = 1) (by decide +kernel)
    (fun t hf y => ?_) (fun j => by blk_simp [Pipeline.Window.cell_apply]; omega) i).trans ?_
  · blk_simp
    rw [after1_6]
    have e : (win1_6.blk t).view.emb y = ix3 1 (row1 t (y 1)) (y 2) := by have h : (y 0).val < 1 := (y 0).isLt; blk_ext [idx1_6, row1]
    rw [e]
    have ey : y = ix3 0 (y 1) (y 2) := by have h : (y 0).val < 1 := (y 0).isLt; blk_ext
    refine (congrArg ((outsAt1 (V2 m ρ) c t).2.2.1) ey).trans ?_
    exact part1_6 m ρ c t _ _
  · by_cases h : (i 0).val = 1
    · exact if_pos h
    · refine (if_neg h).trans ?_
      rw [A_eq1]
      exact (congrFun (mid1_6 m ρ c) i).trans (low0_6 m ρ c i (by omega))
theorem low1_7 (i : S4x1024x2048.Idx) (hi : (i 0).val < 2) : (dat1 (V2 m ρ) c).arrAt 7 cfg1.N i = outV (m0 m c) (m1 m c) (m2 m c) (m3 m c) (m6 m c) i := by
  refine ((dat1 (V2 m ρ) c).arrAt_apply_of_coversWhere 7 (outV (m0 m c) (m1 m c) (m2 m c) (m3 m c) (m6 m c)) (P := fun i => (i (0 : Fin 3)).val = 1) (fun β => β (0 : Fin 3) = 1) (by decide +kernel)
    (fun t hf y => ?_) (fun j => by blk_simp [Pipeline.Window.cell_apply]; omega) i).trans ?_
  · blk_simp
    rw [after1_7]
    have e : (win1_7.blk t).view.emb y = ix3 1 (row1 t (y 1)) (y 2) := by have h : (y 0).val < 1 := (y 0).isLt; blk_ext [idx1_7, row1]
    rw [e]
    have ey : y = ix3 0 (y 1) (y 2) := by have h : (y 0).val < 1 := (y 0).isLt; blk_ext
    refine (congrArg ((outsAt1 (V2 m ρ) c t).2.2.2) ey).trans ?_
    exact part1_7 m ρ c t _ _
  · by_cases h : (i 0).val = 1
    · exact if_pos h
    · refine (if_neg h).trans ?_
      rw [A_eq1]
      exact (congrFun (mid1_7 m ρ c) i).trans (low0_7 m ρ c i (by omega))

/-- Call 3 finds what the one before left. -/
theorem mid2_4 : W4 m ρ c (Proc.devRef .tc main_v2_0) = (dat1 (V2 m ρ) c).arrAt 4 cfg1.N := by
  refine Eq.trans ?_ (W3_arr m ρ c 4)
  unfold W4 hostOps2
  after_results_simp
  rfl
theorem mid2_5 : W4 m ρ c (Proc.devRef .tc main_v2_1) = (dat1 (V2 m ρ) c).arrAt 5 cfg1.N := by
  refine Eq.trans ?_ (W3_arr m ρ c 5)
  unfold W4 hostOps2
  after_results_simp
  rfl
theorem mid2_6 : W4 m ρ c (Proc.devRef .tc main_v2_2) = (dat1 (V2 m ρ) c).arrAt 6 cfg1.N := by
  refine Eq.trans ?_ (W3_arr m ρ c 6)
  unfold W4 hostOps2
  after_results_simp
  rfl
theorem mid2_7 : W4 m ρ c (Proc.devRef .tc main_v2_3) = (dat1 (V2 m ρ) c).arrAt 7 cfg1.N := by
  refine Eq.trans ?_ (W3_arr m ρ c 7)
  unfold W4 hostOps2
  after_results_simp
  rfl

/-- The arrays call 3 leaves: the results, up to its layer. -/
theorem low2_4 (i : S4x1024x2048.Idx) (hi : (i 0).val < 3) : (dat2 (V4 m ρ) c).arrAt 4 cfg2.N i = outG (m0 m c) (m1 m c) (m2 m c) (m3 m c) i := by
  refine ((dat2 (V4 m ρ) c).arrAt_apply_of_coversWhere 4 (outG (m0 m c) (m1 m c) (m2 m c) (m3 m c)) (P := fun i => (i (0 : Fin 3)).val = 2) (fun β => β (0 : Fin 3) = 2) (by decide +kernel)
    (fun t hf y => ?_) (fun j => by blk_simp [Pipeline.Window.cell_apply]; omega) i).trans ?_
  · blk_simp
    rw [after2_4]
    have e : (win2_4.blk t).view.emb y = ix3 2 (row2 t (y 1)) (y 2) := by have h : (y 0).val < 1 := (y 0).isLt; blk_ext [idx2_4, row2]
    rw [e]
    have ey : y = ix3 0 (y 1) (y 2) := by have h : (y 0).val < 1 := (y 0).isLt; blk_ext
    refine (congrArg ((outsAt2 (V4 m ρ) c t).1) ey).trans ?_
    exact part2_4 m ρ c t _ _
  · by_cases h : (i 0).val = 2
    · exact if_pos h
    · refine (if_neg h).trans ?_
      rw [A_eq2]
      exact (congrFun (mid2_4 m ρ c) i).trans (low1_4 m ρ c i (by omega))
theorem low2_5 (i : S4x1024x2048.Idx) (hi : (i 0).val < 3) : (dat2 (V4 m ρ) c).arrAt 5 cfg2.N i = outD (m0 m c) (m1 m c) (m2 m c) (m3 m c) (m4 m c) (m5 m c) (m6 m c) i := by
  refine ((dat2 (V4 m ρ) c).arrAt_apply_of_coversWhere 5 (outD (m0 m c) (m1 m c) (m2 m c) (m3 m c) (m4 m c) (m5 m c) (m6 m c)) (P := fun i => (i (0 : Fin 3)).val = 2) (fun β => β (0 : Fin 3) = 2) (by decide +kernel)
    (fun t hf y => ?_) (fun j => by blk_simp [Pipeline.Window.cell_apply]; omega) i).trans ?_
  · blk_simp
    rw [after2_5]
    have e : (win2_5.blk t).view.emb y = ix3 2 (row2 t (y 1)) (y 2) := by have h : (y 0).val < 1 := (y 0).isLt; blk_ext [idx2_5, row2]
    rw [e]
    have ey : y = ix3 0 (y 1) (y 2) := by have h : (y 0).val < 1 := (y 0).isLt; blk_ext
    refine (congrArg ((outsAt2 (V4 m ρ) c t).2.1) ey).trans ?_
    exact part2_5 m ρ c t _ _
  · by_cases h : (i 0).val = 2
    · exact if_pos h
    · refine (if_neg h).trans ?_
      rw [A_eq2]
      exact (congrFun (mid2_5 m ρ c) i).trans (low1_5 m ρ c i (by omega))
theorem low2_6 (i : S4x1024x2048.Idx) (hi : (i 0).val < 3) : (dat2 (V4 m ρ) c).arrAt 6 cfg2.N i = outM (m0 m c) (m1 m c) (m2 m c) (m3 m c) (m5 m c) i := by
  refine ((dat2 (V4 m ρ) c).arrAt_apply_of_coversWhere 6 (outM (m0 m c) (m1 m c) (m2 m c) (m3 m c) (m5 m c)) (P := fun i => (i (0 : Fin 3)).val = 2) (fun β => β (0 : Fin 3) = 2) (by decide +kernel)
    (fun t hf y => ?_) (fun j => by blk_simp [Pipeline.Window.cell_apply]; omega) i).trans ?_
  · blk_simp
    rw [after2_6]
    have e : (win2_6.blk t).view.emb y = ix3 2 (row2 t (y 1)) (y 2) := by have h : (y 0).val < 1 := (y 0).isLt; blk_ext [idx2_6, row2]
    rw [e]
    have ey : y = ix3 0 (y 1) (y 2) := by have h : (y 0).val < 1 := (y 0).isLt; blk_ext
    refine (congrArg ((outsAt2 (V4 m ρ) c t).2.2.1) ey).trans ?_
    exact part2_6 m ρ c t _ _
  · by_cases h : (i 0).val = 2
    · exact if_pos h
    · refine (if_neg h).trans ?_
      rw [A_eq2]
      exact (congrFun (mid2_6 m ρ c) i).trans (low1_6 m ρ c i (by omega))
theorem low2_7 (i : S4x1024x2048.Idx) (hi : (i 0).val < 3) : (dat2 (V4 m ρ) c).arrAt 7 cfg2.N i = outV (m0 m c) (m1 m c) (m2 m c) (m3 m c) (m6 m c) i := by
  refine ((dat2 (V4 m ρ) c).arrAt_apply_of_coversWhere 7 (outV (m0 m c) (m1 m c) (m2 m c) (m3 m c) (m6 m c)) (P := fun i => (i (0 : Fin 3)).val = 2) (fun β => β (0 : Fin 3) = 2) (by decide +kernel)
    (fun t hf y => ?_) (fun j => by blk_simp [Pipeline.Window.cell_apply]; omega) i).trans ?_
  · blk_simp
    rw [after2_7]
    have e : (win2_7.blk t).view.emb y = ix3 2 (row2 t (y 1)) (y 2) := by have h : (y 0).val < 1 := (y 0).isLt; blk_ext [idx2_7, row2]
    rw [e]
    have ey : y = ix3 0 (y 1) (y 2) := by have h : (y 0).val < 1 := (y 0).isLt; blk_ext
    refine (congrArg ((outsAt2 (V4 m ρ) c t).2.2.2) ey).trans ?_
    exact part2_7 m ρ c t _ _
  · by_cases h : (i 0).val = 2
    · exact if_pos h
    · refine (if_neg h).trans ?_
      rw [A_eq2]
      exact (congrFun (mid2_7 m ρ c) i).trans (low1_7 m ρ c i (by omega))

/-- Call 4 finds what the one before left. -/
theorem mid3_4 : W6 m ρ c (Proc.devRef .tc main_v3_0) = (dat2 (V4 m ρ) c).arrAt 4 cfg2.N := by
  refine Eq.trans ?_ (W5_arr m ρ c 4)
  unfold W6 hostOps3
  after_results_simp
  rfl
theorem mid3_5 : W6 m ρ c (Proc.devRef .tc main_v3_1) = (dat2 (V4 m ρ) c).arrAt 5 cfg2.N := by
  refine Eq.trans ?_ (W5_arr m ρ c 5)
  unfold W6 hostOps3
  after_results_simp
  rfl
theorem mid3_6 : W6 m ρ c (Proc.devRef .tc main_v3_2) = (dat2 (V4 m ρ) c).arrAt 6 cfg2.N := by
  refine Eq.trans ?_ (W5_arr m ρ c 6)
  unfold W6 hostOps3
  after_results_simp
  rfl
theorem mid3_7 : W6 m ρ c (Proc.devRef .tc main_v3_3) = (dat2 (V4 m ρ) c).arrAt 7 cfg2.N := by
  refine Eq.trans ?_ (W5_arr m ρ c 7)
  unfold W6 hostOps3
  after_results_simp
  rfl

/-- The arrays call 4 leaves: the results, up to its layer. -/
theorem low3_4 (i : S4x1024x2048.Idx) (hi : (i 0).val < 4) : (dat3 (V6 m ρ) c).arrAt 4 cfg3.N i = outG (m0 m c) (m1 m c) (m2 m c) (m3 m c) i := by
  refine ((dat3 (V6 m ρ) c).arrAt_apply_of_coversWhere 4 (outG (m0 m c) (m1 m c) (m2 m c) (m3 m c)) (P := fun i => (i (0 : Fin 3)).val = 3) (fun β => β (0 : Fin 3) = 3) (by decide +kernel)
    (fun t hf y => ?_) (fun j => by blk_simp [Pipeline.Window.cell_apply]; omega) i).trans ?_
  · blk_simp
    rw [after3_4]
    have e : (win3_4.blk t).view.emb y = ix3 3 (row3 t (y 1)) (y 2) := by have h : (y 0).val < 1 := (y 0).isLt; blk_ext [idx3_4, row3]
    rw [e]
    have ey : y = ix3 0 (y 1) (y 2) := by have h : (y 0).val < 1 := (y 0).isLt; blk_ext
    refine (congrArg ((outsAt3 (V6 m ρ) c t).1) ey).trans ?_
    exact part3_4 m ρ c t _ _
  · by_cases h : (i 0).val = 3
    · exact if_pos h
    · refine (if_neg h).trans ?_
      rw [A_eq3]
      exact (congrFun (mid3_4 m ρ c) i).trans (low2_4 m ρ c i (by omega))
theorem low3_5 (i : S4x1024x2048.Idx) (hi : (i 0).val < 4) : (dat3 (V6 m ρ) c).arrAt 5 cfg3.N i = outD (m0 m c) (m1 m c) (m2 m c) (m3 m c) (m4 m c) (m5 m c) (m6 m c) i := by
  refine ((dat3 (V6 m ρ) c).arrAt_apply_of_coversWhere 5 (outD (m0 m c) (m1 m c) (m2 m c) (m3 m c) (m4 m c) (m5 m c) (m6 m c)) (P := fun i => (i (0 : Fin 3)).val = 3) (fun β => β (0 : Fin 3) = 3) (by decide +kernel)
    (fun t hf y => ?_) (fun j => by blk_simp [Pipeline.Window.cell_apply]; omega) i).trans ?_
  · blk_simp
    rw [after3_5]
    have e : (win3_5.blk t).view.emb y = ix3 3 (row3 t (y 1)) (y 2) := by have h : (y 0).val < 1 := (y 0).isLt; blk_ext [idx3_5, row3]
    rw [e]
    have ey : y = ix3 0 (y 1) (y 2) := by have h : (y 0).val < 1 := (y 0).isLt; blk_ext
    refine (congrArg ((outsAt3 (V6 m ρ) c t).2.1) ey).trans ?_
    exact part3_5 m ρ c t _ _
  · by_cases h : (i 0).val = 3
    · exact if_pos h
    · refine (if_neg h).trans ?_
      rw [A_eq3]
      exact (congrFun (mid3_5 m ρ c) i).trans (low2_5 m ρ c i (by omega))
theorem low3_6 (i : S4x1024x2048.Idx) (hi : (i 0).val < 4) : (dat3 (V6 m ρ) c).arrAt 6 cfg3.N i = outM (m0 m c) (m1 m c) (m2 m c) (m3 m c) (m5 m c) i := by
  refine ((dat3 (V6 m ρ) c).arrAt_apply_of_coversWhere 6 (outM (m0 m c) (m1 m c) (m2 m c) (m3 m c) (m5 m c)) (P := fun i => (i (0 : Fin 3)).val = 3) (fun β => β (0 : Fin 3) = 3) (by decide +kernel)
    (fun t hf y => ?_) (fun j => by blk_simp [Pipeline.Window.cell_apply]; omega) i).trans ?_
  · blk_simp
    rw [after3_6]
    have e : (win3_6.blk t).view.emb y = ix3 3 (row3 t (y 1)) (y 2) := by have h : (y 0).val < 1 := (y 0).isLt; blk_ext [idx3_6, row3]
    rw [e]
    have ey : y = ix3 0 (y 1) (y 2) := by have h : (y 0).val < 1 := (y 0).isLt; blk_ext
    refine (congrArg ((outsAt3 (V6 m ρ) c t).2.2.1) ey).trans ?_
    exact part3_6 m ρ c t _ _
  · by_cases h : (i 0).val = 3
    · exact if_pos h
    · refine (if_neg h).trans ?_
      rw [A_eq3]
      exact (congrFun (mid3_6 m ρ c) i).trans (low2_6 m ρ c i (by omega))
theorem low3_7 (i : S4x1024x2048.Idx) (hi : (i 0).val < 4) : (dat3 (V6 m ρ) c).arrAt 7 cfg3.N i = outV (m0 m c) (m1 m c) (m2 m c) (m3 m c) (m6 m c) i := by
  refine ((dat3 (V6 m ρ) c).arrAt_apply_of_coversWhere 7 (outV (m0 m c) (m1 m c) (m2 m c) (m3 m c) (m6 m c)) (P := fun i => (i (0 : Fin 3)).val = 3) (fun β => β (0 : Fin 3) = 3) (by decide +kernel)
    (fun t hf y => ?_) (fun j => by blk_simp [Pipeline.Window.cell_apply]; omega) i).trans ?_
  · blk_simp
    rw [after3_7]
    have e : (win3_7.blk t).view.emb y = ix3 3 (row3 t (y 1)) (y 2) := by have h : (y 0).val < 1 := (y 0).isLt; blk_ext [idx3_7, row3]
    rw [e]
    have ey : y = ix3 0 (y 1) (y 2) := by have h : (y 0).val < 1 := (y 0).isLt; blk_ext
    refine (congrArg ((outsAt3 (V6 m ρ) c t).2.2.2) ey).trans ?_
    exact part3_7 m ρ c t _ _
  · by_cases h : (i 0).val = 3
    · exact if_pos h
    · refine (if_neg h).trans ?_
      rw [A_eq3]
      exact (congrFun (mid3_7 m ρ c) i).trans (low2_7 m ρ c i (by omega))

section launch
open Idealize.SL Idealize.SL.RA Idealize.SL.BI
open scoped Idealize.SL.BI
open Idealize.SL.BI.BIBase Idealize.SL.BI.Laws Idealize.SL.ProofMode
open Idealize.ShloMosaic.Rounds
local notation "𝕄" => MT nD τ sig Unit (Elt Ideal) ℕ (UR sig nD τ) ℕ

set_option backward.isDefEq.respectTransparency.types false in
/-- The run: the arguments stay as they were and the results are what the last call leaves. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (G := fun _ => iprop(emp)) (T₀ := fun c => iprop(StableHlo.held (c : Thread nD τ) (Pipeline.ucRefs τ sig) (W0 m ρ c) ∗ R c))
    (Tₙ := Tₙ m ρ) (u₀ := initOf (Pipeline.cells cfgs cellOf_inj) (Pipeline.launchToks cfgs cellOf_inj))
    (QY := fun c s => ∀ b ∈ Pipeline.ucRefs τ sig, s.mem (((c : Thread nD τ)).1, b) = W7 m ρ c b)
    (hL := fun _ _ => rfl)
    (hch := ⟨fun _ => .rfl, fun _ => .rfl, fun _ => .rfl, fun _ => .rfl, fun _ => .rfl, fun _ => .rfl, fun _ => .rfl, fun _ => .rfl⟩)
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by rw [BI.bigSep_emp_const])
        iempintro)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howed, -, Hreg, -⟩, -⟩
      imodintro
      isplitl [Hbufs]
      · iexact Hbufs
      · isplitl [Hreg]
        · iexists _
          iexact Hreg
        · iexists ∅
          iexact Howed)
    (hfin := fun c s => by
      iintro ⟨⟨Hbufs, -⟩, Hstate⟩
      unfold StableHlo.held
      imodintro
      iapply (pointsTo_read_all (Pipeline.ucRefs τ sig) (fun b => (((c : Thread nD τ)).1, b)) (W7 m ρ c) s)
      isplitl [Hbufs] <;> iassumption)
    (hQ := fun _ h _ => h)
end launch

theorem frame_reference : Cert.quiescent_Reference20Ideal (hReference20Ideal := Cert.Reference20Ideal.Gen.facts) := fun m ρ _ =>
  (θ_run Cert.Reference20Ideal.defs _ _).mono (fun r h => ⟨fun c => (h c).2.2.2.2, Idealize.ShloMosaic.sem_eq_zero_of_no_sems (by decide) r.2⟩)
    (Cert.Reference20Ideal.Value.run (F := Ideal) m ρ)

theorem algebraic : Cert.algebraic_Kernel20Ideal_Reference20Ideal (hKernel20Ideal := Cert.Kernel20Ideal.Gen.facts)
    (hReference20Ideal := Cert.Reference20Ideal.Gen.facts) := fun m ρ m' ρ' _ hagree =>
  ⟨fun c => outG (m0 m c) (m1 m c) (m2 m c) (m3 m c), fun c => outD (m0 m c) (m1 m c) (m2 m c) (m3 m c) (m4 m c) (m5 m c) (m6 m c),
    fun c => outM (m0 m c) (m1 m c) (m2 m c) (m3 m c) (m5 m c), fun c => outV (m0 m c) (m1 m c) (m2 m c) (m3 m c) (m6 m c),
    (θ_run defs _ _).mono (fun _ h c =>
      ⟨(h c _ (mem_uc main_v3_0 (by decide))).trans ((W7_arr m ρ c 4).trans (funext fun i => low3_4 m ρ c i (i 0).isLt)),
       (h c _ (mem_uc main_v3_1 (by decide))).trans ((W7_arr m ρ c 5).trans (funext fun i => low3_5 m ρ c i (i 0).isLt)),
       (h c _ (mem_uc main_v3_2 (by decide))).trans ((W7_arr m ρ c 6).trans (funext fun i => low3_6 m ρ c i (i 0).isLt)),
       (h c _ (mem_uc main_v3_3 (by decide))).trans ((W7_arr m ρ c 7).trans (funext fun i => low3_7 m ρ c i (i 0).isLt)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩) (run m ρ),
    (θ_run Cert.Reference20Ideal.defs _ _).mono (fun _ h c => by
      obtain ⟨h0, h1, h2, h3, h4, h5, h6⟩ := hagree c
      beta_reduce
      rw [show m0 m c = _ from h0.symm, show m1 m c = _ from h1.symm, show m2 m c = _ from h2.symm, show m3 m c = _ from h3.symm, show m4 m c = _ from h4.symm, show m5 m c = _ from h5.symm, show m6 m c = _ from h6.symm]
      refine ⟨(h c).1.trans ?_, (h c).2.1.trans ?_, (h c).2.2.1.trans ?_, (h c).2.2.2.1.trans ?_, (h c).2.2.2.2⟩
      · refine ext3 fun a b d => ?_
        pointwise [outG]
        simp only [dite_eq_ite]
      · refine ext3 fun a b d => ?_
        pointwise [Cert.Reference20Ideal.Value.res_main_v36, outD, outG, change, first, second]
        simp only [dite_eq_ite]
      · refine ext3 fun a b d => ?_
        pointwise [outM, outG, first]
        simp only [dite_eq_ite]
      · refine ext3 fun a b d => ?_
        pointwise [outV, outG, second]
        simp only [dite_eq_ite])
      (Cert.Reference20Ideal.Value.run (F := Ideal) m' ρ')⟩

end Cert.Kernel20Ideal.Opt
-- ==== Proof.lean ====
/-
  The proof of `Cert.Claim`: the frames of the programs, the idealizations, and the equalities: the backward kernel's five
  results with the derivative of the forward pass, the results of the nine products with the mathematics' own, and those of the
  optimiser's calls with its update.
-/
module

public import proofs.«01_k».proof.Defs
public import proofs.«01_k».proof.Proof.FoxFrame
public import proofs.«01_k».proof.Proof.FoxClaim
public import proofs.«01_k».proof.Proof.Mm2
public import proofs.«01_k».proof.Proof.Mm3
public import proofs.«01_k».proof.Proof.Mm4
public import proofs.«01_k».proof.Proof.Mm5
public import proofs.«01_k».proof.Proof.Mm6
public import proofs.«01_k».proof.Proof.Mm7
public import proofs.«01_k».proof.Proof.Mm8
public import proofs.«01_k».proof.Proof.Mm9
public import proofs.«01_k».proof.Proof.Mm10
public import proofs.«01_k».proof.Proof.Opt11
public import proofs.«01_k».proof.Proof.Opt12
public import proofs.«01_k».proof.Proof.Opt13
public import proofs.«01_k».proof.Proof.Opt14
public import proofs.«01_k».proof.Proof.Opt15
public import proofs.«01_k».proof.Proof.Opt16
public import proofs.«01_k».proof.Proof.Opt17
public import proofs.«01_k».proof.Proof.Opt18
public import proofs.«01_k».proof.Proof.Opt19
public import proofs.«01_k».proof.Proof.Opt20

@[expose] public section

noncomputable section

namespace Cert.Proof

open Cert.KernelIdeal.Fox

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel15.Gen.facts, Cert.Kernel15Ideal.Gen.facts, Cert.Reference15Ideal.Gen.facts, Cert.Pre_finite_inputs.facts,
    frame_kernel, frame_ideal, fun m ρ _ => frame_ideal m ρ trivial, frame_reference, fun m ρ _ => frame_reference m ρ trivial,
    fun m ρ _ => Cert.Kernel2.Gen.frame m ρ, fun m ρ _ => Cert.Kernel2Ideal.Gen.frame m ρ, Cert.Kernel2Ideal.Mm.frame_reference,
    fun m ρ _ => Cert.Kernel3.Gen.frame m ρ, fun m ρ _ => Cert.Kernel3Ideal.Gen.frame m ρ, Cert.Kernel3Ideal.Mm.frame_reference,
    fun m ρ _ => Cert.Kernel4.Gen.frame m ρ, fun m ρ _ => Cert.Kernel4Ideal.Gen.frame m ρ, Cert.Kernel4Ideal.Mm.frame_reference,
    fun m ρ _ => Cert.Kernel5.Gen.frame m ρ, fun m ρ _ => Cert.Kernel5Ideal.Gen.frame m ρ, Cert.Kernel5Ideal.Mm.frame_reference,
    fun m ρ _ => Cert.Kernel6.Gen.frame m ρ, fun m ρ _ => Cert.Kernel6Ideal.Gen.frame m ρ, Cert.Kernel6Ideal.Mm.frame_reference,
    fun m ρ _ => Cert.Kernel7.Gen.frame m ρ, fun m ρ _ => Cert.Kernel7Ideal.Gen.frame m ρ, Cert.Kernel7Ideal.Mm.frame_reference,
    fun m ρ _ => Cert.Kernel8.Gen.frame m ρ, fun m ρ _ => Cert.Kernel8Ideal.Gen.frame m ρ, Cert.Kernel8Ideal.Mm.frame_reference,
    fun m ρ _ => Cert.Kernel9.Gen.frame m ρ, fun m ρ _ => Cert.Kernel9Ideal.Gen.frame m ρ, Cert.Kernel9Ideal.Mm.frame_reference,
    fun m ρ _ => Cert.Kernel10.Gen.frame m ρ, fun m ρ _ => Cert.Kernel10Ideal.Gen.frame m ρ, Cert.Kernel10Ideal.Mm.frame_reference,
    fun m ρ _ => Cert.Kernel11.Gen.frame m ρ, fun m ρ _ => Cert.Kernel11Ideal.Gen.frame m ρ, Cert.Kernel11Ideal.Opt.frame_reference,
    fun m ρ _ => Cert.Kernel12.Gen.frame m ρ, fun m ρ _ => Cert.Kernel12Ideal.Gen.frame m ρ, Cert.Kernel12Ideal.Opt.frame_reference,
    fun m ρ _ => Cert.Kernel13.Gen.frame m ρ, fun m ρ _ => Cert.Kernel13Ideal.Gen.frame m ρ, Cert.Kernel13Ideal.Opt.frame_reference,
    fun m ρ _ => Cert.Kernel14.Gen.frame m ρ, fun m ρ _ => Cert.Kernel14Ideal.Gen.frame m ρ, Cert.Kernel14Ideal.Opt.frame_reference,
    fun m ρ _ => Cert.Kernel16.Gen.frame m ρ, fun m ρ _ => Cert.Kernel16Ideal.Gen.frame m ρ, Cert.Kernel16Ideal.Opt.frame_reference,
    fun m ρ _ => Cert.Kernel17.Gen.frame m ρ, fun m ρ _ => Cert.Kernel17Ideal.Gen.frame m ρ, Cert.Kernel17Ideal.Opt.frame_reference,
    fun m ρ _ => Cert.Kernel18.Gen.frame m ρ, fun m ρ _ => Cert.Kernel18Ideal.Gen.frame m ρ, Cert.Kernel18Ideal.Opt.frame_reference,
    fun m ρ _ => Cert.Kernel19.Gen.frame m ρ, fun m ρ _ => Cert.Kernel19Ideal.Gen.frame m ρ, Cert.Kernel19Ideal.Opt.frame_reference,
    fun m ρ _ => Cert.Kernel20.Gen.frame m ρ, fun m ρ _ => Cert.Kernel20Ideal.Gen.frame m ρ, Cert.Kernel20Ideal.Opt.frame_reference,
    fun m ρ _ => Cert.Kernel15.Gen.frame m ρ, fun m ρ _ => Cert.Kernel15Ideal.Gen.frame m ρ, Cert.Kernel15Ideal.Opt.frame_reference,
    trivial, algebraic,
    trivial, Cert.Kernel2Ideal.Mm.algebraic,
    trivial, Cert.Kernel3Ideal.Mm.algebraic,
    trivial, Cert.Kernel4Ideal.Mm.algebraic,
    trivial, Cert.Kernel5Ideal.Mm.algebraic,
    trivial, Cert.Kernel6Ideal.Mm.algebraic,
    trivial, Cert.Kernel7Ideal.Mm.algebraic,
    trivial, Cert.Kernel8Ideal.Mm.algebraic,
    trivial, Cert.Kernel9Ideal.Mm.algebraic,
    trivial, Cert.Kernel10Ideal.Mm.algebraic,
    trivial, Cert.Kernel11Ideal.Opt.algebraic,
    trivial, Cert.Kernel12Ideal.Opt.algebraic,
    trivial, Cert.Kernel13Ideal.Opt.algebraic,
    trivial, Cert.Kernel14Ideal.Opt.algebraic,
    trivial, Cert.Kernel16Ideal.Opt.algebraic,
    trivial, Cert.Kernel17Ideal.Opt.algebraic,
    trivial, Cert.Kernel18Ideal.Opt.algebraic,
    trivial, Cert.Kernel19Ideal.Opt.algebraic,
    trivial, Cert.Kernel20Ideal.Opt.algebraic,
    trivial, Cert.Kernel15Ideal.Opt.algebraic⟩

end Cert.Proof

end
